-- ==== Defs.lean ====
def Pre_Fwd (m : (ℓ : Loc Cert.Fwd.nD Cert.Fwd.τ Cert.Fwd.sig) → Buf (Elt Bits) ℓ) : Prop :=
  True

def Pre_FwdIdeal (m : (ℓ : Loc Cert.FwdIdeal.nD Cert.FwdIdeal.τ Cert.FwdIdeal.sig) → Buf (Elt Ideal) ℓ) : Prop :=
  True

def Pre_FwdRefIdeal (m : (ℓ : Loc Cert.FwdRefIdeal.nD Cert.FwdRefIdeal.τ Cert.FwdRefIdeal.sig) → Buf (Elt Ideal) ℓ) : Prop :=
  True

def Pre_Bwd (m : (ℓ : Loc Cert.Bwd.nD Cert.Bwd.τ Cert.Bwd.sig) → Buf (Elt Bits) ℓ) : Prop :=
  True

def Pre_BwdIdeal (m : (ℓ : Loc Cert.BwdIdeal.nD Cert.BwdIdeal.τ Cert.BwdIdeal.sig) → Buf (Elt Ideal) ℓ) : Prop :=
  True

def Pre_BwdRefIdeal (m : (ℓ : Loc Cert.BwdRefIdeal.nD Cert.BwdRefIdeal.τ Cert.BwdRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_SProj (m : (ℓ : Loc Cert.SProj.nD Cert.SProj.τ Cert.SProj.sig) → Buf (Elt Bits) ℓ) : Prop :=
  True

def Pre_SProjIdeal (m : (ℓ : Loc Cert.SProjIdeal.nD Cert.SProjIdeal.τ Cert.SProjIdeal.sig) → Buf (Elt Ideal) ℓ) : Prop :=
  True

def Pre_SProjRefIdeal (m : (ℓ : Loc Cert.SProjRefIdeal.nD Cert.SProjRefIdeal.τ Cert.SProjRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModIdeal_finite [hPre_finite : Cert.Pre_finite.Facts] (m : (ℓ : Loc Cert.ModIdeal.nD Cert.ModIdeal.τ Cert.ModIdeal.sig) → Buf (Elt Ideal) ℓ) : Prop :=
  ∀ c : Dev Cert.ModIdeal.nD,
    (Cert.Pre_finite.fn (F := Ideal) (m ((c.tc : Thread Cert.ModIdeal.nD Cert.ModIdeal.τ).loc Cert.ModIdeal.main_arg0)) (m ((c.tc : Thread Cert.ModIdeal.nD Cert.ModIdeal.τ).loc Cert.ModIdeal.main_arg1)) (m ((c.tc : Thread Cert.ModIdeal.nD Cert.ModIdeal.τ).loc Cert.ModIdeal.main_arg2)) (m ((c.tc : Thread Cert.ModIdeal.nD Cert.ModIdeal.τ).loc Cert.ModIdeal.main_arg3))) = (fun _ => 1#1)

def Pre_ModRefIdeal (m : (ℓ : Loc Cert.ModRefIdeal.nD Cert.ModRefIdeal.τ Cert.ModRefIdeal.sig) → Buf (Elt Ideal) ℓ) : Prop :=
  True

def Pre_ModRefIdeal_finite [hPre_finite : Cert.Pre_finite.Facts] (m : (ℓ : Loc Cert.ModRefIdeal.nD Cert.ModRefIdeal.τ Cert.ModRefIdeal.sig) → Buf (Elt Ideal) ℓ) : Prop :=
  ∀ c : Dev Cert.ModRefIdeal.nD,
    (Cert.Pre_finite.fn (F := Ideal) (m ((c.tc : Thread Cert.ModRefIdeal.nD Cert.ModRefIdeal.τ).loc Cert.ModRefIdeal.main_arg0)) (m ((c.tc : Thread Cert.ModRefIdeal.nD Cert.ModRefIdeal.τ).loc Cert.ModRefIdeal.main_arg1)) (m ((c.tc : Thread Cert.ModRefIdeal.nD Cert.ModRefIdeal.τ).loc Cert.ModRefIdeal.main_arg2)) (m ((c.tc : Thread Cert.ModRefIdeal.nD Cert.ModRefIdeal.τ).loc Cert.ModRefIdeal.main_arg3))) = (fun _ => 1#1)

def quiescent_Fwd [hFwd : Cert.Fwd.Facts] : Prop :=
  ∀ (m : (ℓ : Loc Cert.Fwd.nD Cert.Fwd.τ Cert.Fwd.sig) → Buf (Elt Bits) ℓ) (g : Dev Cert.Fwd.nD → PrngReg), Pre_Fwd m →
    θ_run (Cert.Fwd.defs (F := Bits)) (onTc (τ := Cert.Fwd.τ) (Cert.Fwd.main (F := Bits))) ⟨m, fun _ => 0, g⟩ (fun r => (∀ c : Dev Cert.Fwd.nD,
      r.2.mem ((c.tc : Thread Cert.Fwd.nD Cert.Fwd.τ).loc Cert.Fwd.main_arg0) = m ((c.tc : Thread Cert.Fwd.nD Cert.Fwd.τ).loc Cert.Fwd.main_arg0)
      ∧ r.2.mem ((c.tc : Thread Cert.Fwd.nD Cert.Fwd.τ).loc Cert.Fwd.main_arg1) = m ((c.tc : Thread Cert.Fwd.nD Cert.Fwd.τ).loc Cert.Fwd.main_arg1)
      ∧ r.2.mem ((c.tc : Thread Cert.Fwd.nD Cert.Fwd.τ).loc Cert.Fwd.main_arg2) = m ((c.tc : Thread Cert.Fwd.nD Cert.Fwd.τ).loc Cert.Fwd.main_arg2)
      ∧ r.2.mem ((c.tc : Thread Cert.Fwd.nD Cert.Fwd.τ).loc Cert.Fwd.main_arg3) = m ((c.tc : Thread Cert.Fwd.nD Cert.Fwd.τ).loc Cert.Fwd.main_arg3))
      ∧ r.2.sem = fun _ => 0)

def quiescent_FwdIdeal [hFwdIdeal : Cert.FwdIdeal.Facts] : Prop :=
  ∀ (m : (ℓ : Loc Cert.FwdIdeal.nD Cert.FwdIdeal.τ Cert.FwdIdeal.sig) → Buf (Elt Ideal) ℓ) (g : Dev Cert.FwdIdeal.nD → PrngReg), Pre_FwdIdeal m →
    θ_run (Cert.FwdIdeal.defs (F := Ideal)) (onTc (τ := Cert.FwdIdeal.τ) (Cert.FwdIdeal.main (F := Ideal))) ⟨m, fun _ => 0, g⟩ (fun r => (∀ c : Dev Cert.FwdIdeal.nD,
      r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
      ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
      ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
      ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ r.2.sem = fun _ => 0)

def quiescent_FwdRefIdeal [hFwdRefIdeal : Cert.FwdRefIdeal.Facts] : Prop :=
  ∀ (m : (ℓ : Loc Cert.FwdRefIdeal.nD Cert.FwdRefIdeal.τ Cert.FwdRefIdeal.sig) → Buf (Elt Ideal) ℓ) (g : Dev Cert.FwdRefIdeal.nD → PrngReg), Pre_FwdRefIdeal m →
    θ_run (Cert.FwdRefIdeal.defs (F := Ideal)) (onTc (τ := Cert.FwdRefIdeal.τ) (Cert.FwdRefIdeal.main (F := Ideal))) ⟨m, fun _ => 0, g⟩ (fun r => (∀ c : Dev Cert.FwdRefIdeal.nD,
      r.2.mem ((c.tc : Thread Cert.FwdRefIdeal.nD Cert.FwdRefIdeal.τ).loc Cert.FwdRefIdeal.main_arg0) = m ((c.tc : Thread Cert.FwdRefIdeal.nD Cert.FwdRefIdeal.τ).loc Cert.FwdRefIdeal.main_arg0)
      ∧ r.2.mem ((c.tc : Thread Cert.FwdRefIdeal.nD Cert.FwdRefIdeal.τ).loc Cert.FwdRefIdeal.main_arg1) = m ((c.tc : Thread Cert.FwdRefIdeal.nD Cert.FwdRefIdeal.τ).loc Cert.FwdRefIdeal.main_arg1)
      ∧ r.2.mem ((c.tc : Thread Cert.FwdRefIdeal.nD Cert.FwdRefIdeal.τ).loc Cert.FwdRefIdeal.main_arg2) = m ((c.tc : Thread Cert.FwdRefIdeal.nD Cert.FwdRefIdeal.τ).loc Cert.FwdRefIdeal.main_arg2)
      ∧ r.2.mem ((c.tc : Thread Cert.FwdRefIdeal.nD Cert.FwdRefIdeal.τ).loc Cert.FwdRefIdeal.main_arg3) = m ((c.tc : Thread Cert.FwdRefIdeal.nD Cert.FwdRefIdeal.τ).loc Cert.FwdRefIdeal.main_arg3))
      ∧ r.2.sem = fun _ => 0)

def quiescent_Bwd [hBwd : Cert.Bwd.Facts] : Prop :=
  ∀ (m : (ℓ : Loc Cert.Bwd.nD Cert.Bwd.τ Cert.Bwd.sig) → Buf (Elt Bits) ℓ) (g : Dev Cert.Bwd.nD → PrngReg), Pre_Bwd m →
    θ_run (Cert.Bwd.defs (F := Bits)) (onTc (τ := Cert.Bwd.τ) (Cert.Bwd.main (F := Bits))) ⟨m, fun _ => 0, g⟩ (fun r => (∀ c : Dev Cert.Bwd.nD,
      r.2.mem ((c.tc : Thread Cert.Bwd.nD Cert.Bwd.τ).loc Cert.Bwd.main_arg0) = m ((c.tc : Thread Cert.Bwd.nD Cert.Bwd.τ).loc Cert.Bwd.main_arg0)
      ∧ r.2.mem ((c.tc : Thread Cert.Bwd.nD Cert.Bwd.τ).loc Cert.Bwd.main_arg1) = m ((c.tc : Thread Cert.Bwd.nD Cert.Bwd.τ).loc Cert.Bwd.main_arg1)
      ∧ r.2.mem ((c.tc : Thread Cert.Bwd.nD Cert.Bwd.τ).loc Cert.Bwd.main_arg2) = m ((c.tc : Thread Cert.Bwd.nD Cert.Bwd.τ).loc Cert.Bwd.main_arg2)
      ∧ r.2.mem ((c.tc : Thread Cert.Bwd.nD Cert.Bwd.τ).loc Cert.Bwd.main_arg3) = m ((c.tc : Thread Cert.Bwd.nD Cert.Bwd.τ).loc Cert.Bwd.main_arg3)
      ∧ r.2.mem ((c.tc : Thread Cert.Bwd.nD Cert.Bwd.τ).loc Cert.Bwd.main_arg4) = m ((c.tc : Thread Cert.Bwd.nD Cert.Bwd.τ).loc Cert.Bwd.main_arg4)
      ∧ r.2.mem ((c.tc : Thread Cert.Bwd.nD Cert.Bwd.τ).loc Cert.Bwd.main_arg5) = m ((c.tc : Thread Cert.Bwd.nD Cert.Bwd.τ).loc Cert.Bwd.main_arg5)
      ∧ r.2.mem ((c.tc : Thread Cert.Bwd.nD Cert.Bwd.τ).loc Cert.Bwd.main_arg6) = m ((c.tc : Thread Cert.Bwd.nD Cert.Bwd.τ).loc Cert.Bwd.main_arg6)
      ∧ r.2.mem ((c.tc : Thread Cert.Bwd.nD Cert.Bwd.τ).loc Cert.Bwd.main_arg7) = m ((c.tc : Thread Cert.Bwd.nD Cert.Bwd.τ).loc Cert.Bwd.main_arg7))
      ∧ r.2.sem = fun _ => 0)

def quiescent_BwdIdeal [hBwdIdeal : Cert.BwdIdeal.Facts] : Prop :=
  ∀ (m : (ℓ : Loc Cert.BwdIdeal.nD Cert.BwdIdeal.τ Cert.BwdIdeal.sig) → Buf (Elt Ideal) ℓ) (g : Dev Cert.BwdIdeal.nD → PrngReg), Pre_BwdIdeal m →
    θ_run (Cert.BwdIdeal.defs (F := Ideal)) (onTc (τ := Cert.BwdIdeal.τ) (Cert.BwdIdeal.main (F := Ideal))) ⟨m, fun _ => 0, g⟩ (fun r => (∀ c : Dev Cert.BwdIdeal.nD,
      r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
      ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
      ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
      ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
      ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
      ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5)
      ∧ r.2.mem ((c.tc : Thread Cert.BwdIdeal.nD Cert.BwdIdeal.τ).loc Cert.BwdIdeal.main_arg6) = m ((c.tc : Thread Cert.BwdIdeal.nD Cert.BwdIdeal.τ).loc Cert.BwdIdeal.main_arg6)
      ∧ r.2.mem ((c.tc : Thread Cert.BwdIdeal.nD Cert.BwdIdeal.τ).loc Cert.BwdIdeal.main_arg7) = m ((c.tc : Thread Cert.BwdIdeal.nD Cert.BwdIdeal.τ).loc Cert.BwdIdeal.main_arg7))
      ∧ r.2.sem = fun _ => 0)

def quiescent_BwdRefIdeal [hBwdRefIdeal : Cert.BwdRefIdeal.Facts] : Prop :=
  ∀ (m : (ℓ : Loc Cert.BwdRefIdeal.nD Cert.BwdRefIdeal.τ Cert.BwdRefIdeal.sig) → Buf (Elt Ideal) ℓ) (g : Dev Cert.BwdRefIdeal.nD → PrngReg), Pre_BwdRefIdeal m →
    θ_run (Cert.BwdRefIdeal.defs (F := Ideal)) (onTc (τ := Cert.BwdRefIdeal.τ) (Cert.BwdRefIdeal.main (F := Ideal))) ⟨m, fun _ => 0, g⟩ (fun r => (∀ c : Dev Cert.BwdRefIdeal.nD,
      r.2.mem ((c.tc : Thread Cert.BwdRefIdeal.nD Cert.BwdRefIdeal.τ).loc Cert.BwdRefIdeal.main_arg0) = m ((c.tc : Thread Cert.BwdRefIdeal.nD Cert.BwdRefIdeal.τ).loc Cert.BwdRefIdeal.main_arg0)
      ∧ r.2.mem ((c.tc : Thread Cert.BwdRefIdeal.nD Cert.BwdRefIdeal.τ).loc Cert.BwdRefIdeal.main_arg1) = m ((c.tc : Thread Cert.BwdRefIdeal.nD Cert.BwdRefIdeal.τ).loc Cert.BwdRefIdeal.main_arg1)
      ∧ r.2.mem ((c.tc : Thread Cert.BwdRefIdeal.nD Cert.BwdRefIdeal.τ).loc Cert.BwdRefIdeal.main_arg2) = m ((c.tc : Thread Cert.BwdRefIdeal.nD Cert.BwdRefIdeal.τ).loc Cert.BwdRefIdeal.main_arg2)
      ∧ r.2.mem ((c.tc : Thread Cert.BwdRefIdeal.nD Cert.BwdRefIdeal.τ).loc Cert.BwdRefIdeal.main_arg3) = m ((c.tc : Thread Cert.BwdRefIdeal.nD Cert.BwdRefIdeal.τ).loc Cert.BwdRefIdeal.main_arg3)
      ∧ r.2.mem ((c.tc : Thread Cert.BwdRefIdeal.nD Cert.BwdRefIdeal.τ).loc Cert.BwdRefIdeal.main_arg4) = m ((c.tc : Thread Cert.BwdRefIdeal.nD Cert.BwdRefIdeal.τ).loc Cert.BwdRefIdeal.main_arg4)
      ∧ r.2.mem ((c.tc : Thread Cert.BwdRefIdeal.nD Cert.BwdRefIdeal.τ).loc Cert.BwdRefIdeal.main_arg5) = m ((c.tc : Thread Cert.BwdRefIdeal.nD Cert.BwdRefIdeal.τ).loc Cert.BwdRefIdeal.main_arg5)
      ∧ r.2.mem ((c.tc : Thread Cert.BwdRefIdeal.nD Cert.BwdRefIdeal.τ).loc Cert.BwdRefIdeal.main_arg6) = m ((c.tc : Thread Cert.BwdRefIdeal.nD Cert.BwdRefIdeal.τ).loc Cert.BwdRefIdeal.main_arg6)
      ∧ r.2.mem ((c.tc : Thread Cert.BwdRefIdeal.nD Cert.BwdRefIdeal.τ).loc Cert.BwdRefIdeal.main_arg7) = m ((c.tc : Thread Cert.BwdRefIdeal.nD Cert.BwdRefIdeal.τ).loc Cert.BwdRefIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_SProj [hSProj : Cert.SProj.Facts] : Prop :=
  ∀ (m : (ℓ : Loc Cert.SProj.nD Cert.SProj.τ Cert.SProj.sig) → Buf (Elt Bits) ℓ) (g : Dev Cert.SProj.nD → PrngReg), Pre_SProj m →
    θ_run (Cert.SProj.defs (F := Bits)) (onTc (τ := Cert.SProj.τ) (Cert.SProj.main (F := Bits))) ⟨m, fun _ => 0, g⟩ (fun r => (∀ c : Dev Cert.SProj.nD,
      r.2.mem ((c.tc : Thread Cert.SProj.nD Cert.SProj.τ).loc Cert.SProj.main_arg0) = m ((c.tc : Thread Cert.SProj.nD Cert.SProj.τ).loc Cert.SProj.main_arg0)
      ∧ r.2.mem ((c.tc : Thread Cert.SProj.nD Cert.SProj.τ).loc Cert.SProj.main_arg1) = m ((c.tc : Thread Cert.SProj.nD Cert.SProj.τ).loc Cert.SProj.main_arg1)
      ∧ r.2.mem ((c.tc : Thread Cert.SProj.nD Cert.SProj.τ).loc Cert.SProj.main_arg2) = m ((c.tc : Thread Cert.SProj.nD Cert.SProj.τ).loc Cert.SProj.main_arg2)
      ∧ r.2.mem ((c.tc : Thread Cert.SProj.nD Cert.SProj.τ).loc Cert.SProj.main_arg3) = m ((c.tc : Thread Cert.SProj.nD Cert.SProj.τ).loc Cert.SProj.main_arg3)
      ∧ r.2.mem ((c.tc : Thread Cert.SProj.nD Cert.SProj.τ).loc Cert.SProj.main_arg4) = m ((c.tc : Thread Cert.SProj.nD Cert.SProj.τ).loc Cert.SProj.main_arg4)
      ∧ r.2.mem ((c.tc : Thread Cert.SProj.nD Cert.SProj.τ).loc Cert.SProj.main_arg5) = m ((c.tc : Thread Cert.SProj.nD Cert.SProj.τ).loc Cert.SProj.main_arg5)
      ∧ r.2.mem ((c.tc : Thread Cert.SProj.nD Cert.SProj.τ).loc Cert.SProj.main_arg6) = m ((c.tc : Thread Cert.SProj.nD Cert.SProj.τ).loc Cert.SProj.main_arg6))
      ∧ r.2.sem = fun _ => 0)

def quiescent_SProjIdeal [hSProjIdeal : Cert.SProjIdeal.Facts] : Prop :=
  ∀ (m : (ℓ : Loc Cert.SProjIdeal.nD Cert.SProjIdeal.τ Cert.SProjIdeal.sig) → Buf (Elt Ideal) ℓ) (g : Dev Cert.SProjIdeal.nD → PrngReg), Pre_SProjIdeal m →
    θ_run (Cert.SProjIdeal.defs (F := Ideal)) (onTc (τ := Cert.SProjIdeal.τ) (Cert.SProjIdeal.main (F := Ideal))) ⟨m, fun _ => 0, g⟩ (fun r => (∀ c : Dev Cert.SProjIdeal.nD,
      r.2.mem ((c.tc : Thread Cert.SProjIdeal.nD Cert.SProjIdeal.τ).loc Cert.SProjIdeal.main_arg0) = m ((c.tc : Thread Cert.SProjIdeal.nD Cert.SProjIdeal.τ).loc Cert.SProjIdeal.main_arg0)
      ∧ r.2.mem ((c.tc : Thread Cert.SProjIdeal.nD Cert.SProjIdeal.τ).loc Cert.SProjIdeal.main_arg1) = m ((c.tc : Thread Cert.SProjIdeal.nD Cert.SProjIdeal.τ).loc Cert.SProjIdeal.main_arg1)
      ∧ r.2.mem ((c.tc : Thread Cert.SProjIdeal.nD Cert.SProjIdeal.τ).loc Cert.SProjIdeal.main_arg2) = m ((c.tc : Thread Cert.SProjIdeal.nD Cert.SProjIdeal.τ).loc Cert.SProjIdeal.main_arg2)
      ∧ r.2.mem ((c.tc : Thread Cert.SProjIdeal.nD Cert.SProjIdeal.τ).loc Cert.SProjIdeal.main_arg3) = m ((c.tc : Thread Cert.SProjIdeal.nD Cert.SProjIdeal.τ).loc Cert.SProjIdeal.main_arg3)
      ∧ r.2.mem ((c.tc : Thread Cert.SProjIdeal.nD Cert.SProjIdeal.τ).loc Cert.SProjIdeal.main_arg4) = m ((c.tc : Thread Cert.SProjIdeal.nD Cert.SProjIdeal.τ).loc Cert.SProjIdeal.main_arg4)
      ∧ r.2.mem ((c.tc : Thread Cert.SProjIdeal.nD Cert.SProjIdeal.τ).loc Cert.SProjIdeal.main_arg5) = m ((c.tc : Thread Cert.SProjIdeal.nD Cert.SProjIdeal.τ).loc Cert.SProjIdeal.main_arg5)
      ∧ r.2.mem ((c.tc : Thread Cert.SProjIdeal.nD Cert.SProjIdeal.τ).loc Cert.SProjIdeal.main_arg6) = m ((c.tc : Thread Cert.SProjIdeal.nD Cert.SProjIdeal.τ).loc Cert.SProjIdeal.main_arg6))
      ∧ r.2.sem = fun _ => 0)

def quiescent_SProjRefIdeal [hSProjRefIdeal : Cert.SProjRefIdeal.Facts] : Prop :=
  ∀ (m : (ℓ : Loc Cert.SProjRefIdeal.nD Cert.SProjRefIdeal.τ Cert.SProjRefIdeal.sig) → Buf (Elt Ideal) ℓ) (g : Dev Cert.SProjRefIdeal.nD → PrngReg), Pre_SProjRefIdeal m →
    θ_run (Cert.SProjRefIdeal.defs (F := Ideal)) (onTc (τ := Cert.SProjRefIdeal.τ) (Cert.SProjRefIdeal.main (F := Ideal))) ⟨m, fun _ => 0, g⟩ (fun r => (∀ c : Dev Cert.SProjRefIdeal.nD,
      r.2.mem ((c.tc : Thread Cert.SProjRefIdeal.nD Cert.SProjRefIdeal.τ).loc Cert.SProjRefIdeal.main_arg0) = m ((c.tc : Thread Cert.SProjRefIdeal.nD Cert.SProjRefIdeal.τ).loc Cert.SProjRefIdeal.main_arg0)
      ∧ r.2.mem ((c.tc : Thread Cert.SProjRefIdeal.nD Cert.SProjRefIdeal.τ).loc Cert.SProjRefIdeal.main_arg1) = m ((c.tc : Thread Cert.SProjRefIdeal.nD Cert.SProjRefIdeal.τ).loc Cert.SProjRefIdeal.main_arg1)
      ∧ r.2.mem ((c.tc : Thread Cert.SProjRefIdeal.nD Cert.SProjRefIdeal.τ).loc Cert.SProjRefIdeal.main_arg2) = m ((c.tc : Thread Cert.SProjRefIdeal.nD Cert.SProjRefIdeal.τ).loc Cert.SProjRefIdeal.main_arg2)
      ∧ r.2.mem ((c.tc : Thread Cert.SProjRefIdeal.nD Cert.SProjRefIdeal.τ).loc Cert.SProjRefIdeal.main_arg3) = m ((c.tc : Thread Cert.SProjRefIdeal.nD Cert.SProjRefIdeal.τ).loc Cert.SProjRefIdeal.main_arg3)
      ∧ r.2.mem ((c.tc : Thread Cert.SProjRefIdeal.nD Cert.SProjRefIdeal.τ).loc Cert.SProjRefIdeal.main_arg4) = m ((c.tc : Thread Cert.SProjRefIdeal.nD Cert.SProjRefIdeal.τ).loc Cert.SProjRefIdeal.main_arg4)
      ∧ r.2.mem ((c.tc : Thread Cert.SProjRefIdeal.nD Cert.SProjRefIdeal.τ).loc Cert.SProjRefIdeal.main_arg5) = m ((c.tc : Thread Cert.SProjRefIdeal.nD Cert.SProjRefIdeal.τ).loc Cert.SProjRefIdeal.main_arg5)
      ∧ r.2.mem ((c.tc : Thread Cert.SProjRefIdeal.nD Cert.SProjRefIdeal.τ).loc Cert.SProjRefIdeal.main_arg6) = m ((c.tc : Thread Cert.SProjRefIdeal.nD Cert.SProjRefIdeal.τ).loc Cert.SProjRefIdeal.main_arg6))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModIdeal_pre_finite [hModIdeal : Cert.ModIdeal.Facts] [hPre_finite : Cert.Pre_finite.Facts] : Prop :=
  ∀ (m : (ℓ : Loc Cert.ModIdeal.nD Cert.ModIdeal.τ Cert.ModIdeal.sig) → Buf (Elt Ideal) ℓ) (g : Dev Cert.ModIdeal.nD → PrngReg), Pre_ModIdeal_finite m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_ModRefIdeal_pre_finite [hModRefIdeal : Cert.ModRefIdeal.Facts] [hPre_finite : Cert.Pre_finite.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal_finite m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def preserves_Fwd_FwdIdeal : Prop :=
  True

def algebraic_FwdIdeal_FwdRefIdeal [hFwdIdeal : Cert.FwdIdeal.Facts] [hFwdRefIdeal : Cert.FwdRefIdeal.Facts] : Prop :=
  ∀ (m : (ℓ : Loc Cert.FwdIdeal.nD Cert.FwdIdeal.τ Cert.FwdIdeal.sig) → Buf (Elt Ideal) ℓ) (g : Dev Cert.FwdIdeal.nD → PrngReg)
    (m' : (ℓ : Loc Cert.FwdRefIdeal.nD Cert.FwdRefIdeal.τ Cert.FwdRefIdeal.sig) → Buf (Elt Ideal) ℓ) (g' : Dev Cert.FwdRefIdeal.nD → PrngReg), Pre_FwdIdeal m →
    (∀ c : Dev Cert.FwdIdeal.nD,
      m' ((c.tc : Thread Cert.FwdRefIdeal.nD Cert.FwdRefIdeal.τ).loc Cert.FwdRefIdeal.main_arg0) = m ((c.tc : Thread Cert.FwdIdeal.nD Cert.FwdIdeal.τ).loc Cert.FwdIdeal.main_arg0)
      ∧ m' ((c.tc : Thread Cert.FwdRefIdeal.nD Cert.FwdRefIdeal.τ).loc Cert.FwdRefIdeal.main_arg1) = m ((c.tc : Thread Cert.FwdIdeal.nD Cert.FwdIdeal.τ).loc Cert.FwdIdeal.main_arg1)
      ∧ m' ((c.tc : Thread Cert.FwdRefIdeal.nD Cert.FwdRefIdeal.τ).loc Cert.FwdRefIdeal.main_arg2) = m ((c.tc : Thread Cert.FwdIdeal.nD Cert.FwdIdeal.τ).loc Cert.FwdIdeal.main_arg2)
      ∧ m' ((c.tc : Thread Cert.FwdRefIdeal.nD Cert.FwdRefIdeal.τ).loc Cert.FwdRefIdeal.main_arg3) = m ((c.tc : Thread Cert.FwdIdeal.nD Cert.FwdIdeal.τ).loc Cert.FwdIdeal.main_arg3)) →
    ∃ (v0 : (c : Dev Cert.FwdIdeal.nD) → Buf (Elt Ideal) ((c.tc : Thread Cert.FwdIdeal.nD Cert.FwdIdeal.τ).loc Cert.FwdIdeal.main_v80)),
      θ_run (Cert.FwdIdeal.defs (F := Ideal)) (onTc (τ := Cert.FwdIdeal.τ) (Cert.FwdIdeal.main (F := Ideal))) ⟨m, fun _ => 0, g⟩ (fun r => ∀ c : Dev Cert.FwdIdeal.nD,
          r.2.mem ((c.tc : Thread Cert.FwdIdeal.nD Cert.FwdIdeal.τ).loc Cert.FwdIdeal.main_v80) = v0 c
          ∧ r.2.mem ((c.tc : Thread Cert.FwdIdeal.nD Cert.FwdIdeal.τ).loc Cert.FwdIdeal.main_arg0) = m ((c.tc : Thread Cert.FwdIdeal.nD Cert.FwdIdeal.τ).loc Cert.FwdIdeal.main_arg0)
          ∧ r.2.mem ((c.tc : Thread Cert.FwdIdeal.nD Cert.FwdIdeal.τ).loc Cert.FwdIdeal.main_arg1) = m ((c.tc : Thread Cert.FwdIdeal.nD Cert.FwdIdeal.τ).loc Cert.FwdIdeal.main_arg1)
          ∧ r.2.mem ((c.tc : Thread Cert.FwdIdeal.nD Cert.FwdIdeal.τ).loc Cert.FwdIdeal.main_arg2) = m ((c.tc : Thread Cert.FwdIdeal.nD Cert.FwdIdeal.τ).loc Cert.FwdIdeal.main_arg2)
          ∧ r.2.mem ((c.tc : Thread Cert.FwdIdeal.nD Cert.FwdIdeal.τ).loc Cert.FwdIdeal.main_arg3) = m ((c.tc : Thread Cert.FwdIdeal.nD Cert.FwdIdeal.τ).loc Cert.FwdIdeal.main_arg3))
      ∧ θ_run (Cert.FwdRefIdeal.defs (F := Ideal)) (onTc (τ := Cert.FwdRefIdeal.τ) (Cert.FwdRefIdeal.main (F := Ideal))) ⟨m', fun _ => 0, g'⟩ (fun r => ∀ c : Dev Cert.FwdRefIdeal.nD,
          r.2.mem ((c.tc : Thread Cert.FwdRefIdeal.nD Cert.FwdRefIdeal.τ).loc Cert.FwdRefIdeal.main_v55) = v0 c
          ∧ r.2.mem ((c.tc : Thread Cert.FwdRefIdeal.nD Cert.FwdRefIdeal.τ).loc Cert.FwdRefIdeal.main_arg0) = m' ((c.tc : Thread Cert.FwdRefIdeal.nD Cert.FwdRefIdeal.τ).loc Cert.FwdRefIdeal.main_arg0)
          ∧ r.2.mem ((c.tc : Thread Cert.FwdRefIdeal.nD Cert.FwdRefIdeal.τ).loc Cert.FwdRefIdeal.main_arg1) = m' ((c.tc : Thread Cert.FwdRefIdeal.nD Cert.FwdRefIdeal.τ).loc Cert.FwdRefIdeal.main_arg1)
          ∧ r.2.mem ((c.tc : Thread Cert.FwdRefIdeal.nD Cert.FwdRefIdeal.τ).loc Cert.FwdRefIdeal.main_arg2) = m' ((c.tc : Thread Cert.FwdRefIdeal.nD Cert.FwdRefIdeal.τ).loc Cert.FwdRefIdeal.main_arg2)
          ∧ r.2.mem ((c.tc : Thread Cert.FwdRefIdeal.nD Cert.FwdRefIdeal.τ).loc Cert.FwdRefIdeal.main_arg3) = m' ((c.tc : Thread Cert.FwdRefIdeal.nD Cert.FwdRefIdeal.τ).loc Cert.FwdRefIdeal.main_arg3))

def preserves_Bwd_BwdIdeal : Prop :=
  True

def algebraic_BwdIdeal_BwdRefIdeal [hBwdIdeal : Cert.BwdIdeal.Facts] [hBwdRefIdeal : Cert.BwdRefIdeal.Facts] : Prop :=
  ∀ (m : (ℓ : Loc Cert.BwdIdeal.nD Cert.BwdIdeal.τ Cert.BwdIdeal.sig) → Buf (Elt Ideal) ℓ) (g : Dev Cert.BwdIdeal.nD → PrngReg)
    (m' : (ℓ : Loc Cert.BwdRefIdeal.nD Cert.BwdRefIdeal.τ Cert.BwdRefIdeal.sig) → Buf (Elt Ideal) ℓ) (g' : Dev Cert.BwdRefIdeal.nD → PrngReg), Pre_BwdIdeal m →
    (∀ c : Dev Cert.BwdIdeal.nD,
      m' ((c.tc : Thread Cert.BwdRefIdeal.nD Cert.BwdRefIdeal.τ).loc Cert.BwdRefIdeal.main_arg0) = m ((c.tc : Thread Cert.BwdIdeal.nD Cert.BwdIdeal.τ).loc Cert.BwdIdeal.main_arg0)
      ∧ m' ((c.tc : Thread Cert.BwdRefIdeal.nD Cert.BwdRefIdeal.τ).loc Cert.BwdRefIdeal.main_arg1) = m ((c.tc : Thread Cert.BwdIdeal.nD Cert.BwdIdeal.τ).loc Cert.BwdIdeal.main_arg1)
      ∧ m' ((c.tc : Thread Cert.BwdRefIdeal.nD Cert.BwdRefIdeal.τ).loc Cert.BwdRefIdeal.main_arg2) = m ((c.tc : Thread Cert.BwdIdeal.nD Cert.BwdIdeal.τ).loc Cert.BwdIdeal.main_arg2)
      ∧ m' ((c.tc : Thread Cert.BwdRefIdeal.nD Cert.BwdRefIdeal.τ).loc Cert.BwdRefIdeal.main_arg3) = m ((c.tc : Thread Cert.BwdIdeal.nD Cert.BwdIdeal.τ).loc Cert.BwdIdeal.main_arg3)
      ∧ m' ((c.tc : Thread Cert.BwdRefIdeal.nD Cert.BwdRefIdeal.τ).loc Cert.BwdRefIdeal.main_arg4) = m ((c.tc : Thread Cert.BwdIdeal.nD Cert.BwdIdeal.τ).loc Cert.BwdIdeal.main_arg4)
      ∧ m' ((c.tc : Thread Cert.BwdRefIdeal.nD Cert.BwdRefIdeal.τ).loc Cert.BwdRefIdeal.main_arg5) = m ((c.tc : Thread Cert.BwdIdeal.nD Cert.BwdIdeal.τ).loc Cert.BwdIdeal.main_arg5)
      ∧ m' ((c.tc : Thread Cert.BwdRefIdeal.nD Cert.BwdRefIdeal.τ).loc Cert.BwdRefIdeal.main_arg6) = m ((c.tc : Thread Cert.BwdIdeal.nD Cert.BwdIdeal.τ).loc Cert.BwdIdeal.main_arg6)
      ∧ m' ((c.tc : Thread Cert.BwdRefIdeal.nD Cert.BwdRefIdeal.τ).loc Cert.BwdRefIdeal.main_arg7) = m ((c.tc : Thread Cert.BwdIdeal.nD Cert.BwdIdeal.τ).loc Cert.BwdIdeal.main_arg7)) →
    ∃ (v0 : (c : Dev Cert.BwdIdeal.nD) → Buf (Elt Ideal) ((c.tc : Thread Cert.BwdIdeal.nD Cert.BwdIdeal.τ).loc Cert.BwdIdeal.main_v82)),
      θ_run (Cert.BwdIdeal.defs (F := Ideal)) (onTc (τ := Cert.BwdIdeal.τ) (Cert.BwdIdeal.main (F := Ideal))) ⟨m, fun _ => 0, g⟩ (fun r => ∀ c : Dev Cert.BwdIdeal.nD,
          r.2.mem ((c.tc : Thread Cert.BwdIdeal.nD Cert.BwdIdeal.τ).loc Cert.BwdIdeal.main_v82) = v0 c
          ∧ r.2.mem ((c.tc : Thread Cert.BwdIdeal.nD Cert.BwdIdeal.τ).loc Cert.BwdIdeal.main_arg0) = m ((c.tc : Thread Cert.BwdIdeal.nD Cert.BwdIdeal.τ).loc Cert.BwdIdeal.main_arg0)
          ∧ r.2.mem ((c.tc : Thread Cert.BwdIdeal.nD Cert.BwdIdeal.τ).loc Cert.BwdIdeal.main_arg1) = m ((c.tc : Thread Cert.BwdIdeal.nD Cert.BwdIdeal.τ).loc Cert.BwdIdeal.main_arg1)
          ∧ r.2.mem ((c.tc : Thread Cert.BwdIdeal.nD Cert.BwdIdeal.τ).loc Cert.BwdIdeal.main_arg2) = m ((c.tc : Thread Cert.BwdIdeal.nD Cert.BwdIdeal.τ).loc Cert.BwdIdeal.main_arg2)
          ∧ r.2.mem ((c.tc : Thread Cert.BwdIdeal.nD Cert.BwdIdeal.τ).loc Cert.BwdIdeal.main_arg3) = m ((c.tc : Thread Cert.BwdIdeal.nD Cert.BwdIdeal.τ).loc Cert.BwdIdeal.main_arg3)
          ∧ r.2.mem ((c.tc : Thread Cert.BwdIdeal.nD Cert.BwdIdeal.τ).loc Cert.BwdIdeal.main_arg4) = m ((c.tc : Thread Cert.BwdIdeal.nD Cert.BwdIdeal.τ).loc Cert.BwdIdeal.main_arg4)
          ∧ r.2.mem ((c.tc : Thread Cert.BwdIdeal.nD Cert.BwdIdeal.τ).loc Cert.BwdIdeal.main_arg5) = m ((c.tc : Thread Cert.BwdIdeal.nD Cert.BwdIdeal.τ).loc Cert.BwdIdeal.main_arg5)
          ∧ r.2.mem ((c.tc : Thread Cert.BwdIdeal.nD Cert.BwdIdeal.τ).loc Cert.BwdIdeal.main_arg6) = m ((c.tc : Thread Cert.BwdIdeal.nD Cert.BwdIdeal.τ).loc Cert.BwdIdeal.main_arg6)
          ∧ r.2.mem ((c.tc : Thread Cert.BwdIdeal.nD Cert.BwdIdeal.τ).loc Cert.BwdIdeal.main_arg7) = m ((c.tc : Thread Cert.BwdIdeal.nD Cert.BwdIdeal.τ).loc Cert.BwdIdeal.main_arg7))
      ∧ θ_run (Cert.BwdRefIdeal.defs (F := Ideal)) (onTc (τ := Cert.BwdRefIdeal.τ) (Cert.BwdRefIdeal.main (F := Ideal))) ⟨m', fun _ => 0, g'⟩ (fun r => ∀ c : Dev Cert.BwdRefIdeal.nD,
          r.2.mem ((c.tc : Thread Cert.BwdRefIdeal.nD Cert.BwdRefIdeal.τ).loc Cert.BwdRefIdeal.main_v104) = v0 c
          ∧ r.2.mem ((c.tc : Thread Cert.BwdRefIdeal.nD Cert.BwdRefIdeal.τ).loc Cert.BwdRefIdeal.main_arg0) = m' ((c.tc : Thread Cert.BwdRefIdeal.nD Cert.BwdRefIdeal.τ).loc Cert.BwdRefIdeal.main_arg0)
          ∧ r.2.mem ((c.tc : Thread Cert.BwdRefIdeal.nD Cert.BwdRefIdeal.τ).loc Cert.BwdRefIdeal.main_arg1) = m' ((c.tc : Thread Cert.BwdRefIdeal.nD Cert.BwdRefIdeal.τ).loc Cert.BwdRefIdeal.main_arg1)
          ∧ r.2.mem ((c.tc : Thread Cert.BwdRefIdeal.nD Cert.BwdRefIdeal.τ).loc Cert.BwdRefIdeal.main_arg2) = m' ((c.tc : Thread Cert.BwdRefIdeal.nD Cert.BwdRefIdeal.τ).loc Cert.BwdRefIdeal.main_arg2)
          ∧ r.2.mem ((c.tc : Thread Cert.BwdRefIdeal.nD Cert.BwdRefIdeal.τ).loc Cert.BwdRefIdeal.main_arg3) = m' ((c.tc : Thread Cert.BwdRefIdeal.nD Cert.BwdRefIdeal.τ).loc Cert.BwdRefIdeal.main_arg3)
          ∧ r.2.mem ((c.tc : Thread Cert.BwdRefIdeal.nD Cert.BwdRefIdeal.τ).loc Cert.BwdRefIdeal.main_arg4) = m' ((c.tc : Thread Cert.BwdRefIdeal.nD Cert.BwdRefIdeal.τ).loc Cert.BwdRefIdeal.main_arg4)
          ∧ r.2.mem ((c.tc : Thread Cert.BwdRefIdeal.nD Cert.BwdRefIdeal.τ).loc Cert.BwdRefIdeal.main_arg5) = m' ((c.tc : Thread Cert.BwdRefIdeal.nD Cert.BwdRefIdeal.τ).loc Cert.BwdRefIdeal.main_arg5)
          ∧ r.2.mem ((c.tc : Thread Cert.BwdRefIdeal.nD Cert.BwdRefIdeal.τ).loc Cert.BwdRefIdeal.main_arg6) = m' ((c.tc : Thread Cert.BwdRefIdeal.nD Cert.BwdRefIdeal.τ).loc Cert.BwdRefIdeal.main_arg6)
          ∧ r.2.mem ((c.tc : Thread Cert.BwdRefIdeal.nD Cert.BwdRefIdeal.τ).loc Cert.BwdRefIdeal.main_arg7) = m' ((c.tc : Thread Cert.BwdRefIdeal.nD Cert.BwdRefIdeal.τ).loc Cert.BwdRefIdeal.main_arg7))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v32_0)) (v1 : (c : Dev Cert.ProjIdeal.nD) → Buf (Elt Ideal) ((c.tc : Thread Cert.ProjIdeal.nD Cert.ProjIdeal.τ).loc Cert.ProjIdeal.main_v32_1)) (v2 : (c : Dev Cert.ProjIdeal.nD) → Buf (Elt Ideal) ((c.tc : Thread Cert.ProjIdeal.nD Cert.ProjIdeal.τ).loc Cert.ProjIdeal.main_v32_2)) (v3 : (c : Dev Cert.ProjIdeal.nD) → Buf (Elt Ideal) ((c.tc : Thread Cert.ProjIdeal.nD Cert.ProjIdeal.τ).loc Cert.ProjIdeal.main_v32_3)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v32_0) = v0 c
          ∧ r.2.mem ((c.tc : Thread Cert.ProjIdeal.nD Cert.ProjIdeal.τ).loc Cert.ProjIdeal.main_v32_1) = v1 c
          ∧ r.2.mem ((c.tc : Thread Cert.ProjIdeal.nD Cert.ProjIdeal.τ).loc Cert.ProjIdeal.main_v32_2) = v2 c
          ∧ r.2.mem ((c.tc : Thread Cert.ProjIdeal.nD Cert.ProjIdeal.τ).loc Cert.ProjIdeal.main_v32_3) = v3 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v107) = v0 c
          ∧ r.2.mem ((c.tc : Thread Cert.ProjRefIdeal.nD Cert.ProjRefIdeal.τ).loc Cert.ProjRefIdeal.main_v108) = v1 c
          ∧ r.2.mem ((c.tc : Thread Cert.ProjRefIdeal.nD Cert.ProjRefIdeal.τ).loc Cert.ProjRefIdeal.main_v109) = v2 c
          ∧ r.2.mem ((c.tc : Thread Cert.ProjRefIdeal.nD Cert.ProjRefIdeal.τ).loc Cert.ProjRefIdeal.main_v110) = v3 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v3_0)) (v1 : (c : Dev Cert.OutIdeal.nD) → Buf (Elt Ideal) ((c.tc : Thread Cert.OutIdeal.nD Cert.OutIdeal.τ).loc Cert.OutIdeal.main_v3_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3_0) = v0 c
          ∧ r.2.mem ((c.tc : Thread Cert.OutIdeal.nD Cert.OutIdeal.τ).loc Cert.OutIdeal.main_v3_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v74) = v0 c
          ∧ r.2.mem ((c.tc : Thread Cert.OutRefIdeal.nD Cert.OutRefIdeal.τ).loc Cert.OutRefIdeal.main_v97) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def preserves_SProj_SProjIdeal : Prop :=
  True

def algebraic_SProjIdeal_SProjRefIdeal [hSProjIdeal : Cert.SProjIdeal.Facts] [hSProjRefIdeal : Cert.SProjRefIdeal.Facts] : Prop :=
  ∀ (m : (ℓ : Loc Cert.SProjIdeal.nD Cert.SProjIdeal.τ Cert.SProjIdeal.sig) → Buf (Elt Ideal) ℓ) (g : Dev Cert.SProjIdeal.nD → PrngReg)
    (m' : (ℓ : Loc Cert.SProjRefIdeal.nD Cert.SProjRefIdeal.τ Cert.SProjRefIdeal.sig) → Buf (Elt Ideal) ℓ) (g' : Dev Cert.SProjRefIdeal.nD → PrngReg), Pre_SProjIdeal m →
    (∀ c : Dev Cert.SProjIdeal.nD,
      m' ((c.tc : Thread Cert.SProjRefIdeal.nD Cert.SProjRefIdeal.τ).loc Cert.SProjRefIdeal.main_arg0) = m ((c.tc : Thread Cert.SProjIdeal.nD Cert.SProjIdeal.τ).loc Cert.SProjIdeal.main_arg0)
      ∧ m' ((c.tc : Thread Cert.SProjRefIdeal.nD Cert.SProjRefIdeal.τ).loc Cert.SProjRefIdeal.main_arg1) = m ((c.tc : Thread Cert.SProjIdeal.nD Cert.SProjIdeal.τ).loc Cert.SProjIdeal.main_arg1)
      ∧ m' ((c.tc : Thread Cert.SProjRefIdeal.nD Cert.SProjRefIdeal.τ).loc Cert.SProjRefIdeal.main_arg2) = m ((c.tc : Thread Cert.SProjIdeal.nD Cert.SProjIdeal.τ).loc Cert.SProjIdeal.main_arg2)
      ∧ m' ((c.tc : Thread Cert.SProjRefIdeal.nD Cert.SProjRefIdeal.τ).loc Cert.SProjRefIdeal.main_arg3) = m ((c.tc : Thread Cert.SProjIdeal.nD Cert.SProjIdeal.τ).loc Cert.SProjIdeal.main_arg3)
      ∧ m' ((c.tc : Thread Cert.SProjRefIdeal.nD Cert.SProjRefIdeal.τ).loc Cert.SProjRefIdeal.main_arg4) = m ((c.tc : Thread Cert.SProjIdeal.nD Cert.SProjIdeal.τ).loc Cert.SProjIdeal.main_arg4)
      ∧ m' ((c.tc : Thread Cert.SProjRefIdeal.nD Cert.SProjRefIdeal.τ).loc Cert.SProjRefIdeal.main_arg5) = m ((c.tc : Thread Cert.SProjIdeal.nD Cert.SProjIdeal.τ).loc Cert.SProjIdeal.main_arg5)
      ∧ m' ((c.tc : Thread Cert.SProjRefIdeal.nD Cert.SProjRefIdeal.τ).loc Cert.SProjRefIdeal.main_arg6) = m ((c.tc : Thread Cert.SProjIdeal.nD Cert.SProjIdeal.τ).loc Cert.SProjIdeal.main_arg6)) →
    ∃ (v0 : (c : Dev Cert.SProjIdeal.nD) → Buf (Elt Ideal) ((c.tc : Thread Cert.SProjIdeal.nD Cert.SProjIdeal.τ).loc Cert.SProjIdeal.main_v15_0)) (v1 : (c : Dev Cert.SProjIdeal.nD) → Buf (Elt Ideal) ((c.tc : Thread Cert.SProjIdeal.nD Cert.SProjIdeal.τ).loc Cert.SProjIdeal.main_v15_1)) (v2 : (c : Dev Cert.SProjIdeal.nD) → Buf (Elt Ideal) ((c.tc : Thread Cert.SProjIdeal.nD Cert.SProjIdeal.τ).loc Cert.SProjIdeal.main_v15_2)),
      θ_run (Cert.SProjIdeal.defs (F := Ideal)) (onTc (τ := Cert.SProjIdeal.τ) (Cert.SProjIdeal.main (F := Ideal))) ⟨m, fun _ => 0, g⟩ (fun r => ∀ c : Dev Cert.SProjIdeal.nD,
          r.2.mem ((c.tc : Thread Cert.SProjIdeal.nD Cert.SProjIdeal.τ).loc Cert.SProjIdeal.main_v15_0) = v0 c
          ∧ r.2.mem ((c.tc : Thread Cert.SProjIdeal.nD Cert.SProjIdeal.τ).loc Cert.SProjIdeal.main_v15_1) = v1 c
          ∧ r.2.mem ((c.tc : Thread Cert.SProjIdeal.nD Cert.SProjIdeal.τ).loc Cert.SProjIdeal.main_v15_2) = v2 c
          ∧ r.2.mem ((c.tc : Thread Cert.SProjIdeal.nD Cert.SProjIdeal.τ).loc Cert.SProjIdeal.main_arg0) = m ((c.tc : Thread Cert.SProjIdeal.nD Cert.SProjIdeal.τ).loc Cert.SProjIdeal.main_arg0)
          ∧ r.2.mem ((c.tc : Thread Cert.SProjIdeal.nD Cert.SProjIdeal.τ).loc Cert.SProjIdeal.main_arg1) = m ((c.tc : Thread Cert.SProjIdeal.nD Cert.SProjIdeal.τ).loc Cert.SProjIdeal.main_arg1)
          ∧ r.2.mem ((c.tc : Thread Cert.SProjIdeal.nD Cert.SProjIdeal.τ).loc Cert.SProjIdeal.main_arg2) = m ((c.tc : Thread Cert.SProjIdeal.nD Cert.SProjIdeal.τ).loc Cert.SProjIdeal.main_arg2)
          ∧ r.2.mem ((c.tc : Thread Cert.SProjIdeal.nD Cert.SProjIdeal.τ).loc Cert.SProjIdeal.main_arg3) = m ((c.tc : Thread Cert.SProjIdeal.nD Cert.SProjIdeal.τ).loc Cert.SProjIdeal.main_arg3)
          ∧ r.2.mem ((c.tc : Thread Cert.SProjIdeal.nD Cert.SProjIdeal.τ).loc Cert.SProjIdeal.main_arg4) = m ((c.tc : Thread Cert.SProjIdeal.nD Cert.SProjIdeal.τ).loc Cert.SProjIdeal.main_arg4)
          ∧ r.2.mem ((c.tc : Thread Cert.SProjIdeal.nD Cert.SProjIdeal.τ).loc Cert.SProjIdeal.main_arg5) = m ((c.tc : Thread Cert.SProjIdeal.nD Cert.SProjIdeal.τ).loc Cert.SProjIdeal.main_arg5)
          ∧ r.2.mem ((c.tc : Thread Cert.SProjIdeal.nD Cert.SProjIdeal.τ).loc Cert.SProjIdeal.main_arg6) = m ((c.tc : Thread Cert.SProjIdeal.nD Cert.SProjIdeal.τ).loc Cert.SProjIdeal.main_arg6))
      ∧ θ_run (Cert.SProjRefIdeal.defs (F := Ideal)) (onTc (τ := Cert.SProjRefIdeal.τ) (Cert.SProjRefIdeal.main (F := Ideal))) ⟨m', fun _ => 0, g'⟩ (fun r => ∀ c : Dev Cert.SProjRefIdeal.nD,
          r.2.mem ((c.tc : Thread Cert.SProjRefIdeal.nD Cert.SProjRefIdeal.τ).loc Cert.SProjRefIdeal.main_v144) = v0 c
          ∧ r.2.mem ((c.tc : Thread Cert.SProjRefIdeal.nD Cert.SProjRefIdeal.τ).loc Cert.SProjRefIdeal.main_v145) = v1 c
          ∧ r.2.mem ((c.tc : Thread Cert.SProjRefIdeal.nD Cert.SProjRefIdeal.τ).loc Cert.SProjRefIdeal.main_v146) = v2 c
          ∧ r.2.mem ((c.tc : Thread Cert.SProjRefIdeal.nD Cert.SProjRefIdeal.τ).loc Cert.SProjRefIdeal.main_arg0) = m' ((c.tc : Thread Cert.SProjRefIdeal.nD Cert.SProjRefIdeal.τ).loc Cert.SProjRefIdeal.main_arg0)
          ∧ r.2.mem ((c.tc : Thread Cert.SProjRefIdeal.nD Cert.SProjRefIdeal.τ).loc Cert.SProjRefIdeal.main_arg1) = m' ((c.tc : Thread Cert.SProjRefIdeal.nD Cert.SProjRefIdeal.τ).loc Cert.SProjRefIdeal.main_arg1)
          ∧ r.2.mem ((c.tc : Thread Cert.SProjRefIdeal.nD Cert.SProjRefIdeal.τ).loc Cert.SProjRefIdeal.main_arg2) = m' ((c.tc : Thread Cert.SProjRefIdeal.nD Cert.SProjRefIdeal.τ).loc Cert.SProjRefIdeal.main_arg2)
          ∧ r.2.mem ((c.tc : Thread Cert.SProjRefIdeal.nD Cert.SProjRefIdeal.τ).loc Cert.SProjRefIdeal.main_arg3) = m' ((c.tc : Thread Cert.SProjRefIdeal.nD Cert.SProjRefIdeal.τ).loc Cert.SProjRefIdeal.main_arg3)
          ∧ r.2.mem ((c.tc : Thread Cert.SProjRefIdeal.nD Cert.SProjRefIdeal.τ).loc Cert.SProjRefIdeal.main_arg4) = m' ((c.tc : Thread Cert.SProjRefIdeal.nD Cert.SProjRefIdeal.τ).loc Cert.SProjRefIdeal.main_arg4)
          ∧ r.2.mem ((c.tc : Thread Cert.SProjRefIdeal.nD Cert.SProjRefIdeal.τ).loc Cert.SProjRefIdeal.main_arg5) = m' ((c.tc : Thread Cert.SProjRefIdeal.nD Cert.SProjRefIdeal.τ).loc Cert.SProjRefIdeal.main_arg5)
          ∧ r.2.mem ((c.tc : Thread Cert.SProjRefIdeal.nD Cert.SProjRefIdeal.τ).loc Cert.SProjRefIdeal.main_arg6) = m' ((c.tc : Thread Cert.SProjRefIdeal.nD Cert.SProjRefIdeal.τ).loc Cert.SProjRefIdeal.main_arg6))

def preserves_Mod_ModIdeal : Prop :=
  True

def algebraic_ModIdeal_ModRefIdeal_pre_finite [hModIdeal : Cert.ModIdeal.Facts] [hModRefIdeal : Cert.ModRefIdeal.Facts] [hPre_finite : Cert.Pre_finite.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal_finite m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v6)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v6) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v20) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def Claim : Prop :=
  ∃ (hFwd : Cert.Fwd.Facts) (hFwdIdeal : Cert.FwdIdeal.Facts) (hFwdRefIdeal : Cert.FwdRefIdeal.Facts) (hBwd : Cert.Bwd.Facts) (hBwdIdeal : Cert.BwdIdeal.Facts) (hBwdRefIdeal : Cert.BwdRefIdeal.Facts) (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hSProj : Cert.SProj.Facts) (hSProjIdeal : Cert.SProjIdeal.Facts) (hSProjRefIdeal : Cert.SProjRefIdeal.Facts) (hMod : Cert.Mod.Facts) (hModIdeal : Cert.ModIdeal.Facts) (hModRefIdeal : Cert.ModRefIdeal.Facts) (hPre_finite : Cert.Pre_finite.Facts),
    quiescent_Fwd (hFwd := hFwd)
    ∧ quiescent_FwdIdeal (hFwdIdeal := hFwdIdeal)
    ∧ quiescent_FwdRefIdeal (hFwdRefIdeal := hFwdRefIdeal)
    ∧ quiescent_Bwd (hBwd := hBwd)
    ∧ quiescent_BwdIdeal (hBwdIdeal := hBwdIdeal)
    ∧ quiescent_BwdRefIdeal (hBwdRefIdeal := hBwdRefIdeal)
    ∧ quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ quiescent_SProj (hSProj := hSProj)
    ∧ quiescent_SProjIdeal (hSProjIdeal := hSProjIdeal)
    ∧ quiescent_SProjRefIdeal (hSProjRefIdeal := hSProjRefIdeal)
    ∧ quiescent_Mod (hMod := hMod)
    ∧ quiescent_ModIdeal (hModIdeal := hModIdeal)
    ∧ quiescent_ModIdeal_pre_finite (hModIdeal := hModIdeal) (hPre_finite := hPre_finite)
    ∧ quiescent_ModRefIdeal (hModRefIdeal := hModRefIdeal)
    ∧ quiescent_ModRefIdeal_pre_finite (hModRefIdeal := hModRefIdeal) (hPre_finite := hPre_finite)
    ∧ preserves_Fwd_FwdIdeal
    ∧ algebraic_FwdIdeal_FwdRefIdeal (hFwdIdeal := hFwdIdeal) (hFwdRefIdeal := hFwdRefIdeal)
    ∧ preserves_Bwd_BwdIdeal
    ∧ algebraic_BwdIdeal_BwdRefIdeal (hBwdIdeal := hBwdIdeal) (hBwdRefIdeal := hBwdRefIdeal)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
    ∧ preserves_SProj_SProjIdeal
    ∧ algebraic_SProjIdeal_SProjRefIdeal (hSProjIdeal := hSProjIdeal) (hSProjRefIdeal := hSProjRefIdeal)
    ∧ preserves_Mod_ModIdeal
    ∧ algebraic_ModIdeal_ModRefIdeal_pre_finite (hModIdeal := hModIdeal) (hModRefIdeal := hModRefIdeal) (hPre_finite := hPre_finite)
-- ==== Pre_finite.lean ====
abbrev S8x1024 : Shape := ⟨2, ![8, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩

class Facts : Prop where
  bcast_S_S8x1024 : S_.BroadcastsInDim S8x1024 (![] : Fin 0 → Fin S8x1024.rank)
  reducesTo_S8x1024_S_d0_1 : S8x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S4x1024x6144 : S_.BroadcastsInDim S4x1024x6144 (![] : Fin 0 → Fin S4x1024x6144.rank)
  reducesTo_S4x1024x6144_S_d0_1_2 : S4x1024x6144.ReducesTo [0, 1, 2] S_

variable [Facts]

def fn {F : FTy → Type} [FloatOps F] (main_arg0 : FVec F S8x1024 .f32) (main_arg1 : FVec F S1024 .f32) (main_arg2 : FVec F S4x1024x6144 .f32) (main_arg3 : FVec F S4x6144 .f32) : IVec S_ 1 :=
  let main_v0 : FVec F S8x1024 .f32 := Host.absf main_arg0
  let main_cst : FVec F S_ .f32 := constant S_ .f32 0x7F800000#32
  let main_v1 : FVec F S8x1024 .f32 := broadcastInDim S8x1024 ![] bcast_S_S8x1024 main_cst
  let main_v2 : IVec S8x1024 1 := cmpf .olt main_v0 main_v1
  let main_c : IVec S_ 1 := constantI S_ 1 1#1
  let main_v3 : IVec S_ 1 := (fun x v => Host.reduce IntOp.andi x v reducesTo_S8x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S4x1024x6144 .f32 := Host.absf main_arg2
  let main_cst_2 : FVec F S_ .f32 := constant S_ .f32 0x7F800000#32
  let main_v10 : FVec F S4x1024x6144 .f32 := broadcastInDim S4x1024x6144 ![] bcast_S_S4x1024x6144 main_cst_2
  let main_v11 : IVec S4x1024x6144 1 := cmpf .olt main_v9 main_v10
  let main_c_3 : IVec S_ 1 := constantI S_ 1 1#1
  let main_v12 : IVec S_ 1 := (fun x v => Host.reduce IntOp.andi x v reducesTo_S4x1024x6144_S_d0_1_2 h_S_) main_v11 main_c_3
  let main_v13 : IVec S_ 1 := andi main_v8 main_v12
  main_v13
-- ==== Fwd.lean ====
abbrev S8x4352x1024 : Shape := ⟨3, ![8, 4352, 1024]⟩
abbrev S8x4352x2048 : Shape := ⟨3, ![8, 4352, 2048]⟩
abbrev S2x4 : Shape := ⟨2, ![2, 4]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x4 : Shape := ⟨2, ![1, 4]⟩
abbrev S4 : Shape := ⟨1, ![4]⟩
abbrev S128x4 : Shape := ⟨2, ![128, 4]⟩
abbrev S128x4x256 : Shape := ⟨3, ![128, 4, 256]⟩
abbrev S128x1024 : Shape := ⟨2, ![128, 1024]⟩
abbrev S1x128x128 : Shape := ⟨3, ![1, 128, 128]⟩
abbrev S4x1x1 : Shape := ⟨3, ![4, 1, 1]⟩
abbrev S4x128x128 : Shape := ⟨3, ![4, 128, 128]⟩
abbrev S4x1x512 : Shape := ⟨3, ![4, 1, 512]⟩
abbrev S1x256x1024 : Shape := ⟨3, ![1, 256, 1024]⟩
abbrev S1x256x2048 : Shape := ⟨3, ![1, 256, 2048]⟩
abbrev S4x256x512 : Shape := ⟨3, ![4, 256, 512]⟩
abbrev S1x128x256 : Shape := ⟨3, ![1, 128, 256]⟩
abbrev S128x256 : Shape := ⟨2, ![128, 256]⟩
abbrev S1x128x512 : Shape := ⟨3, ![1, 128, 512]⟩
abbrev S128x512 : Shape := ⟨2, ![128, 512]⟩
abbrev S1x256x512 : Shape := ⟨3, ![1, 256, 512]⟩
abbrev S256x512 : Shape := ⟨2, ![256, 512]⟩
abbrev S256x128 : Shape := ⟨2, ![256, 128]⟩
abbrev S1x1x512 : Shape := ⟨3, ![1, 1, 512]⟩
abbrev S1x512 : Shape := ⟨2, ![1, 512]⟩

abbrev nBuf : Space → Nat
  | .hbm => 115
  | .vmem => 13
  | .smem => 0
  | _ => 0

abbrev bufTy : (tb : Table) → Fin (tcTables nBuf tb) → BufTy
  | .hbm, ⟨0, _⟩ => ⟨S8x4352x1024, .f32⟩
  | .hbm, ⟨1, _⟩ => ⟨S8x4352x1024, .f32⟩
  | .hbm, ⟨2, _⟩ => ⟨S8x4352x2048, .f32⟩
  | .hbm, ⟨3, _⟩ => ⟨S2x4, .f32⟩
  | .hbm, ⟨4, _⟩ => ⟨S2x4, .f32⟩
  | .hbm, ⟨5, _⟩ => ⟨S_, .f32⟩
  | .hbm, ⟨6, _⟩ => ⟨S2x4, .f32⟩
  | .hbm, ⟨7, _⟩ => ⟨S2x4, .f32⟩
  | .hbm, ⟨8, _⟩ => ⟨S2x4, .f32⟩
  | .hbm, ⟨9, _⟩ => ⟨S2x4, .f32⟩
  | .hbm, ⟨10, _⟩ => ⟨S2x4, .i1⟩
  | .hbm, ⟨11, _⟩ => ⟨S2x4, .f32⟩
  | .hbm, ⟨12, _⟩ => ⟨S2x4, .f32⟩
  | .hbm, ⟨13, _⟩ => ⟨S2x4, .f32⟩
  | .hbm, ⟨14, _⟩ => ⟨S2x4, .f32⟩
  | .hbm, ⟨15, _⟩ => ⟨S2x4, .f32⟩
  | .hbm, ⟨16, _⟩ => ⟨S2x4, .f32⟩
  | .hbm, ⟨17, _⟩ => ⟨S2x4, .f32⟩
  | .hbm, ⟨18, _⟩ => ⟨S2x4, .f32⟩
  | .hbm, ⟨19, _⟩ => ⟨S2x4, .f32⟩
  | .hbm, ⟨20, _⟩ => ⟨S128, .f32⟩
  | .hbm, ⟨21, _⟩ => ⟨S128x1, .f32⟩
  | .hbm, ⟨22, _⟩ => ⟨S1x128, .f32⟩
  | .hbm, ⟨23, _⟩ => ⟨S128x128, .f32⟩
  | .hbm, ⟨24, _⟩ => ⟨S128x128, .f32⟩
  | .hbm, ⟨25, _⟩ => ⟨S128x128, .f32⟩
  | .hbm, ⟨26, _⟩ => ⟨S1x4, .f32⟩
  | .hbm, ⟨27, _⟩ => ⟨S4, .f32⟩
  | .hbm, ⟨28, _⟩ => ⟨S_, .f32⟩
  | .hbm, ⟨29, _⟩ => ⟨S128, .f32⟩
  | .hbm, ⟨30, _⟩ => ⟨S128, .f32⟩
  | .hbm, ⟨31, _⟩ => ⟨S_, .f32⟩
  | .hbm, ⟨32, _⟩ => ⟨S128, .f32⟩
  | .hbm, ⟨33, _⟩ => ⟨S128, .f32⟩
  | .hbm, ⟨34, _⟩ => ⟨S128x1, .f32⟩
  | .hbm, ⟨35, _⟩ => ⟨S1x4, .f32⟩
  | .hbm, ⟨36, _⟩ => ⟨S128x4, .f32⟩
  | .hbm, ⟨37, _⟩ => ⟨S128x4, .f32⟩
  | .hbm, ⟨38, _⟩ => ⟨S128x4, .f32⟩
  | .hbm, ⟨39, _⟩ => ⟨S128x4, .f32⟩
  | .hbm, ⟨40, _⟩ => ⟨S128x4x256, .f32⟩
  | .hbm, ⟨41, _⟩ => ⟨S128x1024, .f32⟩
  | .hbm, ⟨42, _⟩ => ⟨S128x1, .f32⟩
  | .hbm, ⟨43, _⟩ => ⟨S1x4, .f32⟩
  | .hbm, ⟨44, _⟩ => ⟨S128x4, .f32⟩
  | .hbm, ⟨45, _⟩ => ⟨S128x4, .f32⟩
  | .hbm, ⟨46, _⟩ => ⟨S128x4, .f32⟩
  | .hbm, ⟨47, _⟩ => ⟨S128x4, .f32⟩
  | .hbm, ⟨48, _⟩ => ⟨S128x4x256, .f32⟩
  | .hbm, ⟨49, _⟩ => ⟨S128x1024, .f32⟩
  | .hbm, ⟨50, _⟩ => ⟨S_, .f32⟩
  | .hbm, ⟨51, _⟩ => ⟨S128x128, .f32⟩
  | .hbm, ⟨52, _⟩ => ⟨S128x128, .i1⟩
  | .hbm, ⟨53, _⟩ => ⟨S1x128x128, .i1⟩
  | .hbm, ⟨54, _⟩ => ⟨S1x128x128, .f32⟩
  | .hbm, ⟨55, _⟩ => ⟨S4x1x1, .f32⟩
  | .hbm, ⟨56, _⟩ => ⟨S4x128x128, .f32⟩
  | .hbm, ⟨57, _⟩ => ⟨S4x128x128, .f32⟩
  | .hbm, ⟨58, _⟩ => ⟨S4x128x128, .f32⟩
  | .hbm, ⟨59, _⟩ => ⟨S_, .f32⟩
  | .hbm, ⟨60, _⟩ => ⟨S_, .f32⟩
  | .hbm, ⟨61, _⟩ => ⟨S4x128x128, .i1⟩
  | .hbm, ⟨62, _⟩ => ⟨S4x128x128, .f32⟩
  | .hbm, ⟨63, _⟩ => ⟨S4x128x128, .f32⟩
  | .hbm, ⟨64, _⟩ => ⟨S4x128x128, .f32⟩
  | .hbm, ⟨65, _⟩ => ⟨S_, .f32⟩
  | .hbm, ⟨66, _⟩ => ⟨S4, .f32⟩
  | .hbm, ⟨67, _⟩ => ⟨S4, .f32⟩
  | .hbm, ⟨68, _⟩ => ⟨S4, .f32⟩
  | .hbm, ⟨69, _⟩ => ⟨S4x1x1, .f32⟩
  | .hbm, ⟨70, _⟩ => ⟨S4x1x512, .f32⟩
  | .hbm, ⟨71, _⟩ => ⟨S1x4, .f32⟩
  | .hbm, ⟨72, _⟩ => ⟨S4, .f32⟩
  | .hbm, ⟨73, _⟩ => ⟨S_, .f32⟩
  | .hbm, ⟨74, _⟩ => ⟨S128, .f32⟩
  | .hbm, ⟨75, _⟩ => ⟨S128, .f32⟩
  | .hbm, ⟨76, _⟩ => ⟨S128x128, .f32⟩
  | .hbm, ⟨77, _⟩ => ⟨S128x1, .f32⟩
  | .hbm, ⟨78, _⟩ => ⟨S1x4, .f32⟩
  | .hbm, ⟨79, _⟩ => ⟨S128x4, .f32⟩
  | .hbm, ⟨80, _⟩ => ⟨S128x4, .f32⟩
  | .hbm, ⟨81, _⟩ => ⟨S128x4, .f32⟩
  | .hbm, ⟨82, _⟩ => ⟨S128x4, .f32⟩
  | .hbm, ⟨83, _⟩ => ⟨S128x4x256, .f32⟩
  | .hbm, ⟨84, _⟩ => ⟨S128x1024, .f32⟩
  | .hbm, ⟨85, _⟩ => ⟨S128x1, .f32⟩
  | .hbm, ⟨86, _⟩ => ⟨S1x4, .f32⟩
  | .hbm, ⟨87, _⟩ => ⟨S128x4, .f32⟩
  | .hbm, ⟨88, _⟩ => ⟨S128x4, .f32⟩
  | .hbm, ⟨89, _⟩ => ⟨S128x4, .f32⟩
  | .hbm, ⟨90, _⟩ => ⟨S128x4, .f32⟩
  | .hbm, ⟨91, _⟩ => ⟨S128x4x256, .f32⟩
  | .hbm, ⟨92, _⟩ => ⟨S128x1024, .f32⟩
  | .hbm, ⟨93, _⟩ => ⟨S_, .f32⟩
  | .hbm, ⟨94, _⟩ => ⟨S128x128, .f32⟩
  | .hbm, ⟨95, _⟩ => ⟨S128x128, .i1⟩
  | .hbm, ⟨96, _⟩ => ⟨S1x128x128, .i1⟩
  | .hbm, ⟨97, _⟩ => ⟨S1x128x128, .f32⟩
  | .hbm, ⟨98, _⟩ => ⟨S4x1x1, .f32⟩
  | .hbm, ⟨99, _⟩ => ⟨S4x128x128, .f32⟩
  | .hbm, ⟨100, _⟩ => ⟨S4x128x128, .f32⟩
  | .hbm, ⟨101, _⟩ => ⟨S4x128x128, .f32⟩
  | .hbm, ⟨102, _⟩ => ⟨S_, .f32⟩
  | .hbm, ⟨103, _⟩ => ⟨S_, .f32⟩
  | .hbm, ⟨104, _⟩ => ⟨S4x128x128, .i1⟩
  | .hbm, ⟨105, _⟩ => ⟨S4x128x128, .f32⟩
  | .hbm, ⟨106, _⟩ => ⟨S4x128x128, .f32⟩
  | .hbm, ⟨107, _⟩ => ⟨S4x128x128, .f32⟩
  | .hbm, ⟨108, _⟩ => ⟨S_, .f32⟩
  | .hbm, ⟨109, _⟩ => ⟨S4, .f32⟩
  | .hbm, ⟨110, _⟩ => ⟨S4, .f32⟩
  | .hbm, ⟨111, _⟩ => ⟨S4, .f32⟩
  | .hbm, ⟨112, _⟩ => ⟨S4x1x1, .f32⟩
  | .hbm, ⟨113, _⟩ => ⟨S4x1x512, .f32⟩
  | .hbm, ⟨114, _⟩ => ⟨S8x4352x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x2048, .f32⟩
  | .local _ .vmem, ⟨5, _⟩ => ⟨S1x256x2048, .f32⟩
  | .local _ .vmem, ⟨6, _⟩ => ⟨S128x1024, .f32⟩
  | .local _ .vmem, ⟨7, _⟩ => ⟨S128x1024, .f32⟩
  | .local _ .vmem, ⟨8, _⟩ => ⟨S4x128x128, .f32⟩
  | .local _ .vmem, ⟨9, _⟩ => ⟨S4x1x512, .f32⟩
  | .local _ .vmem, ⟨10, _⟩ => ⟨S1x256x2048, .f32⟩
  | .local _ .vmem, ⟨11, _⟩ => ⟨S1x256x2048, .f32⟩
  | .local _ .vmem, ⟨12, _⟩ => ⟨S4x256x512, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_v1 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_v10 : Ref sig .tc := ⟨.hbm, 30, rfl⟩
abbrev main_cst_0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_1 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_2 : Ref sig .tc := ⟨.hbm, 59, rfl⟩
abbrev main_call1_v0 : Ref sig .tc := ⟨.hbm, 60, rfl⟩
abbrev main_call1_v1 : Ref sig .tc := ⟨.hbm, 61, rfl⟩
abbrev main_call1_v2 : Ref sig .tc := ⟨.hbm, 62, rfl⟩
abbrev main_v37 : Ref sig .tc := ⟨.hbm, 63, rfl⟩
abbrev main_v38 : Ref sig .tc := ⟨.hbm, 64, rfl⟩
abbrev main_cst_3 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_cst_4 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_5 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_6 : Ref sig .tc := ⟨.hbm, 102, rfl⟩
abbrev main_call2_v0 : Ref sig .tc := ⟨.hbm, 103, rfl⟩
abbrev main_call2_v1 : Ref sig .tc := ⟨.hbm, 104, rfl⟩
abbrev main_call2_v2 : Ref sig .tc := ⟨.hbm, 105, rfl⟩
abbrev main_v73 : Ref sig .tc := ⟨.hbm, 106, rfl⟩
abbrev main_v74 : Ref sig .tc := ⟨.hbm, 107, rfl⟩
abbrev main_cst_7 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== FwdRefIdeal.lean ====
abbrev S8x4352x1024 : Shape := ⟨3, ![8, 4352, 1024]⟩
abbrev S8x4352x2048 : Shape := ⟨3, ![8, 4352, 2048]⟩
abbrev S2x4 : Shape := ⟨2, ![2, 4]⟩
abbrev S8x4352x4x256 : Shape := ⟨4, ![8, 4352, 4, 256]⟩
abbrev S8x4352x4x512 : Shape := ⟨4, ![8, 4352, 4, 512]⟩
abbrev S_ : Shape := ⟨0, ![]⟩
abbrev S8x4x256x512 : Shape := ⟨4, ![8, 4, 256, 512]⟩
abbrev S1x4 : Shape := ⟨2, ![1, 4]⟩
abbrev S4 : Shape := ⟨1, ![4]⟩
abbrev S8x34x128x4x256 : Shape := ⟨5, ![8, 34, 128, 4, 256]⟩
abbrev S8x34x128x4x512 : Shape := ⟨5, ![8, 34, 128, 4, 512]⟩
abbrev S128 : Shape := ⟨1, ![128]⟩
abbrev S128x1 : Shape := ⟨2, ![128, 1]⟩
abbrev S128x4 : Shape := ⟨2, ![128, 4]⟩
abbrev S4x1x1 : Shape := ⟨3, ![4, 1, 1]⟩
abbrev S1x128 : Shape := ⟨2, ![1, 128]⟩
abbrev S128x128 : Shape := ⟨2, ![128, 128]⟩
abbrev S128x128x1 : Shape := ⟨3, ![128, 128, 1]⟩
abbrev S1x1x4 : Shape := ⟨3, ![1, 1, 4]⟩
abbrev S128x128x4 : Shape := ⟨3, ![128, 128, 4]⟩
abbrev S34x8x128x4x256 : Shape := ⟨5, ![34, 8, 128, 4, 256]⟩
abbrev S34x8x128x4x512 : Shape := ⟨5, ![34, 8, 128, 4, 512]⟩
abbrev S1x8x128x4x256 : Shape := ⟨5, ![1, 8, 128, 4, 256]⟩
abbrev S8x128x4x256 : Shape := ⟨4, ![8, 128, 4, 256]⟩
abbrev S1x8x128x4x512 : Shape := ⟨5, ![1, 8, 128, 4, 512]⟩
abbrev S8x128x4x512 : Shape := ⟨4, ![8, 128, 4, 512]⟩
abbrev S128x4x1 : Shape := ⟨3, ![128, 4, 1]⟩
abbrev S1x128x4x1 : Shape := ⟨4, ![1, 128, 4, 1]⟩
abbrev S8x4x512x128 : Shape := ⟨4, ![8, 4, 512, 128]⟩
abbrev S8x4x128x128 : Shape := ⟨4, ![8, 4, 128, 128]⟩
abbrev S8x128x128x4 : Shape := ⟨4, ![8, 128, 128, 4]⟩
abbrev S1x128x128x4 : Shape := ⟨4, ![1, 128, 128, 4]⟩
abbrev S1x4x1x1 : Shape := ⟨4, ![1, 4, 1, 1]⟩

abbrev nBuf : Space → Nat
  | .hbm => 144
  | .vmem => 0
  | .smem => 0
  | _ => 0

abbrev hbmTy0_0 (i : Nat) : BufTy := match i % 128 with
  | 0 => ⟨S8x4352x1024, .f32⟩
  | 1 => ⟨S8x4352x1024, .f32⟩
  | 2 => ⟨S8x4352x2048, .f32⟩
  | 3 => ⟨S2x4, .f32⟩
  | 4 => ⟨S8x4352x4x256, .f32⟩
  | 5 => ⟨S8x4352x4x256, .f32⟩
  | 6 => ⟨S8x4352x4x512, .f32⟩
  | 7 => ⟨S2x4, .f32⟩
  | 8 => ⟨S_, .f32⟩
  | 9 => ⟨S2x4, .f32⟩
  | 10 => ⟨S2x4, .f32⟩
  | 11 => ⟨S2x4, .f32⟩
  | 12 => ⟨S2x4, .f32⟩
  | 13 => ⟨S2x4, .i1⟩
  | 14 => ⟨S2x4, .f32⟩
  | 15 => ⟨S2x4, .f32⟩
  | 16 => ⟨S2x4, .f32⟩
  | 17 => ⟨S2x4, .f32⟩
  | 18 => ⟨S2x4, .f32⟩
  | 19 => ⟨S2x4, .f32⟩
  | 20 => ⟨S2x4, .f32⟩
  | 21 => ⟨S2x4, .f32⟩
  | 22 => ⟨S2x4, .f32⟩
  | 23 => ⟨S_, .f32⟩
  | 24 => ⟨S8x4x256x512, .f32⟩
  | 25 => ⟨S1x4, .f32⟩
  | 26 => ⟨S4, .f32⟩
  | 27 => ⟨S8x34x128x4x256, .f32⟩
  | 28 => ⟨S8x34x128x4x256, .f32⟩
  | 29 => ⟨S8x34x128x4x512, .f32⟩
  | 30 => ⟨S128, .f32⟩
  | 31 => ⟨S_, .f32⟩
  | 32 => ⟨S128, .f32⟩
  | 33 => ⟨S128, .f32⟩
  | 34 => ⟨S128x1, .f32⟩
  | 35 => ⟨S1x4, .f32⟩
  | 36 => ⟨S128x4, .f32⟩
  | 37 => ⟨S128x4, .f32⟩
  | 38 => ⟨S128x4, .f32⟩
  | 39 => ⟨S128x4, .f32⟩
  | 40 => ⟨S_, .f32⟩
  | 41 => ⟨S4, .f32⟩
  | 42 => ⟨S4, .f32⟩
  | 43 => ⟨S4, .f32⟩
  | 44 => ⟨S4x1x1, .f32⟩
  | 45 => ⟨S_, .f32⟩
  | 46 => ⟨S128, .f32⟩
  | 47 => ⟨S128, .f32⟩
  | 48 => ⟨S128x1, .f32⟩
  | 49 => ⟨S1x4, .f32⟩
  | 50 => ⟨S128x4, .f32⟩
  | 51 => ⟨S128x4, .f32⟩
  | 52 => ⟨S128x4, .f32⟩
  | 53 => ⟨S128x4, .f32⟩
  | 54 => ⟨S128x1, .f32⟩
  | 55 => ⟨S1x128, .f32⟩
  | 56 => ⟨S128x128, .f32⟩
  | 57 => ⟨S128x128, .f32⟩
  | 58 => ⟨S128x128, .f32⟩
  | 59 => ⟨S_, .f32⟩
  | 60 => ⟨S128x128, .f32⟩
  | 61 => ⟨S128x128, .i1⟩
  | 62 => ⟨S128x128x1, .i1⟩
  | 63 => ⟨S128x128x1, .f32⟩
  | 64 => ⟨S1x1x4, .f32⟩
  | 65 => ⟨S128x128x4, .f32⟩
  | 66 => ⟨S128x128x4, .f32⟩
  | 67 => ⟨S128x128x4, .f32⟩
  | 68 => ⟨S_, .f32⟩
  | 69 => ⟨S_, .f32⟩
  | 70 => ⟨S128x128x4, .i1⟩
  | 71 => ⟨S128x128x4, .f32⟩
  | 72 => ⟨S128x128x4, .f32⟩
  | 73 => ⟨S128x128x4, .f32⟩
  | 74 => ⟨S34x8x128x4x256, .f32⟩
  | 75 => ⟨S34x8x128x4x512, .f32⟩
  | 76 => ⟨S34x8x128x4x256, .f32⟩
  | 77 => ⟨S_, .f32⟩
  | 78 => ⟨S34x8x128x4x512, .f32⟩
  | 79 => ⟨S_, .i32⟩
  | 80 => ⟨S34x8x128x4x256, .f32⟩
  | 81 => ⟨S34x8x128x4x512, .f32⟩
  | 82 => ⟨S34x8x128x4x256, .f32⟩
  | 83 => ⟨S128x4, .f32⟩
  | 84 => ⟨S128x128x4, .f32⟩
  | 85 => ⟨S128x4, .f32⟩
  | 86 => ⟨S4x1x1, .f32⟩
  | 87 => ⟨S_, .i32⟩
  | 88 => ⟨S8x4x256x512, .f32⟩
  | 89 => ⟨S34x8x128x4x512, .f32⟩
  | 90 => ⟨S_, .i32⟩
  | 91 => ⟨S_, .i1⟩
  | 92 => ⟨S_, .i32⟩
  | 93 => ⟨S_, .i32⟩
  | 94 => ⟨S_, .i32⟩
  | 95 => ⟨S_, .i32⟩
  | 96 => ⟨S1x8x128x4x256, .f32⟩
  | 97 => ⟨S8x128x4x256, .f32⟩
  | 98 => ⟨S_, .i32⟩
  | 99 => ⟨S_, .i32⟩
  | 100 => ⟨S_, .i32⟩
  | 101 => ⟨S_, .i32⟩
  | 102 => ⟨S1x8x128x4x512, .f32⟩
  | 103 => ⟨S8x128x4x512, .f32⟩
  | 104 => ⟨S_, .i32⟩
  | 105 => ⟨S_, .i32⟩
  | 106 => ⟨S_, .i32⟩
  | 107 => ⟨S_, .i32⟩
  | 108 => ⟨S1x8x128x4x256, .f32⟩
  | 109 => ⟨S8x128x4x256, .f32⟩
  | 110 => ⟨S128x4x1, .f32⟩
  | 111 => ⟨S1x128x4x1, .f32⟩
  | 112 => ⟨S8x128x4x256, .f32⟩
  | 113 => ⟨S8x128x4x256, .f32⟩
  | 114 => ⟨S8x4x512x128, .f32⟩
  | 115 => ⟨S8x128x4x512, .f32⟩
  | 116 => ⟨S8x4x128x128, .f32⟩
  | 117 => ⟨S8x128x128x4, .f32⟩
  | 118 => ⟨S1x128x128x4, .f32⟩
  | 119 => ⟨S8x128x128x4, .f32⟩
  | 120 => ⟨S8x128x128x4, .f32⟩
  | 121 => ⟨S8x4x512x128, .f32⟩
  | 122 => ⟨S8x128x4x512, .f32⟩
  | 123 => ⟨S128x4x1, .f32⟩
  | 124 => ⟨S1x128x4x1, .f32⟩
  | 125 => ⟨S8x128x4x256, .f32⟩
  | 126 => ⟨S8x128x4x256, .f32⟩
  | 127 => ⟨S1x4x1x1, .f32⟩
  | _ => ⟨S8x4352x1024, .f32⟩

abbrev hbmTy0_1 (i : Nat) : BufTy := match i % 128 with
  | 0 => ⟨S8x4x256x512, .f32⟩
  | 1 => ⟨S8x4x256x512, .f32⟩
  | 2 => ⟨S8x4x256x512, .f32⟩
  | 3 => ⟨S8x4x256x512, .f32⟩
  | 4 => ⟨S8x128x4x512, .f32⟩
  | 5 => ⟨S1x8x128x4x512, .f32⟩
  | 6 => ⟨S_, .i32⟩
  | 7 => ⟨S_, .i32⟩
  | 8 => ⟨S_, .i32⟩
  | 9 => ⟨S_, .i32⟩
  | 10 => ⟨S34x8x128x4x512, .f32⟩
  | 11 => ⟨S_, .i32⟩
  | 12 => ⟨S_, .i32⟩
  | 13 => ⟨S8x34x128x4x512, .f32⟩
  | 14 => ⟨S8x4352x4x512, .f32⟩
  | 15 => ⟨S8x4352x2048, .f32⟩
  | _ => ⟨S8x4352x1024, .f32⟩

abbrev hbmTy (i : Nat) : BufTy := match i / 128 with
  | 0 => hbmTy0_0 i
  | 1 => hbmTy0_1 i
  | _ => ⟨S8x4352x1024, .f32⟩

abbrev bufTy : (tb : Table) → Fin (tcTables nBuf tb) → BufTy
  | .hbm, ⟨i, _⟩ => hbmTy i
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_cst : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_0 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_1 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_3 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_4 : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_5 : Ref sig .tc := ⟨.hbm, 77, rfl⟩
abbrev main_v51 : Ref sig .tc := ⟨.hbm, 78, rfl⟩
abbrev main_c : Ref sig .tc := ⟨.hbm, 79, rfl⟩
abbrev main_v52_0 : Ref sig .tc := ⟨.hbm, 80, rfl⟩
abbrev main_v52_1 : Ref sig .tc := ⟨.hbm, 81, rfl⟩
abbrev main_v52_2 : Ref sig .tc := ⟨.hbm, 82, rfl⟩
abbrev main_v52_3 : Ref sig .tc := ⟨.hbm, 83, rfl⟩
abbrev main_v52_4 : Ref sig .tc := ⟨.hbm, 84, rfl⟩
abbrev main_v52_5 : Ref sig .tc := ⟨.hbm, 85, rfl⟩
abbrev main_v52_6 : Ref sig .tc := ⟨.hbm, 86, rfl⟩
abbrev main_v52_7 : Ref sig .tc := ⟨.hbm, 87, rfl⟩
abbrev main_v52_8 : Ref sig .tc := ⟨.hbm, 88, rfl⟩
abbrev main_v52_9 : Ref sig .tc := ⟨.hbm, 89, rfl⟩
abbrev main_while0c_c_15 : Ref sig .tc := ⟨.hbm, 90, rfl⟩
abbrev main_while0c_v56 : Ref sig .tc := ⟨.hbm, 91, rfl⟩
abbrev main_while0b_call2_c : Ref sig .tc := ⟨.hbm, 92, rfl⟩
abbrev main_while0b_call2_c_0 : Ref sig .tc := ⟨.hbm, 93, rfl⟩
abbrev main_while0b_call2_c_1 : Ref sig .tc := ⟨.hbm, 94, rfl⟩
abbrev main_while0b_call2_c_2 : Ref sig .tc := ⟨.hbm, 95, rfl⟩
abbrev main_while0b_call2_v0 : Ref sig .tc := ⟨.hbm, 96, rfl⟩
abbrev main_while0b_v56 : Ref sig .tc := ⟨.hbm, 97, rfl⟩
abbrev main_while0b_call3_c : Ref sig .tc := ⟨.hbm, 98, rfl⟩
abbrev main_while0b_call3_c_0 : Ref sig .tc := ⟨.hbm, 99, rfl⟩
abbrev main_while0b_call3_c_1 : Ref sig .tc := ⟨.hbm, 100, rfl⟩
abbrev main_while0b_call3_c_2 : Ref sig .tc := ⟨.hbm, 101, rfl⟩
abbrev main_while0b_call3_v0 : Ref sig .tc := ⟨.hbm, 102, rfl⟩
abbrev main_while0b_v57 : Ref sig .tc := ⟨.hbm, 103, rfl⟩
abbrev main_while0b_call4_c : Ref sig .tc := ⟨.hbm, 104, rfl⟩
abbrev main_while0b_call4_c_0 : Ref sig .tc := ⟨.hbm, 105, rfl⟩
abbrev main_while0b_call4_c_1 : Ref sig .tc := ⟨.hbm, 106, rfl⟩
abbrev main_while0b_call4_c_2 : Ref sig .tc := ⟨.hbm, 107, rfl⟩
abbrev main_while0b_call4_v0 : Ref sig .tc := ⟨.hbm, 108, rfl⟩
abbrev main_while0b_v58 : Ref sig .tc := ⟨.hbm, 109, rfl⟩
abbrev main_while0b_v59 : Ref sig .tc := ⟨.hbm, 110, rfl⟩
abbrev main_while0b_v60 : Ref sig .tc := ⟨.hbm, 111, rfl⟩
abbrev main_while0b_v61 : Ref sig .tc := ⟨.hbm, 112, rfl⟩
abbrev main_while0b_v62 : Ref sig .tc := ⟨.hbm, 113, rfl⟩
abbrev main_while0b_v63 : Ref sig .tc := ⟨.hbm, 114, rfl⟩
abbrev main_while0b_v64 : Ref sig .tc := ⟨.hbm, 115, rfl⟩
abbrev main_while0b_v65 : Ref sig .tc := ⟨.hbm, 116, rfl⟩
abbrev main_while0b_v66 : Ref sig .tc := ⟨.hbm, 117, rfl⟩
abbrev main_while0b_v67 : Ref sig .tc := ⟨.hbm, 118, rfl⟩
abbrev main_while0b_v68 : Ref sig .tc := ⟨.hbm, 119, rfl⟩
abbrev main_while0b_v69 : Ref sig .tc := ⟨.hbm, 120, rfl⟩
abbrev main_while0b_v70 : Ref sig .tc := ⟨.hbm, 121, rfl⟩
abbrev main_while0b_v71 : Ref sig .tc := ⟨.hbm, 122, rfl⟩
abbrev main_while0b_v72 : Ref sig .tc := ⟨.hbm, 123, rfl⟩
abbrev main_while0b_v73 : Ref sig .tc := ⟨.hbm, 124, rfl⟩
abbrev main_while0b_v74 : Ref sig .tc := ⟨.hbm, 125, rfl⟩
abbrev main_while0b_v75 : Ref sig .tc := ⟨.hbm, 126, rfl⟩
abbrev main_while0b_v76 : Ref sig .tc := ⟨.hbm, 127, rfl⟩
abbrev main_while0b_v77 : Ref sig .tc := ⟨.hbm, 128, rfl⟩
abbrev main_while0b_v78 : Ref sig .tc := ⟨.hbm, 129, rfl⟩
abbrev main_while0b_v79 : Ref sig .tc := ⟨.hbm, 130, rfl⟩
abbrev main_while0b_v80 : Ref sig .tc := ⟨.hbm, 131, rfl⟩
abbrev main_while0b_v81 : Ref sig .tc := ⟨.hbm, 132, rfl⟩
abbrev main_while0b_call5_v0 : Ref sig .tc := ⟨.hbm, 133, rfl⟩
abbrev main_while0b_call5_c : Ref sig .tc := ⟨.hbm, 134, rfl⟩
abbrev main_while0b_call5_c_0 : Ref sig .tc := ⟨.hbm, 135, rfl⟩
abbrev main_while0b_call5_c_1 : Ref sig .tc := ⟨.hbm, 136, rfl⟩
abbrev main_while0b_call5_c_2 : Ref sig .tc := ⟨.hbm, 137, rfl⟩
abbrev main_while0b_v82 : Ref sig .tc := ⟨.hbm, 138, rfl⟩
abbrev main_while0b_c_15 : Ref sig .tc := ⟨.hbm, 139, rfl⟩
abbrev main_while0b_v83 : Ref sig .tc := ⟨.hbm, 140, rfl⟩
abbrev main_v53 : Ref sig .tc := ⟨.hbm, 141, rfl⟩
abbrev main_v54 : Ref sig .tc := ⟨.hbm, 142, rfl⟩
abbrev main_v55 : Ref sig .tc := ⟨.hbm, 143, rfl⟩

abbrev nD : Nat := 1
abbrev τ : Topo := Topo.v7x

variable {F : FTy → Type} [FloatOps F]

abbrev main_while0_count : Scf.Loop 32 := ⟨0#32, 34#32, 1#32⟩
-- ==== Bwd.lean ====
abbrev S8x4352x1024 : Shape := ⟨3, ![8, 4352, 1024]⟩
abbrev S8x4352x2048 : Shape := ⟨3, ![8, 4352, 2048]⟩
abbrev S2x4 : Shape := ⟨2, ![2, 4]⟩
abbrev S2048 : Shape := ⟨1, ![2048]⟩
abbrev S_ : Shape := ⟨0, ![]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S1x4 : Shape := ⟨2, ![1, 4]⟩
abbrev S4 : Shape := ⟨1, ![4]⟩
abbrev S128x4 : Shape := ⟨2, ![128, 4]⟩
abbrev S128x4x256 : Shape := ⟨3, ![128, 4, 256]⟩
abbrev S128x1024 : Shape := ⟨2, ![128, 1024]⟩
abbrev S1x128x128 : Shape := ⟨3, ![1, 128, 128]⟩
abbrev S4x1x1 : Shape := ⟨3, ![4, 1, 1]⟩
abbrev S4x128x128 : Shape := ⟨3, ![4, 128, 128]⟩
abbrev S4x1x512 : Shape := ⟨3, ![4, 1, 512]⟩
abbrev S1x2048 : Shape := ⟨2, ![1, 2048]⟩
abbrev S1x256x1024 : Shape := ⟨3, ![1, 256, 1024]⟩
abbrev S1x256x2048 : Shape := ⟨3, ![1, 256, 2048]⟩
abbrev S4x256x512 : Shape := ⟨3, ![4, 256, 512]⟩
abbrev S1x128x256 : Shape := ⟨3, ![1, 128, 256]⟩
abbrev S128x256 : Shape := ⟨2, ![128, 256]⟩
abbrev S1x128x512 : Shape := ⟨3, ![1, 128, 512]⟩
abbrev S128x512 : Shape := ⟨2, ![128, 512]⟩
abbrev S1x256x512 : Shape := ⟨3, ![1, 256, 512]⟩
abbrev S256x512 : Shape := ⟨2, ![256, 512]⟩
abbrev S256x128 : Shape := ⟨2, ![256, 128]⟩
abbrev S1x1x512 : Shape := ⟨3, ![1, 1, 512]⟩
abbrev S1x512 : Shape := ⟨2, ![1, 512]⟩

abbrev nBuf : Space → Nat
  | .hbm => 121
  | .vmem => 19
  | .smem => 0
  | _ => 0

abbrev bufTy : (tb : Table) → Fin (tcTables nBuf tb) → BufTy
  | .hbm, ⟨0, _⟩ => ⟨S8x4352x1024, .f32⟩
  | .hbm, ⟨1, _⟩ => ⟨S8x4352x1024, .f32⟩
  | .hbm, ⟨2, _⟩ => ⟨S8x4352x2048, .f32⟩
  | .hbm, ⟨3, _⟩ => ⟨S8x4352x2048, .f32⟩
  | .hbm, ⟨4, _⟩ => ⟨S8x4352x2048, .f32⟩
  | .hbm, ⟨5, _⟩ => ⟨S2x4, .f32⟩
  | .hbm, ⟨6, _⟩ => ⟨S2048, .f32⟩
  | .hbm, ⟨7, _⟩ => ⟨S2048, .f32⟩
  | .hbm, ⟨8, _⟩ => ⟨S2x4, .f32⟩
  | .hbm, ⟨9, _⟩ => ⟨S_, .f32⟩
  | .hbm, ⟨10, _⟩ => ⟨S2x4, .f32⟩
  | .hbm, ⟨11, _⟩ => ⟨S2x4, .f32⟩
  | .hbm, ⟨12, _⟩ => ⟨S2x4, .f32⟩
  | .hbm, ⟨13, _⟩ => ⟨S2x4, .f32⟩
  | .hbm, ⟨14, _⟩ => ⟨S2x4, .i1⟩
  | .hbm, ⟨15, _⟩ => ⟨S2x4, .f32⟩
  | .hbm, ⟨16, _⟩ => ⟨S2x4, .f32⟩
  | .hbm, ⟨17, _⟩ => ⟨S2x4, .f32⟩
  | .hbm, ⟨18, _⟩ => ⟨S2x4, .f32⟩
  | .hbm, ⟨19, _⟩ => ⟨S2x4, .f32⟩
  | .hbm, ⟨20, _⟩ => ⟨S2x4, .f32⟩
  | .hbm, ⟨21, _⟩ => ⟨S2x4, .f32⟩
  | .hbm, ⟨22, _⟩ => ⟨S2x4, .f32⟩
  | .hbm, ⟨23, _⟩ => ⟨S2x4, .f32⟩
  | .hbm, ⟨24, _⟩ => ⟨S128, .f32⟩
  | .hbm, ⟨25, _⟩ => ⟨S128x1, .f32⟩
  | .hbm, ⟨26, _⟩ => ⟨S1x128, .f32⟩
  | .hbm, ⟨27, _⟩ => ⟨S128x128, .f32⟩
  | .hbm, ⟨28, _⟩ => ⟨S128x128, .f32⟩
  | .hbm, ⟨29, _⟩ => ⟨S128x128, .f32⟩
  | .hbm, ⟨30, _⟩ => ⟨S1x4, .f32⟩
  | .hbm, ⟨31, _⟩ => ⟨S4, .f32⟩
  | .hbm, ⟨32, _⟩ => ⟨S_, .f32⟩
  | .hbm, ⟨33, _⟩ => ⟨S128, .f32⟩
  | .hbm, ⟨34, _⟩ => ⟨S128, .f32⟩
  | .hbm, ⟨35, _⟩ => ⟨S_, .f32⟩
  | .hbm, ⟨36, _⟩ => ⟨S128, .f32⟩
  | .hbm, ⟨37, _⟩ => ⟨S128, .f32⟩
  | .hbm, ⟨38, _⟩ => ⟨S128x1, .f32⟩
  | .hbm, ⟨39, _⟩ => ⟨S1x4, .f32⟩
  | .hbm, ⟨40, _⟩ => ⟨S128x4, .f32⟩
  | .hbm, ⟨41, _⟩ => ⟨S128x4, .f32⟩
  | .hbm, ⟨42, _⟩ => ⟨S128x4, .f32⟩
  | .hbm, ⟨43, _⟩ => ⟨S128x4, .f32⟩
  | .hbm, ⟨44, _⟩ => ⟨S128x4x256, .f32⟩
  | .hbm, ⟨45, _⟩ => ⟨S128x1024, .f32⟩
  | .hbm, ⟨46, _⟩ => ⟨S128x1, .f32⟩
  | .hbm, ⟨47, _⟩ => ⟨S1x4, .f32⟩
  | .hbm, ⟨48, _⟩ => ⟨S128x4, .f32⟩
  | .hbm, ⟨49, _⟩ => ⟨S128x4, .f32⟩
  | .hbm, ⟨50, _⟩ => ⟨S128x4, .f32⟩
  | .hbm, ⟨51, _⟩ => ⟨S128x4, .f32⟩
  | .hbm, ⟨52, _⟩ => ⟨S128x4x256, .f32⟩
  | .hbm, ⟨53, _⟩ => ⟨S128x1024, .f32⟩
  | .hbm, ⟨54, _⟩ => ⟨S_, .f32⟩
  | .hbm, ⟨55, _⟩ => ⟨S128x128, .f32⟩
  | .hbm, ⟨56, _⟩ => ⟨S128x128, .i1⟩
  | .hbm, ⟨57, _⟩ => ⟨S1x128x128, .i1⟩
  | .hbm, ⟨58, _⟩ => ⟨S1x128x128, .f32⟩
  | .hbm, ⟨59, _⟩ => ⟨S4x1x1, .f32⟩
  | .hbm, ⟨60, _⟩ => ⟨S4x128x128, .f32⟩
  | .hbm, ⟨61, _⟩ => ⟨S4x128x128, .f32⟩
  | .hbm, ⟨62, _⟩ => ⟨S4x128x128, .f32⟩
  | .hbm, ⟨63, _⟩ => ⟨S_, .f32⟩
  | .hbm, ⟨64, _⟩ => ⟨S_, .f32⟩
  | .hbm, ⟨65, _⟩ => ⟨S4x128x128, .i1⟩
  | .hbm, ⟨66, _⟩ => ⟨S4x128x128, .f32⟩
  | .hbm, ⟨67, _⟩ => ⟨S4x128x128, .f32⟩
  | .hbm, ⟨68, _⟩ => ⟨S4x128x128, .f32⟩
  | .hbm, ⟨69, _⟩ => ⟨S_, .f32⟩
  | .hbm, ⟨70, _⟩ => ⟨S4, .f32⟩
  | .hbm, ⟨71, _⟩ => ⟨S4, .f32⟩
  | .hbm, ⟨72, _⟩ => ⟨S4, .f32⟩
  | .hbm, ⟨73, _⟩ => ⟨S4x1x1, .f32⟩
  | .hbm, ⟨74, _⟩ => ⟨S4x1x512, .f32⟩
  | .hbm, ⟨75, _⟩ => ⟨S1x4, .f32⟩
  | .hbm, ⟨76, _⟩ => ⟨S4, .f32⟩
  | .hbm, ⟨77, _⟩ => ⟨S_, .f32⟩
  | .hbm, ⟨78, _⟩ => ⟨S128, .f32⟩
  | .hbm, ⟨79, _⟩ => ⟨S128, .f32⟩
  | .hbm, ⟨80, _⟩ => ⟨S128x128, .f32⟩
  | .hbm, ⟨81, _⟩ => ⟨S128x1, .f32⟩
  | .hbm, ⟨82, _⟩ => ⟨S1x4, .f32⟩
  | .hbm, ⟨83, _⟩ => ⟨S128x4, .f32⟩
  | .hbm, ⟨84, _⟩ => ⟨S128x4, .f32⟩
  | .hbm, ⟨85, _⟩ => ⟨S128x4, .f32⟩
  | .hbm, ⟨86, _⟩ => ⟨S128x4, .f32⟩
  | .hbm, ⟨87, _⟩ => ⟨S128x4x256, .f32⟩
  | .hbm, ⟨88, _⟩ => ⟨S128x1024, .f32⟩
  | .hbm, ⟨89, _⟩ => ⟨S128x1, .f32⟩
  | .hbm, ⟨90, _⟩ => ⟨S1x4, .f32⟩
  | .hbm, ⟨91, _⟩ => ⟨S128x4, .f32⟩
  | .hbm, ⟨92, _⟩ => ⟨S128x4, .f32⟩
  | .hbm, ⟨93, _⟩ => ⟨S128x4, .f32⟩
  | .hbm, ⟨94, _⟩ => ⟨S128x4, .f32⟩
  | .hbm, ⟨95, _⟩ => ⟨S128x4x256, .f32⟩
  | .hbm, ⟨96, _⟩ => ⟨S128x1024, .f32⟩
  | .hbm, ⟨97, _⟩ => ⟨S_, .f32⟩
  | .hbm, ⟨98, _⟩ => ⟨S128x128, .f32⟩
  | .hbm, ⟨99, _⟩ => ⟨S128x128, .i1⟩
  | .hbm, ⟨100, _⟩ => ⟨S1x128x128, .i1⟩
  | .hbm, ⟨101, _⟩ => ⟨S1x128x128, .f32⟩
  | .hbm, ⟨102, _⟩ => ⟨S4x1x1, .f32⟩
  | .hbm, ⟨103, _⟩ => ⟨S4x128x128, .f32⟩
  | .hbm, ⟨104, _⟩ => ⟨S4x128x128, .f32⟩
  | .hbm, ⟨105, _⟩ => ⟨S4x128x128, .f32⟩
  | .hbm, ⟨106, _⟩ => ⟨S_, .f32⟩
  | .hbm, ⟨107, _⟩ => ⟨S_, .f32⟩
  | .hbm, ⟨108, _⟩ => ⟨S4x128x128, .i1⟩
  | .hbm, ⟨109, _⟩ => ⟨S4x128x128, .f32⟩
  | .hbm, ⟨110, _⟩ => ⟨S4x128x128, .f32⟩
  | .hbm, ⟨111, _⟩ => ⟨S4x128x128, .f32⟩
  | .hbm, ⟨112, _⟩ => ⟨S_, .f32⟩
  | .hbm, ⟨113, _⟩ => ⟨S4, .f32⟩
  | .hbm, ⟨114, _⟩ => ⟨S4, .f32⟩
  | .hbm, ⟨115, _⟩ => ⟨S4, .f32⟩
  | .hbm, ⟨116, _⟩ => ⟨S4x1x1, .f32⟩
  | .hbm, ⟨117, _⟩ => ⟨S4x1x512, .f32⟩
  | .hbm, ⟨118, _⟩ => ⟨S1x2048, .f32⟩
  | .hbm, ⟨119, _⟩ => ⟨S1x2048, .f32⟩
  | .hbm, ⟨120, _⟩ => ⟨S8x4352x2048, .bf16⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x2048, .f32⟩
  | .local _ .vmem, ⟨5, _⟩ => ⟨S1x256x2048, .f32⟩
  | .local _ .vmem, ⟨6, _⟩ => ⟨S128x1024, .f32⟩
  | .local _ .vmem, ⟨7, _⟩ => ⟨S128x1024, .f32⟩
  | .local _ .vmem, ⟨8, _⟩ => ⟨S4x128x128, .f32⟩
  | .local _ .vmem, ⟨9, _⟩ => ⟨S4x1x512, .f32⟩
  | .local _ .vmem, ⟨10, _⟩ => ⟨S1x256x2048, .f32⟩
  | .local _ .vmem, ⟨11, _⟩ => ⟨S1x256x2048, .f32⟩
  | .local _ .vmem, ⟨12, _⟩ => ⟨S1x256x2048, .f32⟩
  | .local _ .vmem, ⟨13, _⟩ => ⟨S1x256x2048, .f32⟩
  | .local _ .vmem, ⟨14, _⟩ => ⟨S1x2048, .f32⟩
  | .local _ .vmem, ⟨15, _⟩ => ⟨S1x2048, .f32⟩
  | .local _ .vmem, ⟨16, _⟩ => ⟨S1x256x2048, .bf16⟩
  | .local _ .vmem, ⟨17, _⟩ => ⟨S1x256x2048, .bf16⟩
  | .local _ .vmem, ⟨18, _⟩ => ⟨S4x256x512, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_call0_cst : Ref sig .tc := ⟨.hbm, 9, rfl⟩
abbrev main_call0_call0_v0 : Ref sig .tc := ⟨.hbm, 10, rfl⟩
abbrev main_call0_call0_v1 : Ref sig .tc := ⟨.hbm, 11, rfl⟩
abbrev main_call0_call0_v2 : Ref sig .tc := ⟨.hbm, 12, rfl⟩
abbrev main_call0_call0_v3 : Ref sig .tc := ⟨.hbm, 13, rfl⟩
abbrev main_call0_call0_v4 : Ref sig .tc := ⟨.hbm, 14, rfl⟩
abbrev main_call0_call0_v5 : Ref sig .tc := ⟨.hbm, 15, rfl⟩
abbrev main_call0_call0_v6 : Ref sig .tc := ⟨.hbm, 16, rfl⟩
abbrev main_call0_call0_v7 : Ref sig .tc := ⟨.hbm, 17, rfl⟩
abbrev main_call0_call0_v8 : Ref sig .tc := ⟨.hbm, 18, rfl⟩
abbrev main_call0_call0_v9 : Ref sig .tc := ⟨.hbm, 19, rfl⟩
abbrev main_call0_call0_v10 : Ref sig .tc := ⟨.hbm, 20, rfl⟩
abbrev main_call0_call0_v11 : Ref sig .tc := ⟨.hbm, 21, rfl⟩
abbrev main_call0_v1 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_cst : Ref sig .tc := ⟨.hbm, 32, rfl⟩
abbrev main_v9 : Ref sig .tc := ⟨.hbm, 33, rfl⟩
abbrev main_v10 : Ref sig .tc := ⟨.hbm, 34, rfl⟩
abbrev main_cst_0 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_cst_1 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_2 : Ref sig .tc := ⟨.hbm, 63, rfl⟩
abbrev main_call1_v0 : Ref sig .tc := ⟨.hbm, 64, rfl⟩
abbrev main_call1_v1 : Ref sig .tc := ⟨.hbm, 65, rfl⟩
abbrev main_call1_v2 : Ref sig .tc := ⟨.hbm, 66, rfl⟩
abbrev main_v37 : Ref sig .tc := ⟨.hbm, 67, rfl⟩
abbrev main_v38 : Ref sig .tc := ⟨.hbm, 68, rfl⟩
abbrev main_cst_3 : Ref sig .tc := ⟨.hbm, 69, rfl⟩
abbrev main_v39 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_cst_4 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_5 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_cst_6 : Ref sig .tc := ⟨.hbm, 106, rfl⟩
abbrev main_call2_v0 : Ref sig .tc := ⟨.hbm, 107, rfl⟩
abbrev main_call2_v1 : Ref sig .tc := ⟨.hbm, 108, rfl⟩
abbrev main_call2_v2 : Ref sig .tc := ⟨.hbm, 109, rfl⟩
abbrev main_v73 : Ref sig .tc := ⟨.hbm, 110, rfl⟩
abbrev main_v74 : Ref sig .tc := ⟨.hbm, 111, rfl⟩
abbrev main_cst_7 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let v1 : BitVec 32 := Scalar.subi c0_i32 arg1
  let c17_i32 : BitVec 32 := 17#32
  let v2 : BitVec 32 := Scalar.subi c17_i32 arg1
  let v3 : BitVec 32 := Scalar.select v0 v1 v2
  let c0_i32_0 : BitVec 32 := 0#32
  let c0_i32_1 : BitVec 32 := 0#32
  ![arg0.toNat, v3.toNat, c0_i32_0.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let v1 : BitVec 32 := Scalar.subi c0_i32 arg1
  let c17_i32 : BitVec 32 := 17#32
  let v2 : BitVec 32 := Scalar.subi c17_i32 arg1
  let v3 : BitVec 32 := Scalar.select v0 v1 v2
  let c0_i32_0 : BitVec 32 := 0#32
  let c0_i32_1 : BitVec 32 := 0#32
  ![arg0.toNat, v3.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let v1 : BitVec 32 := Scalar.subi c0_i32 arg1
  let c17_i32 : BitVec 32 := 17#32
  let v2 : BitVec 32 := Scalar.subi c17_i32 arg1
  let v3 : BitVec 32 := Scalar.select v0 v1 v2
  let c0_i32_0 : BitVec 32 := 0#32
  let c0_i32_1 : BitVec 32 := 0#32
  ![arg0.toNat, v3.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let v1 : BitVec 32 := Scalar.subi c0_i32 arg1
  let c17_i32 : BitVec 32 := 17#32
  let v2 : BitVec 32 := Scalar.subi c17_i32 arg1
  let v3 : BitVec 32 := Scalar.select v0 v1 v2
  let c0_i32_0 : BitVec 32 := 0#32
  let c0_i32_1 : BitVec 32 := 0#32
  ![arg0.toNat, v3.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let v1 : BitVec 32 := Scalar.subi c0_i32 arg1
  let c17_i32 : BitVec 32 := 17#32
  let v2 : BitVec 32 := Scalar.subi c17_i32 arg1
  let v3 : BitVec 32 := Scalar.select v0 v1 v2
  let c0_i32_0 : BitVec 32 := 0#32
  let c0_i32_1 : BitVec 32 := 0#32
  ![arg0.toNat, v3.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c0_i32 : BitVec 32 := 0#32
  let v1 : BitVec 32 := Scalar.subi c0_i32 arg1
  let c17_i32 : BitVec 32 := 17#32
  let v2 : BitVec 32 := Scalar.subi c17_i32 arg1
  let v3 : BitVec 32 := Scalar.select v0 v1 v2
  let c0_i32_0 : BitVec 32 := 0#32
  let c0_i32_1 : BitVec 32 := 0#32
  ![arg0.toNat, v3.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x256x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== BwdRefIdeal.lean ====
abbrev S8x4352x1024 : Shape := ⟨3, ![8, 4352, 1024]⟩
abbrev S8x4352x2048 : Shape := ⟨3, ![8, 4352, 2048]⟩
abbrev S2x4 : Shape := ⟨2, ![2, 4]⟩
abbrev S2048 : Shape := ⟨1, ![2048]⟩
abbrev S8x4352x4x256 : Shape := ⟨4, ![8, 4352, 4, 256]⟩
abbrev S8x4352x4x512 : Shape := ⟨4, ![8, 4352, 4, 512]⟩
abbrev S_ : Shape := ⟨0, ![]⟩
abbrev S8x4x256x512 : Shape := ⟨4, ![8, 4, 256, 512]⟩
abbrev S8x256x4x256 : Shape := ⟨4, ![8, 256, 4, 256]⟩
abbrev S8x4096x4x256 : Shape := ⟨4, ![8, 4096, 4, 256]⟩
abbrev S8x256x4x512 : Shape := ⟨4, ![8, 256, 4, 512]⟩
abbrev S8x4096x4x512 : Shape := ⟨4, ![8, 4096, 4, 512]⟩
abbrev S1x4 : Shape := ⟨2, ![1, 4]⟩
abbrev S4 : Shape := ⟨1, ![4]⟩
abbrev S8x34x128x4x256 : Shape := ⟨5, ![8, 34, 128, 4, 256]⟩
abbrev S8x34x128x4x512 : Shape := ⟨5, ![8, 34, 128, 4, 512]⟩
abbrev S128 : Shape := ⟨1, ![128]⟩
abbrev S128x1 : Shape := ⟨2, ![128, 1]⟩
abbrev S128x4 : Shape := ⟨2, ![128, 4]⟩
abbrev S4x1x1 : Shape := ⟨3, ![4, 1, 1]⟩
abbrev S1x128 : Shape := ⟨2, ![1, 128]⟩
abbrev S128x128 : Shape := ⟨2, ![128, 128]⟩
abbrev S128x128x1 : Shape := ⟨3, ![128, 128, 1]⟩
abbrev S1x1x4 : Shape := ⟨3, ![1, 1, 4]⟩
abbrev S128x128x4 : Shape := ⟨3, ![128, 128, 4]⟩
abbrev S34x8x128x4x256 : Shape := ⟨5, ![34, 8, 128, 4, 256]⟩
abbrev S34x8x128x4x512 : Shape := ⟨5, ![34, 8, 128, 4, 512]⟩
abbrev S1x8x128x4x256 : Shape := ⟨5, ![1, 8, 128, 4, 256]⟩
abbrev S8x128x4x256 : Shape := ⟨4, ![8, 128, 4, 256]⟩
abbrev S1x8x128x4x512 : Shape := ⟨5, ![1, 8, 128, 4, 512]⟩
abbrev S8x128x4x512 : Shape := ⟨4, ![8, 128, 4, 512]⟩
abbrev S128x4x1 : Shape := ⟨3, ![128, 4, 1]⟩
abbrev S1x128x4x1 : Shape := ⟨4, ![1, 128, 4, 1]⟩
abbrev S8x4x512x128 : Shape := ⟨4, ![8, 4, 512, 128]⟩
abbrev S8x4x128x128 : Shape := ⟨4, ![8, 4, 128, 128]⟩
abbrev S8x128x128x4 : Shape := ⟨4, ![8, 128, 128, 4]⟩
abbrev S1x128x128x4 : Shape := ⟨4, ![1, 128, 128, 4]⟩
abbrev S1x4x1x1 : Shape := ⟨4, ![1, 4, 1, 1]⟩
abbrev S8x4352x4 : Shape := ⟨3, ![8, 4352, 4]⟩
abbrev S8x4352x4x1 : Shape := ⟨4, ![8, 4352, 4, 1]⟩
abbrev S1x1x2048 : Shape := ⟨3, ![1, 1, 2048]⟩

abbrev nBuf : Space → Nat
  | .hbm => 210
  | .vmem => 0
  | .smem => 0
  | _ => 0

abbrev hbmTy0_0 (i : Nat) : BufTy := match i % 128 with
  | 0 => ⟨S8x4352x1024, .f32⟩
  | 1 => ⟨S8x4352x1024, .f32⟩
  | 2 => ⟨S8x4352x2048, .f32⟩
  | 3 => ⟨S8x4352x2048, .f32⟩
  | 4 => ⟨S8x4352x2048, .f32⟩
  | 5 => ⟨S2x4, .f32⟩
  | 6 => ⟨S2048, .f32⟩
  | 7 => ⟨S2048, .f32⟩
  | 8 => ⟨S8x4352x4x256, .f32⟩
  | 9 => ⟨S8x4352x4x256, .f32⟩
  | 10 => ⟨S8x4352x4x512, .f32⟩
  | 11 => ⟨S2x4, .f32⟩
  | 12 => ⟨S_, .f32⟩
  | 13 => ⟨S2x4, .f32⟩
  | 14 => ⟨S2x4, .f32⟩
  | 15 => ⟨S2x4, .f32⟩
  | 16 => ⟨S2x4, .f32⟩
  | 17 => ⟨S2x4, .i1⟩
  | 18 => ⟨S2x4, .f32⟩
  | 19 => ⟨S2x4, .f32⟩
  | 20 => ⟨S2x4, .f32⟩
  | 21 => ⟨S2x4, .f32⟩
  | 22 => ⟨S2x4, .f32⟩
  | 23 => ⟨S2x4, .f32⟩
  | 24 => ⟨S2x4, .f32⟩
  | 25 => ⟨S2x4, .f32⟩
  | 26 => ⟨S2x4, .f32⟩
  | 27 => ⟨S_, .f32⟩
  | 28 => ⟨S8x4x256x512, .f32⟩
  | 29 => ⟨S8x256x4x256, .f32⟩
  | 30 => ⟨S8x256x4x256, .f32⟩
  | 31 => ⟨S8x4096x4x256, .f32⟩
  | 32 => ⟨S8x4096x4x256, .f32⟩
  | 33 => ⟨S8x4352x4x256, .f32⟩
  | 34 => ⟨S8x256x4x256, .f32⟩
  | 35 => ⟨S8x256x4x256, .f32⟩
  | 36 => ⟨S8x4096x4x256, .f32⟩
  | 37 => ⟨S8x4096x4x256, .f32⟩
  | 38 => ⟨S8x4352x4x256, .f32⟩
  | 39 => ⟨S8x256x4x512, .f32⟩
  | 40 => ⟨S8x256x4x512, .f32⟩
  | 41 => ⟨S8x4096x4x512, .f32⟩
  | 42 => ⟨S8x4096x4x512, .f32⟩
  | 43 => ⟨S8x4352x4x512, .f32⟩
  | 44 => ⟨S1x4, .f32⟩
  | 45 => ⟨S4, .f32⟩
  | 46 => ⟨S8x34x128x4x256, .f32⟩
  | 47 => ⟨S8x34x128x4x256, .f32⟩
  | 48 => ⟨S8x34x128x4x512, .f32⟩
  | 49 => ⟨S128, .f32⟩
  | 50 => ⟨S_, .f32⟩
  | 51 => ⟨S128, .f32⟩
  | 52 => ⟨S128, .f32⟩
  | 53 => ⟨S128x1, .f32⟩
  | 54 => ⟨S1x4, .f32⟩
  | 55 => ⟨S128x4, .f32⟩
  | 56 => ⟨S128x4, .f32⟩
  | 57 => ⟨S128x4, .f32⟩
  | 58 => ⟨S128x4, .f32⟩
  | 59 => ⟨S_, .f32⟩
  | 60 => ⟨S4, .f32⟩
  | 61 => ⟨S4, .f32⟩
  | 62 => ⟨S4, .f32⟩
  | 63 => ⟨S4x1x1, .f32⟩
  | 64 => ⟨S_, .f32⟩
  | 65 => ⟨S128, .f32⟩
  | 66 => ⟨S128, .f32⟩
  | 67 => ⟨S128x1, .f32⟩
  | 68 => ⟨S1x4, .f32⟩
  | 69 => ⟨S128x4, .f32⟩
  | 70 => ⟨S128x4, .f32⟩
  | 71 => ⟨S128x4, .f32⟩
  | 72 => ⟨S128x4, .f32⟩
  | 73 => ⟨S128x1, .f32⟩
  | 74 => ⟨S1x128, .f32⟩
  | 75 => ⟨S128x128, .f32⟩
  | 76 => ⟨S128x128, .f32⟩
  | 77 => ⟨S128x128, .f32⟩
  | 78 => ⟨S_, .f32⟩
  | 79 => ⟨S128x128, .f32⟩
  | 80 => ⟨S128x128, .i1⟩
  | 81 => ⟨S128x128x1, .i1⟩
  | 82 => ⟨S128x128x1, .f32⟩
  | 83 => ⟨S1x1x4, .f32⟩
  | 84 => ⟨S128x128x4, .f32⟩
  | 85 => ⟨S128x128x4, .f32⟩
  | 86 => ⟨S128x128x4, .f32⟩
  | 87 => ⟨S_, .f32⟩
  | 88 => ⟨S_, .f32⟩
  | 89 => ⟨S128x128x4, .i1⟩
  | 90 => ⟨S128x128x4, .f32⟩
  | 91 => ⟨S128x128x4, .f32⟩
  | 92 => ⟨S128x128x4, .f32⟩
  | 93 => ⟨S34x8x128x4x256, .f32⟩
  | 94 => ⟨S34x8x128x4x512, .f32⟩
  | 95 => ⟨S34x8x128x4x256, .f32⟩
  | 96 => ⟨S_, .f32⟩
  | 97 => ⟨S34x8x128x4x512, .f32⟩
  | 98 => ⟨S_, .i32⟩
  | 99 => ⟨S34x8x128x4x256, .f32⟩
  | 100 => ⟨S34x8x128x4x512, .f32⟩
  | 101 => ⟨S34x8x128x4x256, .f32⟩
  | 102 => ⟨S128x4, .f32⟩
  | 103 => ⟨S128x128x4, .f32⟩
  | 104 => ⟨S128x4, .f32⟩
  | 105 => ⟨S4x1x1, .f32⟩
  | 106 => ⟨S_, .i32⟩
  | 107 => ⟨S8x4x256x512, .f32⟩
  | 108 => ⟨S34x8x128x4x512, .f32⟩
  | 109 => ⟨S_, .i32⟩
  | 110 => ⟨S_, .i1⟩
  | 111 => ⟨S_, .i32⟩
  | 112 => ⟨S_, .i32⟩
  | 113 => ⟨S_, .i32⟩
  | 114 => ⟨S_, .i32⟩
  | 115 => ⟨S1x8x128x4x256, .f32⟩
  | 116 => ⟨S8x128x4x256, .f32⟩
  | 117 => ⟨S_, .i32⟩
  | 118 => ⟨S_, .i32⟩
  | 119 => ⟨S_, .i32⟩
  | 120 => ⟨S_, .i32⟩
  | 121 => ⟨S1x8x128x4x512, .f32⟩
  | 122 => ⟨S8x128x4x512, .f32⟩
  | 123 => ⟨S_, .i32⟩
  | 124 => ⟨S_, .i32⟩
  | 125 => ⟨S_, .i32⟩
  | 126 => ⟨S_, .i32⟩
  | 127 => ⟨S1x8x128x4x256, .f32⟩
  | _ => ⟨S8x4352x1024, .f32⟩

abbrev hbmTy0_1 (i : Nat) : BufTy := match i % 128 with
  | 0 => ⟨S8x128x4x256, .f32⟩
  | 1 => ⟨S128x4x1, .f32⟩
  | 2 => ⟨S1x128x4x1, .f32⟩
  | 3 => ⟨S8x128x4x256, .f32⟩
  | 4 => ⟨S8x128x4x256, .f32⟩
  | 5 => ⟨S8x4x512x128, .f32⟩
  | 6 => ⟨S8x128x4x512, .f32⟩
  | 7 => ⟨S8x4x128x128, .f32⟩
  | 8 => ⟨S8x128x128x4, .f32⟩
  | 9 => ⟨S1x128x128x4, .f32⟩
  | 10 => ⟨S8x128x128x4, .f32⟩
  | 11 => ⟨S8x128x128x4, .f32⟩
  | 12 => ⟨S8x4x512x128, .f32⟩
  | 13 => ⟨S8x128x4x512, .f32⟩
  | 14 => ⟨S128x4x1, .f32⟩
  | 15 => ⟨S1x128x4x1, .f32⟩
  | 16 => ⟨S8x128x4x256, .f32⟩
  | 17 => ⟨S8x128x4x256, .f32⟩
  | 18 => ⟨S1x4x1x1, .f32⟩
  | 19 => ⟨S8x4x256x512, .f32⟩
  | 20 => ⟨S8x4x256x512, .f32⟩
  | 21 => ⟨S8x4x256x512, .f32⟩
  | 22 => ⟨S8x4x256x512, .f32⟩
  | 23 => ⟨S8x128x4x512, .f32⟩
  | 24 => ⟨S1x8x128x4x512, .f32⟩
  | 25 => ⟨S_, .i32⟩
  | 26 => ⟨S_, .i32⟩
  | 27 => ⟨S_, .i32⟩
  | 28 => ⟨S_, .i32⟩
  | 29 => ⟨S34x8x128x4x512, .f32⟩
  | 30 => ⟨S_, .i32⟩
  | 31 => ⟨S_, .i32⟩
  | 32 => ⟨S8x34x128x4x512, .f32⟩
  | 33 => ⟨S8x4352x4x512, .f32⟩
  | 34 => ⟨S8x4352x4x512, .f32⟩
  | 35 => ⟨S8x256x4x512, .f32⟩
  | 36 => ⟨S8x256x4x512, .f32⟩
  | 37 => ⟨S8x4096x4x512, .f32⟩
  | 38 => ⟨S8x4096x4x512, .f32⟩
  | 39 => ⟨S8x4352x4x512, .f32⟩
  | 40 => ⟨S8x4352x4x512, .f32⟩
  | 41 => ⟨S_, .f32⟩
  | 42 => ⟨S8x4352x4, .f32⟩
  | 43 => ⟨S8x4352x4x1, .f32⟩
  | 44 => ⟨S_, .f32⟩
  | 45 => ⟨S8x4352x4x1, .f32⟩
  | 46 => ⟨S8x4352x4x1, .f32⟩
  | 47 => ⟨S8x4352x4x512, .f32⟩
  | 48 => ⟨S8x4352x4x512, .f32⟩
  | 49 => ⟨S8x4352x4x512, .f32⟩
  | 50 => ⟨S_, .f32⟩
  | 51 => ⟨S8x4352x4, .f32⟩
  | 52 => ⟨S8x4352x4x1, .f32⟩
  | 53 => ⟨S_, .f32⟩
  | 54 => ⟨S8x4352x4x1, .f32⟩
  | 55 => ⟨S8x4352x4x1, .f32⟩
  | 56 => ⟨S8x4352x4x512, .f32⟩
  | 57 => ⟨S8x4352x4x512, .f32⟩
  | 58 => ⟨S_, .f32⟩
  | 59 => ⟨S8x4352x4x1, .f32⟩
  | 60 => ⟨S8x4352x4x1, .f32⟩
  | 61 => ⟨S8x4352x4x1, .f32⟩
  | 62 => ⟨S8x4352x4x512, .f32⟩
  | 63 => ⟨S8x4352x4x512, .f32⟩
  | 64 => ⟨S8x4352x2048, .f32⟩
  | 65 => ⟨S1x1x2048, .f32⟩
  | 66 => ⟨S8x4352x2048, .f32⟩
  | 67 => ⟨S8x4352x2048, .f32⟩
  | 68 => ⟨S1x1x2048, .f32⟩
  | 69 => ⟨S8x4352x2048, .f32⟩
  | 70 => ⟨S8x4352x2048, .f32⟩
  | 71 => ⟨S8x4352x2048, .f32⟩
  | 72 => ⟨S8x4352x2048, .f32⟩
  | 73 => ⟨S_, .f32⟩
  | 74 => ⟨S8x4352x2048, .f32⟩
  | 75 => ⟨S8x4352x2048, .f32⟩
  | 76 => ⟨S_, .f32⟩
  | 77 => ⟨S8x4352x2048, .f32⟩
  | 78 => ⟨S8x4352x2048, .f32⟩
  | 79 => ⟨S8x4352x2048, .f32⟩
  | 80 => ⟨S8x4352x2048, .f32⟩
  | 81 => ⟨S8x4352x2048, .bf16⟩
  | _ => ⟨S8x4352x1024, .f32⟩

abbrev hbmTy (i : Nat) : BufTy := match i / 128 with
  | 0 => hbmTy0_0 i
  | 1 => hbmTy0_1 i
  | _ => ⟨S8x4352x1024, .f32⟩

abbrev bufTy : (tb : Table) → Fin (tcTables nBuf tb) → BufTy
  | .hbm, ⟨i, _⟩ => hbmTy i
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_v4 : Ref sig .tc := ⟨.hbm, 25, rfl⟩
abbrev main_v5 : Ref sig .tc := ⟨.hbm, 26, rfl⟩
abbrev main_cst : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_cst_0 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_1 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_2 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_3 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_4 : Ref sig .tc := ⟨.hbm, 87, rfl⟩
abbrev main_call7_v0 : Ref sig .tc := ⟨.hbm, 88, rfl⟩
abbrev main_call7_v1 : Ref sig .tc := ⟨.hbm, 89, rfl⟩
abbrev main_call7_v2 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_5 : Ref sig .tc := ⟨.hbm, 96, rfl⟩
abbrev main_v66 : Ref sig .tc := ⟨.hbm, 97, rfl⟩
abbrev main_c : Ref sig .tc := ⟨.hbm, 98, rfl⟩
abbrev main_v67_0 : Ref sig .tc := ⟨.hbm, 99, rfl⟩
abbrev main_v67_1 : Ref sig .tc := ⟨.hbm, 100, rfl⟩
abbrev main_v67_2 : Ref sig .tc := ⟨.hbm, 101, rfl⟩
abbrev main_v67_3 : Ref sig .tc := ⟨.hbm, 102, rfl⟩
abbrev main_v67_4 : Ref sig .tc := ⟨.hbm, 103, rfl⟩
abbrev main_v67_5 : Ref sig .tc := ⟨.hbm, 104, rfl⟩
abbrev main_v67_6 : Ref sig .tc := ⟨.hbm, 105, rfl⟩
abbrev main_v67_7 : Ref sig .tc := ⟨.hbm, 106, rfl⟩
abbrev main_v67_8 : Ref sig .tc := ⟨.hbm, 107, rfl⟩
abbrev main_v67_9 : Ref sig .tc := ⟨.hbm, 108, rfl⟩
abbrev main_while0c_c_20 : Ref sig .tc := ⟨.hbm, 109, rfl⟩
abbrev main_while0c_v105 : Ref sig .tc := ⟨.hbm, 110, rfl⟩
abbrev main_while0b_call8_c : Ref sig .tc := ⟨.hbm, 111, rfl⟩
abbrev main_while0b_call8_c_0 : Ref sig .tc := ⟨.hbm, 112, rfl⟩
abbrev main_while0b_call8_c_1 : Ref sig .tc := ⟨.hbm, 113, rfl⟩
abbrev main_while0b_call8_c_2 : Ref sig .tc := ⟨.hbm, 114, rfl⟩
abbrev main_while0b_call8_v0 : Ref sig .tc := ⟨.hbm, 115, rfl⟩
abbrev main_while0b_v105 : Ref sig .tc := ⟨.hbm, 116, rfl⟩
abbrev main_while0b_call9_c : Ref sig .tc := ⟨.hbm, 117, rfl⟩
abbrev main_while0b_call9_c_0 : Ref sig .tc := ⟨.hbm, 118, rfl⟩
abbrev main_while0b_call9_c_1 : Ref sig .tc := ⟨.hbm, 119, rfl⟩
abbrev main_while0b_call9_c_2 : Ref sig .tc := ⟨.hbm, 120, rfl⟩
abbrev main_while0b_call9_v0 : Ref sig .tc := ⟨.hbm, 121, rfl⟩
abbrev main_while0b_v106 : Ref sig .tc := ⟨.hbm, 122, rfl⟩
abbrev main_while0b_call10_c : Ref sig .tc := ⟨.hbm, 123, rfl⟩
abbrev main_while0b_call10_c_0 : Ref sig .tc := ⟨.hbm, 124, rfl⟩
abbrev main_while0b_call10_c_1 : Ref sig .tc := ⟨.hbm, 125, rfl⟩
abbrev main_while0b_call10_c_2 : Ref sig .tc := ⟨.hbm, 126, rfl⟩
abbrev main_while0b_call10_v0 : Ref sig .tc := ⟨.hbm, 127, rfl⟩
abbrev main_while0b_v107 : Ref sig .tc := ⟨.hbm, 128, rfl⟩
abbrev main_while0b_v108 : Ref sig .tc := ⟨.hbm, 129, rfl⟩
abbrev main_while0b_v109 : Ref sig .tc := ⟨.hbm, 130, rfl⟩
abbrev main_while0b_v110 : Ref sig .tc := ⟨.hbm, 131, rfl⟩
abbrev main_while0b_v111 : Ref sig .tc := ⟨.hbm, 132, rfl⟩
abbrev main_while0b_v112 : Ref sig .tc := ⟨.hbm, 133, rfl⟩
abbrev main_while0b_v113 : Ref sig .tc := ⟨.hbm, 134, rfl⟩
abbrev main_while0b_v114 : Ref sig .tc := ⟨.hbm, 135, rfl⟩
abbrev main_while0b_v115 : Ref sig .tc := ⟨.hbm, 136, rfl⟩
abbrev main_while0b_v116 : Ref sig .tc := ⟨.hbm, 137, rfl⟩
abbrev main_while0b_v117 : Ref sig .tc := ⟨.hbm, 138, rfl⟩
abbrev main_while0b_v118 : Ref sig .tc := ⟨.hbm, 139, rfl⟩
abbrev main_while0b_v119 : Ref sig .tc := ⟨.hbm, 140, rfl⟩
abbrev main_while0b_v120 : Ref sig .tc := ⟨.hbm, 141, rfl⟩
abbrev main_while0b_v121 : Ref sig .tc := ⟨.hbm, 142, rfl⟩
abbrev main_while0b_v122 : Ref sig .tc := ⟨.hbm, 143, rfl⟩
abbrev main_while0b_v123 : Ref sig .tc := ⟨.hbm, 144, rfl⟩
abbrev main_while0b_v124 : Ref sig .tc := ⟨.hbm, 145, rfl⟩
abbrev main_while0b_v125 : Ref sig .tc := ⟨.hbm, 146, rfl⟩
abbrev main_while0b_v126 : Ref sig .tc := ⟨.hbm, 147, rfl⟩
abbrev main_while0b_v127 : Ref sig .tc := ⟨.hbm, 148, rfl⟩
abbrev main_while0b_v128 : Ref sig .tc := ⟨.hbm, 149, rfl⟩
abbrev main_while0b_v129 : Ref sig .tc := ⟨.hbm, 150, rfl⟩
abbrev main_while0b_v130 : Ref sig .tc := ⟨.hbm, 151, rfl⟩
abbrev main_while0b_call11_v0 : Ref sig .tc := ⟨.hbm, 152, rfl⟩
abbrev main_while0b_call11_c : Ref sig .tc := ⟨.hbm, 153, rfl⟩
abbrev main_while0b_call11_c_0 : Ref sig .tc := ⟨.hbm, 154, rfl⟩
abbrev main_while0b_call11_c_1 : Ref sig .tc := ⟨.hbm, 155, rfl⟩
abbrev main_while0b_call11_c_2 : Ref sig .tc := ⟨.hbm, 156, rfl⟩
abbrev main_while0b_v131 : Ref sig .tc := ⟨.hbm, 157, rfl⟩
abbrev main_while0b_c_20 : Ref sig .tc := ⟨.hbm, 158, rfl⟩
abbrev main_while0b_v132 : Ref sig .tc := ⟨.hbm, 159, rfl⟩
abbrev main_v68 : Ref sig .tc := ⟨.hbm, 160, rfl⟩
abbrev main_v69 : Ref sig .tc := ⟨.hbm, 161, rfl⟩
abbrev main_v70 : Ref sig .tc := ⟨.hbm, 162, rfl⟩
abbrev main_v71 : Ref sig .tc := ⟨.hbm, 163, rfl⟩
abbrev main_v72 : Ref sig .tc := ⟨.hbm, 164, rfl⟩
abbrev main_v73 : Ref sig .tc := ⟨.hbm, 165, rfl⟩
abbrev main_v74 : Ref sig .tc := ⟨.hbm, 166, rfl⟩
abbrev main_v75 : Ref sig .tc := ⟨.hbm, 167, rfl⟩
abbrev main_v76 : Ref sig .tc := ⟨.hbm, 168, rfl⟩
abbrev main_cst_6 : Ref sig .tc := ⟨.hbm, 169, rfl⟩
abbrev main_v77 : Ref sig .tc := ⟨.hbm, 170, rfl⟩
abbrev main_v78 : Ref sig .tc := ⟨.hbm, 171, rfl⟩
abbrev main_cst_7 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_v83 : Ref sig .tc := ⟨.hbm, 177, rfl⟩
abbrev main_cst_8 : Ref sig .tc := ⟨.hbm, 178, rfl⟩
abbrev main_v84 : Ref sig .tc := ⟨.hbm, 179, rfl⟩
abbrev main_v85 : Ref sig .tc := ⟨.hbm, 180, rfl⟩
abbrev main_cst_9 : Ref sig .tc := ⟨.hbm, 181, rfl⟩
abbrev main_v86 : Ref sig .tc := ⟨.hbm, 182, rfl⟩
abbrev main_v87 : Ref sig .tc := ⟨.hbm, 183, rfl⟩
abbrev main_v88 : Ref sig .tc := ⟨.hbm, 184, rfl⟩
abbrev main_v89 : Ref sig .tc := ⟨.hbm, 185, rfl⟩
abbrev main_cst_10 : Ref sig .tc := ⟨.hbm, 186, rfl⟩
abbrev main_v90 : Ref sig .tc := ⟨.hbm, 187, rfl⟩
abbrev main_v91 : Ref sig .tc := ⟨.hbm, 188, rfl⟩
abbrev main_v92 : Ref sig .tc := ⟨.hbm, 189, rfl⟩
abbrev main_v93 : Ref sig .tc := ⟨.hbm, 190, rfl⟩
abbrev main_v94 : Ref sig .tc := ⟨.hbm, 191, rfl⟩
abbrev main_v95 : Ref sig .tc := ⟨.hbm, 192, rfl⟩
abbrev main_v96 : Ref sig .tc := ⟨.hbm, 193, rfl⟩
abbrev main_v97 : Ref sig .tc := ⟨.hbm, 194, rfl⟩
abbrev main_v98 : Ref sig .tc := ⟨.hbm, 195, rfl⟩
abbrev main_v99 : Ref sig .tc := ⟨.hbm, 196, rfl⟩
abbrev main_v100 : Ref sig .tc := ⟨.hbm, 197, rfl⟩
abbrev main_v101 : Ref sig .tc := ⟨.hbm, 198, rfl⟩
abbrev main_call14_v0 : Ref sig .tc := ⟨.hbm, 199, rfl⟩
abbrev main_call14_v1 : Ref sig .tc := ⟨.hbm, 200, rfl⟩
abbrev main_call14_cst : Ref sig .tc := ⟨.hbm, 201, rfl⟩
abbrev main_call14_v2 : Ref sig .tc := ⟨.hbm, 202, rfl⟩
abbrev main_call14_v3 : Ref sig .tc := ⟨.hbm, 203, rfl⟩
abbrev main_call14_cst_0 : Ref sig .tc := ⟨.hbm, 204, rfl⟩
abbrev main_call14_v4 : Ref sig .tc := ⟨.hbm, 205, rfl⟩
abbrev main_call14_v5 : Ref sig .tc := ⟨.hbm, 206, rfl⟩
abbrev main_v102 : Ref sig .tc := ⟨.hbm, 207, rfl⟩
abbrev main_v103 : Ref sig .tc := ⟨.hbm, 208, rfl⟩
abbrev main_v104 : Ref sig .tc := ⟨.hbm, 209, rfl⟩

abbrev nD : Nat := 1
abbrev τ : Topo := Topo.v7x

variable {F : FTy → Type} [FloatOps F]

abbrev main_while0_count : Scf.Loop 32 := ⟨0#32, 34#32, 1#32⟩
-- ==== Proj.lean ====
abbrev S8x4352x1024 : Shape := ⟨3, ![8, 4352, 1024]⟩
abbrev S16x6x1024 : Shape := ⟨3, ![16, 6, 1024]⟩
abbrev S1024x6144 : Shape := ⟨2, ![1024, 6144]⟩
abbrev S64 : Shape := ⟨1, ![64]⟩
abbrev S64x64 : Shape := ⟨2, ![64, 64]⟩
abbrev S4096 : Shape := ⟨1, ![4096]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S256x128 : Shape := ⟨2, ![256, 128]⟩
abbrev S4352x128 : Shape := ⟨2, ![4352, 128]⟩
abbrev S8x4352x2048 : Shape := ⟨3, ![8, 4352, 2048]⟩
abbrev S1x256x1024 : Shape := ⟨3, ![1, 256, 1024]⟩
abbrev S1x6x1024 : Shape := ⟨3, ![1, 6, 1024]⟩
abbrev S1x256x2048 : Shape := ⟨3, ![1, 256, 2048]⟩
abbrev S6x1024 : Shape := ⟨2, ![6, 1024]⟩
abbrev S256x1024 : Shape := ⟨2, ![256, 1024]⟩
abbrev S1x1024 : Shape := ⟨2, ![1, 1024]⟩
abbrev S1024x1024 : Shape := ⟨2, ![1024, 1024]⟩
abbrev S1x256x128 : Shape := ⟨3, ![1, 256, 128]⟩
abbrev S1024x2048 : Shape := ⟨2, ![1024, 2048]⟩
abbrev S256x2048 : Shape := ⟨2, ![256, 2048]⟩

abbrev nBuf : Space → Nat
  | .hbm => 43
  | .vmem => 17
  | .smem => 0
  | _ => 0

abbrev bufTy : (tb : Table) → Fin (tcTables nBuf tb) → BufTy
  | .hbm, ⟨0, _⟩ => ⟨S8x4352x1024, .f32⟩
  | .hbm, ⟨1, _⟩ => ⟨S16x6x1024, .f32⟩
  | .hbm, ⟨2, _⟩ => ⟨S1024x6144, .f32⟩
  | .hbm, ⟨3, _⟩ => ⟨S64, .i32⟩
  | .hbm, ⟨4, _⟩ => ⟨S64, .i32⟩
  | .hbm, ⟨5, _⟩ => ⟨S64x64, .i32⟩
  | .hbm, ⟨6, _⟩ => ⟨S64x64, .i32⟩
  | .hbm, ⟨7, _⟩ => ⟨S4096, .i32⟩
  | .hbm, ⟨8, _⟩ => ⟨S4096, .f32⟩
  | .hbm, ⟨9, _⟩ => ⟨S4096, .i32⟩
  | .hbm, ⟨10, _⟩ => ⟨S4096, .f32⟩
  | .hbm, ⟨11, _⟩ => ⟨S64, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S4096x1, .f32⟩
  | .hbm, ⟨20, _⟩ => ⟨S1x64, .f32⟩
  | .hbm, ⟨21, _⟩ => ⟨S4096x64, .f32⟩
  | .hbm, ⟨22, _⟩ => ⟨S4096x64, .f32⟩
  | .hbm, ⟨23, _⟩ => ⟨S4096x64, .f32⟩
  | .hbm, ⟨24, _⟩ => ⟨S4096x1, .f32⟩
  | .hbm, ⟨25, _⟩ => ⟨S1x64, .f32⟩
  | .hbm, ⟨26, _⟩ => ⟨S4096x64, .f32⟩
  | .hbm, ⟨27, _⟩ => ⟨S4096x64, .f32⟩
  | .hbm, ⟨28, _⟩ => ⟨S4096x64, .f32⟩
  | .hbm, ⟨29, _⟩ => ⟨S4096x128, .f32⟩
  | .hbm, ⟨30, _⟩ => ⟨S_, .f32⟩
  | .hbm, ⟨31, _⟩ => ⟨S256x128, .f32⟩
  | .hbm, ⟨32, _⟩ => ⟨S4096x128, .f32⟩
  | .hbm, ⟨33, _⟩ => ⟨S4352x128, .f32⟩
  | .hbm, ⟨34, _⟩ => ⟨S_, .f32⟩
  | .hbm, ⟨35, _⟩ => ⟨S256x128, .f32⟩
  | .hbm, ⟨36, _⟩ => ⟨S4096x128, .f32⟩
  | .hbm, ⟨37, _⟩ => ⟨S4352x128, .f32⟩
  | .hbm, ⟨38, _⟩ => ⟨S1024x6144, .bf16⟩
  | .hbm, ⟨39, _⟩ => ⟨S8x4352x1024, .f32⟩
  | .hbm, ⟨40, _⟩ => ⟨S8x4352x1024, .f32⟩
  | .hbm, ⟨41, _⟩ => ⟨S8x4352x2048, .f32⟩
  | .hbm, ⟨42, _⟩ => ⟨S8x4352x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x6x1024, .f32⟩
  | .local _ .vmem, ⟨3, _⟩ => ⟨S1x6x1024, .f32⟩
  | .local _ .vmem, ⟨4, _⟩ => ⟨S1024x6144, .bf16⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x2048, .f32⟩
  | .local _ .vmem, ⟨14, _⟩ => ⟨S1x256x2048, .f32⟩
  | .local _ .vmem, ⟨15, _⟩ => ⟨S1x256x2048, .f32⟩
  | .local _ .vmem, ⟨16, _⟩ => ⟨S1x256x2048, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst_1 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_2 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32_0 : Ref sig .tc := ⟨.hbm, 39, rfl⟩
abbrev main_v32_1 : Ref sig .tc := ⟨.hbm, 40, rfl⟩
abbrev main_v32_2 : Ref sig .tc := ⟨.hbm, 41, rfl⟩
abbrev main_v32_3 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c8_i32 : BitVec 32 := 8#32
  let v1 : BitVec 32 := Scalar.select v0 c8_i32 arg0
  let c0_i32_0 : BitVec 32 := 0#32
  let c0_i32_1 : BitVec 32 := 0#32
  let c0_i32_2 : BitVec 32 := 0#32
  ![v1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x6144 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ProjRefIdeal.lean ====
abbrev S8x4352x1024 : Shape := ⟨3, ![8, 4352, 1024]⟩
abbrev S16x6x1024 : Shape := ⟨3, ![16, 6, 1024]⟩
abbrev S1024x6144 : Shape := ⟨2, ![1024, 6144]⟩
abbrev S8x256x1024 : Shape := ⟨3, ![8, 256, 1024]⟩
abbrev S8x4096x1024 : Shape := ⟨3, ![8, 4096, 1024]⟩
abbrev S8x6x1024 : Shape := ⟨3, ![8, 6, 1024]⟩
abbrev S8x1x6x1024 : Shape := ⟨4, ![8, 1, 6, 1024]⟩
abbrev S1x6x1024 : Shape := ⟨3, ![1, 6, 1024]⟩
abbrev S6x1024 : Shape := ⟨2, ![6, 1024]⟩
abbrev S64 : Shape := ⟨1, ![64]⟩
abbrev S64x64 : Shape := ⟨2, ![64, 64]⟩
abbrev S4096 : Shape := ⟨1, ![4096]⟩
abbrev S_ : Shape := ⟨0, ![]⟩
abbrev S4096x1 : Shape := ⟨2, ![4096, 1]⟩
abbrev S1x64 : Shape := ⟨2, ![1, 64]⟩
abbrev S4096x64 : Shape := ⟨2, ![4096, 64]⟩
abbrev S4096x128 : Shape := ⟨2, ![4096, 128]⟩
abbrev S1x1024 : Shape := ⟨2, ![1, 1024]⟩
abbrev S1024 : Shape := ⟨1, ![1024]⟩
abbrev S1x1x1024 : Shape := ⟨3, ![1, 1, 1024]⟩
abbrev S8x256x6144 : Shape := ⟨3, ![8, 256, 6144]⟩
abbrev S8x256x4x256 : Shape := ⟨4, ![8, 256, 4, 256]⟩
abbrev S8x256x2048 : Shape := ⟨3, ![8, 256, 2048]⟩
abbrev S8x1x1x1024 : Shape := ⟨4, ![8, 1, 1, 1024]⟩
abbrev S8x1x1024 : Shape := ⟨3, ![8, 1, 1024]⟩
abbrev S8x4096x6144 : Shape := ⟨3, ![8, 4096, 6144]⟩
abbrev S8x4096x4x256 : Shape := ⟨4, ![8, 4096, 4, 256]⟩
abbrev S8x4096x4x128 : Shape := ⟨4, ![8, 4096, 4, 128]⟩
abbrev S1x4096x1x128 : Shape := ⟨4, ![1, 4096, 1, 128]⟩
abbrev S8x4096x2048 : Shape := ⟨3, ![8, 4096, 2048]⟩
abbrev S8x4352x2048 : Shape := ⟨3, ![8, 4352, 2048]⟩

abbrev nBuf : Space → Nat
  | .hbm => 120
  | .vmem => 0
  | .smem => 0
  | _ => 0

abbrev bufTy : (tb : Table) → Fin (tcTables nBuf tb) → BufTy
  | .hbm, ⟨0, _⟩ => ⟨S8x4352x1024, .f32⟩
  | .hbm, ⟨1, _⟩ => ⟨S16x6x1024, .f32⟩
  | .hbm, ⟨2, _⟩ => ⟨S1024x6144, .f32⟩
  | .hbm, ⟨3, _⟩ => ⟨S8x256x1024, .f32⟩
  | .hbm, ⟨4, _⟩ => ⟨S8x4096x1024, .f32⟩
  | .hbm, ⟨5, _⟩ => ⟨S8x6x1024, .f32⟩
  | .hbm, ⟨6, _⟩ => ⟨S8x1x6x1024, .f32⟩
  | .hbm, ⟨7, _⟩ => ⟨S1x6x1024, .f32⟩
  | .hbm, ⟨8, _⟩ => ⟨S6x1024, .f32⟩
  | .hbm, ⟨9, _⟩ => ⟨S64, .i32⟩
  | .hbm, ⟨10, _⟩ => ⟨S64, .i32⟩
  | .hbm, ⟨11, _⟩ => ⟨S64x64, .i32⟩
  | .hbm, ⟨12, _⟩ => ⟨S64x64, .i32⟩
  | .hbm, ⟨13, _⟩ => ⟨S4096, .i32⟩
  | .hbm, ⟨14, _⟩ => ⟨S4096, .f32⟩
  | .hbm, ⟨15, _⟩ => ⟨S4096, .i32⟩
  | .hbm, ⟨16, _⟩ => ⟨S4096, .f32⟩
  | .hbm, ⟨17, _⟩ => ⟨S64, .f32⟩
  | .hbm, ⟨18, _⟩ => ⟨S64, .f32⟩
  | .hbm, ⟨19, _⟩ => ⟨S_, .f32⟩
  | .hbm, ⟨20, _⟩ => ⟨S64, .f32⟩
  | .hbm, ⟨21, _⟩ => ⟨S64, .f32⟩
  | .hbm, ⟨22, _⟩ => ⟨S_, .f32⟩
  | .hbm, ⟨23, _⟩ => ⟨S64, .f32⟩
  | .hbm, ⟨24, _⟩ => ⟨S64, .f32⟩
  | .hbm, ⟨25, _⟩ => ⟨S4096x1, .f32⟩
  | .hbm, ⟨26, _⟩ => ⟨S1x64, .f32⟩
  | .hbm, ⟨27, _⟩ => ⟨S4096x64, .f32⟩
  | .hbm, ⟨28, _⟩ => ⟨S4096x64, .f32⟩
  | .hbm, ⟨29, _⟩ => ⟨S4096x64, .f32⟩
  | .hbm, ⟨30, _⟩ => ⟨S4096x1, .f32⟩
  | .hbm, ⟨31, _⟩ => ⟨S1x64, .f32⟩
  | .hbm, ⟨32, _⟩ => ⟨S4096x64, .f32⟩
  | .hbm, ⟨33, _⟩ => ⟨S4096x64, .f32⟩
  | .hbm, ⟨34, _⟩ => ⟨S4096x64, .f32⟩
  | .hbm, ⟨35, _⟩ => ⟨S4096x128, .f32⟩
  | .hbm, ⟨36, _⟩ => ⟨S4096x128, .f32⟩
  | .hbm, ⟨37, _⟩ => ⟨S4096x128, .f32⟩
  | .hbm, ⟨38, _⟩ => ⟨S1x1024, .f32⟩
  | .hbm, ⟨39, _⟩ => ⟨S1024, .f32⟩
  | .hbm, ⟨40, _⟩ => ⟨S1x1024, .f32⟩
  | .hbm, ⟨41, _⟩ => ⟨S1024, .f32⟩
  | .hbm, ⟨42, _⟩ => ⟨S_, .f32⟩
  | .hbm, ⟨43, _⟩ => ⟨S1024, .f32⟩
  | .hbm, ⟨44, _⟩ => ⟨S1024, .f32⟩
  | .hbm, ⟨45, _⟩ => ⟨S1x1x1024, .f32⟩
  | .hbm, ⟨46, _⟩ => ⟨S8x256x1024, .f32⟩
  | .hbm, ⟨47, _⟩ => ⟨S8x256x1024, .f32⟩
  | .hbm, ⟨48, _⟩ => ⟨S1x1x1024, .f32⟩
  | .hbm, ⟨49, _⟩ => ⟨S8x256x1024, .f32⟩
  | .hbm, ⟨50, _⟩ => ⟨S8x256x1024, .f32⟩
  | .hbm, ⟨51, _⟩ => ⟨S8x256x6144, .f32⟩
  | .hbm, ⟨52, _⟩ => ⟨S8x256x1024, .f32⟩
  | .hbm, ⟨53, _⟩ => ⟨S8x256x4x256, .f32⟩
  | .hbm, ⟨54, _⟩ => ⟨S8x256x1024, .f32⟩
  | .hbm, ⟨55, _⟩ => ⟨S8x256x4x256, .f32⟩
  | .hbm, ⟨56, _⟩ => ⟨S_, .f32⟩
  | .hbm, ⟨57, _⟩ => ⟨S8x256x4x256, .f32⟩
  | .hbm, ⟨58, _⟩ => ⟨S8x256x4x256, .f32⟩
  | .hbm, ⟨59, _⟩ => ⟨S8x256x1024, .f32⟩
  | .hbm, ⟨60, _⟩ => ⟨S8x256x1024, .f32⟩
  | .hbm, ⟨61, _⟩ => ⟨S8x256x2048, .f32⟩
  | .hbm, ⟨62, _⟩ => ⟨S8x256x2048, .f32⟩
  | .hbm, ⟨63, _⟩ => ⟨S8x1x1x1024, .f32⟩
  | .hbm, ⟨64, _⟩ => ⟨S8x1x1024, .f32⟩
  | .hbm, ⟨65, _⟩ => ⟨S8x1x1x1024, .f32⟩
  | .hbm, ⟨66, _⟩ => ⟨S8x1x1024, .f32⟩
  | .hbm, ⟨67, _⟩ => ⟨S_, .f32⟩
  | .hbm, ⟨68, _⟩ => ⟨S8x1x1024, .f32⟩
  | .hbm, ⟨69, _⟩ => ⟨S8x1x1024, .f32⟩
  | .hbm, ⟨70, _⟩ => ⟨S8x4096x1024, .f32⟩
  | .hbm, ⟨71, _⟩ => ⟨S8x4096x1024, .f32⟩
  | .hbm, ⟨72, _⟩ => ⟨S8x4096x1024, .f32⟩
  | .hbm, ⟨73, _⟩ => ⟨S8x4096x1024, .f32⟩
  | .hbm, ⟨74, _⟩ => ⟨S8x4096x6144, .f32⟩
  | .hbm, ⟨75, _⟩ => ⟨S8x4096x1024, .f32⟩
  | .hbm, ⟨76, _⟩ => ⟨S8x4096x4x256, .f32⟩
  | .hbm, ⟨77, _⟩ => ⟨S8x4096x1024, .f32⟩
  | .hbm, ⟨78, _⟩ => ⟨S8x4096x4x256, .f32⟩
  | .hbm, ⟨79, _⟩ => ⟨S_, .f32⟩
  | .hbm, ⟨80, _⟩ => ⟨S8x4096x4x256, .f32⟩
  | .hbm, ⟨81, _⟩ => ⟨S8x4096x4x256, .f32⟩
  | .hbm, ⟨82, _⟩ => ⟨S8x4096x4x128, .f32⟩
  | .hbm, ⟨83, _⟩ => ⟨S8x4096x4x128, .f32⟩
  | .hbm, ⟨84, _⟩ => ⟨S1x4096x1x128, .f32⟩
  | .hbm, ⟨85, _⟩ => ⟨S1x4096x1x128, .f32⟩
  | .hbm, ⟨86, _⟩ => ⟨S8x4096x4x128, .f32⟩
  | .hbm, ⟨87, _⟩ => ⟨S8x4096x4x128, .f32⟩
  | .hbm, ⟨88, _⟩ => ⟨S8x4096x4x128, .f32⟩
  | .hbm, ⟨89, _⟩ => ⟨S8x4096x4x128, .f32⟩
  | .hbm, ⟨90, _⟩ => ⟨S8x4096x4x128, .f32⟩
  | .hbm, ⟨91, _⟩ => ⟨S8x4096x4x128, .f32⟩
  | .hbm, ⟨92, _⟩ => ⟨S8x4096x4x128, .f32⟩
  | .hbm, ⟨93, _⟩ => ⟨S8x4096x4x128, .f32⟩
  | .hbm, ⟨94, _⟩ => ⟨S8x4096x4x128, .f32⟩
  | .hbm, ⟨95, _⟩ => ⟨S8x4096x4x128, .f32⟩
  | .hbm, ⟨96, _⟩ => ⟨S8x4096x4x256, .f32⟩
  | .hbm, ⟨97, _⟩ => ⟨S8x4096x4x128, .f32⟩
  | .hbm, ⟨98, _⟩ => ⟨S8x4096x4x128, .f32⟩
  | .hbm, ⟨99, _⟩ => ⟨S1x4096x1x128, .f32⟩
  | .hbm, ⟨100, _⟩ => ⟨S1x4096x1x128, .f32⟩
  | .hbm, ⟨101, _⟩ => ⟨S8x4096x4x128, .f32⟩
  | .hbm, ⟨102, _⟩ => ⟨S8x4096x4x128, .f32⟩
  | .hbm, ⟨103, _⟩ => ⟨S8x4096x4x128, .f32⟩
  | .hbm, ⟨104, _⟩ => ⟨S8x4096x4x128, .f32⟩
  | .hbm, ⟨105, _⟩ => ⟨S8x4096x4x128, .f32⟩
  | .hbm, ⟨106, _⟩ => ⟨S8x4096x4x128, .f32⟩
  | .hbm, ⟨107, _⟩ => ⟨S8x4096x4x128, .f32⟩
  | .hbm, ⟨108, _⟩ => ⟨S8x4096x4x128, .f32⟩
  | .hbm, ⟨109, _⟩ => ⟨S8x4096x4x128, .f32⟩
  | .hbm, ⟨110, _⟩ => ⟨S8x4096x4x128, .f32⟩
  | .hbm, ⟨111, _⟩ => ⟨S8x4096x4x256, .f32⟩
  | .hbm, ⟨112, _⟩ => ⟨S8x4096x1024, .f32⟩
  | .hbm, ⟨113, _⟩ => ⟨S8x4096x1024, .f32⟩
  | .hbm, ⟨114, _⟩ => ⟨S8x4096x2048, .f32⟩
  | .hbm, ⟨115, _⟩ => ⟨S8x4096x2048, .f32⟩
  | .hbm, ⟨116, _⟩ => ⟨S8x4352x1024, .f32⟩
  | .hbm, ⟨117, _⟩ => ⟨S8x4352x1024, .f32⟩
  | .hbm, ⟨118, _⟩ => ⟨S8x4352x2048, .f32⟩
  | .hbm, ⟨119, _⟩ => ⟨S8x4352x2048, .f32⟩
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_cst_1 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_cst_2 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_cst_3 : Ref sig .tc := ⟨.hbm, 67, rfl⟩
abbrev main_v60 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_v64 : Ref sig .tc := ⟨.hbm, 72, rfl⟩
abbrev main_v65 : Ref sig .tc := ⟨.hbm, 73, rfl⟩
abbrev main_v66 : Ref sig .tc := ⟨.hbm, 74, rfl⟩
abbrev main_v67 : Ref sig .tc := ⟨.hbm, 75, rfl⟩
abbrev main_v68 : Ref sig .tc := ⟨.hbm, 76, rfl⟩
abbrev main_v69 : Ref sig .tc := ⟨.hbm, 77, rfl⟩
abbrev main_v70 : Ref sig .tc := ⟨.hbm, 78, rfl⟩
abbrev main_cst_4 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩

abbrev nD : Nat := 1
abbrev τ : Topo := Topo.v7x

variable {F : FTy → Type} [FloatOps F]
-- ==== Out.lean ====
abbrev S8x4352x2048 : Shape := ⟨3, ![8, 4352, 2048]⟩
abbrev S8x4352x1024 : Shape := ⟨3, ![8, 4352, 1024]⟩
abbrev S16x6x1024 : Shape := ⟨3, ![16, 6, 1024]⟩
abbrev S2048x1024 : Shape := ⟨2, ![2048, 1024]⟩
abbrev S1024 : Shape := ⟨1, ![1024]⟩
abbrev S1x1024 : Shape := ⟨2, ![1, 1024]⟩
abbrev S1x256x2048 : Shape := ⟨3, ![1, 256, 2048]⟩
abbrev S1x256x1024 : Shape := ⟨3, ![1, 256, 1024]⟩
abbrev S1x6x1024 : Shape := ⟨3, ![1, 6, 1024]⟩
abbrev S6x1024 : Shape := ⟨2, ![6, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 11
  | .vmem => 13
  | .smem => 0
  | _ => 0

abbrev bufTy : (tb : Table) → Fin (tcTables nBuf tb) → BufTy
  | .hbm, ⟨0, _⟩ => ⟨S8x4352x2048, .bf16⟩
  | .hbm, ⟨1, _⟩ => ⟨S8x4352x1024, .f32⟩
  | .hbm, ⟨2, _⟩ => ⟨S16x6x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S2048x1024, .bf16⟩
  | .hbm, ⟨7, _⟩ => ⟨S1x1024, .f32⟩
  | .hbm, ⟨8, _⟩ => ⟨S1x1024, .f32⟩
  | .hbm, ⟨9, _⟩ => ⟨S8x4352x1024, .f32⟩
  | .hbm, ⟨10, _⟩ => ⟨S8x4352x1024, .f32⟩
  | .local _ .vmem, ⟨0, _⟩ => ⟨S1x256x2048, .bf16⟩
  | .local _ .vmem, ⟨1, _⟩ => ⟨S1x256x2048, .bf16⟩
  | .local _ .vmem, ⟨2, _⟩ => ⟨S1x256x1024, .f32⟩
  | .local _ .vmem, ⟨3, _⟩ => ⟨S1x256x1024, .f32⟩
  | .local _ .vmem, ⟨4, _⟩ => ⟨S1x6x1024, .f32⟩
  | .local _ .vmem, ⟨5, _⟩ => ⟨S1x6x1024, .f32⟩
  | .local _ .vmem, ⟨6, _⟩ => ⟨S2048x1024, .bf16⟩
  | .local _ .vmem, ⟨7, _⟩ => ⟨S1x1024, .f32⟩
  | .local _ .vmem, ⟨8, _⟩ => ⟨S1x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | _, _ => ⟨S8x4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c8_i32 : BitVec 32 := 8#32
  let v1 : BitVec 32 := Scalar.select v0 c8_i32 arg0
  let c0_i32_0 : BitVec 32 := 0#32
  let c0_i32_1 : BitVec 32 := 0#32
  let c0_i32_2 : BitVec 32 := 0#32
  ![v1.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x6x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OutRefIdeal.lean ====
abbrev S8x4352x2048 : Shape := ⟨3, ![8, 4352, 2048]⟩
abbrev S8x4352x1024 : Shape := ⟨3, ![8, 4352, 1024]⟩
abbrev S16x6x1024 : Shape := ⟨3, ![16, 6, 1024]⟩
abbrev S2048x1024 : Shape := ⟨2, ![2048, 1024]⟩
abbrev S1024 : Shape := ⟨1, ![1024]⟩
abbrev S8x256x1024 : Shape := ⟨3, ![8, 256, 1024]⟩
abbrev S8x4096x1024 : Shape := ⟨3, ![8, 4096, 1024]⟩
abbrev S8x6x1024 : Shape := ⟨3, ![8, 6, 1024]⟩
abbrev S8x1x6x1024 : Shape := ⟨4, ![8, 1, 6, 1024]⟩
abbrev S1x6x1024 : Shape := ⟨3, ![1, 6, 1024]⟩
abbrev S6x1024 : Shape := ⟨2, ![6, 1024]⟩
abbrev S_ : Shape := ⟨0, ![]⟩
abbrev S8x1x1x1024 : Shape := ⟨4, ![8, 1, 1, 1024]⟩
abbrev S8x1x1024 : Shape := ⟨3, ![8, 1, 1024]⟩
abbrev S8x4096x2048 : Shape := ⟨3, ![8, 4096, 2048]⟩
abbrev S8x4096 : Shape := ⟨2, ![8, 4096]⟩
abbrev S8x4096x1 : Shape := ⟨3, ![8, 4096, 1]⟩
abbrev S1x1x1024 : Shape := ⟨3, ![1, 1, 1024]⟩
abbrev S1x1024 : Shape := ⟨2, ![1, 1024]⟩
abbrev S8x256x2048 : Shape := ⟨3, ![8, 256, 2048]⟩
abbrev S8x256 : Shape := ⟨2, ![8, 256]⟩
abbrev S8x256x1 : Shape := ⟨3, ![8, 256, 1]⟩

abbrev nBuf : Space → Nat
  | .hbm => 118
  | .vmem => 0
  | .smem => 0
  | _ => 0

abbrev bufTy : (tb : Table) → Fin (tcTables nBuf tb) → BufTy
  | .hbm, ⟨0, _⟩ => ⟨S8x4352x2048, .bf16⟩
  | .hbm, ⟨1, _⟩ => ⟨S8x4352x1024, .f32⟩
  | .hbm, ⟨2, _⟩ => ⟨S16x6x1024, .f32⟩
  | .hbm, ⟨3, _⟩ => ⟨S2048x1024, .f32⟩
  | .hbm, ⟨4, _⟩ => ⟨S1024, .f32⟩
  | .hbm, ⟨5, _⟩ => ⟨S1024, .f32⟩
  | .hbm, ⟨6, _⟩ => ⟨S8x4352x2048, .f32⟩
  | .hbm, ⟨7, _⟩ => ⟨S8x256x1024, .f32⟩
  | .hbm, ⟨8, _⟩ => ⟨S8x4096x1024, .f32⟩
  | .hbm, ⟨9, _⟩ => ⟨S8x6x1024, .f32⟩
  | .hbm, ⟨10, _⟩ => ⟨S8x1x6x1024, .f32⟩
  | .hbm, ⟨11, _⟩ => ⟨S1x6x1024, .f32⟩
  | .hbm, ⟨12, _⟩ => ⟨S6x1024, .f32⟩
  | .hbm, ⟨13, _⟩ => ⟨S_, .f32⟩
  | .hbm, ⟨14, _⟩ => ⟨S8x4096x1024, .f32⟩
  | .hbm, ⟨15, _⟩ => ⟨S8x4096x1024, .f32⟩
  | .hbm, ⟨16, _⟩ => ⟨S8x1x1x1024, .f32⟩
  | .hbm, ⟨17, _⟩ => ⟨S8x1x1024, .f32⟩
  | .hbm, ⟨18, _⟩ => ⟨S8x4096x2048, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S_, .f32⟩
  | .hbm, ⟨24, _⟩ => ⟨S8x4096, .f32⟩
  | .hbm, ⟨25, _⟩ => ⟨S8x4096x1, .f32⟩
  | .hbm, ⟨26, _⟩ => ⟨S_, .f32⟩
  | .hbm, ⟨27, _⟩ => ⟨S8x4096x1, .f32⟩
  | .hbm, ⟨28, _⟩ => ⟨S8x4096x1, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S_, .f32⟩
  | .hbm, ⟨36, _⟩ => ⟨S8x4096x1, .f32⟩
  | .hbm, ⟨37, _⟩ => ⟨S8x4096x1, .f32⟩
  | .hbm, ⟨38, _⟩ => ⟨S8x4096x1024, .f32⟩
  | .hbm, ⟨39, _⟩ => ⟨S8x4096x1024, .f32⟩
  | .hbm, ⟨40, _⟩ => ⟨S_, .f32⟩
  | .hbm, ⟨41, _⟩ => ⟨S8x4096x1, .f32⟩
  | .hbm, ⟨42, _⟩ => ⟨S8x4096x1, .f32⟩
  | .hbm, ⟨43, _⟩ => ⟨S8x4096x1, .f32⟩
  | .hbm, ⟨44, _⟩ => ⟨S8x4096x1024, .f32⟩
  | .hbm, ⟨45, _⟩ => ⟨S8x4096x1024, .f32⟩
  | .hbm, ⟨46, _⟩ => ⟨S1x1x1024, .f32⟩
  | .hbm, ⟨47, _⟩ => ⟨S8x4096x1024, .f32⟩
  | .hbm, ⟨48, _⟩ => ⟨S8x4096x1024, .f32⟩
  | .hbm, ⟨49, _⟩ => ⟨S1x1x1024, .f32⟩
  | .hbm, ⟨50, _⟩ => ⟨S8x4096x1024, .f32⟩
  | .hbm, ⟨51, _⟩ => ⟨S8x4096x1024, .f32⟩
  | .hbm, ⟨52, _⟩ => ⟨S_, .f32⟩
  | .hbm, ⟨53, _⟩ => ⟨S8x256x1024, .f32⟩
  | .hbm, ⟨54, _⟩ => ⟨S8x256x1024, .f32⟩
  | .hbm, ⟨55, _⟩ => ⟨S1x1024, .f32⟩
  | .hbm, ⟨56, _⟩ => ⟨S1024, .f32⟩
  | .hbm, ⟨57, _⟩ => ⟨S8x256x2048, .f32⟩
  | .hbm, ⟨58, _⟩ => ⟨S8x256x1024, .f32⟩
  | .hbm, ⟨59, _⟩ => ⟨S1x1x1024, .f32⟩
  | .hbm, ⟨60, _⟩ => ⟨S8x256x1024, .f32⟩
  | .hbm, ⟨61, _⟩ => ⟨S8x256x1024, .f32⟩
  | .hbm, ⟨62, _⟩ => ⟨S8x256x1024, .f32⟩
  | .hbm, ⟨63, _⟩ => ⟨S_, .f32⟩
  | .hbm, ⟨64, _⟩ => ⟨S8x256, .f32⟩
  | .hbm, ⟨65, _⟩ => ⟨S8x256x1, .f32⟩
  | .hbm, ⟨66, _⟩ => ⟨S_, .f32⟩
  | .hbm, ⟨67, _⟩ => ⟨S8x256x1, .f32⟩
  | .hbm, ⟨68, _⟩ => ⟨S8x256x1, .f32⟩
  | .hbm, ⟨69, _⟩ => ⟨S8x256x1024, .f32⟩
  | .hbm, ⟨70, _⟩ => ⟨S8x256x1024, .f32⟩
  | .hbm, ⟨71, _⟩ => ⟨S8x256x1024, .f32⟩
  | .hbm, ⟨72, _⟩ => ⟨S_, .f32⟩
  | .hbm, ⟨73, _⟩ => ⟨S8x256, .f32⟩
  | .hbm, ⟨74, _⟩ => ⟨S8x256x1, .f32⟩
  | .hbm, ⟨75, _⟩ => ⟨S_, .f32⟩
  | .hbm, ⟨76, _⟩ => ⟨S8x256x1, .f32⟩
  | .hbm, ⟨77, _⟩ => ⟨S8x256x1, .f32⟩
  | .hbm, ⟨78, _⟩ => ⟨S8x256x1024, .f32⟩
  | .hbm, ⟨79, _⟩ => ⟨S8x256x1024, .f32⟩
  | .hbm, ⟨80, _⟩ => ⟨S_, .f32⟩
  | .hbm, ⟨81, _⟩ => ⟨S8x256x1, .f32⟩
  | .hbm, ⟨82, _⟩ => ⟨S8x256x1, .f32⟩
  | .hbm, ⟨83, _⟩ => ⟨S8x256x1, .f32⟩
  | .hbm, ⟨84, _⟩ => ⟨S8x256x1024, .f32⟩
  | .hbm, ⟨85, _⟩ => ⟨S8x256x1024, .f32⟩
  | .hbm, ⟨86, _⟩ => ⟨S1x1x1024, .f32⟩
  | .hbm, ⟨87, _⟩ => ⟨S8x256x1024, .f32⟩
  | .hbm, ⟨88, _⟩ => ⟨S8x256x1024, .f32⟩
  | .hbm, ⟨89, _⟩ => ⟨S1x1x1024, .f32⟩
  | .hbm, ⟨90, _⟩ => ⟨S8x256x1024, .f32⟩
  | .hbm, ⟨91, _⟩ => ⟨S8x256x1024, .f32⟩
  | .hbm, ⟨92, _⟩ => ⟨S8x4352x1024, .f32⟩
  | .hbm, ⟨93, _⟩ => ⟨S1x1024, .f32⟩
  | .hbm, ⟨94, _⟩ => ⟨S1024, .f32⟩
  | .hbm, ⟨95, _⟩ => ⟨S1x1024, .f32⟩
  | .hbm, ⟨96, _⟩ => ⟨S1024, .f32⟩
  | .hbm, ⟨97, _⟩ => ⟨S_, .f32⟩
  | .hbm, ⟨98, _⟩ => ⟨S1024, .f32⟩
  | .hbm, ⟨99, _⟩ => ⟨S1024, .f32⟩
  | .hbm, ⟨100, _⟩ => ⟨S1x1x1024, .f32⟩
  | .hbm, ⟨101, _⟩ => ⟨S8x256x1024, .f32⟩
  | .hbm, ⟨102, _⟩ => ⟨S8x256x1024, .f32⟩
  | .hbm, ⟨103, _⟩ => ⟨S1x1x1024, .f32⟩
  | .hbm, ⟨104, _⟩ => ⟨S8x256x1024, .f32⟩
  | .hbm, ⟨105, _⟩ => ⟨S8x256x1024, .f32⟩
  | .hbm, ⟨106, _⟩ => ⟨S8x1x1x1024, .f32⟩
  | .hbm, ⟨107, _⟩ => ⟨S8x1x1024, .f32⟩
  | .hbm, ⟨108, _⟩ => ⟨S8x1x1x1024, .f32⟩
  | .hbm, ⟨109, _⟩ => ⟨S8x1x1024, .f32⟩
  | .hbm, ⟨110, _⟩ => ⟨S_, .f32⟩
  | .hbm, ⟨111, _⟩ => ⟨S8x1x1024, .f32⟩
  | .hbm, ⟨112, _⟩ => ⟨S8x1x1024, .f32⟩
  | .hbm, ⟨113, _⟩ => ⟨S8x4096x1024, .f32⟩
  | .hbm, ⟨114, _⟩ => ⟨S8x4096x1024, .f32⟩
  | .hbm, ⟨115, _⟩ => ⟨S8x4096x1024, .f32⟩
  | .hbm, ⟨116, _⟩ => ⟨S8x4096x1024, .f32⟩
  | .hbm, ⟨117, _⟩ => ⟨S8x4352x1024, .f32⟩
  | _, _ => ⟨S8x4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_0 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_cst_7 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_8 : Ref sig .tc := ⟨.hbm, 72, rfl⟩
abbrev main_v57 : Ref sig .tc := ⟨.hbm, 73, rfl⟩
abbrev main_v58 : Ref sig .tc := ⟨.hbm, 74, rfl⟩
abbrev main_cst_9 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_10 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_cst_11 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_cst_12 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩

abbrev nD : Nat := 1
abbrev τ : Topo := Topo.v7x

variable {F : FTy → Type} [FloatOps F]
-- ==== SProj.lean ====
abbrev S8x4352x1024 : Shape := ⟨3, ![8, 4352, 1024]⟩
abbrev S16x6x1024 : Shape := ⟨3, ![16, 6, 1024]⟩
abbrev S1024x5184 : Shape := ⟨2, ![1024, 5184]⟩
abbrev S2x32 : Shape := ⟨2, ![2, 32]⟩
abbrev S5x3072 : Shape := ⟨2, ![5, 3072]⟩
abbrev S3072 : Shape := ⟨1, ![3072]⟩
abbrev S1024x5120 : Shape := ⟨2, ![1024, 5120]⟩
abbrev S1024x64 : Shape := ⟨2, ![1024, 64]⟩
abbrev S1024x128 : Shape := ⟨2, ![1024, 128]⟩
abbrev S1x64 : Shape := ⟨2, ![1, 64]⟩
abbrev S1x1x1x64 : Shape := ⟨4, ![1, 1, 1, 64]⟩
abbrev S1x1x2x64 : Shape := ⟨4, ![1, 1, 2, 64]⟩
abbrev S1x128 : Shape := ⟨2, ![1, 128]⟩
abbrev S1x3072 : Shape := ⟨2, ![1, 3072]⟩
abbrev S8x4352x2048 : Shape := ⟨3, ![8, 4352, 2048]⟩
abbrev S8x4352x3072 : Shape := ⟨3, ![8, 4352, 3072]⟩
abbrev S8x4352x128 : Shape := ⟨3, ![8, 4352, 128]⟩
abbrev S1x256x1024 : Shape := ⟨3, ![1, 256, 1024]⟩
abbrev S1x8x1024 : Shape := ⟨3, ![1, 8, 1024]⟩
abbrev S1x6x1024 : Shape := ⟨3, ![1, 6, 1024]⟩
abbrev S1x256x2048 : Shape := ⟨3, ![1, 256, 2048]⟩
abbrev S1x256x3072 : Shape := ⟨3, ![1, 256, 3072]⟩
abbrev S1x256x128 : Shape := ⟨3, ![1, 256, 128]⟩
abbrev S6x1024 : Shape := ⟨2, ![6, 1024]⟩
abbrev S8x1024 : Shape := ⟨2, ![8, 1024]⟩
abbrev S256x1024 : Shape := ⟨2, ![256, 1024]⟩
abbrev S272x1024 : Shape := ⟨2, ![272, 1024]⟩
abbrev S1x1024 : Shape := ⟨2, ![1, 1024]⟩
abbrev S1024x256 : Shape := ⟨2, ![1024, 256]⟩
abbrev S272x256 : Shape := ⟨2, ![272, 256]⟩
abbrev S8x256 : Shape := ⟨2, ![8, 256]⟩
abbrev S256x256 : Shape := ⟨2, ![256, 256]⟩
abbrev S1x256x256 : Shape := ⟨3, ![1, 256, 256]⟩
abbrev S1x256 : Shape := ⟨2, ![1, 256]⟩
abbrev S272x128 : Shape := ⟨2, ![272, 128]⟩
abbrev S256x128 : Shape := ⟨2, ![256, 128]⟩

abbrev nBuf : Space → Nat
  | .hbm => 25
  | .vmem => 20
  | .smem => 0
  | _ => 0

abbrev bufTy : (tb : Table) → Fin (tcTables nBuf tb) → BufTy
  | .hbm, ⟨0, _⟩ => ⟨S8x4352x1024, .f32⟩
  | .hbm, ⟨1, _⟩ => ⟨S16x6x1024, .f32⟩
  | .hbm, ⟨2, _⟩ => ⟨S1024x5184, .f32⟩
  | .hbm, ⟨3, _⟩ => ⟨S2x32, .f32⟩
  | .hbm, ⟨4, _⟩ => ⟨S2x32, .f32⟩
  | .hbm, ⟨5, _⟩ => ⟨S5x3072, .f32⟩
  | .hbm, ⟨6, _⟩ => ⟨S3072, .f32⟩
  | .hbm, ⟨7, _⟩ => ⟨S1024x5120, .f32⟩
  | .hbm, ⟨8, _⟩ => ⟨S1024x5120, .bf16⟩
  | .hbm, ⟨9, _⟩ => ⟨S1024x64, .f32⟩
  | .hbm, ⟨10, _⟩ => ⟨S1024x64, .f32⟩
  | .hbm, ⟨11, _⟩ => ⟨S1024x128, .f32⟩
  | .hbm, ⟨12, _⟩ => ⟨S1024x128, .bf16⟩
  | .hbm, ⟨13, _⟩ => ⟨S1x64, .f32⟩
  | .hbm, ⟨14, _⟩ => ⟨S1x1x1x64, .f32⟩
  | .hbm, ⟨15, _⟩ => ⟨S1x1x2x64, .f32⟩
  | .hbm, ⟨16, _⟩ => ⟨S1x128, .f32⟩
  | .hbm, ⟨17, _⟩ => ⟨S1x64, .f32⟩
  | .hbm, ⟨18, _⟩ => ⟨S1x1x1x64, .f32⟩
  | .hbm, ⟨19, _⟩ => ⟨S1x1x2x64, .f32⟩
  | .hbm, ⟨20, _⟩ => ⟨S1x128, .f32⟩
  | .hbm, ⟨21, _⟩ => ⟨S1x3072, .f32⟩
  | .hbm, ⟨22, _⟩ => ⟨S8x4352x2048, .f32⟩
  | .hbm, ⟨23, _⟩ => ⟨S8x4352x3072, .f32⟩
  | .hbm, ⟨24, _⟩ => ⟨S8x4352x128, .f32⟩
  | .local _ .vmem, ⟨0, _⟩ => ⟨S1x256x1024, .f32⟩
  | .local _ .vmem, ⟨1, _⟩ => ⟨S1x256x1024, .f32⟩
  | .local _ .vmem, ⟨2, _⟩ => ⟨S1x8x1024, .f32⟩
  | .local _ .vmem, ⟨3, _⟩ => ⟨S1x8x1024, .f32⟩
  | .local _ .vmem, ⟨4, _⟩ => ⟨S1x8x1024, .f32⟩
  | .local _ .vmem, ⟨5, _⟩ => ⟨S1x8x1024, .f32⟩
  | .local _ .vmem, ⟨6, _⟩ => ⟨S1x6x1024, .f32⟩
  | .local _ .vmem, ⟨7, _⟩ => ⟨S1x6x1024, .f32⟩
  | .local _ .vmem, ⟨8, _⟩ => ⟨S1024x5120, .bf16⟩
  | .local _ .vmem, ⟨9, _⟩ => ⟨S1024x128, .bf16⟩
  | .local _ .vmem, ⟨10, _⟩ => ⟨S1x128, .f32⟩
  | .local _ .vmem, ⟨11, _⟩ => ⟨S1x128, .f32⟩
  | .local _ .vmem, ⟨12, _⟩ => ⟨S5x3072, .f32⟩
  | .local _ .vmem, ⟨13, _⟩ => ⟨S1x3072, .f32⟩
  | .local _ .vmem, ⟨14, _⟩ => ⟨S1x256x2048, .f32⟩
  | .local _ .vmem, ⟨15, _⟩ => ⟨S1x256x2048, .f32⟩
  | .local _ .vmem, ⟨16, _⟩ => ⟨S1x256x3072, .f32⟩
  | .local _ .vmem, ⟨17, _⟩ => ⟨S1x256x3072, .f32⟩
  | .local _ .vmem, ⟨18, _⟩ => ⟨S1x256x128, .f32⟩
  | .local _ .vmem, ⟨19, _⟩ => ⟨S1x256x128, .f32⟩
  | _, _ => ⟨S8x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15_0 : Ref sig .tc := ⟨.hbm, 22, rfl⟩
abbrev main_v15_1 : Ref sig .tc := ⟨.hbm, 23, rfl⟩
abbrev main_v15_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨2, ![8, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c32_i32 : BitVec 32 := 32#32
  let v1 : BitVec 32 := Scalar.muli v0 c32_i32
  let c543_i32 : BitVec 32 := 543#32
  let v2 : BitVec 32 := Scalar.minsi v1 c543_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg1 c0_i32
  let c8_i32 : BitVec 32 := 8#32
  let v1 : BitVec 32 := Scalar.select v0 c8_i32 arg0
  let c0_i32_0 : BitVec 32 := 0#32
  let c0_i32_1 : BitVec 32 := 0#32
  let c0_i32_2 : BitVec 32 := 0#32
  ![v1.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x6x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1024x5120 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S5x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x3072 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== SProjRefIdeal.lean ====
abbrev S8x4352x1024 : Shape := ⟨3, ![8, 4352, 1024]⟩
abbrev S16x6x1024 : Shape := ⟨3, ![16, 6, 1024]⟩
abbrev S1024x5184 : Shape := ⟨2, ![1024, 5184]⟩
abbrev S2x32 : Shape := ⟨2, ![2, 32]⟩
abbrev S5x3072 : Shape := ⟨2, ![5, 3072]⟩
abbrev S3072 : Shape := ⟨1, ![3072]⟩
abbrev S8x256x1024 : Shape := ⟨3, ![8, 256, 1024]⟩
abbrev S8x4096x1024 : Shape := ⟨3, ![8, 4096, 1024]⟩
abbrev S8x6x1024 : Shape := ⟨3, ![8, 6, 1024]⟩
abbrev S8x1x6x1024 : Shape := ⟨4, ![8, 1, 6, 1024]⟩
abbrev S1x6x1024 : Shape := ⟨3, ![1, 6, 1024]⟩
abbrev S6x1024 : Shape := ⟨2, ![6, 1024]⟩
abbrev S1x1024 : Shape := ⟨2, ![1, 1024]⟩
abbrev S1024 : Shape := ⟨1, ![1024]⟩
abbrev S_ : Shape := ⟨0, ![]⟩
abbrev S1x1x1024 : Shape := ⟨3, ![1, 1, 1024]⟩
abbrev S8x256x5184 : Shape := ⟨3, ![8, 256, 5184]⟩
abbrev S8x256x3072 : Shape := ⟨3, ![8, 256, 3072]⟩
abbrev S8x260x3072 : Shape := ⟨3, ![8, 260, 3072]⟩
abbrev S1x3072 : Shape := ⟨2, ![1, 3072]⟩
abbrev S1x1x3072 : Shape := ⟨3, ![1, 1, 3072]⟩
abbrev S8x256x64 : Shape := ⟨3, ![8, 256, 64]⟩
abbrev S8x256x2x32 : Shape := ⟨4, ![8, 256, 2, 32]⟩
abbrev S1x1x2x32 : Shape := ⟨4, ![1, 1, 2, 32]⟩
abbrev S8x256x2048 : Shape := ⟨3, ![8, 256, 2048]⟩
abbrev S8x256x128 : Shape := ⟨3, ![8, 256, 128]⟩
abbrev S8x1x1x1024 : Shape := ⟨4, ![8, 1, 1, 1024]⟩
abbrev S8x1x1024 : Shape := ⟨3, ![8, 1, 1024]⟩
abbrev S8x4096x5184 : Shape := ⟨3, ![8, 4096, 5184]⟩
abbrev S8x4096x3072 : Shape := ⟨3, ![8, 4096, 3072]⟩
abbrev S8x4100x3072 : Shape := ⟨3, ![8, 4100, 3072]⟩
abbrev S8x4096x64 : Shape := ⟨3, ![8, 4096, 64]⟩
abbrev S8x4096x2x32 : Shape := ⟨4, ![8, 4096, 2, 32]⟩
abbrev S8x4096x2048 : Shape := ⟨3, ![8, 4096, 2048]⟩
abbrev S8x4096x128 : Shape := ⟨3, ![8, 4096, 128]⟩
abbrev S8x4352x2048 : Shape := ⟨3, ![8, 4352, 2048]⟩
abbrev S8x4352x3072 : Shape := ⟨3, ![8, 4352, 3072]⟩
abbrev S8x4352x128 : Shape := ⟨3, ![8, 4352, 128]⟩

abbrev nBuf : Space → Nat
  | .hbm => 204
  | .vmem => 0
  | .smem => 0
  | _ => 0

abbrev hbmTy0_0 (i : Nat) : BufTy := match i % 128 with
  | 0 => ⟨S8x4352x1024, .f32⟩
  | 1 => ⟨S16x6x1024, .f32⟩
  | 2 => ⟨S1024x5184, .f32⟩
  | 3 => ⟨S2x32, .f32⟩
  | 4 => ⟨S2x32, .f32⟩
  | 5 => ⟨S5x3072, .f32⟩
  | 6 => ⟨S3072, .f32⟩
  | 7 => ⟨S8x256x1024, .f32⟩
  | 8 => ⟨S8x4096x1024, .f32⟩
  | 9 => ⟨S8x6x1024, .f32⟩
  | 10 => ⟨S8x1x6x1024, .f32⟩
  | 11 => ⟨S1x6x1024, .f32⟩
  | 12 => ⟨S6x1024, .f32⟩
  | 13 => ⟨S1x1024, .f32⟩
  | 14 => ⟨S1024, .f32⟩
  | 15 => ⟨S1x1024, .f32⟩
  | 16 => ⟨S1024, .f32⟩
  | 17 => ⟨S_, .f32⟩
  | 18 => ⟨S1024, .f32⟩
  | 19 => ⟨S1024, .f32⟩
  | 20 => ⟨S1x1x1024, .f32⟩
  | 21 => ⟨S8x256x1024, .f32⟩
  | 22 => ⟨S8x256x1024, .f32⟩
  | 23 => ⟨S1x1x1024, .f32⟩
  | 24 => ⟨S8x256x1024, .f32⟩
  | 25 => ⟨S8x256x1024, .f32⟩
  | 26 => ⟨S8x256x5184, .f32⟩
  | 27 => ⟨S8x256x3072, .f32⟩
  | 28 => ⟨S_, .i32⟩
  | 29 => ⟨S_, .f32⟩
  | 30 => ⟨S8x260x3072, .f32⟩
  | 31 => ⟨S8x256x3072, .f32⟩
  | 32 => ⟨S1x3072, .f32⟩
  | 33 => ⟨S3072, .f32⟩
  | 34 => ⟨S1x1x3072, .f32⟩
  | 35 => ⟨S8x256x3072, .f32⟩
  | 36 => ⟨S8x256x3072, .f32⟩
  | 37 => ⟨S_, .f32⟩
  | 38 => ⟨S8x256x3072, .f32⟩
  | 39 => ⟨S8x256x3072, .f32⟩
  | 40 => ⟨S8x256x3072, .f32⟩
  | 41 => ⟨S1x3072, .f32⟩
  | 42 => ⟨S3072, .f32⟩
  | 43 => ⟨S1x1x3072, .f32⟩
  | 44 => ⟨S8x256x3072, .f32⟩
  | 45 => ⟨S8x256x3072, .f32⟩
  | 46 => ⟨S8x256x3072, .f32⟩
  | 47 => ⟨S8x256x3072, .f32⟩
  | 48 => ⟨S1x3072, .f32⟩
  | 49 => ⟨S3072, .f32⟩
  | 50 => ⟨S1x1x3072, .f32⟩
  | 51 => ⟨S8x256x3072, .f32⟩
  | 52 => ⟨S8x256x3072, .f32⟩
  | 53 => ⟨S8x256x3072, .f32⟩
  | 54 => ⟨S8x256x3072, .f32⟩
  | 55 => ⟨S1x3072, .f32⟩
  | 56 => ⟨S3072, .f32⟩
  | 57 => ⟨S1x1x3072, .f32⟩
  | 58 => ⟨S8x256x3072, .f32⟩
  | 59 => ⟨S8x256x3072, .f32⟩
  | 60 => ⟨S8x256x3072, .f32⟩
  | 61 => ⟨S8x256x3072, .f32⟩
  | 62 => ⟨S1x3072, .f32⟩
  | 63 => ⟨S3072, .f32⟩
  | 64 => ⟨S1x1x3072, .f32⟩
  | 65 => ⟨S8x256x3072, .f32⟩
  | 66 => ⟨S8x256x3072, .f32⟩
  | 67 => ⟨S8x256x3072, .f32⟩
  | 68 => ⟨S1x1x3072, .f32⟩
  | 69 => ⟨S8x256x3072, .f32⟩
  | 70 => ⟨S8x256x3072, .f32⟩
  | 71 => ⟨S8x256x3072, .f32⟩
  | 72 => ⟨S8x256x3072, .f32⟩
  | 73 => ⟨S_, .f32⟩
  | 74 => ⟨S8x256x3072, .f32⟩
  | 75 => ⟨S8x256x3072, .f32⟩
  | 76 => ⟨S_, .f32⟩
  | 77 => ⟨S8x256x3072, .f32⟩
  | 78 => ⟨S8x256x3072, .f32⟩
  | 79 => ⟨S8x256x3072, .f32⟩
  | 80 => ⟨S8x256x64, .f32⟩
  | 81 => ⟨S8x256x2x32, .f32⟩
  | 82 => ⟨S1x1x2x32, .f32⟩
  | 83 => ⟨S8x256x2x32, .f32⟩
  | 84 => ⟨S8x256x2x32, .f32⟩
  | 85 => ⟨S_, .f32⟩
  | 86 => ⟨S8x256x2x32, .f32⟩
  | 87 => ⟨S8x256x2x32, .f32⟩
  | 88 => ⟨S8x256x2x32, .f32⟩
  | 89 => ⟨S8x256x2x32, .f32⟩
  | 90 => ⟨S8x256x2x32, .i1⟩
  | 91 => ⟨S8x256x2x32, .f32⟩
  | 92 => ⟨S8x256x2x32, .f32⟩
  | 93 => ⟨S8x256x2x32, .f32⟩
  | 94 => ⟨S8x256x2x32, .f32⟩
  | 95 => ⟨S8x256x2x32, .f32⟩
  | 96 => ⟨S8x256x2x32, .f32⟩
  | 97 => ⟨S8x256x2x32, .f32⟩
  | 98 => ⟨S8x256x2x32, .f32⟩
  | 99 => ⟨S2x32, .f32⟩
  | 100 => ⟨S2x32, .f32⟩
  | 101 => ⟨S1x1x2x32, .f32⟩
  | 102 => ⟨S8x256x2x32, .f32⟩
  | 103 => ⟨S8x256x2x32, .f32⟩
  | 104 => ⟨S8x256x2048, .f32⟩
  | 105 => ⟨S8x256x64, .f32⟩
  | 106 => ⟨S8x256x64, .f32⟩
  | 107 => ⟨S8x256x128, .f32⟩
  | 108 => ⟨S8x1x1x1024, .f32⟩
  | 109 => ⟨S8x1x1024, .f32⟩
  | 110 => ⟨S8x1x1x1024, .f32⟩
  | 111 => ⟨S8x1x1024, .f32⟩
  | 112 => ⟨S_, .f32⟩
  | 113 => ⟨S8x1x1024, .f32⟩
  | 114 => ⟨S8x1x1024, .f32⟩
  | 115 => ⟨S8x4096x1024, .f32⟩
  | 116 => ⟨S8x4096x1024, .f32⟩
  | 117 => ⟨S8x4096x1024, .f32⟩
  | 118 => ⟨S8x4096x1024, .f32⟩
  | 119 => ⟨S8x4096x5184, .f32⟩
  | 120 => ⟨S8x4096x3072, .f32⟩
  | 121 => ⟨S_, .i32⟩
  | 122 => ⟨S_, .f32⟩
  | 123 => ⟨S8x4100x3072, .f32⟩
  | 124 => ⟨S8x4096x3072, .f32⟩
  | 125 => ⟨S1x3072, .f32⟩
  | 126 => ⟨S3072, .f32⟩
  | 127 => ⟨S1x1x3072, .f32⟩
  | _ => ⟨S8x4352x1024, .f32⟩

abbrev hbmTy0_1 (i : Nat) : BufTy := match i % 128 with
  | 0 => ⟨S8x4096x3072, .f32⟩
  | 1 => ⟨S8x4096x3072, .f32⟩
  | 2 => ⟨S_, .f32⟩
  | 3 => ⟨S8x4096x3072, .f32⟩
  | 4 => ⟨S8x4096x3072, .f32⟩
  | 5 => ⟨S8x4096x3072, .f32⟩
  | 6 => ⟨S1x3072, .f32⟩
  | 7 => ⟨S3072, .f32⟩
  | 8 => ⟨S1x1x3072, .f32⟩
  | 9 => ⟨S8x4096x3072, .f32⟩
  | 10 => ⟨S8x4096x3072, .f32⟩
  | 11 => ⟨S8x4096x3072, .f32⟩
  | 12 => ⟨S8x4096x3072, .f32⟩
  | 13 => ⟨S1x3072, .f32⟩
  | 14 => ⟨S3072, .f32⟩
  | 15 => ⟨S1x1x3072, .f32⟩
  | 16 => ⟨S8x4096x3072, .f32⟩
  | 17 => ⟨S8x4096x3072, .f32⟩
  | 18 => ⟨S8x4096x3072, .f32⟩
  | 19 => ⟨S8x4096x3072, .f32⟩
  | 20 => ⟨S1x3072, .f32⟩
  | 21 => ⟨S3072, .f32⟩
  | 22 => ⟨S1x1x3072, .f32⟩
  | 23 => ⟨S8x4096x3072, .f32⟩
  | 24 => ⟨S8x4096x3072, .f32⟩
  | 25 => ⟨S8x4096x3072, .f32⟩
  | 26 => ⟨S8x4096x3072, .f32⟩
  | 27 => ⟨S1x3072, .f32⟩
  | 28 => ⟨S3072, .f32⟩
  | 29 => ⟨S1x1x3072, .f32⟩
  | 30 => ⟨S8x4096x3072, .f32⟩
  | 31 => ⟨S8x4096x3072, .f32⟩
  | 32 => ⟨S8x4096x3072, .f32⟩
  | 33 => ⟨S1x1x3072, .f32⟩
  | 34 => ⟨S8x4096x3072, .f32⟩
  | 35 => ⟨S8x4096x3072, .f32⟩
  | 36 => ⟨S8x4096x3072, .f32⟩
  | 37 => ⟨S8x4096x3072, .f32⟩
  | 38 => ⟨S_, .f32⟩
  | 39 => ⟨S8x4096x3072, .f32⟩
  | 40 => ⟨S8x4096x3072, .f32⟩
  | 41 => ⟨S_, .f32⟩
  | 42 => ⟨S8x4096x3072, .f32⟩
  | 43 => ⟨S8x4096x3072, .f32⟩
  | 44 => ⟨S8x4096x3072, .f32⟩
  | 45 => ⟨S8x4096x64, .f32⟩
  | 46 => ⟨S8x4096x2x32, .f32⟩
  | 47 => ⟨S1x1x2x32, .f32⟩
  | 48 => ⟨S8x4096x2x32, .f32⟩
  | 49 => ⟨S8x4096x2x32, .f32⟩
  | 50 => ⟨S_, .f32⟩
  | 51 => ⟨S8x4096x2x32, .f32⟩
  | 52 => ⟨S8x4096x2x32, .f32⟩
  | 53 => ⟨S8x4096x2x32, .f32⟩
  | 54 => ⟨S8x4096x2x32, .f32⟩
  | 55 => ⟨S8x4096x2x32, .i1⟩
  | 56 => ⟨S8x4096x2x32, .f32⟩
  | 57 => ⟨S8x4096x2x32, .f32⟩
  | 58 => ⟨S8x4096x2x32, .f32⟩
  | 59 => ⟨S8x4096x2x32, .f32⟩
  | 60 => ⟨S8x4096x2x32, .f32⟩
  | 61 => ⟨S8x4096x2x32, .f32⟩
  | 62 => ⟨S8x4096x2x32, .f32⟩
  | 63 => ⟨S8x4096x2x32, .f32⟩
  | 64 => ⟨S2x32, .f32⟩
  | 65 => ⟨S2x32, .f32⟩
  | 66 => ⟨S1x1x2x32, .f32⟩
  | 67 => ⟨S8x4096x2x32, .f32⟩
  | 68 => ⟨S8x4096x2x32, .f32⟩
  | 69 => ⟨S8x4096x2048, .f32⟩
  | 70 => ⟨S8x4096x64, .f32⟩
  | 71 => ⟨S8x4096x64, .f32⟩
  | 72 => ⟨S8x4096x128, .f32⟩
  | 73 => ⟨S8x4352x2048, .f32⟩
  | 74 => ⟨S8x4352x3072, .f32⟩
  | 75 => ⟨S8x4352x128, .f32⟩
  | _ => ⟨S8x4352x1024, .f32⟩

abbrev hbmTy (i : Nat) : BufTy := match i / 128 with
  | 0 => hbmTy0_0 i
  | 1 => hbmTy0_1 i
  | _ => ⟨S8x4352x1024, .f32⟩

abbrev bufTy : (tb : Table) → Fin (tcTables nBuf tb) → BufTy
  | .hbm, ⟨i, _⟩ => hbmTy i
  | _, _ => ⟨S8x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c : Ref sig .tc := ⟨.hbm, 28, rfl⟩
abbrev main_call0_v0 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_0 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_call1_v0 : Ref sig .tc := ⟨.hbm, 71, rfl⟩
abbrev main_call1_v1 : Ref sig .tc := ⟨.hbm, 72, rfl⟩
abbrev main_call1_cst : Ref sig .tc := ⟨.hbm, 73, rfl⟩
abbrev main_call1_v2 : Ref sig .tc := ⟨.hbm, 74, rfl⟩
abbrev main_call1_v3 : Ref sig .tc := ⟨.hbm, 75, rfl⟩
abbrev main_call1_cst_0 : Ref sig .tc := ⟨.hbm, 76, rfl⟩
abbrev main_call1_v4 : Ref sig .tc := ⟨.hbm, 77, rfl⟩
abbrev main_call1_v5 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_call2_cst : Ref sig .tc := ⟨.hbm, 85, rfl⟩
abbrev main_call2_v0 : Ref sig .tc := ⟨.hbm, 86, rfl⟩
abbrev main_call2_v1 : Ref sig .tc := ⟨.hbm, 87, rfl⟩
abbrev main_call2_v2 : Ref sig .tc := ⟨.hbm, 88, rfl⟩
abbrev main_call2_v3 : Ref sig .tc := ⟨.hbm, 89, rfl⟩
abbrev main_call2_v4 : Ref sig .tc := ⟨.hbm, 90, rfl⟩
abbrev main_call2_v5 : Ref sig .tc := ⟨.hbm, 91, rfl⟩
abbrev main_call2_v6 : Ref sig .tc := ⟨.hbm, 92, rfl⟩
abbrev main_call2_v7 : Ref sig .tc := ⟨.hbm, 93, rfl⟩
abbrev main_call2_v8 : Ref sig .tc := ⟨.hbm, 94, rfl⟩
abbrev main_call2_v9 : Ref sig .tc := ⟨.hbm, 95, rfl⟩
abbrev main_call2_v10 : Ref sig .tc := ⟨.hbm, 96, rfl⟩
abbrev main_call2_v11 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_1 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_c_2 : Ref sig .tc := ⟨.hbm, 121, rfl⟩
abbrev main_call3_v0 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_cst_3 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_call4_v0 : Ref sig .tc := ⟨.hbm, 164, rfl⟩
abbrev main_call4_v1 : Ref sig .tc := ⟨.hbm, 165, rfl⟩
abbrev main_call4_cst : Ref sig .tc := ⟨.hbm, 166, rfl⟩
abbrev main_call4_v2 : Ref sig .tc := ⟨.hbm, 167, rfl⟩
abbrev main_call4_v3 : Ref sig .tc := ⟨.hbm, 168, rfl⟩
abbrev main_call4_cst_0 : Ref sig .tc := ⟨.hbm, 169, rfl⟩
abbrev main_call4_v4 : Ref sig .tc := ⟨.hbm, 170, rfl⟩
abbrev main_call4_v5 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_call5_cst : Ref sig .tc := ⟨.hbm, 178, rfl⟩
abbrev main_call5_v0 : Ref sig .tc := ⟨.hbm, 179, rfl⟩
abbrev main_call5_v1 : Ref sig .tc := ⟨.hbm, 180, rfl⟩
abbrev main_call5_v2 : Ref sig .tc := ⟨.hbm, 181, rfl⟩
abbrev main_call5_v3 : Ref sig .tc := ⟨.hbm, 182, rfl⟩
abbrev main_call5_v4 : Ref sig .tc := ⟨.hbm, 183, rfl⟩
abbrev main_call5_v5 : Ref sig .tc := ⟨.hbm, 184, rfl⟩
abbrev main_call5_v6 : Ref sig .tc := ⟨.hbm, 185, rfl⟩
abbrev main_call5_v7 : Ref sig .tc := ⟨.hbm, 186, rfl⟩
abbrev main_call5_v8 : Ref sig .tc := ⟨.hbm, 187, rfl⟩
abbrev main_call5_v9 : Ref sig .tc := ⟨.hbm, 188, rfl⟩
abbrev main_call5_v10 : Ref sig .tc := ⟨.hbm, 189, rfl⟩
abbrev main_call5_v11 : Ref sig .tc := ⟨.hbm, 190, rfl⟩
abbrev main_v134 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_v146 : Ref sig .tc := ⟨.hbm, 203, rfl⟩

abbrev nD : Nat := 1
abbrev τ : Topo := Topo.v7x

variable {F : FTy → Type} [FloatOps F]
-- ==== Mod.lean ====
abbrev S8x1024 : Shape := ⟨2, ![8, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S16x1024 : Shape := ⟨2, ![16, 1024]⟩
abbrev S1 : Shape := ⟨1, ![1]⟩
abbrev S4x1x6144 : Shape := ⟨3, ![4, 1, 6144]⟩
abbrev S16x6144 : Shape := ⟨2, ![16, 6144]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩

abbrev nBuf : Space → Nat
  | .hbm => 14
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S_, .f32⟩
  | .hbm, ⟨5, _⟩ => ⟨S16x1024, .f32⟩
  | .hbm, ⟨6, _⟩ => ⟨S_, .i32⟩
  | .hbm, ⟨7, _⟩ => ⟨S1, .i32⟩
  | .hbm, ⟨8, _⟩ => ⟨S16x1024, .f32⟩
  | .hbm, ⟨9, _⟩ => ⟨S_, .i32⟩
  | .hbm, ⟨10, _⟩ => ⟨S1, .i32⟩
  | .hbm, ⟨11, _⟩ => ⟨S16x1024, .f32⟩
  | .hbm, ⟨12, _⟩ => ⟨S4x1x6144, .f32⟩
  | .hbm, ⟨13, _⟩ => ⟨S16x6144, .f32⟩
  | .local _ .vmem, ⟨0, _⟩ => ⟨S16x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1x1024, .f32⟩
  | .local _ .vmem, ⟨4, _⟩ => ⟨S1x1x1024, .f32⟩
  | .local _ .vmem, ⟨5, _⟩ => ⟨S16x1024, .f32⟩
  | .local _ .vmem, ⟨6, _⟩ => ⟨S16x1024, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![6], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModRefIdeal.lean ====
abbrev S8x1024 : Shape := ⟨2, ![8, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S1x6144 : Shape := ⟨2, ![1, 6144]⟩
abbrev S6144 : Shape := ⟨1, ![6144]⟩
abbrev S7x6144 : Shape := ⟨2, ![7, 6144]⟩
abbrev S1x1024x6144 : Shape := ⟨3, ![1, 1024, 6144]⟩
abbrev S1024x6144 : Shape := ⟨2, ![1024, 6144]⟩
abbrev S8x6144 : Shape := ⟨2, ![8, 6144]⟩
abbrev S16x6144 : Shape := ⟨2, ![16, 6144]⟩

abbrev nBuf : Space → Nat
  | .hbm => 41
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S8x1024, .f32⟩
  | .hbm, ⟨5, _⟩ => ⟨S8x1024, .f32⟩
  | .hbm, ⟨6, _⟩ => ⟨S_, .f32⟩
  | .hbm, ⟨7, _⟩ => ⟨S8x1024, .f32⟩
  | .hbm, ⟨8, _⟩ => ⟨S8x1024, .f32⟩
  | .hbm, ⟨9, _⟩ => ⟨S_, .f32⟩
  | .hbm, ⟨10, _⟩ => ⟨S8x1024, .f32⟩
  | .hbm, ⟨11, _⟩ => ⟨S8x1024, .f32⟩
  | .hbm, ⟨12, _⟩ => ⟨S8x1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S_, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1x6144, .f32⟩
  | .hbm, ⟨23, _⟩ => ⟨S6144, .f32⟩
  | .hbm, ⟨24, _⟩ => ⟨S7x6144, .f32⟩
  | .hbm, ⟨25, _⟩ => ⟨S1x1024x6144, .f32⟩
  | .hbm, ⟨26, _⟩ => ⟨S1024x6144, .f32⟩
  | .hbm, ⟨27, _⟩ => ⟨S8x6144, .f32⟩
  | .hbm, ⟨28, _⟩ => ⟨S1x6144, .f32⟩
  | .hbm, ⟨29, _⟩ => ⟨S6144, .f32⟩
  | .hbm, ⟨30, _⟩ => ⟨S1x6144, .f32⟩
  | .hbm, ⟨31, _⟩ => ⟨S8x6144, .f32⟩
  | .hbm, ⟨32, _⟩ => ⟨S8x6144, .f32⟩
  | .hbm, ⟨33, _⟩ => ⟨S1x1024x6144, .f32⟩
  | .hbm, ⟨34, _⟩ => ⟨S1024x6144, .f32⟩
  | .hbm, ⟨35, _⟩ => ⟨S6144, .f32⟩
  | .hbm, ⟨36, _⟩ => ⟨S1x6144, .f32⟩
  | .hbm, ⟨37, _⟩ => ⟨S6144, .f32⟩
  | .hbm, ⟨38, _⟩ => ⟨S6144, .f32⟩
  | .hbm, ⟨39, _⟩ => ⟨S1x6144, .f32⟩
  | .hbm, ⟨40, _⟩ => ⟨S16x6144, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_call1_v0 : Ref sig .tc := ⟨.hbm, 13, rfl⟩
abbrev main_call1_v1 : Ref sig .tc := ⟨.hbm, 14, rfl⟩
abbrev main_call1_cst : Ref sig .tc := ⟨.hbm, 15, rfl⟩
abbrev main_call1_v2 : Ref sig .tc := ⟨.hbm, 16, rfl⟩
abbrev main_call1_v3 : Ref sig .tc := ⟨.hbm, 17, rfl⟩
abbrev main_call1_cst_0 : Ref sig .tc := ⟨.hbm, 18, rfl⟩
abbrev main_call1_v4 : Ref sig .tc := ⟨.hbm, 19, rfl⟩
abbrev main_call1_v5 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩

abbrev nD : Nat := 1
abbrev τ : Topo := Topo.v7x

variable {F : FTy → Type} [FloatOps F]
-- ==== Proof.BwdRefRun.lean ====
/- The backward reference's run, as its one-trip step iterated: a valuation of the loop's values holds a state when each value the
   trips read is the state's field; one trip keeps that with the step applied. -/
module

public import proofs.«01_k».proof.Proof.Gen.BwdRefIdeal.Run
public import proofs.«01_k».proof.Proof.Gen.BwdRefIdeal.Step
public import Idealize.ShloMosaic.Lib.Pointwise

@[expose] public section

noncomputable section

namespace Cert.Proof.BwdRefRun

open Idealize.ShloMosaic Idealize.ShloMosaic.TcCoe Idealize.SL.Sem Idealize.ShloMosaic.StableHlo
open Cert.BwdRefIdeal Cert.BwdRefIdeal.Gen Cert.BwdRefIdeal.Value Cert.BwdRefIdeal.Step

/-- The loop's values before a trip are the state's fields, and the counter is the trip's number. -/
structure At (V : Valuation τ sig (Elt Ideal)) (s : State Ideal) (j : ℕ) : Prop where
  st : V (Proc.devRef .tc main_v67_8) = s.main_v67_8
  out : V (Proc.devRef .tc main_v67_9) = s.main_v67_9
  ks : V (Proc.devRef .tc main_v67_0) = s.main_v67_0
  vs : V (Proc.devRef .tc main_v67_1) = s.main_v67_1
  qs : V (Proc.devRef .tc main_v67_2) = s.main_v67_2
  xi : V (Proc.devRef .tc main_v67_3) = s.main_v67_3
  dm : V (Proc.devRef .tc main_v67_4) = s.main_v67_4
  ze : V (Proc.devRef .tc main_v67_5) = s.main_v67_5
  cd : V (Proc.devRef .tc main_v67_6) = s.main_v67_6
  no : V (Proc.devRef .tc main_v67_7) = constantI S_ 32 (BitVec.ofNat 32 j)

variable {V : Valuation τ sig (Elt Ideal)} {s : State Ideal} {j : ℕ}

/-- The chunk's keys. -/
theorem keys (h : At V s j) : res_main_while0b_v105 V = b5 j s := by
  unfold res_main_while0b_v105 b5 b4 b3 b2 b1 b0
  rw [h.ks, h.no]
  rfl

/-- The chunk's values. -/
theorem vals (h : At V s j) : res_main_while0b_v106 V = b11 j s := by
  unfold res_main_while0b_v106 b11 b10 b9 b8 b7 b6
  rw [h.vs, h.no]
  rfl

/-- The chunk's queries. -/
theorem queries (h : At V s j) : res_main_while0b_v107 V = b17 j s := by
  unfold res_main_while0b_v107 b17 b16 b15 b14 b13 b12
  rw [h.qs, h.no]
  rfl

/-- The state a trip leaves. -/
theorem step_st (h : At V s j) : Value.step_main_v67_8 V = b39 j s := by
  unfold Value.step_main_v67_8 b39 b38 b37 b36 b35 b34 b33 b32 b31
  rw [keys h, vals h, h.st, h.ze, h.cd]
  rfl

/-- The outputs a trip leaves. -/
theorem step_out (h : At V s j) : Value.step_main_v67_9 V = b46 j s := by
  unfold Value.step_main_v67_9 b46 b45 b44 b43 b42 b41 b40 b30 b29 b28 b27 b26 b25 b24 b23 b22 b21 b20 b19 b18
  rw [keys h, vals h, queries h, h.st, h.xi, h.dm, h.out, h.no]
  rfl

/-- The counter goes up by one. -/
theorem step_no (h : At V s j) : step_main_v67_7 V = constantI S_ 32 (BitVec.ofNat 32 (j + 1)) := by
  unfold step_main_v67_7
  rw [h.no]
  funext i
  show BitVec.ofNat 32 j + 1#32 = BitVec.ofNat 32 (j + 1)
  simp only [BitVec.ofNat_add]

/-- One trip keeps the valuation at the state, stepped. -/
theorem trip (h : At V s j) : At (STEP V) (step j s) (j + 1) where
  st := (STEP_main_v67_8 V).trans (step_st h)
  out := (STEP_main_v67_9 V).trans (step_out h)
  ks := (STEP_main_v67_0 V).trans h.ks
  vs := (STEP_main_v67_1 V).trans h.vs
  qs := (STEP_main_v67_2 V).trans h.qs
  xi := (STEP_main_v67_3 V).trans h.xi
  dm := (STEP_main_v67_4 V).trans h.dm
  ze := (STEP_main_v67_5 V).trans h.ze
  cd := (STEP_main_v67_6 V).trans h.cd
  no := (STEP_main_v67_7 V).trans (step_no h)

/-- The state after `n` trips. -/
def iter (s0 : State Ideal) : ℕ → State Ideal
  | 0 => s0
  | n + 1 => step n (iter s0 n)

/-- The state the first trip starts from. -/
abbrev start (m : (ℓ : Loc nD τ sig) → Buf (Elt Ideal) ℓ) (c : Dev nD) : State Ideal :=
  init (m ((c.tc : Thread nD τ).loc main_arg0)) (m ((c.tc : Thread nD τ).loc main_arg1))
    (m ((c.tc : Thread nD τ).loc main_arg2)) (m ((c.tc : Thread nD τ).loc main_arg5))

variable (m : (ℓ : Loc nD τ sig) → Buf (Elt Ideal) ℓ) (c : Dev nD)

set_option maxRecDepth 65536 in
set_option maxHeartbeats 600000 in
/-- What the operations before the loop leave. -/
theorem at_start : At (entryContents preI m c) (start m c) 0 := by
  constructor <;> (simp only [entryContents, afterL_cons, afterL_nil]; after_reads_simp) <;> rfl

/-- Before each trip the valuation is at the iterated state. -/
theorem at_iter : ∀ n, At (STEP^[n] (entryContents preI m c)) (iter (start m c) n) n
  | 0 => at_start m c
  | n + 1 => by
    rw [Function.iterate_succ_apply']
    exact trip (at_iter n)

/-- The run: the result is read off the state after the 34 trips, and every argument is unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v104) = R_main_v104 (iter (start m c) 34)
          (m ((c.tc : Thread nD τ).loc main_arg3)) (m ((c.tc : Thread nD τ).loc main_arg4))
          (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => by
    refine ⟨(h c).1.trans ?_, (h c).2⟩
    unfold out_main_v104 R_main_v104
    rw [(at_iter m c 34).out, iter_main_arg3, iter_main_arg4, iter_main_arg6, iter_main_arg7]
    rfl) (Value.run m ρ)

end Cert.Proof.BwdRefRun

end
-- ==== Proof.Spec.lean ====
/- The retention of one head, chunk by chunk, in plain formulas over the extended reals: what one chunk of 128 rows adds to the
   head's state, what it gives as output, and the state after a number of chunks. Both programs' proofs meet here. -/
module

public import Idealize.ShloMosaic.Lib.Pointwise

@[expose] public section

noncomputable section

namespace Cert.Proof.Ret

open Idealize.ShloMosaic

/-- The state after a chunk: the state before, decayed, plus the sum over the chunk's rows of (decayed key) × value. -/
def stepS (z : Fin 128 → EReal) (g : EReal) (k : Fin 128 → Fin 256 → EReal) (v : Fin 128 → Fin 512 → EReal)
    (s : Fin 256 → Fin 512 → EReal) : Fin 256 → Fin 512 → EReal :=
  fun d e => s d e * g + ∑ l, k l d * z l * v l e

/-- The output of a chunk: the masked scores against the chunk's own values, plus the decayed query against the state before. -/
def outS (x : Fin 128 → EReal) (dm : Fin 128 → Fin 128 → EReal) (q k : Fin 128 → Fin 256 → EReal)
    (v : Fin 128 → Fin 512 → EReal) (s : Fin 256 → Fin 512 → EReal) : Fin 128 → Fin 512 → EReal :=
  fun l e => (∑ p, (∑ d, q l d * k p d) * dm l p * v p e) + ∑ d, q l d * x l * s d e

/-- The state after `n` chunks, from zero. -/
def stateS (z : Fin 128 → EReal) (g : EReal) (k : ℕ → Fin 128 → Fin 256 → EReal) (v : ℕ → Fin 128 → Fin 512 → EReal) :
    ℕ → Fin 256 → Fin 512 → EReal
  | 0 => fun _ _ => 0
  | n + 1 => stepS z g (k n) (v n) (stateS z g k v n)

/-- Row `l` of chunk `n`, among the 4352 rows. -/
def row (n : ℕ) (l : Fin 128) : Fin 4352 := ⟨(128 * n + l.val) % 4352, Nat.mod_lt _ (by decide)⟩

theorem row_val {n : ℕ} (h : n < 34) (l : Fin 128) : (row n l).val = 128 * n + l.val := by
  have := l.isLt
  exact Nat.mod_eq_of_lt (by omega)

/-- A position in a chunk, as a number. -/
def pos (l : Fin 128) : EReal := (FloatOps.sitofp .f32 (BitVec.ofNat 32 l.val) : Ideal .f32)

/-- The log of the decay of one head, from its decay logit: minus the softplus of minus the logit. -/
def lgT (x : EReal) : EReal :=
  -(max (-x) 0 + Ideal.log1p (Ideal.exp (-(FloatOps.absf (-x : Ideal .f32) : Ideal .f32))))

/-- The decay of a chunk's key at row `l`. -/
def zT (g : EReal) (l : Fin 128) : EReal := Ideal.exp ((Ideal.ofBits FTy.f32 1123942400#32 - pos l) * g)

/-- The decay of a chunk's query at row `l`. -/
def xT (g : EReal) (l : Fin 128) : EReal := Ideal.exp ((pos l + 1) * g)

/-- The decay of the state over a chunk. -/
def gT (g : EReal) : EReal := Ideal.exp (Ideal.ofBits FTy.f32 1124073472#32 * g)

/-- The decay of the score of row `l` against row `p`; none of a later row. -/
def dT (g : EReal) (l p : Fin 128) : EReal := by
  classical
  exact Ideal.exp (if 0 ≤ pos l - pos p then (pos l - pos p) * g else Ideal.ofBits FTy.f32 4286578688#32)

/-- The mean of a head's 512 outputs. -/
def meanS (o : Fin 512 → EReal) : EReal := Ideal.div (∑ e, o e) (Ideal.ofBits FTy.f32 1140850688#32)

/-- The group norm of a head's 512 outputs, scaled by `w` and shifted by `b`, times the gate's silu. -/
def gnS (o : Fin 512 → EReal) (w b g : EReal) (e : Fin 512) : EReal :=
  ((o e - meanS o) * Ideal.rsqrt (meanS (fun e => (o e - meanS o) * (o e - meanS o)) + Ideal.ofBits FTy.f32 925353388#32) * w + b)
    * (g * Ideal.logistic g)

end Cert.Proof.Ret

end
-- ==== Proof.TabFwd.lean ====
module

public import proofs.«01_k».proof.Proof.Spec
public import proofs.«01_k».proof.Proof.Gen.FwdIdeal.Frame
public import proofs.«01_k».proof.Proof.Gen.FwdIdeal.Value
public import Idealize.ShloMosaic.Lib.StableHlo.ReadAt
public import Idealize.ShloMosaic.Lib.Pointwise
public import Idealize.ShloMosaic.Lib.Pipeline.ValueKit

@[expose] public section

set_option maxRecDepth 16384

noncomputable section

namespace Cert.Proof.TabFwd

open Idealize.ShloMosaic Idealize.ShloMosaic.TcCoe Idealize.SL.Sem
open Cert.FwdIdeal Cert.FwdIdeal.Gen Cert.Proof.Ret

variable (m : (ℓ : Loc nD τ sig) → Buf (Elt Ideal) ℓ) (c : Dev nD)

/-- The decay logit of one head, as launched. -/
def lgK (h : Fin 4) : EReal := lgT ((m ((c : Thread nD τ).loc main_arg3)) (ix2 0 h))

/-- Where each window's block lies at a point. -/
theorem idx (t : Fin cfg0.N) : win0_0.index t = ![t.val / 17, t.val % 17, 0] ∧ win0_1.index t = ![t.val / 17, t.val % 17, 0]
    ∧ win0_2.index t = ![t.val / 17, t.val % 17, 0] ∧ win0_3.index t = ![0, 0] ∧ win0_4.index t = ![0, 0]
    ∧ win0_5.index t = ![0, 0, 0] ∧ win0_6.index t = ![0, 0, 0] :=
  (by decide +kernel : ∀ t : Fin grid0.N, win0_0.index t = ![t.val / 17, t.val % 17, 0] ∧ win0_1.index t = ![t.val / 17, t.val % 17, 0]
    ∧ win0_2.index t = ![t.val / 17, t.val % 17, 0] ∧ win0_3.index t = ![0, 0] ∧ win0_4.index t = ![0, 0]
    ∧ win0_5.index t = ![0, 0, 0] ∧ win0_6.index t = ![0, 0, 0]) t

/-- A point's batch element. -/
def bat (t : Fin cfg0.N) : Fin 8 := ⟨t.val / 17, by have := lt_of_lt_of_eq t.isLt (show cfg0.N = 136 from N_0); omega⟩

/-- The queries' decays, as the host lays them out. -/
theorem xi_apply (h : Fin 4) (l : Fin 128) (d : Fin 256) :
    V m c main_v20 (ix2 l ⟨h.val * 256 + d.val, by omega⟩) = xT (lgK m c h) l := by
  unfold V
  after_reads_at
  rw [if_neg (by simp)]
  rfl

/-- The keys' decays, as the host lays them out. -/
theorem zeta_apply (h : Fin 4) (l : Fin 128) (d : Fin 256) :
    V m c main_v28 (ix2 l ⟨h.val * 256 + d.val, by omega⟩) = zT (lgK m c h) l := by
  unfold V
  after_reads_at
  rw [if_neg (by simp)]
  rfl

/-- The scores' decays, as the host lays them out. -/
theorem dmat_apply (h : Fin 4) (l p : Fin 128) : V m c main_v38 (ix3 h l p) = dT (lgK m c h) l p := by
  unfold V
  after_reads_at
  simp only [ne_eq, not_true_eq_false, if_false]
  unfold dT
  congr 1

/-- The state's decay, as the host lays it out. -/
theorem cdec_apply (h : Fin 4) (e : Fin 512) : V m c main_v43 (ix3 h 0 e) = gT (lgK m c h) := by
  unfold V
  after_reads_at
  rw [if_neg (by simp)]
  rfl

/-- The queries' decays in a point's block. -/
theorem xi_blk (t : Fin cfg0.N) (h : Fin 4) (l : Fin 128) (d : Fin 256) :
    iblk m c 3 t (ix2 l ⟨h.val * 256 + d.val, by omega⟩) = xT (lgK m c h) l := by
  rw [← xi_apply m c h l d]
  blk_ext [iblk, idx t]

/-- The keys' decays in a point's block. -/
theorem zeta_blk (t : Fin cfg0.N) (h : Fin 4) (l : Fin 128) (d : Fin 256) :
    iblk m c 4 t (ix2 l ⟨h.val * 256 + d.val, by omega⟩) = zT (lgK m c h) l := by
  rw [← zeta_apply m c h l d]
  blk_ext [iblk, idx t]

/-- The scores' decays in a point's block. -/
theorem dmat_blk (t : Fin cfg0.N) (h : Fin 4) (l p : Fin 128) : iblk m c 5 t (ix3 h l p) = dT (lgK m c h) l p := by
  rw [← dmat_apply m c h l p]
  blk_ext [iblk, idx t]

/-- The state's decay in a point's block. -/
theorem cdec_blk (t : Fin cfg0.N) (h : Fin 4) (e : Fin 512) : iblk m c 6 t (ix3 h 0 e) = gT (lgK m c h) := by
  rw [← cdec_apply m c h e]
  blk_ext [iblk, idx t]

/-- A point's block of queries. -/
theorem q_blk (t : Fin cfg0.N) (l : Fin 256) (d : Fin 1024) : iblk m c 0 t (ix3 0 l d)
    = m ((c : Thread nD τ).loc main_arg0) (ix3 (bat t) ⟨t.val % 17 * 256 + l.val, by omega⟩ d) := by
  unfold bat
  blk_ext [iblk, V, idx t]

/-- A point's block of keys. -/
theorem k_blk (t : Fin cfg0.N) (l : Fin 256) (d : Fin 1024) : iblk m c 1 t (ix3 0 l d)
    = m ((c : Thread nD τ).loc main_arg1) (ix3 (bat t) ⟨t.val % 17 * 256 + l.val, by omega⟩ d) := by
  unfold bat
  blk_ext [iblk, V, idx t]

/-- A point's block of values. -/
theorem v_blk (t : Fin cfg0.N) (l : Fin 256) (d : Fin 2048) : iblk m c 2 t (ix3 0 l d)
    = m ((c : Thread nD τ).loc main_arg2) (ix3 (bat t) ⟨t.val % 17 * 256 + l.val, by omega⟩ d) := by
  unfold bat
  blk_ext [iblk, V, idx t]

end Cert.Proof.TabFwd
end
-- ==== Proof.KerFwd.lean ====
module

public import proofs.«01_k».proof.Proof.Spec
public import proofs.«01_k».proof.Proof.Gen.FwdIdeal.Frame
public import proofs.«01_k».proof.Proof.Gen.FwdIdeal.Value
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof.KerFwd

open Idealize.ShloMosaic Idealize.ShloMosaic.TcCoe Idealize.SL.Sem
open Cert.FwdIdeal Cert.FwdIdeal.Gen Cert.Proof.Ret

/-- One head's columns of a block of keys (or queries), the rows of sub-chunk `s`. -/
def kB (x : Vec Ideal S1x256x1024 .f32) (h : Fin 4) (s : Fin 2) (l : Fin 128) (d : Fin 256) : EReal :=
  x (ix3 0 ⟨s.val * 128 + l.val, by omega⟩ ⟨h.val * 256 + d.val, by omega⟩)

/-- One head's columns of a block of values, the rows of sub-chunk `s`. -/
def vB (x : Vec Ideal S1x256x2048 .f32) (h : Fin 4) (s : Fin 2) (l : Fin 128) (e : Fin 512) : EReal :=
  x (ix3 0 ⟨s.val * 128 + l.val, by omega⟩ ⟨h.val * 512 + e.val, by omega⟩)

/-- The state of one head after the first sub-chunk of a point, over the state before. -/
def st1 (x1 : Vec Ideal S1x256x1024 .f32) (x2 : Vec Ideal S1x256x2048 .f32) (x4 : Vec Ideal S128x1024 .f32) (x6 : Vec Ideal S4x1x512 .f32)
    (s : Fin 256 → Fin 512 → EReal) (h : Fin 4) (u : Fin 2) (d : Fin 256) (e : Fin 512) : EReal :=
  s d e * x6 (ix3 h 0 e) + ∑ l, kB x1 h u l d * x4 (ix2 l ⟨h.val * 256 + d.val, by omega⟩) * vB x2 h u l e

/-- The output of one head for one sub-chunk of a point, over the state before. -/
def out1 (x0 x1 : Vec Ideal S1x256x1024 .f32) (x2 : Vec Ideal S1x256x2048 .f32) (x3 : Vec Ideal S128x1024 .f32)
    (x5 : Vec Ideal S4x128x128 .f32) (s : Fin 256 → Fin 512 → EReal) (h : Fin 4) (u : Fin 2) (l : Fin 128) (e : Fin 512) : EReal :=
  (∑ p, (∑ d, kB x0 h u l d * kB x1 h u p d) * x5 (ix3 h l p) * vB x2 h u p e)
    + ∑ d, kB x0 h u l d * x3 (ix2 l ⟨h.val * 256 + d.val, by omega⟩) * s d e

/-- The output of a point: the first sub-chunk over the state before, the second over the state after the first. -/
def outG (x0 x1 : Vec Ideal S1x256x1024 .f32) (x2 : Vec Ideal S1x256x2048 .f32) (x3 x4 : Vec Ideal S128x1024 .f32)
    (x5 : Vec Ideal S4x128x128 .f32) (x6 : Vec Ideal S4x1x512 .f32) (S : Fin 4 → Fin 256 → Fin 512 → EReal)
    (u : Fin 2) (h : Fin 4) (l : Fin 128) (e : Fin 512) : EReal :=
  if u = 0 then out1 x0 x1 x2 x3 x5 (S h) h 0 l e else out1 x0 x1 x2 x3 x5 (st1 x1 x2 x4 x6 (S h) h 0) h 1 l e

/-- The scratch after a point: two sub-chunks' steps. -/
def stG (x1 : Vec Ideal S1x256x1024 .f32) (x2 : Vec Ideal S1x256x2048 .f32) (x4 : Vec Ideal S128x1024 .f32) (x6 : Vec Ideal S4x1x512 .f32)
    (S : Fin 4 → Fin 256 → Fin 512 → EReal) (h : Fin 4) (d : Fin 256) (e : Fin 512) : EReal :=
  st1 x1 x2 x4 x6 (st1 x1 x2 x4 x6 (S h) h 0) h 1 d e

/-- The scratch's value depends on the coordinates' numbers only. -/
theorem stG_at {x1 : Vec Ideal S1x256x1024 .f32} {x2 : Vec Ideal S1x256x2048 .f32} {x4 : Vec Ideal S128x1024 .f32}
    {x6 : Vec Ideal S4x1x512 .f32} {S : Fin 4 → Fin 256 → Fin 512 → EReal} {h i : Fin 4} {d j : Fin 256} {e k : Fin 512}
    (h0 : i.val = h.val) (h1 : j.val = d.val) (h2 : k.val = e.val) : stG x1 x2 x4 x6 S h d e = stG x1 x2 x4 x6 S i j k := by
  rw [Fin.ext h0, Fin.ext h1, Fin.ext h2]

/-- The output's value depends on the coordinates' numbers only. -/
theorem outG_at {x0 x1 : Vec Ideal S1x256x1024 .f32} {x2 : Vec Ideal S1x256x2048 .f32} {x3 x4 : Vec Ideal S128x1024 .f32}
    {x5 : Vec Ideal S4x128x128 .f32} {x6 : Vec Ideal S4x1x512 .f32} {S : Fin 4 → Fin 256 → Fin 512 → EReal}
    {u : Fin 2} {h : Fin 4} {l : Fin 128} {e : Fin 512} {i j : ℕ} (hu : i / 128 < 2) (hh : j / 512 < 4) (hl : i % 128 < 128)
    (he : j % 512 < 512) (h1 : i = u.val * 128 + l.val) (h2 : j = h.val * 512 + e.val) :
    outG x0 x1 x2 x3 x4 x5 x6 S u h l e = outG x0 x1 x2 x3 x4 x5 x6 S ⟨i / 128, hu⟩ ⟨j / 512, hh⟩ ⟨i % 128, hl⟩ ⟨j % 512, he⟩ := by
  have a1 : u = ⟨i / 128, hu⟩ := Fin.ext (by show u.val = i / 128; omega)
  have a2 : h = ⟨j / 512, hh⟩ := Fin.ext (by show h.val = j / 512; omega)
  have a3 : l = ⟨i % 128, hl⟩ := Fin.ext (by show l.val = i % 128; omega)
  have a4 : e = ⟨j % 512, he⟩ := Fin.ext (by show e.val = j % 512; omega)
  rw [← a1, ← a2, ← a3, ← a4]

variable (c : Dev nD) (i : grid0.Coords) (arg2 : Memref sig .tc .vmem S1x256x1024 .f32) (harg2 : arg2.IsWhole)
  (arg3 : Memref sig .tc .vmem S1x256x1024 .f32) (harg3 : arg3.IsWhole) (arg4 : Memref sig .tc .vmem S1x256x2048 .f32)
  (harg4 : arg4.IsWhole) (arg5 : Memref sig .tc .vmem S128x1024 .f32) (harg5 : arg5.IsWhole)
  (arg6 : Memref sig .tc .vmem S128x1024 .f32) (harg6 : arg6.IsWhole) (arg7 : Memref sig .tc .vmem S4x128x128 .f32)
  (harg7 : arg7.IsWhole) (arg8 : Memref sig .tc .vmem S4x1x512 .f32) (harg8 : arg8.IsWhole)
  (arg9 : Memref sig .tc .vmem S1x256x2048 .f32) (harg9 : arg9.IsWhole) (arg10 : Memref sig .tc .vmem S4x256x512 .f32)
  (harg10 : arg10.IsWhole)
  (x0 x1 : Vec Ideal S1x256x1024 .f32) (x2 : Vec Ideal S1x256x2048 .f32) (x3 x4 : Vec Ideal S128x1024 .f32)
  (x5 : Vec Ideal S4x128x128 .f32) (x6 : Vec Ideal S4x1x512 .f32) (xs0 : Vec Ideal S4x256x512 .f32)

set_option maxHeartbeats 4000000 in
/-- The scratch a point of case B leaves, over the scratch before. -/
theorem soutB (hc0 : ¬cond0_0 i) (y : S4x256x512.Idx) :
    sout0_B_0 c i arg2 harg2 arg3 harg3 arg4 harg4 arg5 harg5 arg6 harg6 arg7 harg7 arg8 harg8 arg9 harg9 arg10 harg10 hc0 x0 x1 x2 x3 x4 x5 x6 xs0 y
      = stG x1 x2 x4 x6 (fun h d e => xs0 (ix3 h d e)) (y 0) (y 1) (y 2) := by
  unfold sout0_B_0
  frame_open
  simp (disch := decide) only [↓ View.readCov_skip, ↓ View.readCov_cons_toLoadRect, ↓ View.readCov_fill]
  frame_out
  refine View.canon_append_of_piecesOf (Val := Elt Ideal) (e := .f32)
    (fun y : S4x256x512.Idx => stG x1 x2 x4 x6 (fun h d e => xs0 (ix3 h d e)) (y 0) (y 1) (y 2))
    [_, _, _, _] [_, _, _, _] ⟨?_, ?_, ?_, ?_, trivial⟩ y ?_
  · intro z
    idx_vars z
    obtain rfl : z0 = 0 := Subsingleton.elim _ _
    refine Eq.trans ?_ (stG_at (h := 3) (d := z1) (e := z2) ?_ ?_ ?_)
    · unfold_payloads
      pointwise
      simp only [stG, st1, kB, vB, Fin.val_zero, Nat.zero_mul, Nat.zero_add]
      rfl
    · exact ValueKit.rect_emb_unit_val _ _ _ _ _
    · exact (ValueKit.rect_emb_unit_val _ _ _ _ _).trans (Nat.zero_add _)
    · exact (ValueKit.rect_emb_unit_val _ _ _ _ _).trans (Nat.zero_add _)
  · intro z
    idx_vars z
    obtain rfl : z0 = 0 := Subsingleton.elim _ _
    refine Eq.trans ?_ (stG_at (h := 2) (d := z1) (e := z2) ?_ ?_ ?_)
    · unfold_payloads
      pointwise
      simp only [stG, st1, kB, vB, Fin.val_zero, Nat.zero_mul, Nat.zero_add]
      rfl
    · exact ValueKit.rect_emb_unit_val _ _ _ _ _
    · exact (ValueKit.rect_emb_unit_val _ _ _ _ _).trans (Nat.zero_add _)
    · exact (ValueKit.rect_emb_unit_val _ _ _ _ _).trans (Nat.zero_add _)
  · intro z
    idx_vars z
    obtain rfl : z0 = 0 := Subsingleton.elim _ _
    refine Eq.trans ?_ (stG_at (h := 1) (d := z1) (e := z2) ?_ ?_ ?_)
    · unfold_payloads
      pointwise
      simp only [stG, st1, kB, vB, Fin.val_zero, Nat.zero_mul, Nat.zero_add]
      rfl
    · exact ValueKit.rect_emb_unit_val _ _ _ _ _
    · exact (ValueKit.rect_emb_unit_val _ _ _ _ _).trans (Nat.zero_add _)
    · exact (ValueKit.rect_emb_unit_val _ _ _ _ _).trans (Nat.zero_add _)
  · intro z
    idx_vars z
    obtain rfl : z0 = 0 := Subsingleton.elim _ _
    refine Eq.trans ?_ (stG_at (h := 0) (d := z1) (e := z2) ?_ ?_ ?_)
    · unfold_payloads
      pointwise
      simp only [stG, st1, kB, vB, Fin.val_zero, Nat.zero_mul, Nat.zero_add]
      rfl
    · exact ValueKit.rect_emb_unit_val _ _ _ _ _
    · exact (ValueKit.rect_emb_unit_val _ _ _ _ _).trans (Nat.zero_add _)
    · exact (ValueKit.rect_emb_unit_val _ _ _ _ _).trans (Nat.zero_add _)
  · exact View.cover_of_tiledL _ ![1, 256, 512] (by sl_kernel_rfl) y

set_option maxHeartbeats 4000000 in
/-- The output a point of case B leaves, over the scratch before. -/
theorem outB (hc0 : ¬cond0_0 i) (y : S1x256x2048.Idx) :
    out0_B_7 c i arg2 harg2 arg3 harg3 arg4 harg4 arg5 harg5 arg6 harg6 arg7 harg7 arg8 harg8 arg9 harg9 arg10 harg10 hc0 x0 x1 x2 x3 x4 x5 x6 xs0 y
      = outG x0 x1 x2 x3 x4 x5 x6 (fun h d e => xs0 (ix3 h d e)) ⟨(y 1).val / 128, by have := (y 1).isLt; exact Nat.div_lt_of_lt_mul this⟩
        ⟨(y 2).val / 512, by have := (y 2).isLt; exact Nat.div_lt_of_lt_mul this⟩ ⟨(y 1).val % 128, Nat.mod_lt _ (by decide)⟩
        ⟨(y 2).val % 512, Nat.mod_lt _ (by decide)⟩ := by
  unfold out0_B_7
  frame_open
  simp (disch := decide) only [↓ View.readCov_skip, ↓ View.readCov_cons_toLoadRect, ↓ View.readCov_fill]
  frame_out
  refine View.canon_append_of_piecesOf (Val := Elt Ideal) (e := .f32)
    (fun y : S1x256x2048.Idx => outG x0 x1 x2 x3 x4 x5 x6 (fun h d e => xs0 (ix3 h d e)) ⟨(y 1).val / 128, by have := (y 1).isLt; exact Nat.div_lt_of_lt_mul this⟩
        ⟨(y 2).val / 512, by have := (y 2).isLt; exact Nat.div_lt_of_lt_mul this⟩ ⟨(y 1).val % 128, Nat.mod_lt _ (by decide)⟩
        ⟨(y 2).val % 512, Nat.mod_lt _ (by decide)⟩)
    [] [_, _, _, _, _, _, _, _] ⟨?_, ?_, ?_, ?_, ?_, ?_, ?_, ?_, trivial⟩ y ?_
  · intro z
    idx_vars z
    obtain rfl : z0 = 0 := Subsingleton.elim _ _
    refine Eq.trans ?_ (outG_at (u := 1) (h := 3) (l := z1) (e := z2) _ _ _ _ ?_ ?_)
    · unfold_payloads
      pointwise
      simp only [outG, out1, st1, kB, vB, Fin.val_zero, Nat.zero_mul, Nat.zero_add]
      rfl
    · exact ValueKit.rect_emb_unit_val _ _ _ _ _
    · exact ValueKit.rect_emb_unit_val _ _ _ _ _
  · intro z
    idx_vars z
    obtain rfl : z0 = 0 := Subsingleton.elim _ _
    refine Eq.trans ?_ (outG_at (u := 1) (h := 2) (l := z1) (e := z2) _ _ _ _ ?_ ?_)
    · unfold_payloads
      pointwise
      simp only [outG, out1, st1, kB, vB, Fin.val_zero, Nat.zero_mul, Nat.zero_add]
      rfl
    · exact ValueKit.rect_emb_unit_val _ _ _ _ _
    · exact ValueKit.rect_emb_unit_val _ _ _ _ _
  · intro z
    idx_vars z
    obtain rfl : z0 = 0 := Subsingleton.elim _ _
    refine Eq.trans ?_ (outG_at (u := 1) (h := 1) (l := z1) (e := z2) _ _ _ _ ?_ ?_)
    · unfold_payloads
      pointwise
      simp only [outG, out1, st1, kB, vB, Fin.val_zero, Nat.zero_mul, Nat.zero_add]
      rfl
    · exact ValueKit.rect_emb_unit_val _ _ _ _ _
    · exact ValueKit.rect_emb_unit_val _ _ _ _ _
  · intro z
    idx_vars z
    obtain rfl : z0 = 0 := Subsingleton.elim _ _
    refine Eq.trans ?_ (outG_at (u := 1) (h := 0) (l := z1) (e := z2) _ _ _ _ ?_ ?_)
    · unfold_payloads
      pointwise
      simp only [outG, out1, st1, kB, vB, Fin.val_zero, Nat.zero_mul, Nat.zero_add]
      rfl
    · exact ValueKit.rect_emb_unit_val _ _ _ _ _
    · exact ValueKit.rect_emb_unit_val _ _ _ _ _
  · intro z
    idx_vars z
    obtain rfl : z0 = 0 := Subsingleton.elim _ _
    refine Eq.trans ?_ (outG_at (u := 0) (h := 3) (l := z1) (e := z2) _ _ _ _ ?_ ?_)
    · unfold_payloads
      pointwise
      simp only [outG, out1, st1, kB, vB, Fin.val_zero, Nat.zero_mul, Nat.zero_add]
      rfl
    · exact ValueKit.rect_emb_unit_val _ _ _ _ _
    · exact ValueKit.rect_emb_unit_val _ _ _ _ _
  · intro z
    idx_vars z
    obtain rfl : z0 = 0 := Subsingleton.elim _ _
    refine Eq.trans ?_ (outG_at (u := 0) (h := 2) (l := z1) (e := z2) _ _ _ _ ?_ ?_)
    · unfold_payloads
      pointwise
      simp only [outG, out1, st1, kB, vB, Fin.val_zero, Nat.zero_mul, Nat.zero_add]
      rfl
    · exact ValueKit.rect_emb_unit_val _ _ _ _ _
    · exact ValueKit.rect_emb_unit_val _ _ _ _ _
  · intro z
    idx_vars z
    obtain rfl : z0 = 0 := Subsingleton.elim _ _
    refine Eq.trans ?_ (outG_at (u := 0) (h := 1) (l := z1) (e := z2) _ _ _ _ ?_ ?_)
    · unfold_payloads
      pointwise
      simp only [outG, out1, st1, kB, vB, Fin.val_zero, Nat.zero_mul, Nat.zero_add]
      rfl
    · exact ValueKit.rect_emb_unit_val _ _ _ _ _
    · exact ValueKit.rect_emb_unit_val _ _ _ _ _
  · intro z
    idx_vars z
    obtain rfl : z0 = 0 := Subsingleton.elim _ _
    refine Eq.trans ?_ (outG_at (u := 0) (h := 0) (l := z1) (e := z2) _ _ _ _ ?_ ?_)
    · unfold_payloads
      pointwise
      simp only [outG, out1, st1, kB, vB, Fin.val_zero, Nat.zero_mul, Nat.zero_add]
      rfl
    · exact ValueKit.rect_emb_unit_val _ _ _ _ _
    · exact ValueKit.rect_emb_unit_val _ _ _ _ _
  · exact View.cover_of_tiledL _ ![1, 128, 512] (by sl_kernel_rfl) y

set_option maxHeartbeats 4000000 in
/-- The scratch a point of case A leaves, over zero. -/
theorem soutA (hc0 : cond0_0 i) (y : S4x256x512.Idx) :
    sout0_A_0 c i arg2 harg2 arg3 harg3 arg4 harg4 arg5 harg5 arg6 harg6 arg7 harg7 arg8 harg8 arg9 harg9 arg10 harg10 hc0 x0 x1 x2 x3 x4 x5 x6 y
      = stG x1 x2 x4 x6 (fun _ _ _ => 0) (y 0) (y 1) (y 2) := by
  unfold sout0_A_0
  frame_open
  simp (disch := decide) only [↓ View.readCov_skip, ↓ View.readCov_cons_toLoadRect, ↓ View.readCov_fill]
  frame_out
  refine View.canon_append_of_piecesOf (Val := Elt Ideal) (e := .f32)
    (fun y : S4x256x512.Idx => stG x1 x2 x4 x6 (fun _ _ _ => 0) (y 0) (y 1) (y 2))
    [_, _, _, _, _] [_, _, _, _] ⟨?_, ?_, ?_, ?_, trivial⟩ y ?_
  · intro z
    idx_vars z
    obtain rfl : z0 = 0 := Subsingleton.elim _ _
    refine Eq.trans ?_ (stG_at (h := 3) (d := z1) (e := z2) ?_ ?_ ?_)
    · unfold_payloads
      pointwise
      simp only [stG, st1, kB, vB, Fin.val_zero, Nat.zero_mul, Nat.zero_add]
      rfl
    · exact ValueKit.rect_emb_unit_val _ _ _ _ _
    · exact (ValueKit.rect_emb_unit_val _ _ _ _ _).trans (Nat.zero_add _)
    · exact (ValueKit.rect_emb_unit_val _ _ _ _ _).trans (Nat.zero_add _)
  · intro z
    idx_vars z
    obtain rfl : z0 = 0 := Subsingleton.elim _ _
    refine Eq.trans ?_ (stG_at (h := 2) (d := z1) (e := z2) ?_ ?_ ?_)
    · unfold_payloads
      pointwise
      simp only [stG, st1, kB, vB, Fin.val_zero, Nat.zero_mul, Nat.zero_add]
      rfl
    · exact ValueKit.rect_emb_unit_val _ _ _ _ _
    · exact (ValueKit.rect_emb_unit_val _ _ _ _ _).trans (Nat.zero_add _)
    · exact (ValueKit.rect_emb_unit_val _ _ _ _ _).trans (Nat.zero_add _)
  · intro z
    idx_vars z
    obtain rfl : z0 = 0 := Subsingleton.elim _ _
    refine Eq.trans ?_ (stG_at (h := 1) (d := z1) (e := z2) ?_ ?_ ?_)
    · unfold_payloads
      pointwise
      simp only [stG, st1, kB, vB, Fin.val_zero, Nat.zero_mul, Nat.zero_add]
      rfl
    · exact ValueKit.rect_emb_unit_val _ _ _ _ _
    · exact (ValueKit.rect_emb_unit_val _ _ _ _ _).trans (Nat.zero_add _)
    · exact (ValueKit.rect_emb_unit_val _ _ _ _ _).trans (Nat.zero_add _)
  · intro z
    idx_vars z
    obtain rfl : z0 = 0 := Subsingleton.elim _ _
    refine Eq.trans ?_ (stG_at (h := 0) (d := z1) (e := z2) ?_ ?_ ?_)
    · unfold_payloads
      pointwise
      simp only [stG, st1, kB, vB, Fin.val_zero, Nat.zero_mul, Nat.zero_add]
      rfl
    · exact ValueKit.rect_emb_unit_val _ _ _ _ _
    · exact (ValueKit.rect_emb_unit_val _ _ _ _ _).trans (Nat.zero_add _)
    · exact (ValueKit.rect_emb_unit_val _ _ _ _ _).trans (Nat.zero_add _)
  · exact View.cover_of_tiledL _ ![1, 256, 512] (by sl_kernel_rfl) y

set_option maxHeartbeats 4000000 in
/-- The output a point of case A leaves, over zero. -/
theorem outA (hc0 : cond0_0 i) (y : S1x256x2048.Idx) :
    out0_A_7 c i arg2 harg2 arg3 harg3 arg4 harg4 arg5 harg5 arg6 harg6 arg7 harg7 arg8 harg8 arg9 harg9 arg10 harg10 hc0 x0 x1 x2 x3 x4 x5 x6 y
      = outG x0 x1 x2 x3 x4 x5 x6 (fun _ _ _ => 0) ⟨(y 1).val / 128, by have := (y 1).isLt; exact Nat.div_lt_of_lt_mul this⟩
        ⟨(y 2).val / 512, by have := (y 2).isLt; exact Nat.div_lt_of_lt_mul this⟩ ⟨(y 1).val % 128, Nat.mod_lt _ (by decide)⟩
        ⟨(y 2).val % 512, Nat.mod_lt _ (by decide)⟩ := by
  unfold out0_A_7
  frame_open
  simp (disch := decide) only [↓ View.readCov_skip, ↓ View.readCov_cons_toLoadRect, ↓ View.readCov_fill]
  frame_out
  refine View.canon_append_of_piecesOf (Val := Elt Ideal) (e := .f32)
    (fun y : S1x256x2048.Idx => outG x0 x1 x2 x3 x4 x5 x6 (fun _ _ _ => 0) ⟨(y 1).val / 128, by have := (y 1).isLt; exact Nat.div_lt_of_lt_mul this⟩
        ⟨(y 2).val / 512, by have := (y 2).isLt; exact Nat.div_lt_of_lt_mul this⟩ ⟨(y 1).val % 128, Nat.mod_lt _ (by decide)⟩
        ⟨(y 2).val % 512, Nat.mod_lt _ (by decide)⟩)
    [] [_, _, _, _, _, _, _, _] ⟨?_, ?_, ?_, ?_, ?_, ?_, ?_, ?_, trivial⟩ y ?_
  · intro z
    idx_vars z
    obtain rfl : z0 = 0 := Subsingleton.elim _ _
    refine Eq.trans ?_ (outG_at (u := 1) (h := 3) (l := z1) (e := z2) _ _ _ _ ?_ ?_)
    · unfold_payloads
      pointwise
      simp only [outG, out1, st1, kB, vB, Fin.val_zero, Nat.zero_mul, Nat.zero_add]
      rfl
    · exact ValueKit.rect_emb_unit_val _ _ _ _ _
    · exact ValueKit.rect_emb_unit_val _ _ _ _ _
  · intro z
    idx_vars z
    obtain rfl : z0 = 0 := Subsingleton.elim _ _
    refine Eq.trans ?_ (outG_at (u := 1) (h := 2) (l := z1) (e := z2) _ _ _ _ ?_ ?_)
    · unfold_payloads
      pointwise
      simp only [outG, out1, st1, kB, vB, Fin.val_zero, Nat.zero_mul, Nat.zero_add]
      rfl
    · exact ValueKit.rect_emb_unit_val _ _ _ _ _
    · exact ValueKit.rect_emb_unit_val _ _ _ _ _
  · intro z
    idx_vars z
    obtain rfl : z0 = 0 := Subsingleton.elim _ _
    refine Eq.trans ?_ (outG_at (u := 1) (h := 1) (l := z1) (e := z2) _ _ _ _ ?_ ?_)
    · unfold_payloads
      pointwise
      simp only [outG, out1, st1, kB, vB, Fin.val_zero, Nat.zero_mul, Nat.zero_add]
      rfl
    · exact ValueKit.rect_emb_unit_val _ _ _ _ _
    · exact ValueKit.rect_emb_unit_val _ _ _ _ _
  · intro z
    idx_vars z
    obtain rfl : z0 = 0 := Subsingleton.elim _ _
    refine Eq.trans ?_ (outG_at (u := 1) (h := 0) (l := z1) (e := z2) _ _ _ _ ?_ ?_)
    · unfold_payloads
      pointwise
      simp only [outG, out1, st1, kB, vB, Fin.val_zero, Nat.zero_mul, Nat.zero_add]
      rfl
    · exact ValueKit.rect_emb_unit_val _ _ _ _ _
    · exact ValueKit.rect_emb_unit_val _ _ _ _ _
  · intro z
    idx_vars z
    obtain rfl : z0 = 0 := Subsingleton.elim _ _
    refine Eq.trans ?_ (outG_at (u := 0) (h := 3) (l := z1) (e := z2) _ _ _ _ ?_ ?_)
    · unfold_payloads
      pointwise
      simp only [outG, out1, st1, kB, vB, Fin.val_zero, Nat.zero_mul, Nat.zero_add]
      rfl
    · exact ValueKit.rect_emb_unit_val _ _ _ _ _
    · exact ValueKit.rect_emb_unit_val _ _ _ _ _
  · intro z
    idx_vars z
    obtain rfl : z0 = 0 := Subsingleton.elim _ _
    refine Eq.trans ?_ (outG_at (u := 0) (h := 2) (l := z1) (e := z2) _ _ _ _ ?_ ?_)
    · unfold_payloads
      pointwise
      simp only [outG, out1, st1, kB, vB, Fin.val_zero, Nat.zero_mul, Nat.zero_add]
      rfl
    · exact ValueKit.rect_emb_unit_val _ _ _ _ _
    · exact ValueKit.rect_emb_unit_val _ _ _ _ _
  · intro z
    idx_vars z
    obtain rfl : z0 = 0 := Subsingleton.elim _ _
    refine Eq.trans ?_ (outG_at (u := 0) (h := 1) (l := z1) (e := z2) _ _ _ _ ?_ ?_)
    · unfold_payloads
      pointwise
      simp only [outG, out1, st1, kB, vB, Fin.val_zero, Nat.zero_mul, Nat.zero_add]
      rfl
    · exact ValueKit.rect_emb_unit_val _ _ _ _ _
    · exact ValueKit.rect_emb_unit_val _ _ _ _ _
  · intro z
    idx_vars z
    obtain rfl : z0 = 0 := Subsingleton.elim _ _
    refine Eq.trans ?_ (outG_at (u := 0) (h := 0) (l := z1) (e := z2) _ _ _ _ ?_ ?_)
    · unfold_payloads
      pointwise
      simp only [outG, out1, st1, kB, vB, Fin.val_zero, Nat.zero_mul, Nat.zero_add]
      rfl
    · exact ValueKit.rect_emb_unit_val _ _ _ _ _
    · exact ValueKit.rect_emb_unit_val _ _ _ _ _
  · exact View.cover_of_tiledL _ ![1, 128, 512] (by sl_kernel_rfl) y

end Cert.Proof.KerFwd
end
-- ==== Proof.FwdRefRun.lean ====
/- The forward reference's run, as its one-trip step iterated: a valuation of the loop's values holds a state when each value the
   trips read is the state's field; one trip keeps that with the step applied. -/
module

public import proofs.«01_k».proof.Proof.Gen.FwdRefIdeal.Run
public import proofs.«01_k».proof.Proof.Gen.FwdRefIdeal.Step
public import Idealize.ShloMosaic.Lib.Pointwise

@[expose] public section

noncomputable section

namespace Cert.Proof.FwdRefRun

open Idealize.ShloMosaic Idealize.ShloMosaic.TcCoe Idealize.SL.Sem Idealize.ShloMosaic.StableHlo
open Cert.FwdRefIdeal Cert.FwdRefIdeal.Gen Cert.FwdRefIdeal.Value Cert.FwdRefIdeal.Step

/-- The loop's values before a trip are the state's fields, and the counter is the trip's number. -/
structure At (V : Valuation τ sig (Elt Ideal)) (s : State Ideal) (j : ℕ) : Prop where
  st : V (Proc.devRef .tc main_v52_8) = s.main_v52_8
  out : V (Proc.devRef .tc main_v52_9) = s.main_v52_9
  ks : V (Proc.devRef .tc main_v52_0) = s.main_v52_0
  vs : V (Proc.devRef .tc main_v52_1) = s.main_v52_1
  qs : V (Proc.devRef .tc main_v52_2) = s.main_v52_2
  xi : V (Proc.devRef .tc main_v52_3) = s.main_v52_3
  dm : V (Proc.devRef .tc main_v52_4) = s.main_v52_4
  ze : V (Proc.devRef .tc main_v52_5) = s.main_v52_5
  cd : V (Proc.devRef .tc main_v52_6) = s.main_v52_6
  no : V (Proc.devRef .tc main_v52_7) = constantI S_ 32 (BitVec.ofNat 32 j)

variable {V : Valuation τ sig (Elt Ideal)} {s : State Ideal} {j : ℕ}

/-- The chunk's keys. -/
theorem keys (h : At V s j) : res_main_while0b_v56 V = b5 j s := by
  unfold res_main_while0b_v56 b5 b4 b3 b2 b1 b0
  rw [h.ks, h.no]
  rfl

/-- The chunk's values. -/
theorem vals (h : At V s j) : res_main_while0b_v57 V = b11 j s := by
  unfold res_main_while0b_v57 b11 b10 b9 b8 b7 b6
  rw [h.vs, h.no]
  rfl

/-- The chunk's queries. -/
theorem queries (h : At V s j) : res_main_while0b_v58 V = b17 j s := by
  unfold res_main_while0b_v58 b17 b16 b15 b14 b13 b12
  rw [h.qs, h.no]
  rfl

/-- The state a trip leaves. -/
theorem step_st (h : At V s j) : Value.step_main_v52_8 V = b39 j s := by
  unfold Value.step_main_v52_8 b39 b38 b37 b36 b35 b34 b33 b32 b31
  rw [keys h, vals h, h.st, h.ze, h.cd]
  rfl

/-- The outputs a trip leaves. -/
theorem step_out (h : At V s j) : Value.step_main_v52_9 V = b46 j s := by
  unfold Value.step_main_v52_9 b46 b45 b44 b43 b42 b41 b40 b30 b29 b28 b27 b26 b25 b24 b23 b22 b21 b20 b19 b18
  rw [keys h, vals h, queries h, h.st, h.xi, h.dm, h.out, h.no]
  rfl

/-- The counter goes up by one. -/
theorem step_no (h : At V s j) : step_main_v52_7 V = constantI S_ 32 (BitVec.ofNat 32 (j + 1)) := by
  unfold step_main_v52_7
  rw [h.no]
  funext i
  show BitVec.ofNat 32 j + 1#32 = BitVec.ofNat 32 (j + 1)
  simp only [BitVec.ofNat_add]

/-- One trip keeps the valuation at the state, stepped. -/
theorem trip (h : At V s j) : At (STEP V) (step j s) (j + 1) where
  st := (STEP_main_v52_8 V).trans (step_st h)
  out := (STEP_main_v52_9 V).trans (step_out h)
  ks := (STEP_main_v52_0 V).trans h.ks
  vs := (STEP_main_v52_1 V).trans h.vs
  qs := (STEP_main_v52_2 V).trans h.qs
  xi := (STEP_main_v52_3 V).trans h.xi
  dm := (STEP_main_v52_4 V).trans h.dm
  ze := (STEP_main_v52_5 V).trans h.ze
  cd := (STEP_main_v52_6 V).trans h.cd
  no := (STEP_main_v52_7 V).trans (step_no h)

/-- The state after `n` trips. -/
def iter (s0 : State Ideal) : ℕ → State Ideal
  | 0 => s0
  | n + 1 => step n (iter s0 n)

/-- The state the first trip starts from. -/
abbrev start (m : (ℓ : Loc nD τ sig) → Buf (Elt Ideal) ℓ) (c : Dev nD) : State Ideal :=
  init (m ((c.tc : Thread nD τ).loc main_arg0)) (m ((c.tc : Thread nD τ).loc main_arg1))
    (m ((c.tc : Thread nD τ).loc main_arg2)) (m ((c.tc : Thread nD τ).loc main_arg3))

variable (m : (ℓ : Loc nD τ sig) → Buf (Elt Ideal) ℓ) (c : Dev nD)

set_option maxRecDepth 65536 in
set_option maxHeartbeats 600000 in
/-- What the operations before the loop leave. -/
theorem at_start : At (entryContents preI m c) (start m c) 0 := by
  constructor <;> (simp only [entryContents, afterL_cons, afterL_nil]; after_reads_simp) <;> rfl

/-- Before each trip the valuation is at the iterated state. -/
theorem at_iter : ∀ n, At (STEP^[n] (entryContents preI m c)) (iter (start m c) n) n
  | 0 => at_start m c
  | n + 1 => by
    rw [Function.iterate_succ_apply']
    exact trip (at_iter n)

/-- The run: the result is read off the state after the 34 trips, and every argument is unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v55) = R_main_v55 (iter (start m c) 34)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => by
    refine ⟨(h c).1.trans ?_, (h c).2⟩
    unfold out_main_v55 R_main_v55
    rw [(at_iter m c 34).out]
    rfl) (Value.run m ρ)

end Cert.Proof.FwdRefRun

end
-- ==== Proof.RefFwd.lean ====
/- The forward reference's result at an index: the output of the row's chunk, from the state after the chunks before it. -/
module

public import proofs.«01_k».proof.Proof.Spec
public import proofs.«01_k».proof.Proof.FwdRefRun
public import Idealize.ShloMosaic.Lib.Pointwise
public import Idealize.ShloMosaic.Lib.DynamicIndex
public import Idealize.ShloMosaic.Lib.WordCmp

@[expose] public section

set_option maxRecDepth 16384

noncomputable section

namespace Cert.Proof.RefFwd

open Idealize.ShloMosaic Cert.FwdRefIdeal Cert.FwdRefIdeal.Step Cert.Proof.Ret Cert.Proof.FwdRefRun

variable (q k : (⟨S8x4352x1024, .f32⟩ : BufTy).Contents (Elt Ideal)) (v : (⟨S8x4352x2048, .f32⟩ : BufTy).Contents (Elt Ideal))
  (dl : (⟨S2x4, .f32⟩ : BufTy).Contents (Elt Ideal))

/-- The log of a head's decay. -/
theorem lg_apply (h : Fin 4) : A_main_v8 q k v dl (ix1 h) = lgT (dl (ix2 0 h)) := by
  pointwise [A_main_v8, A_main_v7, A_main_v5, A_main_v4, A_main_call0_v11, A_main_call0_v10, A_main_call0_v9,
    A_main_call0_v8, A_main_call0_v7, A_main_call0_v6, A_main_call0_v4, A_main_call0_v3, A_main_call0_v1, A_main_v3,
    K_main_call0_v0, K_main_call0_v2, K_main_call0_v5, K_main_call0_cst]
  rw [if_neg (by simp)]
  rfl

/-- The keys' decays. -/
theorem z_apply (h : Fin 4) (l : Fin 128) : A_main_v20 q k v dl (ix2 l h) = zT (lgT (dl (ix2 0 h))) l := by
  pointwise [A_main_v20, A_main_v19, A_main_v18, A_main_v16, K_main_v17, K_main_v15, K_main_v14, K_main_v13, K_main_v12,
    K_main_cst_0]
  rw [lg_apply]
  rfl

/-- The queries' decays. -/
theorem x_apply (h : Fin 4) (l : Fin 128) : A_main_v32 q k v dl (ix2 l h) = xT (lgT (dl (ix2 0 h))) l := by
  pointwise [A_main_v32, A_main_v31, A_main_v30, A_main_v28, K_main_v29, K_main_v27, K_main_v26, K_main_v25, K_main_v12,
    K_main_cst_1, K_main_cst_2]
  rw [lg_apply]
  rfl

/-- The state's decay. -/
theorem g_apply (h : Fin 4) : A_main_v24 q k v dl (ix3 h 0 0) = gT (lgT (dl (ix2 0 h))) := by
  pointwise [A_main_v24, A_main_v23, A_main_v22, K_main_v21, K_main_cst_1]
  rw [lg_apply]
  rfl

/-- The scores' decays. -/
theorem dm_apply (h : Fin 4) (l p : Fin 128) : A_main_v47 q k v dl (ix3 l p h) = dT (lgT (dl (ix2 0 h))) l p := by
  pointwise [A_main_v47, A_main_v46, A_main_v45, A_main_v44, A_main_v42, K_main_v33, K_main_v34, K_main_v35, K_main_v36,
    K_main_v37, K_main_v38, K_main_v39, K_main_v40, K_main_v41, K_main_v43, K_main_cst_3, K_main_cst_4, K_main_call1_v0,
    K_main_call1_v1, K_main_call1_v2, K_main_v12]
  rw [lg_apply]
  unfold dT
  congr 1

/-- A trip's number, read as a signed number. -/
theorem toInt_trip {j : ℕ} (hj : j < 34) : (BitVec.ofNat 32 j).toInt = j := by
  have := (by decide : ∀ j : Fin 34, (BitVec.ofNat 32 j.val).toInt = j.val) ⟨j, hj⟩
  exact this

/-- A trip's slice lies inside the stacked chunks. -/
theorem fits256 {j : ℕ} (hj : j < 34) : S34x8x128x4x256.Slices ![j, 0, 0, 0, 0] S1x8x128x4x256 :=
  ⟨rfl, fun a => by fin_cases a; (show j + 1 ≤ 34; omega); all_goals exact le_rfl⟩

/-- A trip's slice lies inside the stacked chunks. -/
theorem fits512 {j : ℕ} (hj : j < 34) : S34x8x128x4x512.Slices ![j, 0, 0, 0, 0] S1x8x128x4x512 :=
  ⟨rfl, fun a => by fin_cases a; (show j + 1 ≤ 34; omega); all_goals exact le_rfl⟩

/-- The chunk's keys. -/
theorem b5_apply {j : ℕ} (s : State Ideal) (hj : j < 34) (b : Fin 8) (h : Fin 4) (l : Fin 128) (e : Fin 256) :
    b5 j s (ix4 b l h e) = s.main_v52_0 (ix5 ⟨j, hj⟩ b l h e) := by
  have hs : b4 j s = extractStridedSlice S1x8x128x4x256 ![j, 0, 0, 0, 0] s.main_v52_0 (fits256 hj) := by
    unfold b4 b3 b2 b1 b0
    refine Host.dynamicSlice_eq_extractStridedSlice _ _ _ _ _ (fits256 hj) fun a => ?_
    fin_cases a
    · exact toInt_trip hj
    all_goals rfl
  unfold b5
  rw [hs]
  pointwise

/-- The chunk's values. -/
theorem b11_apply {j : ℕ} (s : State Ideal) (hj : j < 34) (b : Fin 8) (h : Fin 4) (l : Fin 128) (e : Fin 512) :
    b11 j s (ix4 b l h e) = s.main_v52_1 (ix5 ⟨j, hj⟩ b l h e) := by
  have hs : b10 j s = extractStridedSlice S1x8x128x4x512 ![j, 0, 0, 0, 0] s.main_v52_1 (fits512 hj) := by
    unfold b10 b9 b8 b7 b6
    refine Host.dynamicSlice_eq_extractStridedSlice _ _ _ _ _ (fits512 hj) fun a => ?_
    fin_cases a
    · exact toInt_trip hj
    all_goals rfl
  unfold b11
  rw [hs]
  pointwise

/-- The chunk's queries. -/
theorem b17_apply {j : ℕ} (s : State Ideal) (hj : j < 34) (b : Fin 8) (h : Fin 4) (l : Fin 128) (e : Fin 256) :
    b17 j s (ix4 b l h e) = s.main_v52_2 (ix5 ⟨j, hj⟩ b l h e) := by
  have hs : b16 j s = extractStridedSlice S1x8x128x4x256 ![j, 0, 0, 0, 0] s.main_v52_2 (fits256 hj) := by
    unfold b16 b15 b14 b13 b12
    refine Host.dynamicSlice_eq_extractStridedSlice _ _ _ _ _ (fits256 hj) fun a => ?_
    fin_cases a
    · exact toInt_trip hj
    all_goals rfl
  unfold b17
  rw [hs]
  pointwise

/-- The state a trip leaves. -/
theorem b39_apply {j : ℕ} (s : State Ideal) (b : Fin 8) (h : Fin 4) (d : Fin 256) (e : Fin 512) :
    b39 j s (ix4 b h d e) = stepS (fun l => s.main_v52_5 (ix2 l h)) (s.main_v52_6 (ix3 h 0 0))
      (fun l d => b5 j s (ix4 b l h d)) (fun l e => b11 j s (ix4 b l h e)) (fun d e => s.main_v52_8 (ix4 b h d e)) d e := by
  pointwise [b39, b38, b37, b36, b35, b34, b33, b32, b31]
  rfl

/-- The output of a trip. -/
theorem b40_apply {j : ℕ} (s : State Ideal) (b : Fin 8) (h : Fin 4) (l : Fin 128) (e : Fin 512) :
    b40 j s (ix4 b l h e) = outS (fun l => s.main_v52_3 (ix2 l h)) (fun l p => s.main_v52_4 (ix3 l p h))
      (fun l d => b17 j s (ix4 b l h d)) (fun l d => b5 j s (ix4 b l h d)) (fun l e => b11 j s (ix4 b l h e))
      (fun d e => s.main_v52_8 (ix4 b h d e)) l e := by
  pointwise [b40, b30, b29, b28, b27, b26, b25, b24, b23, b22, b21, b20, b19, b18]
  unfold outS
  congr 1
  · refine Finset.sum_congr rfl fun p _ => ?_
    rw [mul_comm]
    congr 2
    exact Finset.sum_congr rfl fun d _ => mul_comm _ _
  · exact Finset.sum_congr rfl fun d _ => mul_comm _ _

/-- The outputs after a trip: the trip's chunk's are new, the others stay. -/
theorem b46_apply {j : ℕ} (s : State Ideal) (hj : j < 34) (i : Fin 34) (b : Fin 8) (h : Fin 4) (l : Fin 128) (e : Fin 512) :
    b46 j s (ix5 i b l h e) = if i.val = j then b40 j s (ix4 b l h e) else s.main_v52_9 (ix5 i b l h e) := by
  have hs : b46 j s = updateSlice s.main_v52_9 (b41 j s) ![j, 0, 0, 0, 0] (fits512 hj) := by
    unfold b46 b45 b44 b43 b42
    refine WordCmp.dynamicUpdateSlice_eq_update _ _ _ _ _ (fits512 hj) fun a => ?_
    fin_cases a
    · exact toInt_trip hj
    all_goals rfl
  rw [hs]
  pointwise [b41]
  by_cases hi : i.val = j
  · rw [dif_pos (by omega), if_pos hi]
  · rw [dif_neg (by omega), if_neg hi]

/-- The keys, by chunk. -/
theorem k_apply (n : Fin 34) (b : Fin 8) (h : Fin 4) (l : Fin 128) (d : Fin 256) :
    A_main_v48 q k v dl (ix5 n b l h d) = k (ix3 b (row n l) ⟨h.val * 256 + d.val, by omega⟩) := by
  pointwise [A_main_v48, A_main_v9, A_main_v10, A_main_v11, A_main_v0, A_main_v1, A_main_v2]
  congr 2
  apply Fin.ext
  rw [row_val n.isLt]
  show _ * 128 + _ = _
  omega

/-- The values, by chunk. -/
theorem v_apply (n : Fin 34) (b : Fin 8) (h : Fin 4) (l : Fin 128) (d : Fin 512) :
    A_main_v49 q k v dl (ix5 n b l h d) = v (ix3 b (row n l) ⟨h.val * 512 + d.val, by omega⟩) := by
  pointwise [A_main_v49, A_main_v9, A_main_v10, A_main_v11, A_main_v0, A_main_v1, A_main_v2]
  congr 2
  apply Fin.ext
  rw [row_val n.isLt]
  show _ * 128 + _ = _
  omega

/-- The queries, by chunk. -/
theorem q_apply (n : Fin 34) (b : Fin 8) (h : Fin 4) (l : Fin 128) (d : Fin 256) :
    A_main_v50 q k v dl (ix5 n b l h d) = q (ix3 b (row n l) ⟨h.val * 256 + d.val, by omega⟩) := by
  pointwise [A_main_v50, A_main_v9, A_main_v10, A_main_v11, A_main_v0, A_main_v1, A_main_v2]
  congr 2
  apply Fin.ext
  rw [row_val n.isLt]
  show _ * 128 + _ = _
  omega

/-- Before the first trip the state is zero. -/
theorem s_apply (b : Fin 8) (h : Fin 4) (d : Fin 256) (e : Fin 512) :
    (K_main_v6 : (⟨S8x4x256x512, .f32⟩ : BufTy).Contents (Elt Ideal)) (ix4 b h d e) = 0 := by
  pointwise [K_main_v6, K_main_cst]

/-- The result, from the outputs of all chunks. -/
theorem r_apply (s : State Ideal) (b : Fin 8) (l : Fin 4352) (e : Fin 2048) :
    R_main_v55 s (ix3 b l e) = s.main_v52_9 (ix5 ⟨l.val / 128, by omega⟩ b ⟨l.val % 128, by omega⟩ ⟨e.val / 512, by omega⟩
      ⟨e.val % 512, by omega⟩) := by
  pointwise [R_main_v55]

/-- One head's keys, chunk by chunk. -/
def kF (b : Fin 8) (h : Fin 4) (n : ℕ) (l : Fin 128) (d : Fin 256) : EReal :=
  k (ix3 b (row n l) ⟨h.val * 256 + d.val, by omega⟩)

/-- One head's values, chunk by chunk. -/
def vF (b : Fin 8) (h : Fin 4) (n : ℕ) (l : Fin 128) (e : Fin 512) : EReal :=
  v (ix3 b (row n l) ⟨h.val * 512 + e.val, by omega⟩)

/-- The log of one head's decay. -/
def lgF (h : Fin 4) : EReal := lgT (dl (ix2 0 h))

/-- One head's state after `n` chunks. -/
def stF (b : Fin 8) (h : Fin 4) (n : ℕ) : Fin 256 → Fin 512 → EReal :=
  stateS (zT (lgF dl h)) (gT (lgF dl h)) (kF k b h) (vF v b h) n

/-- One head's output of chunk `n`. -/
def ouF (b : Fin 8) (h : Fin 4) (n : ℕ) : Fin 128 → Fin 512 → EReal :=
  outS (xT (lgF dl h)) (dT (lgF dl h)) (kF q b h n) (kF k b h n) (vF v b h n) (stF k v dl b h n)

/-- The trips keep what they do not write. -/
theorem kept (n : ℕ) : (iter (init q k v dl) n).main_v52_0 = A_main_v48 q k v dl
    ∧ (iter (init q k v dl) n).main_v52_1 = A_main_v49 q k v dl ∧ (iter (init q k v dl) n).main_v52_2 = A_main_v50 q k v dl
    ∧ (iter (init q k v dl) n).main_v52_3 = A_main_v32 q k v dl ∧ (iter (init q k v dl) n).main_v52_4 = A_main_v47 q k v dl
    ∧ (iter (init q k v dl) n).main_v52_5 = A_main_v20 q k v dl ∧ (iter (init q k v dl) n).main_v52_6 = A_main_v24 q k v dl := by
  induction n with
  | zero => exact ⟨rfl, rfl, rfl, rfl, rfl, rfl, rfl⟩
  | succ n ih => exact ih

/-- The state before trip `n`. -/
theorem state_apply {n : ℕ} (hn : n ≤ 34) (b : Fin 8) (h : Fin 4) (d : Fin 256) (e : Fin 512) :
    (iter (init q k v dl) n).main_v52_8 (ix4 b h d e) = stF k v dl b h n d e := by
  induction n generalizing d e with
  | zero => exact s_apply b h d e
  | succ n ih =>
    obtain ⟨hk, hv, hq, hx, hd, hz, hg⟩ := kept q k v dl n
    have hn' : n < 34 := hn
    show b39 n (iter (init q k v dl) n) (ix4 b h d e) = _
    rw [b39_apply]
    simp only [b5_apply _ hn', b11_apply _ hn', hk, hv, hz, hg, k_apply, v_apply, z_apply, g_apply,
      fun d e => ih (by omega) d e]
    rfl

/-- The output of trip `n`. -/
theorem chunk_apply {n : ℕ} (hn : n < 34) (b : Fin 8) (h : Fin 4) (l : Fin 128) (e : Fin 512) :
    b40 n (iter (init q k v dl) n) (ix4 b l h e) = ouF q k v dl b h n l e := by
  obtain ⟨hk, hv, hq, hx, hd, hz, hg⟩ := kept q k v dl n
  rw [b40_apply]
  simp only [b5_apply _ hn, b11_apply _ hn, b17_apply _ hn, hk, hv, hq, hx, hd, k_apply, v_apply, q_apply, x_apply, dm_apply,
    fun d e => state_apply q k v dl hn.le b h d e]
  rfl

/-- The outputs after `n` trips hold the first `n` chunks' outputs. -/
theorem outs_apply {n : ℕ} (hn : n ≤ 34) (i : Fin 34) (hi : i.val < n) (b : Fin 8) (h : Fin 4) (l : Fin 128) (e : Fin 512) :
    (iter (init q k v dl) n).main_v52_9 (ix5 i b l h e) = ouF q k v dl b h i.val l e := by
  induction n with
  | zero => exact absurd hi (Nat.not_lt_zero _)
  | succ n ih =>
    show b46 n (iter (init q k v dl) n) (ix5 i b l h e) = _
    rw [b46_apply _ hn]
    by_cases hin : i.val = n
    · rw [if_pos hin, hin]
      exact chunk_apply q k v dl hn b h l e
    · rw [if_neg hin]
      exact ih (by omega) (by omega)

/-- The reference's result at an index. -/
theorem result_apply (b : Fin 8) (l : Fin 4352) (e : Fin 2048) :
    R_main_v55 (iter (init q k v dl) 34) (ix3 b l e)
      = ouF q k v dl b ⟨e.val / 512, by omega⟩ (l.val / 128) ⟨l.val % 128, by omega⟩ ⟨e.val % 512, by omega⟩ := by
  rw [r_apply]
  exact outs_apply q k v dl le_rfl ⟨l.val / 128, by omega⟩ (by show l.val / 128 < 34; omega) b _ _ _

end Cert.Proof.RefFwd

end
-- ==== Proof.FwdValue.lean ====
/- The forward kernel's result is the forward reference's: the scratch a point leaves is the state after the point's two chunks. -/
module

public import proofs.«01_k».proof.Defs
public import proofs.«01_k».proof.Proof.TabFwd
public import proofs.«01_k».proof.Proof.KerFwd
public import proofs.«01_k».proof.Proof.RefFwd

@[expose] public section

set_option maxRecDepth 16384

noncomputable section

namespace Cert.Proof.FwdValue

open Idealize.ShloMosaic Idealize.ShloMosaic.TcCoe Idealize.SL.Sem
open Cert.FwdIdeal Cert.FwdIdeal.Gen Cert.FwdIdeal.Value Cert.Proof.Ret Cert.Proof.KerFwd Cert.Proof.TabFwd
open Cert.Proof.RefFwd (kF vF lgF stF ouF)

variable (m : (ℓ : Loc nD τ sig) → Buf (Elt Ideal) ℓ) (c : Dev nD)

/-- The queries, as launched. -/
abbrev q0 : Vec Ideal S8x4352x1024 .f32 := m ((c : Thread nD τ).loc main_arg0)

/-- The keys, as launched. -/
abbrev k0 : Vec Ideal S8x4352x1024 .f32 := m ((c : Thread nD τ).loc main_arg1)

/-- The values, as launched. -/
abbrev v0 : Vec Ideal S8x4352x2048 .f32 := m ((c : Thread nD τ).loc main_arg2)

/-- The decay logits, as launched. -/
abbrev d0 : Vec Ideal S2x4 .f32 := m ((c : Thread nD τ).loc main_arg3)

/-- A point's sub-chunk's rows are those of its chunk. -/
theorem row_eq (t : Fin cfg0.N) (u : Fin 2) (l : Fin 128) (hh : t.val % 17 * 256 + (u.val * 128 + l.val) < 4352) :
    (⟨t.val % 17 * 256 + (u.val * 128 + l.val), hh⟩ : Fin 4352) = row (2 * (t.val % 17) + u.val) l := by
  refine Fin.ext ?_
  have := row_val (n := 2 * (t.val % 17) + u.val) (by omega) l
  rw [this]
  show t.val % 17 * 256 + (u.val * 128 + l.val) = _
  ring

/-- The queries of a point's sub-chunk. -/
theorem q_eq (t : Fin cfg0.N) (h : Fin 4) (u : Fin 2) : kB (iblk m c 0 t) h u = kF (q0 m c) (bat t) h (2 * (t.val % 17) + u.val) := by
  funext l d
  unfold kB kF
  rw [q_blk, row_eq]

/-- The keys of a point's sub-chunk. -/
theorem k_eq (t : Fin cfg0.N) (h : Fin 4) (u : Fin 2) : kB (iblk m c 1 t) h u = kF (k0 m c) (bat t) h (2 * (t.val % 17) + u.val) := by
  funext l d
  unfold kB kF
  rw [k_blk, row_eq]

/-- The values of a point's sub-chunk. -/
theorem v_eq (t : Fin cfg0.N) (h : Fin 4) (u : Fin 2) : vB (iblk m c 2 t) h u = vF (v0 m c) (bat t) h (2 * (t.val % 17) + u.val) := by
  funext l d
  unfold vB vF
  rw [v_blk, row_eq]

/-- One sub-chunk's step of the scratch is the reference's step. -/
theorem st1_eq (t : Fin cfg0.N) (h : Fin 4) (u : Fin 2) :
    st1 (iblk m c 1 t) (iblk m c 2 t) (iblk m c 4 t) (iblk m c 6 t) (stF (k0 m c) (v0 m c) (d0 m c) (bat t) h (2 * (t.val % 17) + u.val)) h u
      = stF (k0 m c) (v0 m c) (d0 m c) (bat t) h (2 * (t.val % 17) + u.val + 1) := by
  funext d e
  unfold st1
  rw [k_eq, v_eq, cdec_blk]
  simp only [zeta_blk]
  rfl

/-- One sub-chunk's output is the reference's output of its chunk. -/
theorem out1_eq (t : Fin cfg0.N) (h : Fin 4) (u : Fin 2) :
    out1 (iblk m c 0 t) (iblk m c 1 t) (iblk m c 2 t) (iblk m c 3 t) (iblk m c 5 t)
        (stF (k0 m c) (v0 m c) (d0 m c) (bat t) h (2 * (t.val % 17) + u.val)) h u
      = ouF (q0 m c) (k0 m c) (v0 m c) (d0 m c) (bat t) h (2 * (t.val % 17) + u.val) := by
  funext l e
  unfold out1
  rw [k_eq, v_eq, q_eq]
  simp only [xi_blk, dmat_blk]
  rfl

/-- What a point leaves in the scratch, from the state before its first chunk. -/
theorem stG_eq (t : Fin cfg0.N) (S : Fin 4 → Fin 256 → Fin 512 → EReal)
    (hS : ∀ h, S h = stF (k0 m c) (v0 m c) (d0 m c) (bat t) h (2 * (t.val % 17))) (h : Fin 4) (d : Fin 256) (e : Fin 512) :
    stG (iblk m c 1 t) (iblk m c 2 t) (iblk m c 4 t) (iblk m c 6 t) S h d e
      = stF (k0 m c) (v0 m c) (d0 m c) (bat t) h (2 * (t.val % 17) + 2) d e := by
  unfold stG
  have h1 := st1_eq m c t h 0
  have h2 := st1_eq m c t h 1
  rw [show 2 * (t.val % 17) + (0 : Fin 2).val = 2 * (t.val % 17) from rfl] at h1
  rw [show 2 * (t.val % 17) + (1 : Fin 2).val = 2 * (t.val % 17) + 1 from rfl] at h2
  rw [hS, h1, h2]

/-- What a point leaves in its output, from the state before its first chunk. -/
theorem outG_eq (t : Fin cfg0.N) (S : Fin 4 → Fin 256 → Fin 512 → EReal)
    (hS : ∀ h, S h = stF (k0 m c) (v0 m c) (d0 m c) (bat t) h (2 * (t.val % 17))) (u : Fin 2) (h : Fin 4) (l : Fin 128) (e : Fin 512) :
    outG (iblk m c 0 t) (iblk m c 1 t) (iblk m c 2 t) (iblk m c 3 t) (iblk m c 4 t) (iblk m c 5 t) (iblk m c 6 t) S u h l e
      = ouF (q0 m c) (k0 m c) (v0 m c) (d0 m c) (bat t) h (2 * (t.val % 17) + u.val) l e := by
  unfold outG
  have h1 := st1_eq m c t h 0
  have o0 := out1_eq m c t h 0
  have o1 := out1_eq m c t h 1
  rw [show 2 * (t.val % 17) + (0 : Fin 2).val = 2 * (t.val % 17) from rfl] at h1 o0
  rw [show 2 * (t.val % 17) + (1 : Fin 2).val = 2 * (t.val % 17) + 1 from rfl] at o1
  rw [hS, h1, o0, o1]
  fin_cases u
  · exact if_pos rfl
  · exact if_neg (by decide)

/-- The state a point starts from: zero at a batch element's first point, else what the point before left. -/
def before (t : Fin cfg0.N) (h : Fin 4) (d : Fin 256) (e : Fin 512) : EReal :=
  if t.val % 17 = 0 then 0 else (outsAt0 m c (t.val - 1) (by have := t.isLt; omega)).2 (ix3 h d e)

/-- At a batch element's first point the state is zero. -/
theorem before_first (t : Fin cfg0.N) (h0 : t.val % 17 = 0) : before m c t = fun _ _ _ => 0 := by
  funext h d e
  unfold before
  rw [if_pos h0]

/-- At another point the state is what the point before left. -/
theorem before_later (t : Fin cfg0.N) (h0 : ¬t.val % 17 = 0) :
    before m c t = fun h d e => (outsAt0 m c (t.val - 1) (by have := t.isLt; omega)).2 (ix3 h d e) := by
  funext h d e
  unfold before
  rw [if_neg h0]

/-- What the scratch holds after a point, from what the point starts from. -/
theorem scratch_eq (t : Fin cfg0.N) (h : Fin 4) (d : Fin 256) (e : Fin 512) : (outsAt0 m c t.val t.isLt).2 (ix3 h d e)
    = stG (iblk m c 1 t) (iblk m c 2 t) (iblk m c 4 t) (iblk m c 6 t) (before m c t) h d e := by
  by_cases h0 : t.val % 17 = 0
  · rw [outsAt0_A m c t h0, before_first m c t h0]
    dsimp only
    rw [soutA]
    rfl
  · rw [outsAt0_B m c t h0, before_later m c t h0]
    dsimp only
    rw [soutB]
    rfl

/-- What the output holds after a point, from what the point starts from. -/
theorem block_eq (t : Fin cfg0.N) (y : S1x256x2048.Idx) : (outsAt0 m c t.val t.isLt).1 y
    = outG (iblk m c 0 t) (iblk m c 1 t) (iblk m c 2 t) (iblk m c 3 t) (iblk m c 4 t) (iblk m c 5 t) (iblk m c 6 t) (before m c t)
        ⟨(y 1).val / 128, by have := (y 1).isLt; exact Nat.div_lt_of_lt_mul this⟩
        ⟨(y 2).val / 512, by have := (y 2).isLt; exact Nat.div_lt_of_lt_mul this⟩ ⟨(y 1).val % 128, Nat.mod_lt _ (by decide)⟩
        ⟨(y 2).val % 512, Nat.mod_lt _ (by decide)⟩ := by
  by_cases h0 : t.val % 17 = 0
  · rw [outsAt0_A m c t h0, before_first m c t h0]
    dsimp only
    rw [outA]
  · rw [outsAt0_B m c t h0, before_later m c t h0]
    dsimp only
    rw [outB]

/-- A point starts from the state after the chunks before its own. -/
theorem before_eq (n : ℕ) : ∀ (hn : n < cfg0.N) (h : Fin 4),
    before m c ⟨n, hn⟩ h = stF (k0 m c) (v0 m c) (d0 m c) (bat ⟨n, hn⟩) h (2 * (n % 17)) := by
  induction n with
  | zero => intro hn h; funext d e; exact if_pos (Nat.zero_mod _)
  | succ n ih =>
    intro hn h
    funext d e
    by_cases h0 : (n + 1) % 17 = 0
    · rw [h0]
      exact if_pos h0
    · refine (if_neg h0).trans ?_
      have hn' : n < cfg0.N := Nat.lt_of_succ_lt hn
      refine (scratch_eq m c ⟨n, hn'⟩ h d e).trans ((stG_eq m c ⟨n, hn'⟩ _ (ih hn') h d e).trans ?_)
      have hb : bat ⟨n, hn'⟩ = bat ⟨n + 1, hn⟩ := Fin.ext (by show n / 17 = (n + 1) / 17; omega)
      have hk : 2 * (n % 17) + 2 = 2 * ((n + 1) % 17) := by omega
      show stF _ _ _ (bat ⟨n, hn'⟩) h (2 * (n % 17) + 2) d e = _
      rw [hb, hk]

/-- The kernel's result at an index. -/
theorem G7_apply (b : Fin 8) (l : Fin 4352) (e : Fin 2048) : G7 m c (ix3 b l e)
    = ouF (q0 m c) (k0 m c) (v0 m c) (d0 m c) b ⟨e.val / 512, by omega⟩ (l.val / 128) ⟨l.val % 128, by omega⟩ ⟨e.val % 512, by omega⟩ := by
  have hp : pt7Of (ix3 b l e) = 17 * b.val + l.val / 256 := by
    show 17 * (b.val / 1 - 0) + 1 * (l.val / 256 - 0) + 1 * (e.val / 2048 - 0) = _
    omega
  have hlt : pt7Of (ix3 b l e) < cfg0.N := by
    rw [hp, show cfg0.N = 136 from N_0]
    omega
  unfold G7
  rw [dif_pos hlt, ← outsAt0_sweep m c _ hlt]
  refine (block_eq m c ⟨_, hlt⟩ _).trans ((outG_eq m c ⟨_, hlt⟩ _ (before_eq m c _ hlt) _ _ _ _).trans ?_)
  have hb : bat ⟨pt7Of (ix3 b l e), hlt⟩ = b := Fin.ext (by show pt7Of (ix3 b l e) / 17 = b.val; rw [hp]; omega)
  have hk : 2 * (pt7Of (ix3 b l e) % 17) + l.val % 256 / 128 = l.val / 128 := by rw [hp]; omega
  have h1 : (⟨e.val % 2048 / 512, by omega⟩ : Fin 4) = ⟨e.val / 512, by omega⟩ := Fin.ext (by show e.val % 2048 / 512 = e.val / 512; omega)
  have h2 : (⟨l.val % 256 % 128, by omega⟩ : Fin 128) = ⟨l.val % 128, by omega⟩ := Fin.ext (by show l.val % 256 % 128 = l.val % 128; omega)
  have h3 : (⟨e.val % 2048 % 512, by omega⟩ : Fin 512) = ⟨e.val % 512, by omega⟩ := Fin.ext (by show e.val % 2048 % 512 = e.val % 512; omega)
  show ouF _ _ _ _ (bat ⟨pt7Of (ix3 b l e), hlt⟩) ⟨e.val % 2048 / 512, _⟩ (2 * (pt7Of (ix3 b l e) % 17) + l.val % 256 / 128)
    ⟨l.val % 256 % 128, _⟩ ⟨e.val % 2048 % 512, _⟩ = _
  rw [hb, hk, h1, h2, h3]

/-- The kernel's result is the reference's, over the same arguments. -/
theorem result_eq : G7 m c = Cert.FwdRefIdeal.Step.R_main_v55
    (FwdRefRun.iter (Cert.FwdRefIdeal.Step.init (q0 m c) (k0 m c) (v0 m c) (d0 m c)) 34) := by
  funext i
  obtain ⟨b, l, e, rfl⟩ : ∃ (b : Fin 8) (l : Fin 4352) (e : Fin 2048), i = ix3 b l e := ⟨i 0, i 1, i 2, by
    funext a; match a with | ⟨0, _⟩ => rfl | ⟨1, _⟩ => rfl | ⟨2, _⟩ => rfl⟩
  exact (G7_apply m c b l e).trans (RefFwd.result_apply _ _ _ _ b l e).symm

/-- The forward kernel computes the forward reference's result, over the extended reals. -/
theorem algebraic [hFwdIdeal : Cert.FwdIdeal.Facts] [hFwdRefIdeal : Cert.FwdRefIdeal.Facts] : Cert.algebraic_FwdIdeal_FwdRefIdeal := by
  intro m g m' g' hpre hagree
  refine ⟨fun c => G7 m c, Cert.FwdIdeal.Value.run m g, ?_⟩
  refine (θ_run _ _ _).mono (fun _ h c => ⟨(h c).1.trans ?_, (h c).2⟩) (FwdRefRun.run m' g')
  obtain ⟨h0, h1, h2, h3⟩ := hagree c
  show Cert.FwdRefIdeal.Step.R_main_v55 (FwdRefRun.iter (FwdRefRun.start m' c) 34) = G7 m c
  unfold FwdRefRun.start
  rw [h0, h1, h2, h3]
  exact (result_eq m c).symm

end Cert.Proof.FwdValue
end
-- ==== Proof.Rev.lean ====
/- A chunk's rows in reverse order: the decays the backward kernel's tables hold are the chunk's decays at the mirrored rows, and a chunk's
   step and output do not depend on the order its rows are summed in. -/
module

public import proofs.«01_k».proof.Proof.Spec

@[expose] public section

noncomputable section

namespace Cert.Proof.Ret

open Idealize.ShloMosaic

/-- A position is its number. -/
theorem pos_eq (l : Fin 128) : pos l = ((l.val : ℝ) : EReal) := by
  have h := (by decide +kernel : ∀ l : Fin 128, (BitVec.ofNat 32 l.val).toInt = (l.val : ℤ)) l
  show (((BitVec.ofNat 32 l.val).toInt : ℝ) : EReal) = _
  rw [h]
  rfl

/-- The mirrored row's number. -/
theorem rev_val (l : Fin 128) : ((Fin.rev l).val : ℝ) = 127 - (l.val : ℝ) := by
  have h : (Fin.rev l).val + l.val = 127 := by rw [Fin.val_rev]; omega
  have h' : (((Fin.rev l).val + l.val : ℕ) : ℝ) = 127 := by rw [h]; norm_num
  push_cast at h'
  linarith

/-- The bit pattern of 127. -/
theorem ofBits_127 : Ideal.ofBits FTy.f32 1123942400#32 = ((127 : ℝ) : EReal) := by
  simp [Ideal.ofBits, Ideal.ieee, -EReal.coe_mul]
  norm_num

/-- The bit pattern of 128. -/
theorem ofBits_128 : Ideal.ofBits FTy.f32 1124073472#32 = ((128 : ℝ) : EReal) := by
  simp [Ideal.ofBits, Ideal.ieee, -EReal.coe_mul]
  norm_num

/-- The key's decay at the mirrored row. -/
theorem zT_rev (g : EReal) (l : Fin 128) : zT g (Fin.rev l) = Ideal.exp (pos l * g) := by
  unfold zT
  rw [ofBits_127, pos_eq, pos_eq, rev_val, ← EReal.coe_sub]
  congr 3
  ring

/-- The query's decay at the mirrored row. -/
theorem xT_rev (g : EReal) (l : Fin 128) : xT g (Fin.rev l) = Ideal.exp ((Ideal.ofBits FTy.f32 1124073472#32 - pos l) * g) := by
  unfold xT
  rw [ofBits_128, pos_eq, pos_eq, rev_val, ← EReal.coe_sub, ← EReal.coe_one, ← EReal.coe_add]
  congr 3
  ring

/-- The difference of two mirrored positions. -/
theorem pos_sub_rev (l p : Fin 128) : pos (Fin.rev l) - pos (Fin.rev p) = -(pos l - pos p) := by
  rw [pos_eq, pos_eq, pos_eq, pos_eq, rev_val, rev_val, ← EReal.coe_sub, ← EReal.coe_sub, ← EReal.coe_neg]
  congr 1
  ring

/-- A step over the rows in reverse order. -/
theorem stepS_rev (z : Fin 128 → EReal) (g : EReal) (k : Fin 128 → Fin 256 → EReal) (v : Fin 128 → Fin 512 → EReal)
    (s : Fin 256 → Fin 512 → EReal) :
    stepS (fun l => z (Fin.rev l)) g (fun l => k (Fin.rev l)) (fun l => v (Fin.rev l)) s = stepS z g k v s := by
  funext d e
  exact congrArg _ (Equiv.sum_comp Fin.revPerm fun l => k l d * z l * v l e)

/-- An output over the rows in reverse order. -/
theorem outS_rev (x : Fin 128 → EReal) (dm : Fin 128 → Fin 128 → EReal) (q k : Fin 128 → Fin 256 → EReal)
    (v : Fin 128 → Fin 512 → EReal) (s : Fin 256 → Fin 512 → EReal) (l : Fin 128) (e : Fin 512) :
    outS (fun l => x (Fin.rev l)) (fun l p => dm (Fin.rev l) (Fin.rev p)) (fun l => q (Fin.rev l)) (fun l => k (Fin.rev l))
      (fun l => v (Fin.rev l)) s l e = outS x dm q k v s (Fin.rev l) e :=
  congrArg (· + _) (Equiv.sum_comp Fin.revPerm fun p => (∑ d, q (Fin.rev l) d * k p d) * dm (Fin.rev l) p * v p e)

end Cert.Proof.Ret

end
-- ==== Proof.TabBwd.lean ====
/- The blocks a point of the backward kernel reads: the decays the host lays out, and the arguments' rows. The point with number `j` in its
   batch element reads block 0 when `j` is 0 (the context), and else block `17 - j`. -/
module

public import proofs.«01_k».proof.Proof.Rev
public import proofs.«01_k».proof.Proof.Gen.BwdIdeal.Frame
public import proofs.«01_k».proof.Proof.Gen.BwdIdeal.Value
public import Idealize.ShloMosaic.Lib.StableHlo.ReadAt
public import Idealize.ShloMosaic.Lib.Pointwise
public import Idealize.ShloMosaic.Lib.Pipeline.ValueKit

@[expose] public section

set_option maxRecDepth 16384

noncomputable section

namespace Cert.Proof.TabBwd

open Idealize.ShloMosaic Idealize.ShloMosaic.TcCoe Idealize.SL.Sem
open Cert.BwdIdeal Cert.BwdIdeal.Gen Cert.Proof.Ret

variable (m : (ℓ : Loc nD τ sig) → Buf (Elt Ideal) ℓ) (c : Dev nD)

/-- The log of one head's decay, from the launched logits. -/
def lgK (h : Fin 4) : EReal := lgT ((m ((c : Thread nD τ).loc main_arg5)) (ix2 1 h))

/-- Where each window's block lies at a point. -/
theorem idx (t : Fin cfg0.N) : win0_0.index t = ![t.val / 17, (17 - t.val % 17) % 17, 0] ∧ win0_1.index t = ![t.val / 17, (17 - t.val % 17) % 17, 0]
    ∧ win0_2.index t = ![t.val / 17, (17 - t.val % 17) % 17, 0] ∧ win0_3.index t = ![0, 0] ∧ win0_4.index t = ![0, 0]
    ∧ win0_5.index t = ![0, 0, 0] ∧ win0_6.index t = ![0, 0, 0] ∧ win0_7.index t = ![t.val / 17, (17 - t.val % 17) % 17, 0]
    ∧ win0_8.index t = ![t.val / 17, (17 - t.val % 17) % 17, 0] ∧ win0_9.index t = ![0, 0] ∧ win0_10.index t = ![0, 0]
    ∧ win0_11.index t = ![t.val / 17, (17 - t.val % 17) % 17, 0] :=
  (by decide +kernel : ∀ t : Fin grid0.N, win0_0.index t = ![t.val / 17, (17 - t.val % 17) % 17, 0] ∧ win0_1.index t = ![t.val / 17, (17 - t.val % 17) % 17, 0]
    ∧ win0_2.index t = ![t.val / 17, (17 - t.val % 17) % 17, 0] ∧ win0_3.index t = ![0, 0] ∧ win0_4.index t = ![0, 0]
    ∧ win0_5.index t = ![0, 0, 0] ∧ win0_6.index t = ![0, 0, 0] ∧ win0_7.index t = ![t.val / 17, (17 - t.val % 17) % 17, 0]
    ∧ win0_8.index t = ![t.val / 17, (17 - t.val % 17) % 17, 0] ∧ win0_9.index t = ![0, 0] ∧ win0_10.index t = ![0, 0]
    ∧ win0_11.index t = ![t.val / 17, (17 - t.val % 17) % 17, 0]) t

/-- A point's batch element. -/
def bat (t : Fin cfg0.N) : Fin 8 := ⟨t.val / 17, by have := lt_of_lt_of_eq t.isLt (show cfg0.N = 136 from N_0); omega⟩

/-- The array's row that row `l` of a point's block is. -/
def rowB (t : Fin cfg0.N) (l : Fin 256) : Fin 4352 := ⟨(17 - t.val % 17) % 17 * 256 + l.val, by omega⟩

/-- The queries' decays, as the host lays them out. -/
theorem xi_apply (h : Fin 4) (l : Fin 128) (d : Fin 256) :
    V m c main_v56 (ix2 l ⟨h.val * 256 + d.val, by omega⟩) = xT (lgK m c h) (Fin.rev l) := by
  rw [xT_rev]
  unfold V
  after_reads_at
  rw [if_neg (by simp)]
  rfl

/-- The keys' decays, as the host lays them out. -/
theorem zeta_apply (h : Fin 4) (l : Fin 128) (d : Fin 256) :
    V m c main_v64 (ix2 l ⟨h.val * 256 + d.val, by omega⟩) = zT (lgK m c h) (Fin.rev l) := by
  rw [zT_rev]
  unfold V
  after_reads_at
  rw [if_neg (by simp)]
  rfl

/-- The scores' decays, as the host lays them out. -/
theorem dmat_apply (h : Fin 4) (l p : Fin 128) : V m c main_v74 (ix3 h l p) = dT (lgK m c h) (Fin.rev l) (Fin.rev p) := by
  unfold dT
  rw [pos_sub_rev]
  unfold V
  after_reads_at
  simp only [ne_eq, not_true_eq_false, if_false]
  congr 1

/-- The state's decay, as the host lays it out. -/
theorem cdec_apply (h : Fin 4) (e : Fin 512) : V m c main_v79 (ix3 h 0 e) = gT (lgK m c h) := by
  unfold V
  after_reads_at
  rw [if_neg (by simp)]
  rfl

/-- The group norm's scales, as the host lays them out. -/
theorem gnw_apply (e : Fin 2048) : V m c main_v80 (ix2 0 e) = m ((c : Thread nD τ).loc main_arg6) (ix1 e) := by
  unfold V
  after_reads_at

/-- The group norm's shifts, as the host lays them out. -/
theorem gnb_apply (e : Fin 2048) : V m c main_v81 (ix2 0 e) = m ((c : Thread nD τ).loc main_arg7) (ix1 e) := by
  unfold V
  after_reads_at

/-- The queries' decays in a point's block. -/
theorem xi_blk (t : Fin cfg0.N) (h : Fin 4) (l : Fin 128) (d : Fin 256) :
    iblk m c 3 t (ix2 l ⟨h.val * 256 + d.val, by omega⟩) = xT (lgK m c h) (Fin.rev l) := by
  rw [← xi_apply m c h l d]
  blk_ext [iblk, idx t]

/-- The keys' decays in a point's block. -/
theorem zeta_blk (t : Fin cfg0.N) (h : Fin 4) (l : Fin 128) (d : Fin 256) :
    iblk m c 4 t (ix2 l ⟨h.val * 256 + d.val, by omega⟩) = zT (lgK m c h) (Fin.rev l) := by
  rw [← zeta_apply m c h l d]
  blk_ext [iblk, idx t]

/-- The scores' decays in a point's block. -/
theorem dmat_blk (t : Fin cfg0.N) (h : Fin 4) (l p : Fin 128) :
    iblk m c 5 t (ix3 h l p) = dT (lgK m c h) (Fin.rev l) (Fin.rev p) := by
  rw [← dmat_apply m c h l p]
  blk_ext [iblk, idx t]

/-- The state's decay in a point's block. -/
theorem cdec_blk (t : Fin cfg0.N) (h : Fin 4) (e : Fin 512) : iblk m c 6 t (ix3 h 0 e) = gT (lgK m c h) := by
  rw [← cdec_apply m c h e]
  blk_ext [iblk, idx t]

/-- The group norm's scales in a point's block. -/
theorem gnw_blk (t : Fin cfg0.N) (e : Fin 2048) : iblk m c 9 t (ix2 0 e) = m ((c : Thread nD τ).loc main_arg6) (ix1 e) := by
  rw [← gnw_apply m c e]
  blk_ext [iblk, idx t]

/-- The group norm's shifts in a point's block. -/
theorem gnb_blk (t : Fin cfg0.N) (e : Fin 2048) : iblk m c 10 t (ix2 0 e) = m ((c : Thread nD τ).loc main_arg7) (ix1 e) := by
  rw [← gnb_apply m c e]
  blk_ext [iblk, idx t]

/-- A point's block of queries. -/
theorem q_blk (t : Fin cfg0.N) (l : Fin 256) (d : Fin 1024) :
    iblk m c 0 t (ix3 0 l d) = m ((c : Thread nD τ).loc main_arg0) (ix3 (bat t) (rowB t l) d) := by
  unfold bat rowB
  blk_ext [iblk, V, idx t]

/-- A point's block of keys. -/
theorem k_blk (t : Fin cfg0.N) (l : Fin 256) (d : Fin 1024) :
    iblk m c 1 t (ix3 0 l d) = m ((c : Thread nD τ).loc main_arg1) (ix3 (bat t) (rowB t l) d) := by
  unfold bat rowB
  blk_ext [iblk, V, idx t]

/-- A point's block of values. -/
theorem v_blk (t : Fin cfg0.N) (l : Fin 256) (d : Fin 2048) :
    iblk m c 2 t (ix3 0 l d) = m ((c : Thread nD τ).loc main_arg2) (ix3 (bat t) (rowB t l) d) := by
  unfold bat rowB
  blk_ext [iblk, V, idx t]

/-- A point's block of gates. -/
theorem g_blk (t : Fin cfg0.N) (l : Fin 256) (d : Fin 2048) :
    iblk m c 7 t (ix3 0 l d) = m ((c : Thread nD τ).loc main_arg3) (ix3 (bat t) (rowB t l) d) := by
  unfold bat rowB
  blk_ext [iblk, V, idx t]

/-- A point's block of the forward direction's outputs. -/
theorem of_blk (t : Fin cfg0.N) (l : Fin 256) (d : Fin 2048) :
    iblk m c 8 t (ix3 0 l d) = m ((c : Thread nD τ).loc main_arg4) (ix3 (bat t) (rowB t l) d) := by
  unfold bat rowB
  blk_ext [iblk, V, idx t]

end Cert.Proof.TabBwd

end
-- ==== Proof.KerBwd.lean ====
/- What a point of the backward kernel leaves in its scratch and in its output, in plain formulas: two sub-chunks a point, the later rows
   first; each output row then goes through the group norm and the gate. -/
module

public import proofs.«01_k».proof.Proof.Spec
public import proofs.«01_k».proof.Proof.KerFwd
public import proofs.«01_k».proof.Proof.Gen.BwdIdeal.Frame
public import proofs.«01_k».proof.Proof.Gen.BwdIdeal.Value
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof.KerBwd

open Idealize.ShloMosaic Idealize.ShloMosaic.TcCoe Idealize.SL.Sem
open Cert.BwdIdeal Cert.BwdIdeal.Gen Cert.Proof.Ret
open Cert.Proof.KerFwd (kB vB st1 out1)

/-- The scratch after a point: the later rows' step, then the earlier rows'. -/
def stG (x1 : Vec Ideal S1x256x1024 .f32) (x2 : Vec Ideal S1x256x2048 .f32) (x4 : Vec Ideal S128x1024 .f32) (x6 : Vec Ideal S4x1x512 .f32)
    (S : Fin 4 → Fin 256 → Fin 512 → EReal) (h : Fin 4) (d : Fin 256) (e : Fin 512) : EReal :=
  st1 x1 x2 x4 x6 (st1 x1 x2 x4 x6 (S h) h 1) h 0 d e

/-- The retention of a point plus the forward direction's: the later rows over the state before, the earlier rows over the state after
    the later rows. -/
def sumG (x0 x1 : Vec Ideal S1x256x1024 .f32) (x2 : Vec Ideal S1x256x2048 .f32) (x3 x4 : Vec Ideal S128x1024 .f32)
    (x5 : Vec Ideal S4x128x128 .f32) (x6 : Vec Ideal S4x1x512 .f32) (x8 : Vec Ideal S1x256x2048 .f32)
    (S : Fin 4 → Fin 256 → Fin 512 → EReal) (u : Fin 2) (h : Fin 4) (l : Fin 128) (e : Fin 512) : EReal :=
  (if u = 1 then out1 x0 x1 x2 x3 x5 (S h) h 1 l e else out1 x0 x1 x2 x3 x5 (st1 x1 x2 x4 x6 (S h) h 1) h 0 l e) + vB x8 h u l e

/-- The output of a point: group norm and gate of the sum. -/
def outG (x0 x1 : Vec Ideal S1x256x1024 .f32) (x2 : Vec Ideal S1x256x2048 .f32) (x3 x4 : Vec Ideal S128x1024 .f32)
    (x5 : Vec Ideal S4x128x128 .f32) (x6 : Vec Ideal S4x1x512 .f32) (x7 x8 : Vec Ideal S1x256x2048 .f32) (x9 x10 : Vec Ideal S1x2048 .f32)
    (S : Fin 4 → Fin 256 → Fin 512 → EReal) (u : Fin 2) (h : Fin 4) (l : Fin 128) (e : Fin 512) : EReal :=
  gnS (sumG x0 x1 x2 x3 x4 x5 x6 x8 S u h l) (x9 (ix2 0 ⟨h.val * 512 + e.val, by omega⟩))
    (x10 (ix2 0 ⟨h.val * 512 + e.val, by omega⟩)) (vB x7 h u l e) e

/-- The scratch's value depends on the coordinates' numbers only. -/
theorem stG_at {x1 : Vec Ideal S1x256x1024 .f32} {x2 : Vec Ideal S1x256x2048 .f32} {x4 : Vec Ideal S128x1024 .f32}
    {x6 : Vec Ideal S4x1x512 .f32} {S : Fin 4 → Fin 256 → Fin 512 → EReal} {h i : Fin 4} {d j : Fin 256} {e k : Fin 512}
    (h0 : i.val = h.val) (h1 : j.val = d.val) (h2 : k.val = e.val) : stG x1 x2 x4 x6 S h d e = stG x1 x2 x4 x6 S i j k := by
  rw [Fin.ext h0, Fin.ext h1, Fin.ext h2]

/-- The output's value depends on the coordinates' numbers only. -/
theorem outG_at {x0 x1 : Vec Ideal S1x256x1024 .f32} {x2 : Vec Ideal S1x256x2048 .f32} {x3 x4 : Vec Ideal S128x1024 .f32}
    {x5 : Vec Ideal S4x128x128 .f32} {x6 : Vec Ideal S4x1x512 .f32} {x7 x8 : Vec Ideal S1x256x2048 .f32}
    {x9 x10 : Vec Ideal S1x2048 .f32} {S : Fin 4 → Fin 256 → Fin 512 → EReal}
    {u : Fin 2} {h : Fin 4} {l : Fin 128} {e : Fin 512} {i j : ℕ} (hu : i / 128 < 2) (hh : j / 512 < 4) (hl : i % 128 < 128)
    (he : j % 512 < 512) (h1 : i = u.val * 128 + l.val) (h2 : j = h.val * 512 + e.val) :
    outG x0 x1 x2 x3 x4 x5 x6 x7 x8 x9 x10 S u h l e
      = outG x0 x1 x2 x3 x4 x5 x6 x7 x8 x9 x10 S ⟨i / 128, hu⟩ ⟨j / 512, hh⟩ ⟨i % 128, hl⟩ ⟨j % 512, he⟩ := by
  have a1 : u = ⟨i / 128, hu⟩ := Fin.ext (by show u.val = i / 128; omega)
  have a2 : h = ⟨j / 512, hh⟩ := Fin.ext (by show h.val = j / 512; omega)
  have a3 : l = ⟨i % 128, hl⟩ := Fin.ext (by show l.val = i % 128; omega)
  have a4 : e = ⟨j % 512, he⟩ := Fin.ext (by show e.val = j % 512; omega)
  rw [← a1, ← a2, ← a3, ← a4]

/-- The output's value at an index of the block. -/
def outAt (x0 x1 : Vec Ideal S1x256x1024 .f32) (x2 : Vec Ideal S1x256x2048 .f32) (x3 x4 : Vec Ideal S128x1024 .f32)
    (x5 : Vec Ideal S4x128x128 .f32) (x6 : Vec Ideal S4x1x512 .f32) (x7 x8 : Vec Ideal S1x256x2048 .f32) (x9 x10 : Vec Ideal S1x2048 .f32)
    (S : Fin 4 → Fin 256 → Fin 512 → EReal) (y : S1x256x2048.Idx) : EReal :=
  outG x0 x1 x2 x3 x4 x5 x6 x7 x8 x9 x10 S ⟨(y 1).val / 128, by have := (y 1).isLt; exact Nat.div_lt_of_lt_mul this⟩
    ⟨(y 2).val / 512, by have := (y 2).isLt; exact Nat.div_lt_of_lt_mul this⟩ ⟨(y 1).val % 128, Nat.mod_lt _ (by decide)⟩
    ⟨(y 2).val % 512, Nat.mod_lt _ (by decide)⟩

variable (c : Dev nD) (i : grid0.Coords) (arg2 : Memref sig .tc .vmem S1x256x1024 .f32) (harg2 : arg2.IsWhole)
  (arg3 : Memref sig .tc .vmem S1x256x1024 .f32) (harg3 : arg3.IsWhole) (arg4 : Memref sig .tc .vmem S1x256x2048 .f32)
  (harg4 : arg4.IsWhole) (arg5 : Memref sig .tc .vmem S128x1024 .f32) (harg5 : arg5.IsWhole)
  (arg6 : Memref sig .tc .vmem S128x1024 .f32) (harg6 : arg6.IsWhole) (arg7 : Memref sig .tc .vmem S4x128x128 .f32)
  (harg7 : arg7.IsWhole) (arg8 : Memref sig .tc .vmem S4x1x512 .f32) (harg8 : arg8.IsWhole)
  (arg9 : Memref sig .tc .vmem S1x256x2048 .f32) (harg9 : arg9.IsWhole) (arg10 : Memref sig .tc .vmem S1x256x2048 .f32)
  (harg10 : arg10.IsWhole) (arg11 : Memref sig .tc .vmem S1x2048 .f32) (harg11 : arg11.IsWhole)
  (arg12 : Memref sig .tc .vmem S1x2048 .f32) (harg12 : arg12.IsWhole) (arg13 : Memref sig .tc .vmem S1x256x2048 .bf16)
  (harg13 : arg13.IsWhole) (arg14 : Memref sig .tc .vmem S4x256x512 .f32) (harg14 : arg14.IsWhole)
  (x0 x1 : Vec Ideal S1x256x1024 .f32) (x2 : Vec Ideal S1x256x2048 .f32) (x3 x4 : Vec Ideal S128x1024 .f32)
  (x5 : Vec Ideal S4x128x128 .f32) (x6 : Vec Ideal S4x1x512 .f32) (x7 x8 : Vec Ideal S1x256x2048 .f32)
  (x9 x10 : Vec Ideal S1x2048 .f32) (xs0 : Vec Ideal S4x256x512 .f32)

set_option maxHeartbeats 4000000 in
/-- The scratch a point of case B leaves, over the scratch before. -/
theorem soutB (hc0 : ¬cond0_0 i) (y : S4x256x512.Idx) :
    sout0_B_0 c i arg2 harg2 arg3 harg3 arg4 harg4 arg5 harg5 arg6 harg6 arg7 harg7 arg8 harg8 arg9 harg9 arg10 harg10 arg11 harg11 arg12 harg12
        arg13 harg13 arg14 harg14 hc0 x0 x1 x2 x3 x4 x5 x6 x7 x8 x9 x10 xs0 y = stG x1 x2 x4 x6 (fun h d e => xs0 (ix3 h d e)) (y 0) (y 1) (y 2) := by
  unfold sout0_B_0
  frame_open
  simp (disch := decide) only [↓ View.readCov_skip, ↓ View.readCov_cons_toLoadRect, ↓ View.readCov_fill]
  frame_out
  refine View.canon_append_of_piecesOf (Val := Elt Ideal) (e := .f32) (fun y : S4x256x512.Idx => stG x1 x2 x4 x6 (fun h d e => xs0 (ix3 h d e)) (y 0) (y 1) (y 2))
    [_, _, _, _] [_, _, _, _] ⟨?_, ?_, ?_, ?_, trivial⟩ y ?_
  on_goal 5 => exact View.cover_of_tiledL _ ![1, 256, 512] (by sl_kernel_rfl) y
  all_goals
    intro z
    idx_vars z
    obtain rfl : z0 = 0 := Subsingleton.elim _ _
  on_goal 4 => refine Eq.trans ?_ (stG_at (h := 0) (d := z1) (e := z2) ?_ ?_ ?_)
  on_goal 3 => refine Eq.trans ?_ (stG_at (h := 1) (d := z1) (e := z2) ?_ ?_ ?_)
  on_goal 2 => refine Eq.trans ?_ (stG_at (h := 2) (d := z1) (e := z2) ?_ ?_ ?_)
  on_goal 1 => refine Eq.trans ?_ (stG_at (h := 3) (d := z1) (e := z2) ?_ ?_ ?_)
  all_goals first
    | exact ValueKit.rect_emb_unit_val _ _ _ _ _
    | exact (ValueKit.rect_emb_unit_val _ _ _ _ _).trans (Nat.zero_add _)
    | unfold_payloads
      pointwise
      simp only [stG, st1, kB, vB, Fin.val_zero, Nat.zero_mul, Nat.zero_add]
      rfl

set_option maxHeartbeats 4000000 in
/-- The output a point of case B leaves, over the scratch before. -/
theorem outB (hc0 : ¬cond0_0 i) (y : S1x256x2048.Idx) :
    out0_B_11 c i arg2 harg2 arg3 harg3 arg4 harg4 arg5 harg5 arg6 harg6 arg7 harg7 arg8 harg8 arg9 harg9 arg10 harg10 arg11 harg11 arg12 harg12
        arg13 harg13 arg14 harg14 hc0 x0 x1 x2 x3 x4 x5 x6 x7 x8 x9 x10 xs0 y = outAt x0 x1 x2 x3 x4 x5 x6 x7 x8 x9 x10 (fun h d e => xs0 (ix3 h d e)) y := by
  unfold out0_B_11
  frame_open
  simp (disch := decide) only [↓ View.readCov_skip, ↓ View.readCov_cons_toLoadRect, ↓ View.readCov_fill]
  frame_out
  refine View.canon_append_of_piecesOf (Val := Elt Ideal) (e := .bf16) (outAt x0 x1 x2 x3 x4 x5 x6 x7 x8 x9 x10 (fun h d e => xs0 (ix3 h d e)))
    [] [_, _, _, _, _, _, _, _] ⟨?_, ?_, ?_, ?_, ?_, ?_, ?_, ?_, trivial⟩ y ?_
  on_goal 9 => exact View.cover_of_tiledL _ ![1, 128, 512] (by sl_kernel_rfl) y
  all_goals
    intro z
    idx_vars z
    obtain rfl : z0 = 0 := Subsingleton.elim _ _
  on_goal 8 => refine Eq.trans ?_ (outG_at (u := 1) (h := 0) (l := z1) (e := z2) _ _ _ _ ?_ ?_)
  on_goal 7 => refine Eq.trans ?_ (outG_at (u := 1) (h := 1) (l := z1) (e := z2) _ _ _ _ ?_ ?_)
  on_goal 6 => refine Eq.trans ?_ (outG_at (u := 1) (h := 2) (l := z1) (e := z2) _ _ _ _ ?_ ?_)
  on_goal 5 => refine Eq.trans ?_ (outG_at (u := 1) (h := 3) (l := z1) (e := z2) _ _ _ _ ?_ ?_)
  on_goal 4 => refine Eq.trans ?_ (outG_at (u := 0) (h := 0) (l := z1) (e := z2) _ _ _ _ ?_ ?_)
  on_goal 3 => refine Eq.trans ?_ (outG_at (u := 0) (h := 1) (l := z1) (e := z2) _ _ _ _ ?_ ?_)
  on_goal 2 => refine Eq.trans ?_ (outG_at (u := 0) (h := 2) (l := z1) (e := z2) _ _ _ _ ?_ ?_)
  on_goal 1 => refine Eq.trans ?_ (outG_at (u := 0) (h := 3) (l := z1) (e := z2) _ _ _ _ ?_ ?_)
  all_goals first
    | exact ValueKit.rect_emb_unit_val _ _ _ _ _
    | exact (ValueKit.rect_emb_unit_val _ _ _ _ _).trans (Nat.zero_add _)
    | unfold_payloads
      pointwise
      simp only [outG, sumG, gnS, meanS, out1, st1, kB, vB, Fin.val_zero, Nat.zero_mul, Nat.zero_add]
      rfl

set_option maxHeartbeats 4000000 in
/-- The scratch a point of case A leaves, from zero. -/
theorem soutA (hc0 : cond0_0 i) (y : S4x256x512.Idx) :
    sout0_A_0 c i arg2 harg2 arg3 harg3 arg4 harg4 arg5 harg5 arg6 harg6 arg7 harg7 arg8 harg8 arg9 harg9 arg10 harg10 arg11 harg11 arg12 harg12
        arg13 harg13 arg14 harg14 hc0 x0 x1 x2 x3 x4 x5 x6 x7 x8 x9 x10 y = stG x1 x2 x4 x6 (fun _ _ _ => 0) (y 0) (y 1) (y 2) := by
  unfold sout0_A_0
  frame_open
  simp (disch := decide) only [↓ View.readCov_skip, ↓ View.readCov_cons_toLoadRect, ↓ View.readCov_fill]
  frame_out
  refine View.canon_append_of_piecesOf (Val := Elt Ideal) (e := .f32) (fun y : S4x256x512.Idx => stG x1 x2 x4 x6 (fun _ _ _ => 0) (y 0) (y 1) (y 2))
    [_, _, _, _, _] [_, _, _, _] ⟨?_, ?_, ?_, ?_, trivial⟩ y ?_
  on_goal 5 => exact View.cover_of_tiledL _ ![1, 256, 512] (by sl_kernel_rfl) y
  all_goals
    intro z
    idx_vars z
    obtain rfl : z0 = 0 := Subsingleton.elim _ _
  on_goal 4 => refine Eq.trans ?_ (stG_at (h := 0) (d := z1) (e := z2) ?_ ?_ ?_)
  on_goal 3 => refine Eq.trans ?_ (stG_at (h := 1) (d := z1) (e := z2) ?_ ?_ ?_)
  on_goal 2 => refine Eq.trans ?_ (stG_at (h := 2) (d := z1) (e := z2) ?_ ?_ ?_)
  on_goal 1 => refine Eq.trans ?_ (stG_at (h := 3) (d := z1) (e := z2) ?_ ?_ ?_)
  all_goals first
    | exact ValueKit.rect_emb_unit_val _ _ _ _ _
    | exact (ValueKit.rect_emb_unit_val _ _ _ _ _).trans (Nat.zero_add _)
    | unfold_payloads
      pointwise
      simp only [stG, st1, kB, vB, Fin.val_zero, Nat.zero_mul, Nat.zero_add]
      rfl

set_option maxHeartbeats 4000000 in
/-- The output a point of case A leaves, from zero. -/
theorem outA (hc0 : cond0_0 i) (y : S1x256x2048.Idx) :
    out0_A_11 c i arg2 harg2 arg3 harg3 arg4 harg4 arg5 harg5 arg6 harg6 arg7 harg7 arg8 harg8 arg9 harg9 arg10 harg10 arg11 harg11 arg12 harg12
        arg13 harg13 arg14 harg14 hc0 x0 x1 x2 x3 x4 x5 x6 x7 x8 x9 x10 y = outAt x0 x1 x2 x3 x4 x5 x6 x7 x8 x9 x10 (fun _ _ _ => 0) y := by
  unfold out0_A_11
  frame_open
  simp (disch := decide) only [↓ View.readCov_skip, ↓ View.readCov_cons_toLoadRect, ↓ View.readCov_fill]
  frame_out
  refine View.canon_append_of_piecesOf (Val := Elt Ideal) (e := .bf16) (outAt x0 x1 x2 x3 x4 x5 x6 x7 x8 x9 x10 (fun _ _ _ => 0))
    [] [_, _, _, _, _, _, _, _] ⟨?_, ?_, ?_, ?_, ?_, ?_, ?_, ?_, trivial⟩ y ?_
  on_goal 9 => exact View.cover_of_tiledL _ ![1, 128, 512] (by sl_kernel_rfl) y
  all_goals
    intro z
    idx_vars z
    obtain rfl : z0 = 0 := Subsingleton.elim _ _
  on_goal 8 => refine Eq.trans ?_ (outG_at (u := 1) (h := 0) (l := z1) (e := z2) _ _ _ _ ?_ ?_)
  on_goal 7 => refine Eq.trans ?_ (outG_at (u := 1) (h := 1) (l := z1) (e := z2) _ _ _ _ ?_ ?_)
  on_goal 6 => refine Eq.trans ?_ (outG_at (u := 1) (h := 2) (l := z1) (e := z2) _ _ _ _ ?_ ?_)
  on_goal 5 => refine Eq.trans ?_ (outG_at (u := 1) (h := 3) (l := z1) (e := z2) _ _ _ _ ?_ ?_)
  on_goal 4 => refine Eq.trans ?_ (outG_at (u := 0) (h := 0) (l := z1) (e := z2) _ _ _ _ ?_ ?_)
  on_goal 3 => refine Eq.trans ?_ (outG_at (u := 0) (h := 1) (l := z1) (e := z2) _ _ _ _ ?_ ?_)
  on_goal 2 => refine Eq.trans ?_ (outG_at (u := 0) (h := 2) (l := z1) (e := z2) _ _ _ _ ?_ ?_)
  on_goal 1 => refine Eq.trans ?_ (outG_at (u := 0) (h := 3) (l := z1) (e := z2) _ _ _ _ ?_ ?_)
  all_goals first
    | exact ValueKit.rect_emb_unit_val _ _ _ _ _
    | exact (ValueKit.rect_emb_unit_val _ _ _ _ _).trans (Nat.zero_add _)
    | unfold_payloads
      pointwise
      simp only [outG, sumG, gnS, meanS, out1, st1, kB, vB, Fin.val_zero, Nat.zero_mul, Nat.zero_add]
      rfl

end Cert.Proof.KerBwd

end
-- ==== Proof.RefBwd.lean ====
/- The backward reference's result at an index: the output of the row's chunk, from the state after the chunks before it. -/
module

public import proofs.«01_k».proof.Proof.Spec
public import proofs.«01_k».proof.Proof.BwdRefRun
public import Idealize.ShloMosaic.Lib.Pointwise
public import Idealize.ShloMosaic.Lib.DynamicIndex
public import Idealize.ShloMosaic.Lib.WordCmp

@[expose] public section

set_option maxRecDepth 16384

noncomputable section

namespace Cert.Proof.RefBwd

open Idealize.ShloMosaic Cert.BwdRefIdeal Cert.BwdRefIdeal.Gen Cert.BwdRefIdeal.Step Cert.Proof.Ret Cert.Proof.BwdRefRun

variable (q k : (⟨S8x4352x1024, .f32⟩ : BufTy).Contents (Elt Ideal)) (v : (⟨S8x4352x2048, .f32⟩ : BufTy).Contents (Elt Ideal))
  (dl : (⟨S2x4, .f32⟩ : BufTy).Contents (Elt Ideal))

/-- The mirrored row: the context's rows are mirrored among themselves, and the latents' rows among themselves. -/
def mir (l : Fin 4352) : Fin 4352 := ⟨if l.val < 256 then 255 - l.val else 4607 - l.val, by split <;> omega⟩

theorem mir_lt {l : Fin 4352} (h : l.val < 256) : (mir l).val = 255 - l.val := if_pos h

theorem mir_ge {l : Fin 4352} (h : ¬l.val < 256) : (mir l).val = 4607 - l.val := if_neg h

/-- The rows of an array, the context's reversed and then the latents' reversed. -/
def flip256 (x : (⟨S8x4352x4x256, .f32⟩ : BufTy).Contents (Elt Ideal)) : (⟨S8x4352x4x256, .f32⟩ : BufTy).Contents (Elt Ideal) :=
  concatenate S8x4352x4x256 1 [⟨S8x256x4x256, Host.reverse [1] (extractStridedSlice S8x256x4x256 ![0, 0, 0, 0] x slices_S8x4352x4x256_S8x256x4x256_0_0_0_0)⟩,
    ⟨S8x4096x4x256, Host.reverse [1] (extractStridedSlice S8x4096x4x256 ![0, 256, 0, 0] x slices_S8x4352x4x256_S8x4096x4x256_0_256_0_0)⟩]
    concatenates_S8x256x4x256_S8x4096x4x256_S8x4352x4x256_d1

/-- A row of the reordered array is the mirrored row of the array. -/
theorem flip256_apply (x : (⟨S8x4352x4x256, .f32⟩ : BufTy).Contents (Elt Ideal)) (b : Fin 8) (l : Fin 4352) (h : Fin 4) (d : Fin 256) :
    flip256 x (ix4 b l h d) = x (ix4 b (mir l) h d) := by
  pointwise [flip256]
  by_cases hl : l.val < 256
  · rw [dif_pos hl]
    congr 2
    exact Fin.ext (by show 256 - (l.val + 1) = (mir l).val; rw [mir_lt hl]; omega)
  · rw [dif_neg hl]
    congr 2
    exact Fin.ext (by show 256 + (4096 - (l.val - 256 + 1)) = (mir l).val; rw [mir_ge hl]; omega)

/-- The rows of an array, the context's reversed and then the latents' reversed. -/
def flip512 (x : (⟨S8x4352x4x512, .f32⟩ : BufTy).Contents (Elt Ideal)) : (⟨S8x4352x4x512, .f32⟩ : BufTy).Contents (Elt Ideal) :=
  concatenate S8x4352x4x512 1 [⟨S8x256x4x512, Host.reverse [1] (extractStridedSlice S8x256x4x512 ![0, 0, 0, 0] x slices_S8x4352x4x512_S8x256x4x512_0_0_0_0)⟩,
    ⟨S8x4096x4x512, Host.reverse [1] (extractStridedSlice S8x4096x4x512 ![0, 256, 0, 0] x slices_S8x4352x4x512_S8x4096x4x512_0_256_0_0)⟩]
    concatenates_S8x256x4x512_S8x4096x4x512_S8x4352x4x512_d1

/-- A row of the reordered array is the mirrored row of the array. -/
theorem flip512_apply (x : (⟨S8x4352x4x512, .f32⟩ : BufTy).Contents (Elt Ideal)) (b : Fin 8) (l : Fin 4352) (h : Fin 4) (d : Fin 512) :
    flip512 x (ix4 b l h d) = x (ix4 b (mir l) h d) := by
  pointwise [flip512]
  by_cases hl : l.val < 256
  · rw [dif_pos hl]
    congr 2
    exact Fin.ext (by show 256 - (l.val + 1) = (mir l).val; rw [mir_lt hl]; omega)
  · rw [dif_neg hl]
    congr 2
    exact Fin.ext (by show 256 + (4096 - (l.val - 256 + 1)) = (mir l).val; rw [mir_ge hl]; omega)

/-- The log of a head's decay. -/
theorem lg_apply (h : Fin 4) : A_main_v23 q k v dl (ix1 h) = lgT (dl (ix2 1 h)) := by
  pointwise [A_main_v23, A_main_v22, A_main_v5, A_main_v4, A_main_call0_v11, A_main_call0_v10, A_main_call0_v9,
    A_main_call0_v8, A_main_call0_v7, A_main_call0_v6, A_main_call0_v4, A_main_call0_v3, A_main_call0_v1, A_main_v3,
    K_main_call0_v0, K_main_call0_v2, K_main_call0_v5, K_main_call0_cst]
  rw [if_neg (by simp)]
  rfl

/-- The keys' decays. -/
theorem z_apply (h : Fin 4) (l : Fin 128) : A_main_v35 q k v dl (ix2 l h) = zT (lgT (dl (ix2 1 h))) l := by
  pointwise [A_main_v35, A_main_v34, A_main_v33, A_main_v31, K_main_v32, K_main_v30, K_main_v29, K_main_v28, K_main_v27,
    K_main_cst_0]
  rw [lg_apply]
  rfl

/-- The queries' decays. -/
theorem x_apply (h : Fin 4) (l : Fin 128) : A_main_v47 q k v dl (ix2 l h) = xT (lgT (dl (ix2 1 h))) l := by
  pointwise [A_main_v47, A_main_v46, A_main_v45, A_main_v43, K_main_v44, K_main_v42, K_main_v41, K_main_v40, K_main_v27,
    K_main_cst_1, K_main_cst_2]
  rw [lg_apply]
  rfl

/-- The state's decay. -/
theorem g_apply (h : Fin 4) : A_main_v39 q k v dl (ix3 h 0 0) = gT (lgT (dl (ix2 1 h))) := by
  pointwise [A_main_v39, A_main_v38, A_main_v37, K_main_v36, K_main_cst_1]
  rw [lg_apply]
  rfl

/-- The scores' decays. -/
theorem dm_apply (h : Fin 4) (l p : Fin 128) : A_main_v62 q k v dl (ix3 l p h) = dT (lgT (dl (ix2 1 h))) l p := by
  pointwise [A_main_v62, A_main_v61, A_main_v60, A_main_v59, A_main_v57, K_main_v48, K_main_v49, K_main_v50, K_main_v51,
    K_main_v52, K_main_v53, K_main_v54, K_main_v55, K_main_v56, K_main_v58, K_main_cst_3, K_main_cst_4, K_main_call7_v0,
    K_main_call7_v1, K_main_call7_v2, K_main_v27]
  rw [lg_apply]
  unfold dT
  congr 1

/-- A trip's number, read as a signed number. -/
theorem toInt_trip {j : ℕ} (hj : j < 34) : (BitVec.ofNat 32 j).toInt = j := by
  have := (by decide : ∀ j : Fin 34, (BitVec.ofNat 32 j.val).toInt = j.val) ⟨j, hj⟩
  exact this

/-- A trip's slice lies inside the stacked chunks. -/
theorem fits256 {j : ℕ} (hj : j < 34) : S34x8x128x4x256.Slices ![j, 0, 0, 0, 0] S1x8x128x4x256 :=
  ⟨rfl, fun a => by fin_cases a; (show j + 1 ≤ 34; omega); all_goals exact le_rfl⟩

/-- A trip's slice lies inside the stacked chunks. -/
theorem fits512 {j : ℕ} (hj : j < 34) : S34x8x128x4x512.Slices ![j, 0, 0, 0, 0] S1x8x128x4x512 :=
  ⟨rfl, fun a => by fin_cases a; (show j + 1 ≤ 34; omega); all_goals exact le_rfl⟩

/-- The chunk's keys. -/
theorem b5_apply {j : ℕ} (s : State Ideal) (hj : j < 34) (b : Fin 8) (h : Fin 4) (l : Fin 128) (e : Fin 256) :
    b5 j s (ix4 b l h e) = s.main_v67_0 (ix5 ⟨j, hj⟩ b l h e) := by
  have hs : b4 j s = extractStridedSlice S1x8x128x4x256 ![j, 0, 0, 0, 0] s.main_v67_0 (fits256 hj) := by
    unfold b4 b3 b2 b1 b0
    refine Host.dynamicSlice_eq_extractStridedSlice _ _ _ _ _ (fits256 hj) fun a => ?_
    fin_cases a
    · exact toInt_trip hj
    all_goals rfl
  unfold b5
  rw [hs]
  pointwise

/-- The chunk's values. -/
theorem b11_apply {j : ℕ} (s : State Ideal) (hj : j < 34) (b : Fin 8) (h : Fin 4) (l : Fin 128) (e : Fin 512) :
    b11 j s (ix4 b l h e) = s.main_v67_1 (ix5 ⟨j, hj⟩ b l h e) := by
  have hs : b10 j s = extractStridedSlice S1x8x128x4x512 ![j, 0, 0, 0, 0] s.main_v67_1 (fits512 hj) := by
    unfold b10 b9 b8 b7 b6
    refine Host.dynamicSlice_eq_extractStridedSlice _ _ _ _ _ (fits512 hj) fun a => ?_
    fin_cases a
    · exact toInt_trip hj
    all_goals rfl
  unfold b11
  rw [hs]
  pointwise

/-- The chunk's queries. -/
theorem b17_apply {j : ℕ} (s : State Ideal) (hj : j < 34) (b : Fin 8) (h : Fin 4) (l : Fin 128) (e : Fin 256) :
    b17 j s (ix4 b l h e) = s.main_v67_2 (ix5 ⟨j, hj⟩ b l h e) := by
  have hs : b16 j s = extractStridedSlice S1x8x128x4x256 ![j, 0, 0, 0, 0] s.main_v67_2 (fits256 hj) := by
    unfold b16 b15 b14 b13 b12
    refine Host.dynamicSlice_eq_extractStridedSlice _ _ _ _ _ (fits256 hj) fun a => ?_
    fin_cases a
    · exact toInt_trip hj
    all_goals rfl
  unfold b17
  rw [hs]
  pointwise

/-- The state a trip leaves. -/
theorem b39_apply {j : ℕ} (s : State Ideal) (b : Fin 8) (h : Fin 4) (d : Fin 256) (e : Fin 512) :
    b39 j s (ix4 b h d e) = stepS (fun l => s.main_v67_5 (ix2 l h)) (s.main_v67_6 (ix3 h 0 0))
      (fun l d => b5 j s (ix4 b l h d)) (fun l e => b11 j s (ix4 b l h e)) (fun d e => s.main_v67_8 (ix4 b h d e)) d e := by
  pointwise [b39, b38, b37, b36, b35, b34, b33, b32, b31]
  rfl

/-- The output of a trip. -/
theorem b40_apply {j : ℕ} (s : State Ideal) (b : Fin 8) (h : Fin 4) (l : Fin 128) (e : Fin 512) :
    b40 j s (ix4 b l h e) = outS (fun l => s.main_v67_3 (ix2 l h)) (fun l p => s.main_v67_4 (ix3 l p h))
      (fun l d => b17 j s (ix4 b l h d)) (fun l d => b5 j s (ix4 b l h d)) (fun l e => b11 j s (ix4 b l h e))
      (fun d e => s.main_v67_8 (ix4 b h d e)) l e := by
  pointwise [b40, b30, b29, b28, b27, b26, b25, b24, b23, b22, b21, b20, b19, b18]
  unfold outS
  congr 1
  · refine Finset.sum_congr rfl fun p _ => ?_
    rw [mul_comm]
    congr 2
    exact Finset.sum_congr rfl fun d _ => mul_comm _ _
  · exact Finset.sum_congr rfl fun d _ => mul_comm _ _

/-- The outputs after a trip: the trip's chunk's are new, the others stay. -/
theorem b46_apply {j : ℕ} (s : State Ideal) (hj : j < 34) (i : Fin 34) (b : Fin 8) (h : Fin 4) (l : Fin 128) (e : Fin 512) :
    b46 j s (ix5 i b l h e) = if i.val = j then b40 j s (ix4 b l h e) else s.main_v67_9 (ix5 i b l h e) := by
  have hs : b46 j s = updateSlice s.main_v67_9 (b41 j s) ![j, 0, 0, 0, 0] (fits512 hj) := by
    unfold b46 b45 b44 b43 b42
    refine WordCmp.dynamicUpdateSlice_eq_update _ _ _ _ _ (fits512 hj) fun a => ?_
    fin_cases a
    · exact toInt_trip hj
    all_goals rfl
  rw [hs]
  pointwise [b41]
  by_cases hi : i.val = j
  · rw [dif_pos (by omega), if_pos hi]
  · rw [dif_neg (by omega), if_neg hi]

/-- The array's row that row `l` of chunk `n` is. -/
theorem row_at (n : Fin 34) (l : Fin 128) (h : n.val * 128 + l.val < 4352) : (⟨n.val * 128 + l.val, h⟩ : Fin 4352) = row n l :=
  Fin.ext (by rw [row_val n.isLt]; show n.val * 128 + l.val = _; omega)

/-- An array's rows, by chunk. -/
theorem chunk256 (x : FVec Ideal S8x4352x4x256 .f32) (n : Fin 34) (b : Fin 8) (h : Fin 4) (l : Fin 128) (d : Fin 256) :
    transpose S34x8x128x4x256 [1, 0, 2, 3, 4] (shapeCast S8x34x128x4x256 x shapeCasts_S8x4352x4x256_S8x34x128x4x256)
      transposes_S8x34x128x4x256_S34x8x128x4x256_1_0_2_3_4 (ix5 n b l h d) = x (ix4 b (row n l) h d) := by
  pointwise
  rw [row_at]

/-- An array's rows, by chunk. -/
theorem chunk512 (x : FVec Ideal S8x4352x4x512 .f32) (n : Fin 34) (b : Fin 8) (h : Fin 4) (l : Fin 128) (d : Fin 512) :
    transpose S34x8x128x4x512 [1, 0, 2, 3, 4] (shapeCast S8x34x128x4x512 x shapeCasts_S8x4352x4x512_S8x34x128x4x512)
      transposes_S8x34x128x4x512_S34x8x128x4x512_1_0_2_3_4 (ix5 n b l h d) = x (ix4 b (row n l) h d) := by
  pointwise
  rw [row_at]

/-- The keys, by chunk. -/
theorem k_apply (n : Fin 34) (b : Fin 8) (h : Fin 4) (l : Fin 128) (d : Fin 256) :
    A_main_v63 q k v dl (ix5 n b l h d) = k (ix3 b (mir (row n l)) ⟨h.val * 256 + d.val, by omega⟩) := by
  have hf : A_main_v16 q k v dl = flip256 (A_main_v1 q k v dl) := by
    unfold A_main_v16 A_main_v15 A_main_v14 A_main_v13 A_main_v12 flip256
    rfl
  unfold A_main_v63 A_main_v25
  rw [chunk256, hf, flip256_apply]
  pointwise [A_main_v1]

/-- The values, by chunk. -/
theorem v_apply (n : Fin 34) (b : Fin 8) (h : Fin 4) (l : Fin 128) (d : Fin 512) :
    A_main_v64 q k v dl (ix5 n b l h d) = v (ix3 b (mir (row n l)) ⟨h.val * 512 + d.val, by omega⟩) := by
  have hf : A_main_v21 q k v dl = flip512 (A_main_v2 q k v dl) := by
    unfold A_main_v21 A_main_v20 A_main_v19 A_main_v18 A_main_v17 flip512
    rfl
  unfold A_main_v64 A_main_v26
  rw [chunk512, hf, flip512_apply]
  pointwise [A_main_v2]

/-- The queries, by chunk. -/
theorem q_apply (n : Fin 34) (b : Fin 8) (h : Fin 4) (l : Fin 128) (d : Fin 256) :
    A_main_v65 q k v dl (ix5 n b l h d) = q (ix3 b (mir (row n l)) ⟨h.val * 256 + d.val, by omega⟩) := by
  have hf : A_main_v11 q k v dl = flip256 (A_main_v0 q k v dl) := by
    unfold A_main_v11 A_main_v10 A_main_v9 A_main_v8 A_main_v7 flip256
    rfl
  unfold A_main_v65 A_main_v24
  rw [chunk256, hf, flip256_apply]
  pointwise [A_main_v0]

/-- Before the first trip the state is zero. -/
theorem s_apply (b : Fin 8) (h : Fin 4) (d : Fin 256) (e : Fin 512) :
    (K_main_v6 : (⟨S8x4x256x512, .f32⟩ : BufTy).Contents (Elt Ideal)) (ix4 b h d e) = 0 := by
  pointwise [K_main_v6, K_main_cst]

/-- The forward direction's outputs plus the backward direction's, these in the order of the array's rows. -/
def sumA (s : State Ideal) (of : FVec Ideal S8x4352x2048 .f32) : FVec Ideal S8x4352x4x512 .f32 :=
  addf (shapeCast _ of shapeCasts_S8x4352x2048_S8x4352x4x512)
    (flip512 (shapeCast _ (transpose S8x34x128x4x512 [1, 0, 2, 3, 4] s.main_v67_9 transposes_S34x8x128x4x512_S8x34x128x4x512_1_0_2_3_4)
      shapeCasts_S8x34x128x4x512_S8x4352x4x512))

/-- The mean of each head's 512 entries of a row. -/
def meanA (o : FVec Ideal S8x4352x4x512 .f32) : FVec Ideal S8x4352x4x1 .f32 :=
  Host.divf (broadcastInDim S8x4352x4x1 ![0, 1, 2] bcast_S8x4352x4_S8x4352x4x1_0_1_2
      (Host.reduceAdd o (constant S_ .f32 0x00000000#32) reducesTo_S8x4352x4x512_S8x4352x4_d3 h_S_))
    (broadcastInDim S8x4352x4x1 ![] bcast_S_S8x4352x4x1 (constant S_ .f32 0x44000000#32))

/-- The entries less their head's mean. -/
def cenA (o : FVec Ideal S8x4352x4x512 .f32) : FVec Ideal S8x4352x4x512 .f32 :=
  subf o (broadcastInDim S8x4352x4x512 ![0, 1, 2, 3] bcast_S8x4352x4x1_S8x4352x4x512_0_1_2_3 (meanA o))

/-- The entries, normed by head. -/
def normA (o : FVec Ideal S8x4352x4x512 .f32) : FVec Ideal S8x4352x4x512 .f32 :=
  mulf (cenA o) (broadcastInDim S8x4352x4x512 ![0, 1, 2, 3] bcast_S8x4352x4x1_S8x4352x4x512_0_1_2_3
    (Host.rsqrt (addf (meanA (mulf (cenA o) (cenA o))) (broadcastInDim S8x4352x4x1 ![] bcast_S_S8x4352x4x1 (constant S_ .f32 0x3727C5AC#32)))))

/-- The result of the normed entries. -/
def gateA (o : FVec Ideal S8x4352x4x512 .f32) (g : FVec Ideal S8x4352x2048 .f32)
    (gw gb : FVec Ideal S2048 .f32) : FVec Ideal S8x4352x2048 .bf16 :=
  truncf .bf16 (mulf (addf (mulf (shapeCast _ o shapeCasts_S8x4352x4x512_S8x4352x2048)
      (broadcastInDim S8x4352x2048 ![0, 1, 2] bcast_S1x1x2048_S8x4352x2048_0_1_2 (broadcastInDim S1x1x2048 ![2] bcast_S2048_S1x1x2048_2 gw)))
      (broadcastInDim S8x4352x2048 ![0, 1, 2] bcast_S1x1x2048_S8x4352x2048_0_1_2 (broadcastInDim S1x1x2048 ![2] bcast_S2048_S1x1x2048_2 gb)))
    (mulf g (Host.divf (broadcastInDim S8x4352x2048 ![] bcast_S_S8x4352x2048 (constant S_ .f32 0x3F800000#32))
      (addf (broadcastInDim S8x4352x2048 ![] bcast_S_S8x4352x2048 (constant S_ .f32 0x3F800000#32)) (Host.exp (Host.negf g)))))) bitsLt_bf16_f32

/-- The result is the gate of the norm of the sums. -/
theorem r_eq (s : State Ideal) (g of : FVec Ideal S8x4352x2048 .f32) (gw gb : FVec Ideal S2048 .f32) :
    R_main_v104 s g of gw gb = gateA (normA (sumA s of)) g gw gb := by
  unfold R_main_v104 gateA normA cenA meanA sumA flip512
  rfl

/-- A row of the sums. -/
theorem sumA_apply (s : State Ideal) (of : FVec Ideal S8x4352x2048 .f32) (b : Fin 8) (l : Fin 4352) (h : Fin 4) (e : Fin 512) :
    sumA s of (ix4 b l h e) = of (ix3 b l ⟨h.val * 512 + e.val, by omega⟩)
      + s.main_v67_9 (ix5 ⟨(mir l).val / 128, by omega⟩ b ⟨(mir l).val % 128, by omega⟩ h e) := by
  pointwise [sumA]
  rw [flip512_apply]
  pointwise

/-- The mean of a row's entries of one head. -/
theorem meanA_apply (o : FVec Ideal S8x4352x4x512 .f32) (b : Fin 8) (l : Fin 4352) (h : Fin 4) :
    meanA o (ix4 b l h 0) = meanS (fun e => o (ix4 b l h e)) := by
  pointwise [meanA]
  rfl

/-- An entry less its head's mean. -/
theorem cenA_apply (o : FVec Ideal S8x4352x4x512 .f32) (b : Fin 8) (l : Fin 4352) (h : Fin 4) (e : Fin 512) :
    cenA o (ix4 b l h e) = o (ix4 b l h e) - meanS (fun e => o (ix4 b l h e)) := by
  pointwise [cenA]
  rw [meanA_apply]

/-- A normed entry. -/
theorem normA_apply (o : FVec Ideal S8x4352x4x512 .f32) (b : Fin 8) (l : Fin 4352) (h : Fin 4) (e : Fin 512) :
    normA o (ix4 b l h e) = (o (ix4 b l h e) - meanS (fun e => o (ix4 b l h e)))
      * Ideal.rsqrt (meanS (fun e' => (o (ix4 b l h e') - meanS (fun e => o (ix4 b l h e))) * (o (ix4 b l h e') - meanS (fun e => o (ix4 b l h e))))
        + Ideal.ofBits FTy.f32 925353388#32) := by
  pointwise [normA]
  rw [meanA_apply, cenA_apply]
  pointwise
  simp only [cenA_apply]

/-- The result at an index, from the sums of its row. -/
theorem r_apply (s : State Ideal) (g of : FVec Ideal S8x4352x2048 .f32) (gw gb : FVec Ideal S2048 .f32)
    (b : Fin 8) (l : Fin 4352) (e : Fin 2048) :
    R_main_v104 s g of gw gb (ix3 b l e) = gnS (fun e' => sumA s of (ix4 b l ⟨e.val / 512, by omega⟩ e'))
      (gw (ix1 e)) (gb (ix1 e)) (g (ix3 b l e)) ⟨e.val % 512, by omega⟩ := by
  rw [r_eq]
  pointwise [gateA]
  rw [normA_apply]
  rfl

/-- One head's keys, chunk by chunk. -/
def kR (b : Fin 8) (h : Fin 4) (n : ℕ) (l : Fin 128) (d : Fin 256) : EReal :=
  k (ix3 b (mir (row n l)) ⟨h.val * 256 + d.val, by omega⟩)

/-- One head's values, chunk by chunk. -/
def vR (b : Fin 8) (h : Fin 4) (n : ℕ) (l : Fin 128) (e : Fin 512) : EReal :=
  v (ix3 b (mir (row n l)) ⟨h.val * 512 + e.val, by omega⟩)

/-- The log of one head's decay. -/
def lgR (h : Fin 4) : EReal := lgT (dl (ix2 1 h))

/-- One head's state after `n` chunks. -/
def stR (b : Fin 8) (h : Fin 4) (n : ℕ) : Fin 256 → Fin 512 → EReal :=
  stateS (zT (lgR dl h)) (gT (lgR dl h)) (kR k b h) (vR v b h) n

/-- One head's output of chunk `n`. -/
def ouR (b : Fin 8) (h : Fin 4) (n : ℕ) : Fin 128 → Fin 512 → EReal :=
  outS (xT (lgR dl h)) (dT (lgR dl h)) (kR q b h n) (kR k b h n) (vR v b h n) (stR k v dl b h n)

/-- The trips keep what they do not write. -/
theorem kept (n : ℕ) : (iter (init q k v dl) n).main_v67_0 = A_main_v63 q k v dl
    ∧ (iter (init q k v dl) n).main_v67_1 = A_main_v64 q k v dl ∧ (iter (init q k v dl) n).main_v67_2 = A_main_v65 q k v dl
    ∧ (iter (init q k v dl) n).main_v67_3 = A_main_v47 q k v dl ∧ (iter (init q k v dl) n).main_v67_4 = A_main_v62 q k v dl
    ∧ (iter (init q k v dl) n).main_v67_5 = A_main_v35 q k v dl ∧ (iter (init q k v dl) n).main_v67_6 = A_main_v39 q k v dl := by
  induction n with
  | zero => exact ⟨rfl, rfl, rfl, rfl, rfl, rfl, rfl⟩
  | succ n ih => exact ih

/-- The state before trip `n`. -/
theorem state_apply {n : ℕ} (hn : n ≤ 34) (b : Fin 8) (h : Fin 4) (d : Fin 256) (e : Fin 512) :
    (iter (init q k v dl) n).main_v67_8 (ix4 b h d e) = stR k v dl b h n d e := by
  induction n generalizing d e with
  | zero => exact s_apply b h d e
  | succ n ih =>
    obtain ⟨hk, hv, hq, hx, hd, hz, hg⟩ := kept q k v dl n
    have hn' : n < 34 := hn
    show b39 n (iter (init q k v dl) n) (ix4 b h d e) = _
    rw [b39_apply]
    simp only [b5_apply _ hn', b11_apply _ hn', hk, hv, hz, hg, k_apply, v_apply, z_apply, g_apply,
      fun d e => ih (by omega) d e]
    rfl

/-- The output of trip `n`. -/
theorem chunk_apply {n : ℕ} (hn : n < 34) (b : Fin 8) (h : Fin 4) (l : Fin 128) (e : Fin 512) :
    b40 n (iter (init q k v dl) n) (ix4 b l h e) = ouR q k v dl b h n l e := by
  obtain ⟨hk, hv, hq, hx, hd, hz, hg⟩ := kept q k v dl n
  rw [b40_apply]
  simp only [b5_apply _ hn, b11_apply _ hn, b17_apply _ hn, hk, hv, hq, hx, hd, k_apply, v_apply, q_apply, x_apply, dm_apply,
    fun d e => state_apply q k v dl hn.le b h d e]
  rfl

/-- The outputs after `n` trips hold the first `n` chunks' outputs. -/
theorem outs_apply {n : ℕ} (hn : n ≤ 34) (i : Fin 34) (hi : i.val < n) (b : Fin 8) (h : Fin 4) (l : Fin 128) (e : Fin 512) :
    (iter (init q k v dl) n).main_v67_9 (ix5 i b l h e) = ouR q k v dl b h i.val l e := by
  induction n with
  | zero => exact absurd hi (Nat.not_lt_zero _)
  | succ n ih =>
    show b46 n (iter (init q k v dl) n) (ix5 i b l h e) = _
    rw [b46_apply _ hn]
    by_cases hin : i.val = n
    · rw [if_pos hin, hin]
      exact chunk_apply q k v dl hn b h l e
    · rw [if_neg hin]
      exact ih (by omega) (by omega)

end Cert.Proof.RefBwd

end
-- ==== Proof.BwdValue.lean ====
/- The backward kernel's result is the backward reference's. The kernel reads the rows of a chunk in the array's order, from the last chunk on;
   the reference first turns the rows round: row `l` of the kernel's chunk is row `127 - l` of the reference's. -/
module

public import proofs.«01_k».proof.Defs
public import proofs.«01_k».proof.Proof.TabBwd
public import proofs.«01_k».proof.Proof.KerBwd
public import proofs.«01_k».proof.Proof.RefBwd

@[expose] public section

set_option maxRecDepth 16384

noncomputable section

namespace Cert.Proof.BwdValue

open Idealize.ShloMosaic Idealize.ShloMosaic.TcCoe Idealize.SL.Sem
open Cert.BwdIdeal Cert.BwdIdeal.Gen Cert.BwdIdeal.Value Cert.Proof.Ret Cert.Proof.KerBwd Cert.Proof.TabBwd
open Cert.Proof.KerFwd (kB vB st1 out1)
open Cert.Proof.RefBwd (mir mir_lt mir_ge kR vR lgR stR ouR sumA)

variable (m : (ℓ : Loc nD τ sig) → Buf (Elt Ideal) ℓ) (c : Dev nD)

/-- The queries, as launched. -/
abbrev q0 : Vec Ideal S8x4352x1024 .f32 := m ((c : Thread nD τ).loc main_arg0)

/-- The keys, as launched. -/
abbrev k0 : Vec Ideal S8x4352x1024 .f32 := m ((c : Thread nD τ).loc main_arg1)

/-- The values, as launched. -/
abbrev v0 : Vec Ideal S8x4352x2048 .f32 := m ((c : Thread nD τ).loc main_arg2)

/-- The gates, as launched. -/
abbrev g0 : Vec Ideal S8x4352x2048 .f32 := m ((c : Thread nD τ).loc main_arg3)

/-- The forward direction's outputs, as launched. -/
abbrev f0 : Vec Ideal S8x4352x2048 .f32 := m ((c : Thread nD τ).loc main_arg4)

/-- The decay logits, as launched. -/
abbrev d0 : Vec Ideal S2x4 .f32 := m ((c : Thread nD τ).loc main_arg5)

/-- The group norm's scales, as launched. -/
abbrev w0 : Vec Ideal S2048 .f32 := m ((c : Thread nD τ).loc main_arg6)

/-- The group norm's shifts, as launched. -/
abbrev b0 : Vec Ideal S2048 .f32 := m ((c : Thread nD τ).loc main_arg7)

/-- The chunk, in the reference's order, that half `u` of a point's block is. -/
def ch (t : Fin cfg0.N) (u : Fin 2) : ℕ := 2 * (t.val % 17) + (1 - u.val)

/-- The row of the reference's turned array that a row of a point's block is. -/
theorem mir_rowB (t : Fin cfg0.N) (u : Fin 2) (l : Fin 128) (hl : u.val * 128 + l.val < 256) :
    (mir (rowB t ⟨u.val * 128 + l.val, hl⟩)).val = 128 * ch t u + (Fin.rev l).val := by
  have hr : (Fin.rev l).val = 127 - l.val := by rw [Fin.val_rev]; omega
  have hv : (rowB t ⟨u.val * 128 + l.val, hl⟩).val = (17 - t.val % 17) % 17 * 256 + (u.val * 128 + l.val) := rfl
  unfold ch
  by_cases h0 : (rowB t ⟨u.val * 128 + l.val, hl⟩).val < 256
  · rw [mir_lt h0, hr, hv]
    rw [hv] at h0
    omega
  · rw [mir_ge h0, hr, hv]
    rw [hv] at h0
    omega

/-- Turning the rows round twice changes nothing. -/
theorem mir_mir (l : Fin 4352) : mir (mir l) = l := by
  refine Fin.ext ?_
  by_cases h : l.val < 256
  · have h1 := mir_lt h
    rw [mir_lt (l := mir l) (by omega)]
    omega
  · have h1 := mir_ge h
    rw [mir_ge (l := mir l) (by omega)]
    omega

/-- A point's row is the turned row of its chunk. -/
theorem row_eq (t : Fin cfg0.N) (u : Fin 2) (l : Fin 128) (hl : u.val * 128 + l.val < 256) :
    rowB t ⟨u.val * 128 + l.val, hl⟩ = mir (row (ch t u) (Fin.rev l)) := by
  rw [← mir_mir (rowB t ⟨u.val * 128 + l.val, hl⟩)]
  congr 1
  refine Fin.ext ?_
  rw [mir_rowB, row_val (by unfold ch; omega)]

/-- The queries of a point's half block. -/
theorem q_eq (t : Fin cfg0.N) (h : Fin 4) (u : Fin 2) :
    kB (iblk m c 0 t) h u = fun l => kR (q0 m c) (bat t) h (ch t u) (Fin.rev l) := by
  funext l d
  unfold kB kR
  rw [q_blk, row_eq]

/-- The keys of a point's half block. -/
theorem k_eq (t : Fin cfg0.N) (h : Fin 4) (u : Fin 2) :
    kB (iblk m c 1 t) h u = fun l => kR (k0 m c) (bat t) h (ch t u) (Fin.rev l) := by
  funext l d
  unfold kB kR
  rw [k_blk, row_eq]

/-- The values of a point's half block. -/
theorem v_eq (t : Fin cfg0.N) (h : Fin 4) (u : Fin 2) :
    vB (iblk m c 2 t) h u = fun l => vR (v0 m c) (bat t) h (ch t u) (Fin.rev l) := by
  funext l d
  unfold vB vR
  rw [v_blk, row_eq]

/-- One half block's step of the scratch is the reference's step. -/
theorem st1_eq (t : Fin cfg0.N) (h : Fin 4) (u : Fin 2) :
    st1 (iblk m c 1 t) (iblk m c 2 t) (iblk m c 4 t) (iblk m c 6 t) (stR (k0 m c) (v0 m c) (d0 m c) (bat t) h (ch t u)) h u
      = stR (k0 m c) (v0 m c) (d0 m c) (bat t) h (ch t u + 1) := by
  refine Eq.trans ?_ (stepS_rev (zT (lgK m c h)) (gT (lgK m c h)) (kR (k0 m c) (bat t) h (ch t u)) (vR (v0 m c) (bat t) h (ch t u))
    (stR (k0 m c) (v0 m c) (d0 m c) (bat t) h (ch t u)))
  funext d e
  unfold st1
  rw [k_eq, v_eq, cdec_blk]
  simp only [zeta_blk]
  rfl

/-- One half block's output is the reference's output of its chunk, turned round. -/
theorem out1_eq (t : Fin cfg0.N) (h : Fin 4) (u : Fin 2) (l : Fin 128) (e : Fin 512) :
    out1 (iblk m c 0 t) (iblk m c 1 t) (iblk m c 2 t) (iblk m c 3 t) (iblk m c 5 t)
        (stR (k0 m c) (v0 m c) (d0 m c) (bat t) h (ch t u)) h u l e
      = ouR (q0 m c) (k0 m c) (v0 m c) (d0 m c) (bat t) h (ch t u) (Fin.rev l) e := by
  refine Eq.trans ?_ (outS_rev (xT (lgK m c h)) (dT (lgK m c h)) (kR (q0 m c) (bat t) h (ch t u)) (kR (k0 m c) (bat t) h (ch t u))
    (vR (v0 m c) (bat t) h (ch t u)) (stR (k0 m c) (v0 m c) (d0 m c) (bat t) h (ch t u)) l e)
  unfold out1
  rw [k_eq, v_eq, q_eq]
  simp only [xi_blk, dmat_blk]
  rfl

/-- What a point leaves in the scratch, from the state before its first chunk. -/
theorem stG_eq (t : Fin cfg0.N) (S : Fin 4 → Fin 256 → Fin 512 → EReal)
    (hS : ∀ h, S h = stR (k0 m c) (v0 m c) (d0 m c) (bat t) h (2 * (t.val % 17))) (h : Fin 4) (d : Fin 256) (e : Fin 512) :
    stG (iblk m c 1 t) (iblk m c 2 t) (iblk m c 4 t) (iblk m c 6 t) S h d e
      = stR (k0 m c) (v0 m c) (d0 m c) (bat t) h (2 * (t.val % 17) + 2) d e := by
  unfold stG
  have h1 := st1_eq m c t h 1
  have h2 := st1_eq m c t h 0
  rw [show ch t 1 = 2 * (t.val % 17) from rfl] at h1
  rw [show ch t 0 = 2 * (t.val % 17) + 1 from rfl] at h2
  rw [hS, h1, h2]

/-- A point's sums: the forward direction's outputs plus its chunks' outputs, turned round. -/
theorem sumG_eq (t : Fin cfg0.N) (S : Fin 4 → Fin 256 → Fin 512 → EReal)
    (hS : ∀ h, S h = stR (k0 m c) (v0 m c) (d0 m c) (bat t) h (2 * (t.val % 17))) (u : Fin 2) (h : Fin 4) (l : Fin 128) (e : Fin 512) :
    sumG (iblk m c 0 t) (iblk m c 1 t) (iblk m c 2 t) (iblk m c 3 t) (iblk m c 4 t) (iblk m c 5 t) (iblk m c 6 t) (iblk m c 8 t) S u h l e
      = f0 m c (ix3 (bat t) (rowB t ⟨u.val * 128 + l.val, by omega⟩) ⟨h.val * 512 + e.val, by omega⟩)
        + ouR (q0 m c) (k0 m c) (v0 m c) (d0 m c) (bat t) h (ch t u) (Fin.rev l) e := by
  unfold sumG vB
  have h1 := st1_eq m c t h 1
  have o0 := out1_eq m c t h 0 l e
  have o1 := out1_eq m c t h 1 l e
  rw [show ch t 1 = 2 * (t.val % 17) from rfl] at h1 o1
  rw [show ch t 0 = 2 * (t.val % 17) + 1 from rfl] at o0
  rw [hS, h1, o0, o1, of_blk, add_comm]
  congr 1
  fin_cases u
  · exact if_neg (by decide)
  · exact if_pos rfl

/-- The reference's result, over the kernel's arguments. -/
def result : Vec Ideal S8x4352x2048 .bf16 :=
  Cert.BwdRefIdeal.Step.R_main_v104 (BwdRefRun.iter (Cert.BwdRefIdeal.Step.init (q0 m c) (k0 m c) (v0 m c) (d0 m c)) 34)
    (g0 m c) (f0 m c) (w0 m c) (b0 m c)

/-- The reference's sums at a point's row. -/
theorem ref_sum (t : Fin cfg0.N) (u : Fin 2) (h : Fin 4) (l : Fin 128) (e : Fin 512) :
    sumA (BwdRefRun.iter (Cert.BwdRefIdeal.Step.init (q0 m c) (k0 m c) (v0 m c) (d0 m c)) 34) (f0 m c)
        (ix4 (bat t) (rowB t ⟨u.val * 128 + l.val, by omega⟩) h e)
      = f0 m c (ix3 (bat t) (rowB t ⟨u.val * 128 + l.val, by omega⟩) ⟨h.val * 512 + e.val, by omega⟩)
        + ouR (q0 m c) (k0 m c) (v0 m c) (d0 m c) (bat t) h (ch t u) (Fin.rev l) e := by
  rw [RefBwd.sumA_apply]
  congr 1
  rw [RefBwd.outs_apply _ _ _ _ le_rfl _ (Fin.isLt _)]
  have hm := mir_rowB t u l (by omega)
  have hr := (Fin.rev l).isLt
  have h1 : (mir (rowB t ⟨u.val * 128 + l.val, by omega⟩)).val / 128 = ch t u := by rw [hm]; omega
  have h2 : (⟨(mir (rowB t ⟨u.val * 128 + l.val, by omega⟩)).val % 128, by omega⟩ : Fin 128) = Fin.rev l :=
    Fin.ext (by show (mir (rowB t ⟨u.val * 128 + l.val, by omega⟩)).val % 128 = _; rw [hm]; omega)
  show ouR _ _ _ _ (bat t) h ((mir (rowB t ⟨u.val * 128 + l.val, _⟩)).val / 128) ⟨(mir (rowB t ⟨u.val * 128 + l.val, _⟩)).val % 128, _⟩ e = _
  rw [h1, h2]

/-- What a point leaves in its output, from the state before its first chunk: the reference's result at the point's rows. -/
theorem outG_eq (t : Fin cfg0.N) (S : Fin 4 → Fin 256 → Fin 512 → EReal)
    (hS : ∀ h, S h = stR (k0 m c) (v0 m c) (d0 m c) (bat t) h (2 * (t.val % 17))) (u : Fin 2) (h : Fin 4) (l : Fin 128) (e : Fin 512) :
    outG (iblk m c 0 t) (iblk m c 1 t) (iblk m c 2 t) (iblk m c 3 t) (iblk m c 4 t) (iblk m c 5 t) (iblk m c 6 t) (iblk m c 7 t)
        (iblk m c 8 t) (iblk m c 9 t) (iblk m c 10 t) S u h l e
      = result m c (ix3 (bat t) (rowB t ⟨u.val * 128 + l.val, by omega⟩) ⟨h.val * 512 + e.val, by omega⟩) := by
  unfold outG result vB
  rw [RefBwd.r_apply, gnw_blk, gnb_blk, g_blk]
  have hh : (⟨(h.val * 512 + e.val) / 512, by omega⟩ : Fin 4) = h := Fin.ext (by show (h.val * 512 + e.val) / 512 = h.val; omega)
  have he : (⟨(h.val * 512 + e.val) % 512, by omega⟩ : Fin 512) = e := Fin.ext (by show (h.val * 512 + e.val) % 512 = e.val; omega)
  show _ = gnS (fun e' => sumA _ _ (ix4 (bat t) _ ⟨(h.val * 512 + e.val) / 512, _⟩ e')) _ _ _ ⟨(h.val * 512 + e.val) % 512, _⟩
  rw [hh, he]
  congr 1
  funext e'
  exact (sumG_eq m c t S hS u h l e').trans (ref_sum m c t u h l e').symm

/-- The state a point starts from: zero at a batch element's first point, else what the point before left. -/
def before (t : Fin cfg0.N) (h : Fin 4) (d : Fin 256) (e : Fin 512) : EReal :=
  if t.val % 17 = 0 then 0 else (outsAt0 m c (t.val - 1) (by have := t.isLt; omega)).2 (ix3 h d e)

/-- At a batch element's first point the state is zero. -/
theorem before_first (t : Fin cfg0.N) (h0 : t.val % 17 = 0) : before m c t = fun _ _ _ => 0 := by
  funext h d e
  unfold before
  rw [if_pos h0]

/-- At another point the state is what the point before left. -/
theorem before_later (t : Fin cfg0.N) (h0 : ¬t.val % 17 = 0) :
    before m c t = fun h d e => (outsAt0 m c (t.val - 1) (by have := t.isLt; omega)).2 (ix3 h d e) := by
  funext h d e
  unfold before
  rw [if_neg h0]

/-- What the scratch holds after a point, from what the point starts from. -/
theorem scratch_eq (t : Fin cfg0.N) (h : Fin 4) (d : Fin 256) (e : Fin 512) : (outsAt0 m c t.val t.isLt).2 (ix3 h d e)
    = stG (iblk m c 1 t) (iblk m c 2 t) (iblk m c 4 t) (iblk m c 6 t) (before m c t) h d e := by
  by_cases h0 : t.val % 17 = 0
  · rw [outsAt0_A m c t h0, before_first m c t h0]
    dsimp only
    rw [soutA]
    rfl
  · rw [outsAt0_B m c t h0, before_later m c t h0]
    dsimp only
    rw [soutB]
    rfl

/-- What the output holds after a point, from what the point starts from. -/
theorem block_eq (t : Fin cfg0.N) (y : S1x256x2048.Idx) : (outsAt0 m c t.val t.isLt).1 y
    = outAt (iblk m c 0 t) (iblk m c 1 t) (iblk m c 2 t) (iblk m c 3 t) (iblk m c 4 t) (iblk m c 5 t) (iblk m c 6 t) (iblk m c 7 t)
        (iblk m c 8 t) (iblk m c 9 t) (iblk m c 10 t) (before m c t) y := by
  by_cases h0 : t.val % 17 = 0
  · rw [outsAt0_A m c t h0, before_first m c t h0]
    dsimp only
    rw [outA]
  · rw [outsAt0_B m c t h0, before_later m c t h0]
    dsimp only
    rw [outB]

/-- A point starts from the state after the chunks before its own. -/
theorem before_eq (n : ℕ) : ∀ (hn : n < cfg0.N) (h : Fin 4),
    before m c ⟨n, hn⟩ h = stR (k0 m c) (v0 m c) (d0 m c) (bat ⟨n, hn⟩) h (2 * (n % 17)) := by
  induction n with
  | zero => intro hn h; funext d e; exact if_pos (Nat.zero_mod _)
  | succ n ih =>
    intro hn h
    funext d e
    by_cases h0 : (n + 1) % 17 = 0
    · rw [h0]
      exact if_pos h0
    · refine (if_neg h0).trans ?_
      have hn' : n < cfg0.N := Nat.lt_of_succ_lt hn
      refine (scratch_eq m c ⟨n, hn'⟩ h d e).trans ((stG_eq m c ⟨n, hn'⟩ _ (ih hn') h d e).trans ?_)
      have hb : bat ⟨n, hn'⟩ = bat ⟨n + 1, hn⟩ := Fin.ext (by show n / 17 = (n + 1) / 17; omega)
      have hk : 2 * (n % 17) + 2 = 2 * ((n + 1) % 17) := by omega
      show stR _ _ _ (bat ⟨n, hn'⟩) h (2 * (n % 17) + 2) d e = _
      rw [hb, hk]

/-- A point's output block is the reference's result at the point's rows. -/
theorem point_eq (t : Fin cfg0.N) (l : Fin 256) (e : Fin 2048) :
    (outsAt0 m c t.val t.isLt).1 (ix3 0 l e) = result m c (ix3 (bat t) (rowB t l) e) := by
  rw [block_eq]
  unfold outAt
  refine (outG_eq m c t _ (before_eq m c t.val t.isLt) _ _ _ _).trans ?_
  congr 1
  have h1 : (⟨l.val / 128 * 128 + l.val % 128, by omega⟩ : Fin 256) = l := Fin.ext (Nat.div_add_mod' _ _)
  have h2 : (⟨e.val / 512 * 512 + e.val % 512, by omega⟩ : Fin 2048) = e := Fin.ext (Nat.div_add_mod' _ _)
  show ix3 (bat t) (rowB t ⟨l.val / 128 * 128 + l.val % 128, _⟩) ⟨e.val / 512 * 512 + e.val % 512, _⟩ = _
  rw [h1, h2]

/-- The kernel's result array is the reference's. -/
theorem array_eq : (dats m 0 c).arrAt 11 cfg0.N = result m c := by
  refine (dats m 0 c).arrAt_eq_of_covers 11 (result m c) (by decide +kernel) fun t hf y => ?_
  obtain ⟨a, l, e, rfl⟩ : ∃ (a : Fin 1) (l : Fin 256) (e : Fin 2048), y = ix3 a l e := ⟨y 0, y 1, y 2, by
    funext a; match a with | ⟨0, _⟩ => rfl | ⟨1, _⟩ => rfl | ⟨2, _⟩ => rfl⟩
  obtain rfl : a = 0 := Subsingleton.elim _ _
  rw [after0_11]
  refine (point_eq m c t l e).trans ?_
  unfold bat rowB
  blk_ext [idx t]

/-- The backward kernel computes the backward reference's result, over the extended reals. -/
theorem algebraic [hBwdIdeal : Cert.BwdIdeal.Facts] [hBwdRefIdeal : Cert.BwdRefIdeal.Facts] : Cert.algebraic_BwdIdeal_BwdRefIdeal := by
  intro m g m' g' hpre hagree
  refine ⟨fun c => result m c, (θ_run _ _ _).mono (fun _ h c => ⟨(h c).1.trans (array_eq m c), (h c).2⟩)
    (Cert.BwdIdeal.Value.run_blocks m g), ?_⟩
  refine (θ_run _ _ _).mono (fun _ h c => ⟨(h c).1.trans ?_, (h c).2⟩) (BwdRefRun.run m' g')
  obtain ⟨h0, h1, h2, h3, h4, h5, h6, h7⟩ := hagree c
  unfold BwdRefRun.start
  rw [h0, h1, h2, h3, h4, h5, h6, h7]
  rfl

end Cert.Proof.BwdValue

end
-- ==== Proof.RefProj.lean ====
/- The projections' reference at an index: the modulated row against a column of the weights; the queries and keys of a latent row
   turned by the angles of the row's place in the grid, those of a context row as they are. -/
module

public import proofs.«01_k».proof.Proof.Gen.ProjRefIdeal.Run
public import Idealize.ShloMosaic.Lib.Pointwise

@[expose] public section

set_option maxRecDepth 16384

noncomputable section

namespace Cert.Proof.RefProj

open Idealize.ShloMosaic Idealize.ShloMosaic.TcCoe Idealize.SL.Sem Idealize.ShloMosaic.StableHlo
open Cert.ProjRefIdeal Cert.ProjRefIdeal.Gen Cert.ProjRefIdeal.Value

variable (X : FVec Ideal S8x4352x1024 .f32) (M : FVec Ideal S16x6x1024 .f32) (W : FVec Ideal S1024x6144 .f32)

/-- The angles: of each latent row, 64 from its grid row and 64 from its grid column. -/
def angR : FVec Ideal S4096x128 .f32 :=
  concatenate S4096x128 1 [⟨S4096x64, (mulf (broadcastInDim S4096x64 ![0, 1] bcast_S4096x1_S4096x64_0_1 (broadcastInDim S4096x1 ![0] bcast_S4096_S4096x1_0 (sitofp .f32 (shapeCast _ (broadcastInDim S64x64 ![0] bcast_S64_S64x64_0 (iotaInDim S64 32 0)) shapeCasts_S64x64_S4096)))) (broadcastInDim S4096x64 ![0, 1] bcast_S1x64_S4096x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32)))))))⟩, ⟨S4096x64, (mulf (broadcastInDim S4096x64 ![0, 1] bcast_S4096x1_S4096x64_0_1 (broadcastInDim S4096x1 ![0] bcast_S4096_S4096x1_0 (sitofp .f32 (shapeCast _ (broadcastInDim S64x64 ![1] bcast_S64_S64x64_1 (iotaInDim S64 32 0)) shapeCasts_S64x64_S4096)))) (broadcastInDim S4096x64 ![0, 1] bcast_S1x64_S4096x64_0_1 (broadcastInDim S1x64 ![1] bcast_S64_S1x64_1 (Host.powf (broadcastInDim S64 ![] bcast_S_S64 (constant S_ .f32 0x461C4000#32)) (Host.divf (Host.negf (sitofp .f32 (iotaInDim S64 32 0))) (broadcastInDim S64 ![] bcast_S_S64 (constant S_ .f32 0x42800000#32)))))))⟩] concatenates_S4096x64_S4096x64_S4096x128_d1

/-- The context rows' projection. -/
def prC : FVec Ideal S8x256x6144 .f32 :=
  Host.dotGeneral dot_S8x256x1024_S1024x6144_S8x256x6144_2_0_01_1_n_n none (addf (mulf (extractStridedSlice S8x256x1024 ![0, 0, 0] X slices_S8x4352x1024_S8x256x1024_0_0_0) (broadcastInDim S8x256x1024 ![0, 1, 2] bcast_S1x1x1024_S8x256x1024_0_1_2 (broadcastInDim S1x1x1024 ![2] bcast_S1024_S1x1x1024_2 (addf (broadcastInDim S1024 ![] bcast_S_S1024 (constant S_ .f32 0x3F800000#32)) (shapeCast _ (extractStridedSlice S1x1024 ![1, 0] (shapeCast _ (extractStridedSlice S1x6x1024 ![8, 0, 0] M slices_S16x6x1024_S1x6x1024_8_0_0) shapeCasts_S1x6x1024_S6x1024) slices_S6x1024_S1x1024_1_0) shapeCasts_S1x1024_S1024))))) (broadcastInDim S8x256x1024 ![0, 1, 2] bcast_S1x1x1024_S8x256x1024_0_1_2 (broadcastInDim S1x1x1024 ![2] bcast_S1024_S1x1x1024_2 (shapeCast _ (extractStridedSlice S1x1024 ![0, 0] (shapeCast _ (extractStridedSlice S1x6x1024 ![8, 0, 0] M slices_S16x6x1024_S1x6x1024_8_0_0) shapeCasts_S1x6x1024_S6x1024) slices_S6x1024_S1x1024_0_0) shapeCasts_S1x1024_S1024)))) W

/-- The latent rows' projection. -/
def prL : FVec Ideal S8x4096x6144 .f32 :=
  Host.dotGeneral dot_S8x4096x1024_S1024x6144_S8x4096x6144_2_0_01_1_n_n none (addf (mulf (extractStridedSlice S8x4096x1024 ![0, 256, 0] X slices_S8x4352x1024_S8x4096x1024_0_256_0) (broadcastInDim S8x4096x1024 ![0, 1, 2] bcast_S8x1x1024_S8x4096x1024_0_1_2 (addf (broadcastInDim S8x1x1024 ![] bcast_S_S8x1x1024 (constant S_ .f32 0x3F800000#32)) (shapeCast _ (extractStridedSlice S8x1x1x1024 ![0, 0, 1, 0] (broadcastInDim S8x1x6x1024 ![0, 2, 3] bcast_S8x6x1024_S8x1x6x1024_0_2_3 (extractStridedSlice S8x6x1024 ![0, 0, 0] M slices_S16x6x1024_S8x6x1024_0_0_0)) slices_S8x1x6x1024_S8x1x1x1024_0_0_1_0) shapeCasts_S8x1x1x1024_S8x1x1024)))) (broadcastInDim S8x4096x1024 ![0, 1, 2] bcast_S8x1x1024_S8x4096x1024_0_1_2 (shapeCast _ (extractStridedSlice S8x1x1x1024 ![0, 0, 0, 0] (broadcastInDim S8x1x6x1024 ![0, 2, 3] bcast_S8x6x1024_S8x1x6x1024_0_2_3 (extractStridedSlice S8x6x1024 ![0, 0, 0] M slices_S16x6x1024_S8x6x1024_0_0_0)) slices_S8x1x6x1024_S8x1x1x1024_0_0_0_0) shapeCasts_S8x1x1x1024_S8x1x1024))) W

/-- The first halves of the turned rows. -/
def tA (A : FVec Ideal S4096x128 .f32) (t : FVec Ideal S8x4096x4x256 .f32) : FVec Ideal S8x4096x4x128 .f32 :=
  subf (mulf (extractStridedSlice S8x4096x4x128 ![0, 0, 0, 0] t slices_S8x4096x4x256_S8x4096x4x128_0_0_0_0) (broadcastInDim S8x4096x4x128 ![0, 1, 2, 3] bcast_S1x4096x1x128_S8x4096x4x128_0_1_2_3 (broadcastInDim S1x4096x1x128 ![1, 3] bcast_S4096x128_S1x4096x1x128_1_3 (Host.cos A))))
    (mulf (extractStridedSlice S8x4096x4x128 ![0, 0, 0, 128] t slices_S8x4096x4x256_S8x4096x4x128_0_0_0_128) (broadcastInDim S8x4096x4x128 ![0, 1, 2, 3] bcast_S1x4096x1x128_S8x4096x4x128_0_1_2_3 (broadcastInDim S1x4096x1x128 ![1, 3] bcast_S4096x128_S1x4096x1x128_1_3 (Host.sin A))))

/-- The second halves of the turned rows. -/
def tB (A : FVec Ideal S4096x128 .f32) (t : FVec Ideal S8x4096x4x256 .f32) : FVec Ideal S8x4096x4x128 .f32 :=
  addf (mulf (extractStridedSlice S8x4096x4x128 ![0, 0, 0, 0] t slices_S8x4096x4x256_S8x4096x4x128_0_0_0_0) (broadcastInDim S8x4096x4x128 ![0, 1, 2, 3] bcast_S1x4096x1x128_S8x4096x4x128_0_1_2_3 (broadcastInDim S1x4096x1x128 ![1, 3] bcast_S4096x128_S1x4096x1x128_1_3 (Host.sin A))))
    (mulf (extractStridedSlice S8x4096x4x128 ![0, 0, 0, 128] t slices_S8x4096x4x256_S8x4096x4x128_0_0_0_128) (broadcastInDim S8x4096x4x128 ![0, 1, 2, 3] bcast_S1x4096x1x128_S8x4096x4x128_0_1_2_3 (broadcastInDim S1x4096x1x128 ![1, 3] bcast_S4096x128_S1x4096x1x128_1_3 (Host.cos A))))

/-- The latent rows' queries, head by head. -/
def q4 (P : FVec Ideal S8x4096x6144 .f32) : FVec Ideal S8x4096x4x256 .f32 :=
  shapeCast _ (extractStridedSlice S8x4096x1024 ![0, 0, 0] P slices_S8x4096x6144_S8x4096x1024_0_0_0) shapeCasts_S8x4096x1024_S8x4096x4x256

/-- The latent rows' keys, head by head, scaled. -/
def k4 (P : FVec Ideal S8x4096x6144 .f32) : FVec Ideal S8x4096x4x256 .f32 :=
  mulf (shapeCast _ (extractStridedSlice S8x4096x1024 ![0, 0, 1024] P slices_S8x4096x6144_S8x4096x1024_0_0_1024) shapeCasts_S8x4096x1024_S8x4096x4x256) (broadcastInDim S8x4096x4x256 ![] bcast_S_S8x4096x4x256 (constant S_ .f32 0x3D800000#32))

/-- The context rows' queries. -/
def qC (P : FVec Ideal S8x256x6144 .f32) : FVec Ideal S8x256x1024 .f32 :=
  shapeCast _ (shapeCast S8x256x4x256 (extractStridedSlice S8x256x1024 ![0, 0, 0] P slices_S8x256x6144_S8x256x1024_0_0_0) shapeCasts_S8x256x1024_S8x256x4x256) shapeCasts_S8x256x4x256_S8x256x1024

/-- The context rows' keys, scaled. -/
def kC (P : FVec Ideal S8x256x6144 .f32) : FVec Ideal S8x256x1024 .f32 :=
  shapeCast _ (mulf (shapeCast S8x256x4x256 (extractStridedSlice S8x256x1024 ![0, 0, 1024] P slices_S8x256x6144_S8x256x1024_0_0_1024) shapeCasts_S8x256x1024_S8x256x4x256) (broadcastInDim S8x256x4x256 ![] bcast_S_S8x256x4x256 (constant S_ .f32 0x3D800000#32))) shapeCasts_S8x256x4x256_S8x256x1024

/-- The turned rows, head after head. -/
def turn (a b : FVec Ideal S8x4096x4x128 .f32) : FVec Ideal S8x4096x1024 .f32 :=
  shapeCast _ (concatenate S8x4096x4x256 3 [⟨S8x4096x4x128, a⟩, ⟨S8x4096x4x128, b⟩] concatenates_S8x4096x4x128_S8x4096x4x128_S8x4096x4x256_d3) shapeCasts_S8x4096x4x256_S8x4096x1024

/-- Context rows before latent rows, of a thousand and twenty-four columns. -/
def cat1 (a : FVec Ideal S8x256x1024 .f32) (b : FVec Ideal S8x4096x1024 .f32) : FVec Ideal S8x4352x1024 .f32 :=
  concatenate S8x4352x1024 1 [⟨S8x256x1024, a⟩, ⟨S8x4096x1024, b⟩] concatenates_S8x256x1024_S8x4096x1024_S8x4352x1024_d1

/-- Context rows before latent rows, of two thousand and forty-eight columns. -/
def cat2 (a : FVec Ideal S8x256x2048 .f32) (b : FVec Ideal S8x4096x2048 .f32) : FVec Ideal S8x4352x2048 .f32 :=
  concatenate S8x4352x2048 1 [⟨S8x256x2048, a⟩, ⟨S8x4096x2048, b⟩] concatenates_S8x256x2048_S8x4096x2048_S8x4352x2048_d1

/-- The queries. -/
def qR : FVec Ideal S8x4352x1024 .f32 := cat1 (qC (prC X M W)) (turn (tA angR (q4 (prL X M W))) (tB angR (q4 (prL X M W))))

/-- The keys. -/
def kR : FVec Ideal S8x4352x1024 .f32 := cat1 (kC (prC X M W)) (turn (tA angR (k4 (prL X M W))) (tB angR (k4 (prL X M W))))

/-- The values. -/
def vR : FVec Ideal S8x4352x2048 .f32 :=
  cat2 (extractStridedSlice S8x256x2048 ![0, 0, 2048] (prC X M W) slices_S8x256x6144_S8x256x2048_0_0_2048)
    (extractStridedSlice S8x4096x2048 ![0, 0, 2048] (prL X M W) slices_S8x4096x6144_S8x4096x2048_0_0_2048)

/-- The gates. -/
def gR : FVec Ideal S8x4352x2048 .f32 :=
  cat2 (extractStridedSlice S8x256x2048 ![0, 0, 4096] (prC X M W) slices_S8x256x6144_S8x256x2048_0_0_4096)
    (extractStridedSlice S8x4096x2048 ![0, 0, 4096] (prL X M W) slices_S8x4096x6144_S8x4096x2048_0_0_4096)

/-- The reference's run, its results by these names. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v107) = qR (m ((c.tc : Thread nD τ).loc main_arg0)) (m ((c.tc : Thread nD τ).loc main_arg1)) (m ((c.tc : Thread nD τ).loc main_arg2))
      ∧ r.2.mem ((c.tc : Thread nD τ).loc main_v108) = kR (m ((c.tc : Thread nD τ).loc main_arg0)) (m ((c.tc : Thread nD τ).loc main_arg1)) (m ((c.tc : Thread nD τ).loc main_arg2))
      ∧ r.2.mem ((c.tc : Thread nD τ).loc main_v109) = vR (m ((c.tc : Thread nD τ).loc main_arg0)) (m ((c.tc : Thread nD τ).loc main_arg1)) (m ((c.tc : Thread nD τ).loc main_arg2))
      ∧ r.2.mem ((c.tc : Thread nD τ).loc main_v110) = gR (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Cert.ProjRefIdeal.Value.run m ρ

/-- A row of the modulated tokens against a column of the weights: context rows use the ninth modulation, latent rows their batch
    element's. -/
def prS (b : Fin 8) (l : Fin 4352) (j : Fin 6144) : EReal :=
  ∑ d : Fin 1024, (X (ix3 b l d) * (1 + M (ix3 (if l.val < 256 then 8 else ⟨b.val, by omega⟩) 1 d))
    + M (ix3 (if l.val < 256 then 8 else ⟨b.val, by omega⟩) 0 d)) * W (ix2 d j)

/-- The context rows' projection at an index. -/
theorem prC_apply (b : Fin 8) (l : Fin 256) (j : Fin 6144) : prC X M W (ix3 b l j) = prS X M W b ⟨l.val, by omega⟩ j := by
  unfold prS
  simp only [l.isLt, if_true]
  pointwise [prC]

/-- The latent rows' projection at an index. -/
theorem prL_apply (b : Fin 8) (r : Fin 4096) (j : Fin 6144) : prL X M W (ix3 b r j) = prS X M W b ⟨256 + r.val, by omega⟩ j := by
  unfold prS
  simp only [show ¬(256 + r.val < 256) by omega, if_false]
  pointwise [prL]

variable (A : FVec Ideal S4096x128 .f32) (t : FVec Ideal S8x4096x4x256 .f32) (P : FVec Ideal S8x4096x6144 .f32)
  (Q : FVec Ideal S8x256x6144 .f32)

/-- The first halves at an index. -/
theorem tA_apply (b : Fin 8) (r : Fin 4096) (h : Fin 4) (f : Fin 128) : tA A t (ix4 b r h f)
    = t (ix4 b r h ⟨f.val, by omega⟩) * Ideal.cos (A (ix2 r f)) - t (ix4 b r h ⟨128 + f.val, by omega⟩) * Ideal.sin (A (ix2 r f)) := by
  pointwise [tA]

/-- The second halves at an index. -/
theorem tB_apply (b : Fin 8) (r : Fin 4096) (h : Fin 4) (f : Fin 128) : tB A t (ix4 b r h f)
    = t (ix4 b r h ⟨f.val, by omega⟩) * Ideal.sin (A (ix2 r f)) + t (ix4 b r h ⟨128 + f.val, by omega⟩) * Ideal.cos (A (ix2 r f)) := by
  pointwise [tB]

/-- The latent rows' queries at an index. -/
theorem q4_apply (b : Fin 8) (r : Fin 4096) (h : Fin 4) (d : Fin 256) :
    q4 P (ix4 b r h d) = P (ix3 b r ⟨h.val * 256 + d.val, by omega⟩) := by
  pointwise [q4]

/-- The latent rows' keys at an index. -/
theorem k4_apply (b : Fin 8) (r : Fin 4096) (h : Fin 4) (d : Fin 256) :
    k4 P (ix4 b r h d) = P (ix3 b r ⟨1024 + (h.val * 256 + d.val), by omega⟩) * Ideal.ofBits FTy.f32 0x3D800000#32 := by
  pointwise [k4]

/-- The context rows' queries at an index. -/
theorem qC_apply (b : Fin 8) (l : Fin 256) (j : Fin 1024) : qC Q (ix3 b l j) = Q (ix3 b l ⟨j.val, by omega⟩) := by
  pointwise [qC]

/-- The context rows' keys at an index. -/
theorem kC_apply (b : Fin 8) (l : Fin 256) (j : Fin 1024) :
    kC Q (ix3 b l j) = Q (ix3 b l ⟨1024 + j.val, by omega⟩) * Ideal.ofBits FTy.f32 0x3D800000#32 := by
  pointwise [kC]

/-- The turned rows at an index. -/
theorem turn_apply (a b' : FVec Ideal S8x4096x4x128 .f32) (b : Fin 8) (r : Fin 4096) (j : Fin 1024) : turn a b' (ix3 b r j)
    = if h : j.val % 256 < 128 then a (ix4 b r ⟨j.val / 256, by omega⟩ ⟨j.val % 256, h⟩)
      else b' (ix4 b r ⟨j.val / 256, by omega⟩ ⟨j.val % 256 - 128, by omega⟩) := by
  pointwise [turn]

/-- Context rows, then latent rows. -/
theorem cat1_apply (a : FVec Ideal S8x256x1024 .f32) (b' : FVec Ideal S8x4096x1024 .f32) (b : Fin 8) (l : Fin 4352) (j : Fin 1024) :
    cat1 a b' (ix3 b l j) = if h : l.val < 256 then a (ix3 b ⟨l.val, h⟩ j) else b' (ix3 b ⟨l.val - 256, by omega⟩ j) := by
  pointwise [cat1]

/-- Context rows, then latent rows. -/
theorem cat2_apply (a : FVec Ideal S8x256x2048 .f32) (b' : FVec Ideal S8x4096x2048 .f32) (b : Fin 8) (l : Fin 4352) (j : Fin 2048) :
    cat2 a b' (ix3 b l j) = if h : l.val < 256 then a (ix3 b ⟨l.val, h⟩ j) else b' (ix3 b ⟨l.val - 256, by omega⟩ j) := by
  pointwise [cat2]

/-- The values at an index. -/
theorem vR_apply (b : Fin 8) (l : Fin 4352) (j : Fin 2048) : vR X M W (ix3 b l j) = prS X M W b l ⟨2048 + j.val, by omega⟩ := by
  unfold vR
  rw [cat2_apply]
  by_cases h : l.val < 256
  · rw [dif_pos h]
    refine Eq.trans ?_ (prC_apply X M W b ⟨l.val, h⟩ ⟨2048 + j.val, by omega⟩)
    pointwise
  · rw [dif_neg h]
    refine Eq.trans ?_ ((prL_apply X M W b ⟨l.val - 256, by omega⟩ ⟨2048 + j.val, by omega⟩).trans ?_)
    · pointwise
    · congr 1
      exact Fin.ext (by show 256 + (l.val - 256) = l.val; omega)

/-- The gates at an index. -/
theorem gR_apply (b : Fin 8) (l : Fin 4352) (j : Fin 2048) : gR X M W (ix3 b l j) = prS X M W b l ⟨4096 + j.val, by omega⟩ := by
  unfold gR
  rw [cat2_apply]
  by_cases h : l.val < 256
  · rw [dif_pos h]
    refine Eq.trans ?_ (prC_apply X M W b ⟨l.val, h⟩ ⟨4096 + j.val, by omega⟩)
    pointwise
  · rw [dif_neg h]
    refine Eq.trans ?_ ((prL_apply X M W b ⟨l.val - 256, by omega⟩ ⟨4096 + j.val, by omega⟩).trans ?_)
    · pointwise
    · congr 1
      exact Fin.ext (by show 256 + (l.val - 256) = l.val; omega)

/-- The cosine of a row's angle: one on context rows. -/
def cosS (l : Fin 4352) (f : Fin 128) : EReal := if h : l.val < 256 then 1 else Ideal.cos (angR (ix2 ⟨l.val - 256, by omega⟩ f))

/-- The sine of a row's angle: zero on context rows. -/
def sinS (l : Fin 4352) (f : Fin 128) : EReal := if h : l.val < 256 then 0 else Ideal.sin (angR (ix2 ⟨l.val - 256, by omega⟩ f))

/-- A row turned: in each head's 256 columns the first and the second 128 mix by the row's angles. -/
def ropeS (u : Fin 1024 → EReal) (cs sn : Fin 128 → EReal) (j : Fin 1024) : EReal :=
  if h : j.val % 256 < 128 then u j * cs ⟨j.val % 256, h⟩ - u ⟨j.val + 128, by omega⟩ * sn ⟨j.val % 256, h⟩
  else u ⟨j.val - 128, by omega⟩ * sn ⟨j.val % 256 - 128, by omega⟩ + u j * cs ⟨j.val % 256 - 128, by omega⟩

/-- A context row's turn leaves the row as it is. -/
theorem ropeS_ctx (u : Fin 1024 → EReal) (l : Fin 4352) (hl : l.val < 256) (j : Fin 1024) : ropeS u (cosS l) (sinS l) j = u j := by
  unfold ropeS cosS sinS
  simp only [hl, dif_pos, mul_one, mul_zero, sub_zero, zero_add, dite_eq_ite, ite_self]

/-- A latent row's turn, from the halves. -/
theorem ropeS_lat (u : Fin 1024 → EReal) (b : Fin 8) (l : Fin 4352) (hl : ¬l.val < 256)
    (ht : ∀ (h : Fin 4) (d : Fin 256), t (ix4 b ⟨l.val - 256, by omega⟩ h d) = u ⟨h.val * 256 + d.val, by omega⟩) (j : Fin 1024) :
    turn (tA angR t) (tB angR t) (ix3 b ⟨l.val - 256, by omega⟩ j) = ropeS u (cosS l) (sinS l) j := by
  rw [turn_apply]
  unfold ropeS cosS sinS
  simp only [hl, dif_neg, not_false_iff]
  by_cases h : j.val % 256 < 128
  · rw [dif_pos h, dif_pos h, tA_apply, ht, ht]
    congr 3 <;> exact Fin.ext (by simp only []; omega)
  · rw [dif_neg h, dif_neg h, tB_apply, ht, ht]
    congr 3 <;> exact Fin.ext (by simp only []; omega)

/-- The queries at an index. -/
theorem qR_apply (b : Fin 8) (l : Fin 4352) (j : Fin 1024) :
    qR X M W (ix3 b l j) = ropeS (fun i => prS X M W b l ⟨i.val, by omega⟩) (cosS l) (sinS l) j := by
  unfold qR
  rw [cat1_apply]
  by_cases h : l.val < 256
  · rw [dif_pos h, ropeS_ctx _ _ h, qC_apply, prC_apply]
  · rw [dif_neg h]
    refine ropeS_lat _ _ b l h (fun a d => ?_) j
    rw [q4_apply, prL_apply]
    congr 1
    exact Fin.ext (by show 256 + (l.val - 256) = l.val; omega)

/-- The keys at an index. -/
theorem kR_apply (b : Fin 8) (l : Fin 4352) (j : Fin 1024) : kR X M W (ix3 b l j)
    = ropeS (fun i => prS X M W b l ⟨1024 + i.val, by omega⟩ * Ideal.ofBits FTy.f32 0x3D800000#32) (cosS l) (sinS l) j := by
  unfold kR
  rw [cat1_apply]
  by_cases h : l.val < 256
  · rw [dif_pos h, ropeS_ctx _ _ h, kC_apply, prC_apply]
  · rw [dif_neg h]
    refine ropeS_lat _ _ b l h (fun a d => ?_) j
    rw [k4_apply, prL_apply]
    congr 2
    exact Fin.ext (by show 256 + (l.val - 256) = l.val; omega)

end Cert.Proof.RefProj

end
-- ==== Proof.TabProj.lean ====
/- The blocks a point of the projection kernel reads: the tokens, the modulations, the weights, and the angles' cosines and sines the host
   lays out, one on top of the context rows' ones and zeros. -/
module

public import proofs.«01_k».proof.Proof.RefProj
public import proofs.«01_k».proof.Proof.Gen.ProjIdeal.Frame
public import proofs.«01_k».proof.Proof.Gen.ProjIdeal.Value
public import Idealize.ShloMosaic.Lib.StableHlo.ReadAt
public import Idealize.ShloMosaic.Lib.Pointwise
public import Idealize.ShloMosaic.Lib.Pipeline.ValueKit

@[expose] public section

set_option maxRecDepth 16384

noncomputable section

namespace Cert.Proof.TabProj

open Idealize.ShloMosaic Idealize.ShloMosaic.TcCoe Idealize.SL.Sem Idealize.ShloMosaic.StableHlo
open Cert.ProjIdeal Cert.ProjIdeal.Gen
open Cert.Proof.RefProj (angR cosS sinS)

variable (m : (ℓ : Loc nD τ sig) → Buf (Elt Ideal) ℓ) (c : Dev nD)

/-- Where each window's block lies at a point. -/
theorem idx (t : Fin cfg0.N) : win0_0.index t = ![t.val / 17, t.val % 17, 0] ∧ win0_1.index t = ![if t.val % 17 = 0 then 8 else t.val / 17, 0, 0]
    ∧ win0_2.index t = ![0, 0] ∧ win0_3.index t = ![t.val % 17, 0] ∧ win0_4.index t = ![t.val % 17, 0]
    ∧ win0_5.index t = ![t.val / 17, t.val % 17, 0] ∧ win0_6.index t = ![t.val / 17, t.val % 17, 0]
    ∧ win0_7.index t = ![t.val / 17, t.val % 17, 0] ∧ win0_8.index t = ![t.val / 17, t.val % 17, 0] :=
  (by decide +kernel : ∀ t : Fin grid0.N, win0_0.index t = ![t.val / 17, t.val % 17, 0] ∧ win0_1.index t = ![if t.val % 17 = 0 then 8 else t.val / 17, 0, 0]
    ∧ win0_2.index t = ![0, 0] ∧ win0_3.index t = ![t.val % 17, 0] ∧ win0_4.index t = ![t.val % 17, 0]
    ∧ win0_5.index t = ![t.val / 17, t.val % 17, 0] ∧ win0_6.index t = ![t.val / 17, t.val % 17, 0]
    ∧ win0_7.index t = ![t.val / 17, t.val % 17, 0] ∧ win0_8.index t = ![t.val / 17, t.val % 17, 0]) t

/-- A point's batch element. -/
def bat (t : Fin cfg0.N) : Fin 8 := ⟨t.val / 17, by have := lt_of_lt_of_eq t.isLt (show cfg0.N = 136 from N_0); omega⟩

/-- The array's row that row `l` of a point's block is. -/
def rowB (t : Fin cfg0.N) (l : Fin 256) : Fin 4352 := ⟨t.val % 17 * 256 + l.val, by omega⟩

/-- The modulations a point reads: the ninth at a batch element's first point, else the batch element's. -/
def mB (t : Fin cfg0.N) : Fin 16 := ⟨if t.val % 17 = 0 then 8 else t.val / 17, by
  have := lt_of_lt_of_eq t.isLt (show cfg0.N = 136 from N_0); split <;> omega⟩

/-- A table's 256 context rows before its latent rows. -/
def catT (a : FVec Ideal S256x128 .f32) (b : FVec Ideal S4096x128 .f32) : FVec Ideal S4352x128 .f32 :=
  concatenate S4352x128 0 [⟨S256x128, a⟩, ⟨S4096x128, b⟩] concatenates_S256x128_S4096x128_S4352x128_d0

/-- Context rows, then latent rows. -/
theorem catT_apply (a : FVec Ideal S256x128 .f32) (b : FVec Ideal S4096x128 .f32) (l : Fin 4352) (f : Fin 128) :
    catT a b (ix2 l f) = if h : l.val < 256 then a (ix2 ⟨l.val, h⟩ f) else b (ix2 ⟨l.val - 256, by omega⟩ f) := by
  pointwise [catT]

/-- The host's cosines. -/
theorem cos_tab : V m c main_v27 = catT (broadcastInDim S256x128 ![] bcast_S_S256x128 (constant S_ .f32 0x3F800000#32)) (Host.cos angR) := by
  unfold V
  after_reads_simp
  rfl

/-- The host's sines. -/
theorem sin_tab : V m c main_v30 = catT (broadcastInDim S256x128 ![] bcast_S_S256x128 (constant S_ .f32 0x00000000#32)) (Host.sin angR) := by
  unfold V
  after_reads_simp
  rfl

/-- The host's cosines at an index. -/
theorem cos_apply (l : Fin 4352) (f : Fin 128) : V m c main_v27 (ix2 l f) = cosS l f := by
  rw [cos_tab, catT_apply]
  unfold cosS
  by_cases h : l.val < 256
  · rw [dif_pos h, dif_pos h]
    pointwise
  · rw [dif_neg h, dif_neg h]
    rfl

/-- The host's sines at an index. -/
theorem sin_apply (l : Fin 4352) (f : Fin 128) : V m c main_v30 (ix2 l f) = sinS l f := by
  rw [sin_tab, catT_apply]
  unfold sinS
  by_cases h : l.val < 256
  · rw [dif_pos h, dif_pos h]
    pointwise
  · rw [dif_neg h, dif_neg h]
    rfl

/-- The weights the kernel reads are the launched ones. -/
theorem w_apply (d : Fin 1024) (j : Fin 6144) : V m c main_v31 (ix2 d j) = m ((c : Thread nD τ).loc main_arg2) (ix2 d j) := by
  unfold V
  after_reads_at

/-- The cosines in a point's block. -/
theorem cos_blk (t : Fin cfg0.N) (l : Fin 256) (f : Fin 128) : iblk m c 3 t (ix2 l f) = cosS (rowB t l) f := by
  rw [← cos_apply m c]
  unfold rowB
  blk_ext [iblk, idx t]

/-- The sines in a point's block. -/
theorem sin_blk (t : Fin cfg0.N) (l : Fin 256) (f : Fin 128) : iblk m c 4 t (ix2 l f) = sinS (rowB t l) f := by
  rw [← sin_apply m c]
  unfold rowB
  blk_ext [iblk, idx t]

/-- The weights in a point's block. -/
theorem w_blk (t : Fin cfg0.N) (d : Fin 1024) (j : Fin 6144) :
    iblk m c 2 t (ix2 d j) = m ((c : Thread nD τ).loc main_arg2) (ix2 d j) := by
  rw [← w_apply m c]
  blk_ext [iblk, idx t]

/-- The tokens in a point's block. -/
theorem x_blk (t : Fin cfg0.N) (l : Fin 256) (d : Fin 1024) :
    iblk m c 0 t (ix3 0 l d) = m ((c : Thread nD τ).loc main_arg0) (ix3 (bat t) (rowB t l) d) := by
  unfold bat rowB
  blk_ext [iblk, V, idx t]

/-- The modulations in a point's block. -/
theorem mods_blk (t : Fin cfg0.N) (k : Fin 6) (d : Fin 1024) :
    iblk m c 1 t (ix3 0 k d) = m ((c : Thread nD τ).loc main_arg1) (ix3 (mB t) k d) := by
  unfold mB
  blk_ext [iblk, V, idx t]

end Cert.Proof.TabProj

end
-- ==== Proof.KerProj.lean ====
/- What a point of the projection kernel leaves in its four output blocks, over its input blocks. -/
module

public import proofs.«01_k».proof.Proof.RefProj
public import proofs.«01_k».proof.Proof.Gen.ProjIdeal.Frame
public import proofs.«01_k».proof.Proof.Gen.ProjIdeal.Value
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof.KerProj

open Idealize.ShloMosaic Idealize.ShloMosaic.TcCoe Idealize.SL.Sem
open Cert.ProjIdeal Cert.ProjIdeal.Gen
open Cert.Proof.RefProj (ropeS)

variable (x0 : Vec Ideal S1x256x1024 .f32) (x1 : Vec Ideal S1x6x1024 .f32) (x2 : Vec Ideal S1024x6144 .bf16)
  (x3 x4 : Vec Ideal S256x128 .f32)

/-- A row of the modulated block against a column of the weights. -/
def prK (l : Fin 256) (j : Fin 6144) : EReal :=
  ∑ d : Fin 1024, (x0 (ix3 0 l d) * (1 + x1 (ix3 0 1 d)) + x1 (ix3 0 0 d)) * x2 (ix2 d j)

/-- The rows of a block turned by their angles. -/
def turnK (u : Fin 256 → Fin 1024 → EReal) (y : S1x256x1024.Idx) : EReal :=
  ropeS (u (y 1)) (fun f => x3 (ix2 (y 1) f)) (fun f => x4 (ix2 (y 1) f)) (y 2)

/-- A piece that holds a head's first half of the turned rows. -/
theorem piece_lo (u : Fin 256 → Fin 1024 → EReal) (o : ℕ) (h : Fin 4) (ho : o = h.val * 256)
    (inb : ∀ a, (![0, 0, o] : Fin 3 → ℕ) a + S1x256x128.size a ≤ S1x256x1024.size a) (p : FVec Ideal S1x256x128 .f32)
    (hp : ∀ (l : Fin 256) (f : Fin 128), p (ix3 0 l f)
      = u l ⟨o + f.val, by omega⟩ * x3 (ix2 l f) - u l ⟨o + 128 + f.val, by omega⟩ * x4 (ix2 l f)) (z : S1x256x128.Idx) :
    p z = turnK x3 x4 u ((Rect.unit (s := S1x256x1024) ![0, 0, o] S1x256x128.size inb).emb z) := by
  idx_vars z
  obtain rfl : z0 = 0 := Subsingleton.elim _ _
  rw [hp]
  have h1 : ((Rect.unit (s := S1x256x1024) ![0, 0, o] S1x256x128.size inb).emb (ix3 0 z1 z2)) 1 = z1 :=
    Fin.ext ((ValueKit.rect_emb_unit_val _ _ _ _ _).trans (Nat.zero_add _))
  have h2 : ((Rect.unit (s := S1x256x1024) ![0, 0, o] S1x256x128.size inb).emb (ix3 0 z1 z2)) 2 = (⟨o + z2.val, by omega⟩ : Fin 1024) :=
    Fin.ext (ValueKit.rect_emb_unit_val _ _ _ _ _)
  unfold turnK ropeS
  rw [h1, h2]
  have hm : (o + z2.val) % 256 = z2.val := by omega
  have hlt : (o + z2.val) % 256 < 128 := by omega
  rw [dif_pos hlt]
  have hz : (⟨(o + z2.val) % 256, hlt⟩ : Fin 128) = z2 := Fin.ext hm
  have hj : (⟨o + z2.val + 128, by omega⟩ : Fin 1024) = ⟨o + 128 + z2.val, by omega⟩ := Fin.ext (by simp only []; omega)
  show _ = u z1 ⟨o + z2.val, _⟩ * x3 (ix2 z1 ⟨(o + z2.val) % 256, hlt⟩) - u z1 ⟨o + z2.val + 128, _⟩ * x4 (ix2 z1 ⟨(o + z2.val) % 256, hlt⟩)
  rw [hz, hj]

/-- A piece that holds a head's second half of the turned rows. -/
theorem piece_hi (u : Fin 256 → Fin 1024 → EReal) (o : ℕ) (h : Fin 4) (ho : o = h.val * 256 + 128)
    (inb : ∀ a, (![0, 0, o] : Fin 3 → ℕ) a + S1x256x128.size a ≤ S1x256x1024.size a) (p : FVec Ideal S1x256x128 .f32)
    (hp : ∀ (l : Fin 256) (f : Fin 128), p (ix3 0 l f)
      = u l ⟨o - 128 + f.val, by omega⟩ * x4 (ix2 l f) + u l ⟨o + f.val, by omega⟩ * x3 (ix2 l f)) (z : S1x256x128.Idx) :
    p z = turnK x3 x4 u ((Rect.unit (s := S1x256x1024) ![0, 0, o] S1x256x128.size inb).emb z) := by
  idx_vars z
  obtain rfl : z0 = 0 := Subsingleton.elim _ _
  rw [hp]
  have h1 : ((Rect.unit (s := S1x256x1024) ![0, 0, o] S1x256x128.size inb).emb (ix3 0 z1 z2)) 1 = z1 :=
    Fin.ext ((ValueKit.rect_emb_unit_val _ _ _ _ _).trans (Nat.zero_add _))
  have h2 : ((Rect.unit (s := S1x256x1024) ![0, 0, o] S1x256x128.size inb).emb (ix3 0 z1 z2)) 2 = (⟨o + z2.val, by omega⟩ : Fin 1024) :=
    Fin.ext (ValueKit.rect_emb_unit_val _ _ _ _ _)
  unfold turnK ropeS
  rw [h1, h2]
  have hm : (o + z2.val) % 256 - 128 = z2.val := by omega
  have hge : ¬(o + z2.val) % 256 < 128 := by omega
  rw [dif_neg hge]
  have hz : (⟨(o + z2.val) % 256 - 128, by omega⟩ : Fin 128) = z2 := Fin.ext hm
  have hj : (⟨o + z2.val - 128, by omega⟩ : Fin 1024) = ⟨o - 128 + z2.val, by omega⟩ := Fin.ext (by simp only []; omega)
  show _ = u z1 ⟨o + z2.val - 128, _⟩ * x4 (ix2 z1 ⟨(o + z2.val) % 256 - 128, _⟩) + u z1 ⟨o + z2.val, _⟩ * x3 (ix2 z1 ⟨(o + z2.val) % 256 - 128, _⟩)
  rw [hz, hj]

/-- The block of values a point leaves. -/
theorem out7 (l : Fin 256) (j : Fin 2048) : out0_7 x0 x1 x2 x3 x4 (ix3 0 l j) = prK x0 x1 x2 l ⟨2048 + j.val, by omega⟩ := by
  unfold out0_7
  frame_open
  frame_out
  unfold_payloads
  pointwise
  rfl

/-- The block of gates a point leaves. -/
theorem out8 (l : Fin 256) (j : Fin 2048) : out0_8 x0 x1 x2 x3 x4 (ix3 0 l j) = prK x0 x1 x2 l ⟨4096 + j.val, by omega⟩ := by
  unfold out0_8
  frame_open
  frame_out
  unfold_payloads
  pointwise
  rfl

/-- The block of queries a point leaves. -/
theorem out5 (y : S1x256x1024.Idx) :
    out0_5 x0 x1 x2 x3 x4 y = turnK x3 x4 (fun l i => prK x0 x1 x2 l ⟨i.val, by omega⟩) y := by
  unfold out0_5
  frame_open
  refine View.canon_append_of_piecesOf (Val := Elt Ideal) (e := .f32)
    (turnK x3 x4 (fun l i => prK x0 x1 x2 l ⟨i.val, by omega⟩)) [] [_, _, _, _, _, _, _, _]
    ⟨piece_hi x3 x4 _ 896 3 rfl inb_S1x256x1024_S1x256x128_0_0_896 _ fun l f => ?_,
      piece_lo x3 x4 _ 768 3 rfl inb_S1x256x1024_S1x256x128_0_0_768 _ fun l f => ?_,
      piece_hi x3 x4 _ 640 2 rfl inb_S1x256x1024_S1x256x128_0_0_640 _ fun l f => ?_,
      piece_lo x3 x4 _ 512 2 rfl inb_S1x256x1024_S1x256x128_0_0_512 _ fun l f => ?_,
      piece_hi x3 x4 _ 384 1 rfl inb_S1x256x1024_S1x256x128_0_0_384 _ fun l f => ?_,
      piece_lo x3 x4 _ 256 1 rfl inb_S1x256x1024_S1x256x128_0_0_256 _ fun l f => ?_,
      piece_hi x3 x4 _ 128 0 rfl inb_S1x256x1024_S1x256x128_0_0_128 _ fun l f => ?_,
      piece_lo x3 x4 _ 0 0 rfl inb_S1x256x1024_S1x256x128_0_0_0 _ fun l f => ?_, trivial⟩ y
    (cover0_5 _ _ _ _ _ _ _ _ y) <;> frame_out <;> unfold_payloads <;> pointwise [prK] <;> rfl

/-- The block of keys a point leaves. -/
theorem out6 (y : S1x256x1024.Idx) : out0_6 x0 x1 x2 x3 x4 y
    = turnK x3 x4 (fun l i => prK x0 x1 x2 l ⟨1024 + i.val, by omega⟩ * Ideal.ofBits FTy.f32 0x3D800000#32) y := by
  unfold out0_6
  frame_open
  refine View.canon_append_of_piecesOf (Val := Elt Ideal) (e := .f32)
    (turnK x3 x4 (fun l i => prK x0 x1 x2 l ⟨1024 + i.val, by omega⟩ * Ideal.ofBits FTy.f32 0x3D800000#32)) [] [_, _, _, _, _, _, _, _]
    ⟨piece_hi x3 x4 _ 896 3 rfl inb_S1x256x1024_S1x256x128_0_0_896 _ fun l f => ?_,
      piece_lo x3 x4 _ 768 3 rfl inb_S1x256x1024_S1x256x128_0_0_768 _ fun l f => ?_,
      piece_hi x3 x4 _ 640 2 rfl inb_S1x256x1024_S1x256x128_0_0_640 _ fun l f => ?_,
      piece_lo x3 x4 _ 512 2 rfl inb_S1x256x1024_S1x256x128_0_0_512 _ fun l f => ?_,
      piece_hi x3 x4 _ 384 1 rfl inb_S1x256x1024_S1x256x128_0_0_384 _ fun l f => ?_,
      piece_lo x3 x4 _ 256 1 rfl inb_S1x256x1024_S1x256x128_0_0_256 _ fun l f => ?_,
      piece_hi x3 x4 _ 128 0 rfl inb_S1x256x1024_S1x256x128_0_0_128 _ fun l f => ?_,
      piece_lo x3 x4 _ 0 0 rfl inb_S1x256x1024_S1x256x128_0_0_0 _ fun l f => ?_, trivial⟩ y
    (cover0_6 _ _ _ _ _ _ _ _ y) <;> frame_out <;> unfold_payloads <;> pointwise [prK] <;> rfl

end Cert.Proof.KerProj

end
-- ==== Proof.ProjValue.lean ====
/- The projection kernel's four results are the projections' reference's: every point's blocks are the reference's rows of the point's place. -/
module

public import proofs.«01_k».proof.Defs
public import proofs.«01_k».proof.Proof.TabProj
public import proofs.«01_k».proof.Proof.KerProj

@[expose] public section

set_option maxRecDepth 16384

noncomputable section

namespace Cert.Proof.ProjValue

open Idealize.ShloMosaic Idealize.ShloMosaic.TcCoe Idealize.SL.Sem
open Cert.ProjIdeal Cert.ProjIdeal.Gen Cert.ProjIdeal.Value Cert.Proof.KerProj Cert.Proof.TabProj
open Cert.Proof.RefProj (prS ropeS cosS sinS qR kR vR gR)

variable (m : (ℓ : Loc nD τ sig) → Buf (Elt Ideal) ℓ) (c : Dev nD)

/-- The tokens, as launched. -/
abbrev X0 : FVec Ideal S8x4352x1024 .f32 := m ((c : Thread nD τ).loc main_arg0)

/-- The modulations, as launched. -/
abbrev M0 : FVec Ideal S16x6x1024 .f32 := m ((c : Thread nD τ).loc main_arg1)

/-- The weights, as launched. -/
abbrev W0 : FVec Ideal S1024x6144 .f32 := m ((c : Thread nD τ).loc main_arg2)

/-- A row of a point's block is a context row exactly at a batch element's first point. -/
theorem mB_eq (t : Fin cfg0.N) (l : Fin 256) : mB t = if (rowB t l).val < 256 then 8 else ⟨(bat t).val, by omega⟩ := by
  have hv : (rowB t l).val = t.val % 17 * 256 + l.val := rfl
  by_cases h : t.val % 17 = 0
  · rw [if_pos (by rw [hv]; omega)]
    exact Fin.ext (if_pos h)
  · rw [if_neg (by rw [hv]; omega)]
    exact Fin.ext (if_neg h)

/-- A row of a point's projection is the reference's row of the point's place. -/
theorem pr_eq (t : Fin cfg0.N) (l : Fin 256) (j : Fin 6144) :
    prK (iblk m c 0 t) (iblk m c 1 t) (iblk m c 2 t) l j = prS (X0 m c) (M0 m c) (W0 m c) (bat t) (rowB t l) j := by
  unfold prK prS
  refine Finset.sum_congr rfl fun d _ => ?_
  rw [x_blk, mods_blk, mods_blk, w_blk, mB_eq t l]

/-- The turned rows of a point are the reference's turned rows, of any rows that agree. -/
theorem turn_eq (t : Fin cfg0.N) (l : Fin 256) (j : Fin 1024) (u : Fin 256 → Fin 1024 → EReal) (v : Fin 1024 → EReal) (h : u l = v) :
    turnK (iblk m c 3 t) (iblk m c 4 t) u (ix3 0 l j) = ropeS v (cosS (rowB t l)) (sinS (rowB t l)) j := by
  subst h
  unfold turnK
  congr 1
  · funext f
    exact cos_blk m c t l f
  · funext f
    exact sin_blk m c t l f

/-- The queries' array is any array whose rows the points' blocks are. -/
theorem arr5 (G : FVec Ideal S8x4352x1024 .f32) (hG : ∀ (t : Fin cfg0.N) (l : Fin 256) (e : Fin 1024),
    out0_5 (iblk m c 0 t) (iblk m c 1 t) (iblk m c 2 t) (iblk m c 3 t) (iblk m c 4 t) (ix3 0 l e) = G (ix3 (bat t) (rowB t l) e)) :
    (dats m 0 c).arrAt 5 cfg0.N = G := by
  refine (dats m 0 c).arrAt_eq_of_covers 5 G (by decide +kernel) fun t hf y => ?_
  obtain ⟨a, l, e, rfl⟩ : ∃ (a : Fin 1) (l : Fin 256) (e : Fin 1024), y = ix3 a l e := ⟨y 0, y 1, y 2, by
    funext a; match a with | ⟨0, _⟩ => rfl | ⟨1, _⟩ => rfl | ⟨2, _⟩ => rfl⟩
  obtain rfl : a = 0 := Subsingleton.elim _ _
  blk_simp
  rw [after0_5]
  refine (hG t l e).trans ?_
  unfold bat rowB
  blk_ext [idx t]

/-- The keys' array is any array whose rows the points' blocks are. -/
theorem arr6 (G : FVec Ideal S8x4352x1024 .f32) (hG : ∀ (t : Fin cfg0.N) (l : Fin 256) (e : Fin 1024),
    out0_6 (iblk m c 0 t) (iblk m c 1 t) (iblk m c 2 t) (iblk m c 3 t) (iblk m c 4 t) (ix3 0 l e) = G (ix3 (bat t) (rowB t l) e)) :
    (dats m 0 c).arrAt 6 cfg0.N = G := by
  refine (dats m 0 c).arrAt_eq_of_covers 6 G (by decide +kernel) fun t hf y => ?_
  obtain ⟨a, l, e, rfl⟩ : ∃ (a : Fin 1) (l : Fin 256) (e : Fin 1024), y = ix3 a l e := ⟨y 0, y 1, y 2, by
    funext a; match a with | ⟨0, _⟩ => rfl | ⟨1, _⟩ => rfl | ⟨2, _⟩ => rfl⟩
  obtain rfl : a = 0 := Subsingleton.elim _ _
  blk_simp
  rw [after0_6]
  refine (hG t l e).trans ?_
  unfold bat rowB
  blk_ext [idx t]

/-- The values' array is any array whose rows the points' blocks are. -/
theorem arr7 (G : FVec Ideal S8x4352x2048 .f32) (hG : ∀ (t : Fin cfg0.N) (l : Fin 256) (e : Fin 2048),
    out0_7 (iblk m c 0 t) (iblk m c 1 t) (iblk m c 2 t) (iblk m c 3 t) (iblk m c 4 t) (ix3 0 l e) = G (ix3 (bat t) (rowB t l) e)) :
    (dats m 0 c).arrAt 7 cfg0.N = G := by
  refine (dats m 0 c).arrAt_eq_of_covers 7 G (by decide +kernel) fun t hf y => ?_
  obtain ⟨a, l, e, rfl⟩ : ∃ (a : Fin 1) (l : Fin 256) (e : Fin 2048), y = ix3 a l e := ⟨y 0, y 1, y 2, by
    funext a; match a with | ⟨0, _⟩ => rfl | ⟨1, _⟩ => rfl | ⟨2, _⟩ => rfl⟩
  obtain rfl : a = 0 := Subsingleton.elim _ _
  blk_simp
  rw [after0_7]
  refine (hG t l e).trans ?_
  unfold bat rowB
  blk_ext [idx t]

/-- The gates' array is any array whose rows the points' blocks are. -/
theorem arr8 (G : FVec Ideal S8x4352x2048 .f32) (hG : ∀ (t : Fin cfg0.N) (l : Fin 256) (e : Fin 2048),
    out0_8 (iblk m c 0 t) (iblk m c 1 t) (iblk m c 2 t) (iblk m c 3 t) (iblk m c 4 t) (ix3 0 l e) = G (ix3 (bat t) (rowB t l) e)) :
    (dats m 0 c).arrAt 8 cfg0.N = G := by
  refine (dats m 0 c).arrAt_eq_of_covers 8 G (by decide +kernel) fun t hf y => ?_
  obtain ⟨a, l, e, rfl⟩ : ∃ (a : Fin 1) (l : Fin 256) (e : Fin 2048), y = ix3 a l e := ⟨y 0, y 1, y 2, by
    funext a; match a with | ⟨0, _⟩ => rfl | ⟨1, _⟩ => rfl | ⟨2, _⟩ => rfl⟩
  obtain rfl : a = 0 := Subsingleton.elim _ _
  blk_simp
  rw [after0_8]
  refine (hG t l e).trans ?_
  unfold bat rowB
  blk_ext [idx t]

/-- The queries. -/
theorem q_eq : (dats m 0 c).arrAt 5 cfg0.N = qR (X0 m c) (M0 m c) (W0 m c) :=
  arr5 m c _ fun t l e => (out5 _ _ _ _ _ _).trans
    ((turn_eq m c t l e _ _ (funext fun _ => pr_eq m c t l _)).trans (RefProj.qR_apply _ _ _ (bat t) (rowB t l) e).symm)

/-- The keys. -/
theorem k_eq : (dats m 0 c).arrAt 6 cfg0.N = kR (X0 m c) (M0 m c) (W0 m c) :=
  arr6 m c _ fun t l e => (out6 _ _ _ _ _ _).trans
    ((turn_eq m c t l e _ _ (funext fun _ => congrArg (· * Ideal.ofBits FTy.f32 0x3D800000#32) (pr_eq m c t l _))).trans
      (RefProj.kR_apply _ _ _ (bat t) (rowB t l) e).symm)

/-- The values. -/
theorem v_eq : (dats m 0 c).arrAt 7 cfg0.N = vR (X0 m c) (M0 m c) (W0 m c) :=
  arr7 m c _ fun t l e => (out7 _ _ _ _ _ _ _).trans ((pr_eq m c t l _).trans (RefProj.vR_apply _ _ _ (bat t) (rowB t l) e).symm)

/-- The gates. -/
theorem g_eq : (dats m 0 c).arrAt 8 cfg0.N = gR (X0 m c) (M0 m c) (W0 m c) :=
  arr8 m c _ fun t l e => (out8 _ _ _ _ _ _ _).trans ((pr_eq m c t l _).trans (RefProj.gR_apply _ _ _ (bat t) (rowB t l) e).symm)

/-- The projection kernel computes the projections' reference's results, over the extended reals. -/
theorem algebraic [hProjIdeal : Cert.ProjIdeal.Facts] [hProjRefIdeal : Cert.ProjRefIdeal.Facts] :
    Cert.algebraic_ProjIdeal_ProjRefIdeal := by
  intro m g m' g' hpre hagree
  refine ⟨fun c => qR (X0 m c) (M0 m c) (W0 m c), fun c => kR (X0 m c) (M0 m c) (W0 m c), fun c => vR (X0 m c) (M0 m c) (W0 m c),
    fun c => gR (X0 m c) (M0 m c) (W0 m c), (θ_run _ _ _).mono (fun _ h c => ⟨(h c).1.trans (q_eq m c), (h c).2.1.trans (k_eq m c),
      (h c).2.2.1.trans (v_eq m c), (h c).2.2.2.1.trans (g_eq m c), (h c).2.2.2.2⟩) (Cert.ProjIdeal.Value.run_blocks m g), ?_⟩
  refine (θ_run _ _ _).mono (fun _ h c => ?_) (RefProj.run m' g')
  have hc := h c
  obtain ⟨h0, h1, h2⟩ := hagree c
  refine ⟨hc.1.trans ?_, hc.2.1.trans ?_, hc.2.2.1.trans ?_, hc.2.2.2.1.trans ?_, hc.2.2.2.2⟩ <;> rw [h0, h1, h2] <;> rfl

end Cert.Proof.ProjValue

end
-- ==== Proof.TabOut.lean ====
/- The blocks a point of the output projection kernel reads: the retention's outputs, the tokens, the modulations, the weights, and the
   norm's scales and shifts. -/
module

public import proofs.«01_k».proof.Proof.Gen.OutIdeal.Frame
public import Idealize.ShloMosaic.Lib.StableHlo.ReadAt
public import Idealize.ShloMosaic.Lib.Pointwise
public import Idealize.ShloMosaic.Lib.Pipeline.ValueKit

@[expose] public section

set_option maxRecDepth 16384

noncomputable section

namespace Cert.Proof.TabOut

open Idealize.ShloMosaic Idealize.ShloMosaic.TcCoe Idealize.SL.Sem
open Cert.OutIdeal Cert.OutIdeal.Gen

variable (m : (ℓ : Loc nD τ sig) → Buf (Elt Ideal) ℓ) (c : Dev nD)

/-- Where each window's block lies at a point. -/
theorem idx (t : Fin cfg0.N) : win0_0.index t = ![t.val / 17, t.val % 17, 0] ∧ win0_1.index t = ![t.val / 17, t.val % 17, 0]
    ∧ win0_2.index t = ![if t.val % 17 = 0 then 8 else t.val / 17, 0, 0] ∧ win0_3.index t = ![0, 0] ∧ win0_4.index t = ![0, 0]
    ∧ win0_5.index t = ![0, 0] ∧ win0_6.index t = ![t.val / 17, t.val % 17, 0] ∧ win0_7.index t = ![t.val / 17, t.val % 17, 0] :=
  (by decide +kernel : ∀ t : Fin grid0.N, win0_0.index t = ![t.val / 17, t.val % 17, 0] ∧ win0_1.index t = ![t.val / 17, t.val % 17, 0]
    ∧ win0_2.index t = ![if t.val % 17 = 0 then 8 else t.val / 17, 0, 0] ∧ win0_3.index t = ![0, 0] ∧ win0_4.index t = ![0, 0]
    ∧ win0_5.index t = ![0, 0] ∧ win0_6.index t = ![t.val / 17, t.val % 17, 0] ∧ win0_7.index t = ![t.val / 17, t.val % 17, 0]) t

/-- A point's batch element. -/
def bat (t : Fin cfg0.N) : Fin 8 := ⟨t.val / 17, by have := lt_of_lt_of_eq t.isLt (show cfg0.N = 136 from N_0); omega⟩

/-- The array's row that row `l` of a point's block is. -/
def rowB (t : Fin cfg0.N) (l : Fin 256) : Fin 4352 := ⟨t.val % 17 * 256 + l.val, by omega⟩

/-- The modulations a point reads: the ninth at a batch element's first point, else the batch element's. -/
def mB (t : Fin cfg0.N) : Fin 16 := ⟨if t.val % 17 = 0 then 8 else t.val / 17, by
  have := lt_of_lt_of_eq t.isLt (show cfg0.N = 136 from N_0); split <;> omega⟩

/-- The weights the kernel reads are the launched ones. -/
theorem w_apply (k : Fin 2048) (e : Fin 1024) : V m c main_v0 (ix2 k e) = m ((c : Thread nD τ).loc main_arg3) (ix2 k e) := by
  unfold V
  after_reads_at

/-- The norm's scales, as the host lays them out. -/
theorem g_apply (e : Fin 1024) : V m c main_v1 (ix2 0 e) = m ((c : Thread nD τ).loc main_arg4) (ix1 e) := by
  unfold V
  after_reads_at

/-- The norm's shifts, as the host lays them out. -/
theorem b_apply (e : Fin 1024) : V m c main_v2 (ix2 0 e) = m ((c : Thread nD τ).loc main_arg5) (ix1 e) := by
  unfold V
  after_reads_at

/-- The weights in a point's block. -/
theorem w_blk (t : Fin cfg0.N) (k : Fin 2048) (e : Fin 1024) :
    iblk m c 3 t (ix2 k e) = m ((c : Thread nD τ).loc main_arg3) (ix2 k e) := by
  rw [← w_apply m c]
  blk_ext [iblk, idx t]

/-- The norm's scales in a point's block. -/
theorem g_blk (t : Fin cfg0.N) (e : Fin 1024) : iblk m c 4 t (ix2 0 e) = m ((c : Thread nD τ).loc main_arg4) (ix1 e) := by
  rw [← g_apply m c]
  blk_ext [iblk, idx t]

/-- The norm's shifts in a point's block. -/
theorem b_blk (t : Fin cfg0.N) (e : Fin 1024) : iblk m c 5 t (ix2 0 e) = m ((c : Thread nD τ).loc main_arg5) (ix1 e) := by
  rw [← b_apply m c]
  blk_ext [iblk, idx t]

/-- The retention's outputs in a point's block. -/
theorem y_blk (t : Fin cfg0.N) (l : Fin 256) (k : Fin 2048) :
    iblk m c 0 t (ix3 0 l k) = m ((c : Thread nD τ).loc main_arg0) (ix3 (bat t) (rowB t l) k) := by
  unfold bat rowB
  blk_ext [iblk, V, idx t]

/-- The tokens in a point's block. -/
theorem x_blk (t : Fin cfg0.N) (l : Fin 256) (e : Fin 1024) :
    iblk m c 1 t (ix3 0 l e) = m ((c : Thread nD τ).loc main_arg1) (ix3 (bat t) (rowB t l) e) := by
  unfold bat rowB
  blk_ext [iblk, V, idx t]

/-- The modulations in a point's block. -/
theorem mods_blk (t : Fin cfg0.N) (k : Fin 6) (e : Fin 1024) :
    iblk m c 2 t (ix3 0 k e) = m ((c : Thread nD τ).loc main_arg2) (ix3 (mB t) k e) := by
  unfold mB
  blk_ext [iblk, V, idx t]

end Cert.Proof.TabOut

end
-- ==== Proof.RefOut.lean ====
/- The output projection's reference at an index: the scaled tokens plus the gated projection, layer-normed row by row, and that modulated. -/
module

public import proofs.«01_k».proof.Proof.Gen.OutRefIdeal.Run
public import Idealize.ShloMosaic.Lib.Pointwise

@[expose] public section

set_option maxRecDepth 16384

noncomputable section

namespace Cert.Proof.RefOut

open Idealize.ShloMosaic Idealize.ShloMosaic.TcCoe Idealize.SL.Sem Idealize.ShloMosaic.StableHlo
open Cert.OutRefIdeal Cert.OutRefIdeal.Gen Cert.OutRefIdeal.Value

variable (Y : FVec Ideal S8x4352x2048 .bf16) (X : FVec Ideal S8x4352x1024 .f32) (M : FVec Ideal S16x6x1024 .f32)
  (W : FVec Ideal S2048x1024 .f32) (G B : FVec Ideal S1024 .f32)

/-- The context rows before the norm. -/
def hC : FVec Ideal S8x256x1024 .f32 :=
  addf (mulf (broadcastInDim S8x256x1024 ![] bcast_S_S8x256x1024 (constant S_ .f32 0x3FD744FD#32)) (extractStridedSlice S8x256x1024 ![0, 0, 0] X slices_S8x4352x1024_S8x256x1024_0_0_0)) (mulf (broadcastInDim S8x256x1024 ![0, 1, 2] bcast_S1x1x1024_S8x256x1024_0_1_2 (broadcastInDim S1x1x1024 ![2] bcast_S1024_S1x1x1024_2 (shapeCast _ (extractStridedSlice S1x1024 ![2, 0] (shapeCast _ (extractStridedSlice S1x6x1024 ![8, 0, 0] M slices_S16x6x1024_S1x6x1024_8_0_0) shapeCasts_S1x6x1024_S6x1024) slices_S6x1024_S1x1024_2_0) shapeCasts_S1x1024_S1024))) (Host.dotGeneral dot_S8x256x2048_S2048x1024_S8x256x1024_2_0_01_1_n_n none (extractStridedSlice S8x256x2048 ![0, 0, 0] (extf .f32 Y bitsLt_bf16_f32) slices_S8x4352x2048_S8x256x2048_0_0_0) W))

/-- The mean of each of the context rows. -/
def meanC (h : FVec Ideal S8x256x1024 .f32) : FVec Ideal S8x256x1 .f32 :=
  Host.divf (broadcastInDim S8x256x1 ![0, 1] bcast_S8x256_S8x256x1_0_1 (Host.reduceAdd h (constant S_ .f32 0x00000000#32) reducesTo_S8x256x1024_S8x256_d2 h_S_)) (broadcastInDim S8x256x1 ![] bcast_S_S8x256x1 (constant S_ .f32 0x44800000#32))

/-- The context rows less their means. -/
def cenC (h : FVec Ideal S8x256x1024 .f32) : FVec Ideal S8x256x1024 .f32 :=
  subf h (broadcastInDim S8x256x1024 ![0, 1, 2] bcast_S8x256x1_S8x256x1024_0_1_2 (meanC h))

/-- The context rows, layer-normed. -/
def lnC (h : FVec Ideal S8x256x1024 .f32) : FVec Ideal S8x256x1024 .f32 :=
  addf (mulf (mulf (cenC h) (broadcastInDim S8x256x1024 ![0, 1, 2] bcast_S8x256x1_S8x256x1024_0_1_2 (Host.rsqrt (addf (meanC (mulf (cenC h) (cenC h))) (broadcastInDim S8x256x1 ![] bcast_S_S8x256x1 (constant S_ .f32 0x3727C5AC#32)))))) (broadcastInDim S8x256x1024 ![0, 1, 2] bcast_S1x1x1024_S8x256x1024_0_1_2 (broadcastInDim S1x1x1024 ![2] bcast_S1024_S1x1x1024_2 G))) (broadcastInDim S8x256x1024 ![0, 1, 2] bcast_S1x1x1024_S8x256x1024_0_1_2 (broadcastInDim S1x1x1024 ![2] bcast_S1024_S1x1x1024_2 B))

/-- The context rows, modulated. -/
def modC (x : FVec Ideal S8x256x1024 .f32) : FVec Ideal S8x256x1024 .f32 :=
  addf (mulf x (broadcastInDim S8x256x1024 ![0, 1, 2] bcast_S1x1x1024_S8x256x1024_0_1_2 (broadcastInDim S1x1x1024 ![2] bcast_S1024_S1x1x1024_2 (addf (broadcastInDim S1024 ![] bcast_S_S1024 (constant S_ .f32 0x3F800000#32)) (shapeCast _ (extractStridedSlice S1x1024 ![4, 0] (shapeCast _ (extractStridedSlice S1x6x1024 ![8, 0, 0] M slices_S16x6x1024_S1x6x1024_8_0_0) shapeCasts_S1x6x1024_S6x1024) slices_S6x1024_S1x1024_4_0) shapeCasts_S1x1024_S1024))))) (broadcastInDim S8x256x1024 ![0, 1, 2] bcast_S1x1x1024_S8x256x1024_0_1_2 (broadcastInDim S1x1x1024 ![2] bcast_S1024_S1x1x1024_2 (shapeCast _ (extractStridedSlice S1x1024 ![3, 0] (shapeCast _ (extractStridedSlice S1x6x1024 ![8, 0, 0] M slices_S16x6x1024_S1x6x1024_8_0_0) shapeCasts_S1x6x1024_S6x1024) slices_S6x1024_S1x1024_3_0) shapeCasts_S1x1024_S1024)))

/-- The latent rows before the norm. -/
def hL : FVec Ideal S8x4096x1024 .f32 :=
  addf (mulf (broadcastInDim S8x4096x1024 ![] bcast_S_S8x4096x1024 (constant S_ .f32 0x3FD744FD#32)) (extractStridedSlice S8x4096x1024 ![0, 256, 0] X slices_S8x4352x1024_S8x4096x1024_0_256_0)) (mulf (broadcastInDim S8x4096x1024 ![0, 1, 2] bcast_S8x1x1024_S8x4096x1024_0_1_2 (shapeCast _ (extractStridedSlice S8x1x1x1024 ![0, 0, 2, 0] (broadcastInDim S8x1x6x1024 ![0, 2, 3] bcast_S8x6x1024_S8x1x6x1024_0_2_3 (extractStridedSlice S8x6x1024 ![0, 0, 0] M slices_S16x6x1024_S8x6x1024_0_0_0)) slices_S8x1x6x1024_S8x1x1x1024_0_0_2_0) shapeCasts_S8x1x1x1024_S8x1x1024)) (Host.dotGeneral dot_S8x4096x2048_S2048x1024_S8x4096x1024_2_0_01_1_n_n none (extractStridedSlice S8x4096x2048 ![0, 256, 0] (extf .f32 Y bitsLt_bf16_f32) slices_S8x4352x2048_S8x4096x2048_0_256_0) W))

/-- The mean of each of the latent rows. -/
def meanL (h : FVec Ideal S8x4096x1024 .f32) : FVec Ideal S8x4096x1 .f32 :=
  Host.divf (broadcastInDim S8x4096x1 ![0, 1] bcast_S8x4096_S8x4096x1_0_1 (Host.reduceAdd h (constant S_ .f32 0x00000000#32) reducesTo_S8x4096x1024_S8x4096_d2 h_S_)) (broadcastInDim S8x4096x1 ![] bcast_S_S8x4096x1 (constant S_ .f32 0x44800000#32))

/-- The latent rows less their means. -/
def cenL (h : FVec Ideal S8x4096x1024 .f32) : FVec Ideal S8x4096x1024 .f32 :=
  subf h (broadcastInDim S8x4096x1024 ![0, 1, 2] bcast_S8x4096x1_S8x4096x1024_0_1_2 (meanL h))

/-- The latent rows, layer-normed. -/
def lnL (h : FVec Ideal S8x4096x1024 .f32) : FVec Ideal S8x4096x1024 .f32 :=
  addf (mulf (mulf (cenL h) (broadcastInDim S8x4096x1024 ![0, 1, 2] bcast_S8x4096x1_S8x4096x1024_0_1_2 (Host.rsqrt (addf (meanL (mulf (cenL h) (cenL h))) (broadcastInDim S8x4096x1 ![] bcast_S_S8x4096x1 (constant S_ .f32 0x3727C5AC#32)))))) (broadcastInDim S8x4096x1024 ![0, 1, 2] bcast_S1x1x1024_S8x4096x1024_0_1_2 (broadcastInDim S1x1x1024 ![2] bcast_S1024_S1x1x1024_2 G))) (broadcastInDim S8x4096x1024 ![0, 1, 2] bcast_S1x1x1024_S8x4096x1024_0_1_2 (broadcastInDim S1x1x1024 ![2] bcast_S1024_S1x1x1024_2 B))

/-- The latent rows, modulated. -/
def modL (x : FVec Ideal S8x4096x1024 .f32) : FVec Ideal S8x4096x1024 .f32 :=
  addf (mulf x (broadcastInDim S8x4096x1024 ![0, 1, 2] bcast_S8x1x1024_S8x4096x1024_0_1_2 (addf (broadcastInDim S8x1x1024 ![] bcast_S_S8x1x1024 (constant S_ .f32 0x3F800000#32)) (shapeCast _ (extractStridedSlice S8x1x1x1024 ![0, 0, 4, 0] (broadcastInDim S8x1x6x1024 ![0, 2, 3] bcast_S8x6x1024_S8x1x6x1024_0_2_3 (extractStridedSlice S8x6x1024 ![0, 0, 0] M slices_S16x6x1024_S8x6x1024_0_0_0)) slices_S8x1x6x1024_S8x1x1x1024_0_0_4_0) shapeCasts_S8x1x1x1024_S8x1x1024)))) (broadcastInDim S8x4096x1024 ![0, 1, 2] bcast_S8x1x1024_S8x4096x1024_0_1_2 (shapeCast _ (extractStridedSlice S8x1x1x1024 ![0, 0, 3, 0] (broadcastInDim S8x1x6x1024 ![0, 2, 3] bcast_S8x6x1024_S8x1x6x1024_0_2_3 (extractStridedSlice S8x6x1024 ![0, 0, 0] M slices_S16x6x1024_S8x6x1024_0_0_0)) slices_S8x1x6x1024_S8x1x1x1024_0_0_3_0) shapeCasts_S8x1x1x1024_S8x1x1024))

/-- Context rows before latent rows. -/
def cat (a : FVec Ideal S8x256x1024 .f32) (b : FVec Ideal S8x4096x1024 .f32) : FVec Ideal S8x4352x1024 .f32 :=
  concatenate S8x4352x1024 1 [⟨S8x256x1024, a⟩, ⟨S8x4096x1024, b⟩] concatenates_S8x256x1024_S8x4096x1024_S8x4352x1024_d1

/-- The normed rows. -/
def xR : FVec Ideal S8x4352x1024 .f32 := cat (lnC G B (hC Y X M W)) (lnL G B (hL Y X M W))

/-- The normed rows, modulated. -/
def tR : FVec Ideal S8x4352x1024 .f32 := cat (modC M (lnC G B (hC Y X M W))) (modL M (lnL G B (hL Y X M W)))

/-- The reference's run, its results by these names. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v74) = xR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_v97) = tR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  Cert.OutRefIdeal.Value.run m ρ

/-- The mean of 1024 entries. -/
def meanS (o : Fin 1024 → EReal) : EReal := Ideal.div (∑ e : Fin 1024, o e) (Ideal.ofBits FTy.f32 0x44800000#32)

/-- An entry of a row, layer-normed. -/
def lnS (o : Fin 1024 → EReal) (g b : EReal) (e : Fin 1024) : EReal :=
  (o e - meanS o) * Ideal.rsqrt (meanS (fun e => (o e - meanS o) * (o e - meanS o)) + Ideal.ofBits FTy.f32 0x3727C5AC#32) * g + b

/-- An entry of a row before the norm: context rows use the ninth modulation, latent rows their batch element's. -/
def hS (b : Fin 8) (l : Fin 4352) (e : Fin 1024) : EReal :=
  Ideal.ofBits FTy.f32 0x3FD744FD#32 * X (ix3 b l e)
    + M (ix3 (if l.val < 256 then 8 else ⟨b.val, by omega⟩) 2 e) * ∑ k : Fin 2048, Y (ix3 b l k) * W (ix2 k e)

/-- A context row before the norm. -/
theorem hC_apply (b : Fin 8) (l : Fin 256) (e : Fin 1024) : hC Y X M W (ix3 b l e) = hS Y X M W b ⟨l.val, by omega⟩ e := by
  unfold hS
  simp only [l.isLt, if_true]
  pointwise [hC]

/-- A latent row before the norm. -/
theorem hL_apply (b : Fin 8) (r : Fin 4096) (e : Fin 1024) : hL Y X M W (ix3 b r e) = hS Y X M W b ⟨256 + r.val, by omega⟩ e := by
  unfold hS
  simp only [show ¬(256 + r.val < 256) by omega, if_false]
  pointwise [hL]

/-- The mean of a context row. -/
theorem meanC_apply (h : FVec Ideal S8x256x1024 .f32) (b : Fin 8) (l : Fin 256) : meanC h (ix3 b l 0) = meanS fun e => h (ix3 b l e) := by
  pointwise [meanC]
  rfl

/-- An entry of a context row less the row's mean. -/
theorem cenC_apply (h : FVec Ideal S8x256x1024 .f32) (b : Fin 8) (l : Fin 256) (e : Fin 1024) :
    cenC h (ix3 b l e) = h (ix3 b l e) - meanS fun e => h (ix3 b l e) := by
  pointwise [cenC]
  rw [meanC_apply]

/-- An entry of a normed context row. -/
theorem lnC_apply (h : FVec Ideal S8x256x1024 .f32) (b : Fin 8) (l : Fin 256) (e : Fin 1024) :
    lnC G B h (ix3 b l e) = lnS (fun e => h (ix3 b l e)) (G (ix1 e)) (B (ix1 e)) e := by
  pointwise [lnC]
  rw [meanC_apply, cenC_apply]
  unfold lnS
  pointwise
  simp only [cenC_apply]

/-- An entry of a modulated context row. -/
theorem modC_apply (x : FVec Ideal S8x256x1024 .f32) (b : Fin 8) (l : Fin 256) (e : Fin 1024) :
    modC M x (ix3 b l e) = x (ix3 b l e) * (1 + M (ix3 8 4 e)) + M (ix3 8 3 e) := by
  pointwise [modC]

/-- The mean of a latent row. -/
theorem meanL_apply (h : FVec Ideal S8x4096x1024 .f32) (b : Fin 8) (l : Fin 4096) : meanL h (ix3 b l 0) = meanS fun e => h (ix3 b l e) := by
  pointwise [meanL]
  rfl

/-- An entry of a latent row less the row's mean. -/
theorem cenL_apply (h : FVec Ideal S8x4096x1024 .f32) (b : Fin 8) (l : Fin 4096) (e : Fin 1024) :
    cenL h (ix3 b l e) = h (ix3 b l e) - meanS fun e => h (ix3 b l e) := by
  pointwise [cenL]
  rw [meanL_apply]

/-- An entry of a normed latent row. -/
theorem lnL_apply (h : FVec Ideal S8x4096x1024 .f32) (b : Fin 8) (l : Fin 4096) (e : Fin 1024) :
    lnL G B h (ix3 b l e) = lnS (fun e => h (ix3 b l e)) (G (ix1 e)) (B (ix1 e)) e := by
  pointwise [lnL]
  rw [meanL_apply, cenL_apply]
  unfold lnS
  pointwise
  simp only [cenL_apply]

/-- An entry of a modulated latent row. -/
theorem modL_apply (x : FVec Ideal S8x4096x1024 .f32) (b : Fin 8) (l : Fin 4096) (e : Fin 1024) :
    modL M x (ix3 b l e) = x (ix3 b l e) * (1 + M (ix3 ⟨b.val, by omega⟩ 4 e)) + M (ix3 ⟨b.val, by omega⟩ 3 e) := by
  pointwise [modL]

/-- Context rows, then latent rows. -/
theorem cat_apply (a : FVec Ideal S8x256x1024 .f32) (b' : FVec Ideal S8x4096x1024 .f32) (b : Fin 8) (l : Fin 4352) (j : Fin 1024) :
    cat a b' (ix3 b l j) = if h : l.val < 256 then a (ix3 b ⟨l.val, h⟩ j) else b' (ix3 b ⟨l.val - 256, by omega⟩ j) := by
  pointwise [cat]

/-- A latent row's entries before the norm, by the row's place in the array. -/
theorem hL_row (b : Fin 8) (l : Fin 4352) (h : ¬l.val < 256) :
    (fun e => hL Y X M W (ix3 b ⟨l.val - 256, by omega⟩ e)) = hS Y X M W b l := by
  funext e
  rw [hL_apply]
  congr 1
  exact Fin.ext (by show 256 + (l.val - 256) = l.val; omega)

/-- The normed rows at an index. -/
theorem xR_apply (b : Fin 8) (l : Fin 4352) (e : Fin 1024) :
    xR Y X M W G B (ix3 b l e) = lnS (hS Y X M W b l) (G (ix1 e)) (B (ix1 e)) e := by
  unfold xR
  rw [cat_apply]
  by_cases h : l.val < 256
  · rw [dif_pos h, lnC_apply]
    simp only [hC_apply]
  · rw [dif_neg h, lnL_apply, hL_row _ _ _ _ _ _ h]

/-- The modulated rows at an index. -/
theorem tR_apply (b : Fin 8) (l : Fin 4352) (e : Fin 1024) : tR Y X M W G B (ix3 b l e)
    = lnS (hS Y X M W b l) (G (ix1 e)) (B (ix1 e)) e * (1 + M (ix3 (if l.val < 256 then 8 else ⟨b.val, by omega⟩) 4 e))
      + M (ix3 (if l.val < 256 then 8 else ⟨b.val, by omega⟩) 3 e) := by
  unfold tR
  rw [cat_apply]
  by_cases h : l.val < 256
  · rw [dif_pos h, modC_apply, lnC_apply, if_pos h]
    simp only [hC_apply]
  · rw [dif_neg h, modL_apply, lnL_apply, hL_row _ _ _ _ _ _ h, if_neg h]

end Cert.Proof.RefOut

end
-- ==== Proof.KerOut.lean ====
/- What a point of the output projection kernel leaves in its two output blocks, over its input blocks. -/
module

public import proofs.«01_k».proof.Proof.RefOut
public import proofs.«01_k».proof.Proof.Gen.OutIdeal.Frame
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof.KerOut

open Idealize.ShloMosaic Idealize.ShloMosaic.TcCoe Idealize.SL.Sem
open Cert.OutIdeal Cert.OutIdeal.Gen
open Cert.Proof.RefOut (meanS lnS)

variable (x0 : Vec Ideal S1x256x2048 .bf16) (x1 : Vec Ideal S1x256x1024 .f32) (x2 : Vec Ideal S1x6x1024 .f32)
  (x3 : Vec Ideal S2048x1024 .bf16) (x4 x5 : Vec Ideal S1x1024 .f32)

/-- An entry of a row before the norm. -/
def hK (l : Fin 256) (e : Fin 1024) : EReal :=
  Ideal.ofBits FTy.f32 0x3FD744FD#32 * x1 (ix3 0 l e) + x2 (ix3 0 2 e) * ∑ k : Fin 2048, x0 (ix3 0 l k) * x3 (ix2 k e)

/-- The rows before the norm at an index. -/
theorem pay5_apply (l : Fin 256) (e : Fin 1024) : k0_pay5 x2 x0 x3 x1 (ix2 l e) = hK x0 x1 x2 x3 l e := by
  unfold hK
  unfold_payloads
  pointwise

/-- The mean of a row. -/
theorem pay8_apply (l : Fin 256) : k0_pay8 x2 x0 x3 x1 (ix2 l 0) = meanS (hK x0 x1 x2 x3 l) := by
  unfold k0_pay8
  pointwise
  simp only [pay5_apply]
  rfl

/-- An entry of a row less the row's mean. -/
theorem pay9_apply (l : Fin 256) (e : Fin 1024) :
    k0_pay9 x2 x0 x3 x1 (ix2 l e) = hK x0 x1 x2 x3 l e - meanS (hK x0 x1 x2 x3 l) := by
  unfold k0_pay9
  pointwise
  rw [pay5_apply, pay8_apply]

/-- The reciprocal of a row's deviation. -/
theorem pay10_apply (l : Fin 256) (e : Fin 1024) : k0_pay10 x2 x0 x3 x1 (ix2 l e)
    = Ideal.rsqrt (meanS (fun e => (hK x0 x1 x2 x3 l e - meanS (hK x0 x1 x2 x3 l)) * (hK x0 x1 x2 x3 l e - meanS (hK x0 x1 x2 x3 l)))
      + Ideal.ofBits FTy.f32 0x3727C5AC#32) := by
  unfold k0_pay10
  pointwise
  simp only [pay5_apply, pay8_apply]
  rfl

/-- The block of normed rows a point leaves. -/
theorem out6 (l : Fin 256) (e : Fin 1024) :
    out0_6 x0 x1 x2 x3 x4 x5 (ix3 0 l e) = lnS (hK x0 x1 x2 x3 l) (x4 (ix2 0 e)) (x5 (ix2 0 e)) e := by
  unfold out0_6 k0_pay11 k0_pay12 k0_pay13 k0_pay14 k0_pay6 k0_pay7 k0_pay2 k0_pay1
  frame_open
  frame_out
  pointwise
  rw [pay9_apply, pay10_apply]
  rfl

/-- The block of modulated rows a point leaves. -/
theorem out7 (l : Fin 256) (e : Fin 1024) : out0_7 x0 x1 x2 x3 x4 x5 (ix3 0 l e)
    = lnS (hK x0 x1 x2 x3 l) (x4 (ix2 0 e)) (x5 (ix2 0 e)) e * (1 + x2 (ix3 0 4 e)) + x2 (ix3 0 3 e) := by
  unfold out0_7 k0_pay11 k0_pay12 k0_pay13 k0_pay14 k0_pay6 k0_pay7 k0_pay3 k0_pay1
  frame_open
  frame_out
  pointwise
  rw [pay9_apply, pay10_apply]
  pointwise [k0_pay4]
  rfl

end Cert.Proof.KerOut

end
-- ==== Proof.OutValue.lean ====
/- The output projection kernel's two results are its reference's: every point's blocks are the reference's rows of the point's place. -/
module

public import proofs.«01_k».proof.Defs
public import proofs.«01_k».proof.Proof.TabOut
public import proofs.«01_k».proof.Proof.KerOut
public import Idealize.ShloMosaic.Lib.Pipeline.Value

@[expose] public section

set_option maxRecDepth 16384

noncomputable section

namespace Cert.Proof.OutValue

open Idealize.ShloMosaic Idealize.ShloMosaic.TcCoe Idealize.SL.Sem
open Cert.OutIdeal Cert.OutIdeal.Gen Cert.Proof.KerOut Cert.Proof.TabOut
open Cert.Proof.RefOut (lnS hS xR tR)

variable (m : (ℓ : Loc nD τ sig) → Buf (Elt Ideal) ℓ) (c : Dev nD)

/-- The retention's outputs, as launched. -/
abbrev Y0 : FVec Ideal S8x4352x2048 .bf16 := m ((c : Thread nD τ).loc main_arg0)

/-- The tokens, as launched. -/
abbrev X0 : FVec Ideal S8x4352x1024 .f32 := m ((c : Thread nD τ).loc main_arg1)

/-- The modulations, as launched. -/
abbrev M0 : FVec Ideal S16x6x1024 .f32 := m ((c : Thread nD τ).loc main_arg2)

/-- The weights, as launched. -/
abbrev W0 : FVec Ideal S2048x1024 .f32 := m ((c : Thread nD τ).loc main_arg3)

/-- The norm's scales, as launched. -/
abbrev G0 : FVec Ideal S1024 .f32 := m ((c : Thread nD τ).loc main_arg4)

/-- The norm's shifts, as launched. -/
abbrev B0 : FVec Ideal S1024 .f32 := m ((c : Thread nD τ).loc main_arg5)

/-- A row of a point's block is a context row exactly at a batch element's first point. -/
theorem mB_eq (t : Fin cfg0.N) (l : Fin 256) : mB t = if (rowB t l).val < 256 then 8 else ⟨(bat t).val, by omega⟩ := by
  have hv : (rowB t l).val = t.val % 17 * 256 + l.val := rfl
  by_cases h : t.val % 17 = 0
  · rw [if_pos (by rw [hv]; omega)]
    exact Fin.ext (if_pos h)
  · rw [if_neg (by rw [hv]; omega)]
    exact Fin.ext (if_neg h)

/-- A row of a point before the norm is the reference's row of the point's place. -/
theorem h_eq (t : Fin cfg0.N) (l : Fin 256) : hK (iblk m c 0 t) (iblk m c 1 t) (iblk m c 2 t) (iblk m c 3 t) l
    = hS (Y0 m c) (X0 m c) (M0 m c) (W0 m c) (bat t) (rowB t l) := by
  funext e
  unfold hK hS
  rw [x_blk, mods_blk, mB_eq t l]
  simp only [y_blk, w_blk]

/-- The array of normed rows is any array whose rows the points' blocks are. -/
theorem arr6 (G : FVec Ideal S8x4352x1024 .f32) (hG : ∀ (t : Fin cfg0.N) (l : Fin 256) (e : Fin 1024),
    out0_6 (iblk m c 0 t) (iblk m c 1 t) (iblk m c 2 t) (iblk m c 3 t) (iblk m c 4 t) (iblk m c 5 t) (ix3 0 l e) = G (ix3 (bat t) (rowB t l) e)) :
    (dats m 0 c).arrAt 6 cfg0.N = G := by
  refine (dats m 0 c).arrAt_eq_of_covers 6 G (by decide +kernel) fun t hf y => ?_
  obtain ⟨a, l, e, rfl⟩ : ∃ (a : Fin 1) (l : Fin 256) (e : Fin 1024), y = ix3 a l e := ⟨y 0, y 1, y 2, by
    funext a; match a with | ⟨0, _⟩ => rfl | ⟨1, _⟩ => rfl | ⟨2, _⟩ => rfl⟩
  obtain rfl : a = 0 := Subsingleton.elim _ _
  blk_simp
  rw [after0_6]
  refine (hG t l e).trans ?_
  unfold bat rowB
  blk_ext [idx t]

/-- The array of modulated rows is any array whose rows the points' blocks are. -/
theorem arr7 (G : FVec Ideal S8x4352x1024 .f32) (hG : ∀ (t : Fin cfg0.N) (l : Fin 256) (e : Fin 1024),
    out0_7 (iblk m c 0 t) (iblk m c 1 t) (iblk m c 2 t) (iblk m c 3 t) (iblk m c 4 t) (iblk m c 5 t) (ix3 0 l e) = G (ix3 (bat t) (rowB t l) e)) :
    (dats m 0 c).arrAt 7 cfg0.N = G := by
  refine (dats m 0 c).arrAt_eq_of_covers 7 G (by decide +kernel) fun t hf y => ?_
  obtain ⟨a, l, e, rfl⟩ : ∃ (a : Fin 1) (l : Fin 256) (e : Fin 1024), y = ix3 a l e := ⟨y 0, y 1, y 2, by
    funext a; match a with | ⟨0, _⟩ => rfl | ⟨1, _⟩ => rfl | ⟨2, _⟩ => rfl⟩
  obtain rfl : a = 0 := Subsingleton.elim _ _
  blk_simp
  rw [after0_7]
  refine (hG t l e).trans ?_
  unfold bat rowB
  blk_ext [idx t]

/-- The normed rows. -/
theorem x_eq : (dats m 0 c).arrAt 6 cfg0.N = xR (Y0 m c) (X0 m c) (M0 m c) (W0 m c) (G0 m c) (B0 m c) :=
  arr6 m c _ fun t l e => by rw [out6, RefOut.xR_apply, h_eq, g_blk, b_blk]

/-- The modulated rows. -/
theorem t_eq : (dats m 0 c).arrAt 7 cfg0.N = tR (Y0 m c) (X0 m c) (M0 m c) (W0 m c) (G0 m c) (B0 m c) :=
  arr7 m c _ fun t l e => by rw [out7, RefOut.tR_apply, h_eq, g_blk, b_blk, mods_blk, mods_blk, mB_eq t l]

/-- The kernel's run: its result arrays, and its arguments unchanged. -/
theorem run (ρ : Dev nD → PrngReg) : θ_run defs (onTc (τ := τ) (main (F := Ideal))) ⟨m, fun _ => 0, ρ⟩ fun r => ∀ c : Dev nD,
      r.2.mem ((c : Thread nD τ).loc main_v3_0) = (dats m 0 c).arrAt 6 cfg0.N
      ∧ r.2.mem ((c : Thread nD τ).loc main_v3_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6, (h c).1 7,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

/-- The output projection kernel computes its reference's results, over the extended reals. -/
theorem algebraic [hOutIdeal : Cert.OutIdeal.Facts] [hOutRefIdeal : Cert.OutRefIdeal.Facts] :
    Cert.algebraic_OutIdeal_OutRefIdeal := by
  intro m g m' g' hpre hagree
  refine ⟨fun c => xR (Y0 m c) (X0 m c) (M0 m c) (W0 m c) (G0 m c) (B0 m c), fun c => tR (Y0 m c) (X0 m c) (M0 m c) (W0 m c) (G0 m c) (B0 m c),
    (θ_run _ _ _).mono (fun _ h c => ⟨(h c).1.trans (x_eq m c), (h c).2.1.trans (t_eq m c), (h c).2.2⟩) (run m g), ?_⟩
  refine (θ_run _ _ _).mono (fun _ h c => ?_) (RefOut.run m' g')
  have hc := h c
  obtain ⟨h0, h1, h2, h3, h4, h5⟩ := hagree c
  refine ⟨hc.1.trans ?_, hc.2.1.trans ?_, hc.2.2⟩ <;> rw [h0, h1, h2, h3, h4, h5] <;> rfl

end Cert.Proof.OutValue

end
-- ==== Proof.RefSProj.lean ====
/- The reference of the SSD layer's input projection at an index: the modulated row against a column of the weights; the middle columns
   convolved over five rows inside their own segment and gated by their own logistic; the last columns a soft step size and its decay. -/
module

public import proofs.«01_k».proof.Proof.Gen.SProjRefIdeal.Run
public import Idealize.ShloMosaic.Lib.Pointwise

@[expose] public section

set_option maxRecDepth 16384

noncomputable section

namespace Cert.Proof.RefSProj

open Idealize.ShloMosaic Idealize.ShloMosaic.TcCoe Idealize.SL.Sem Idealize.ShloMosaic.StableHlo
open Cert.SProjRefIdeal Cert.SProjRefIdeal.Gen Cert.SProjRefIdeal.Value

variable (X : FVec Ideal S8x4352x1024 .f32) (M : FVec Ideal S16x6x1024 .f32) (W : FVec Ideal S1024x5184 .f32)
  (D A : FVec Ideal S2x32 .f32) (K : FVec Ideal S5x3072 .f32) (B : FVec Ideal S3072 .f32)

/-- The context rows' projection. -/
def prC : FVec Ideal S8x256x5184 .f32 :=
  Host.dotGeneral dot_S8x256x1024_S1024x5184_S8x256x5184_2_0_01_1_n_n none (addf (mulf (extractStridedSlice S8x256x1024 ![0, 0, 0] X slices_S8x4352x1024_S8x256x1024_0_0_0) (broadcastInDim S8x256x1024 ![0, 1, 2] bcast_S1x1x1024_S8x256x1024_0_1_2 (broadcastInDim S1x1x1024 ![2] bcast_S1024_S1x1x1024_2 (addf (broadcastInDim S1024 ![] bcast_S_S1024 (constant S_ .f32 0x3F800000#32)) (shapeCast _ (extractStridedSlice S1x1024 ![1, 0] (shapeCast _ (extractStridedSlice S1x6x1024 ![8, 0, 0] M slices_S16x6x1024_S1x6x1024_8_0_0) shapeCasts_S1x6x1024_S6x1024) slices_S6x1024_S1x1024_1_0) shapeCasts_S1x1024_S1024))))) (broadcastInDim S8x256x1024 ![0, 1, 2] bcast_S1x1x1024_S8x256x1024_0_1_2 (broadcastInDim S1x1x1024 ![2] bcast_S1024_S1x1x1024_2 (shapeCast _ (extractStridedSlice S1x1024 ![0, 0] (shapeCast _ (extractStridedSlice S1x6x1024 ![8, 0, 0] M slices_S16x6x1024_S1x6x1024_8_0_0) shapeCasts_S1x6x1024_S6x1024) slices_S6x1024_S1x1024_0_0) shapeCasts_S1x1024_S1024)))) W

/-- The context rows' middle columns, two rows of zeros before and after. -/
def pdC (P : FVec Ideal S8x256x5184 .f32) : FVec Ideal S8x260x3072 .f32 :=
  pad S8x260x3072 ![0, 2, 0] ![0, 2, 0] ![0, 0, 0] (extractStridedSlice S8x256x3072 ![0, 0, 2048] P slices_S8x256x5184_S8x256x3072_0_0_2048) (sitofp .f32 (constantI S_ 32 0#32)) pads_S8x256x3072_S8x260x3072_000_220_000 h_S_

/-- The context rows' convolution, of the padded columns. -/
def cvC (V : FVec Ideal S8x260x3072 .f32) : FVec Ideal S8x256x3072 .f32 :=
  addf (addf (addf (addf (addf (addf (broadcastInDim S8x256x3072 ![] bcast_S_S8x256x3072 (constant S_ .f32 0x00000000#32)) (mulf (extractStridedSlice S8x256x3072 ![0, 0, 0] V slices_S8x260x3072_S8x256x3072_0_0_0) (broadcastInDim S8x256x3072 ![0, 1, 2] bcast_S1x1x3072_S8x256x3072_0_1_2 (broadcastInDim S1x1x3072 ![2] bcast_S3072_S1x1x3072_2 (shapeCast _ (extractStridedSlice S1x3072 ![0, 0] K slices_S5x3072_S1x3072_0_0) shapeCasts_S1x3072_S3072))))) (mulf (extractStridedSlice S8x256x3072 ![0, 1, 0] V slices_S8x260x3072_S8x256x3072_0_1_0) (broadcastInDim S8x256x3072 ![0, 1, 2] bcast_S1x1x3072_S8x256x3072_0_1_2 (broadcastInDim S1x1x3072 ![2] bcast_S3072_S1x1x3072_2 (shapeCast _ (extractStridedSlice S1x3072 ![1, 0] K slices_S5x3072_S1x3072_1_0) shapeCasts_S1x3072_S3072))))) (mulf (extractStridedSlice S8x256x3072 ![0, 2, 0] V slices_S8x260x3072_S8x256x3072_0_2_0) (broadcastInDim S8x256x3072 ![0, 1, 2] bcast_S1x1x3072_S8x256x3072_0_1_2 (broadcastInDim S1x1x3072 ![2] bcast_S3072_S1x1x3072_2 (shapeCast _ (extractStridedSlice S1x3072 ![2, 0] K slices_S5x3072_S1x3072_2_0) shapeCasts_S1x3072_S3072))))) (mulf (extractStridedSlice S8x256x3072 ![0, 3, 0] V slices_S8x260x3072_S8x256x3072_0_3_0) (broadcastInDim S8x256x3072 ![0, 1, 2] bcast_S1x1x3072_S8x256x3072_0_1_2 (broadcastInDim S1x1x3072 ![2] bcast_S3072_S1x1x3072_2 (shapeCast _ (extractStridedSlice S1x3072 ![3, 0] K slices_S5x3072_S1x3072_3_0) shapeCasts_S1x3072_S3072))))) (mulf (extractStridedSlice S8x256x3072 ![0, 4, 0] V slices_S8x260x3072_S8x256x3072_0_4_0) (broadcastInDim S8x256x3072 ![0, 1, 2] bcast_S1x1x3072_S8x256x3072_0_1_2 (broadcastInDim S1x1x3072 ![2] bcast_S3072_S1x1x3072_2 (shapeCast _ (extractStridedSlice S1x3072 ![4, 0] K slices_S5x3072_S1x3072_4_0) shapeCasts_S1x3072_S3072))))) (broadcastInDim S8x256x3072 ![0, 1, 2] bcast_S1x1x3072_S8x256x3072_0_1_2 (broadcastInDim S1x1x3072 ![2] bcast_S3072_S1x1x3072_2 B))

/-- The context rows' convolution gated by its logistic. -/
def siC (Y : FVec Ideal S8x256x3072 .f32) : FVec Ideal S8x256x3072 .f32 :=
  (mulf Y (Host.divf (broadcastInDim S8x256x3072 ![] bcast_S_S8x256x3072 (constant S_ .f32 0x3F800000#32)) (addf (broadcastInDim S8x256x3072 ![] bcast_S_S8x256x3072 (constant S_ .f32 0x3F800000#32)) (Host.exp (Host.negf Y)))))

/-- The context rows' step sizes before they are made positive. -/
def stC (P : FVec Ideal S8x256x5184 .f32) : FVec Ideal S8x256x2x32 .f32 :=
  addf (shapeCast _ (extractStridedSlice S8x256x64 ![0, 0, 5120] P slices_S8x256x5184_S8x256x64_0_0_5120) shapeCasts_S8x256x64_S8x256x2x32) (broadcastInDim S8x256x2x32 ![0, 1, 2, 3] bcast_S1x1x2x32_S8x256x2x32_0_1_2_3 (broadcastInDim S1x1x2x32 ![2, 3] bcast_S2x32_S1x1x2x32_2_3 D))

/-- The context rows' step sizes. -/
def spC (T : FVec Ideal S8x256x2x32 .f32) : FVec Ideal S8x256x2x32 .f32 :=
  select (cmpf .une (subf T (broadcastInDim S8x256x2x32 ![] bcast_S_S8x256x2x32 (constant S_ .f32 0x00000000#32))) (subf T (broadcastInDim S8x256x2x32 ![] bcast_S_S8x256x2x32 (constant S_ .f32 0x00000000#32)))) (addf T (broadcastInDim S8x256x2x32 ![] bcast_S_S8x256x2x32 (constant S_ .f32 0x00000000#32))) (addf (maximumf T (broadcastInDim S8x256x2x32 ![] bcast_S_S8x256x2x32 (constant S_ .f32 0x00000000#32))) (Host.log1p (Host.exp (Host.negf (Host.absf (subf T (broadcastInDim S8x256x2x32 ![] bcast_S_S8x256x2x32 (constant S_ .f32 0x00000000#32))))))))

/-- The context rows' step sizes beside their decays. -/
def dlC (T : FVec Ideal S8x256x2x32 .f32) : FVec Ideal S8x256x128 .f32 :=
  concatenate S8x256x128 2 [⟨S8x256x64, (shapeCast _ T shapeCasts_S8x256x2x32_S8x256x64)⟩, ⟨S8x256x64, (shapeCast _ (mulf T (broadcastInDim S8x256x2x32 ![0, 1, 2, 3] bcast_S1x1x2x32_S8x256x2x32_0_1_2_3 (broadcastInDim S1x1x2x32 ![2, 3] bcast_S2x32_S1x1x2x32_2_3 (Host.negf (Host.exp A))))) shapeCasts_S8x256x2x32_S8x256x64)⟩] concatenates_S8x256x64_S8x256x64_S8x256x128_d2

/-- The latent rows' projection. -/
def prL : FVec Ideal S8x4096x5184 .f32 :=
  Host.dotGeneral dot_S8x4096x1024_S1024x5184_S8x4096x5184_2_0_01_1_n_n none (addf (mulf (extractStridedSlice S8x4096x1024 ![0, 256, 0] X slices_S8x4352x1024_S8x4096x1024_0_256_0) (broadcastInDim S8x4096x1024 ![0, 1, 2] bcast_S8x1x1024_S8x4096x1024_0_1_2 (addf (broadcastInDim S8x1x1024 ![] bcast_S_S8x1x1024 (constant S_ .f32 0x3F800000#32)) (shapeCast _ (extractStridedSlice S8x1x1x1024 ![0, 0, 1, 0] (broadcastInDim S8x1x6x1024 ![0, 2, 3] bcast_S8x6x1024_S8x1x6x1024_0_2_3 (extractStridedSlice S8x6x1024 ![0, 0, 0] M slices_S16x6x1024_S8x6x1024_0_0_0)) slices_S8x1x6x1024_S8x1x1x1024_0_0_1_0) shapeCasts_S8x1x1x1024_S8x1x1024)))) (broadcastInDim S8x4096x1024 ![0, 1, 2] bcast_S8x1x1024_S8x4096x1024_0_1_2 (shapeCast _ (extractStridedSlice S8x1x1x1024 ![0, 0, 0, 0] (broadcastInDim S8x1x6x1024 ![0, 2, 3] bcast_S8x6x1024_S8x1x6x1024_0_2_3 (extractStridedSlice S8x6x1024 ![0, 0, 0] M slices_S16x6x1024_S8x6x1024_0_0_0)) slices_S8x1x6x1024_S8x1x1x1024_0_0_0_0) shapeCasts_S8x1x1x1024_S8x1x1024))) W

/-- The latent rows' middle columns, two rows of zeros before and after. -/
def pdL (P : FVec Ideal S8x4096x5184 .f32) : FVec Ideal S8x4100x3072 .f32 :=
  pad S8x4100x3072 ![0, 2, 0] ![0, 2, 0] ![0, 0, 0] (extractStridedSlice S8x4096x3072 ![0, 0, 2048] P slices_S8x4096x5184_S8x4096x3072_0_0_2048) (sitofp .f32 (constantI S_ 32 0#32)) pads_S8x4096x3072_S8x4100x3072_000_220_000 h_S_

/-- The latent rows' convolution, of the padded columns. -/
def cvL (V : FVec Ideal S8x4100x3072 .f32) : FVec Ideal S8x4096x3072 .f32 :=
  addf (addf (addf (addf (addf (addf (broadcastInDim S8x4096x3072 ![] bcast_S_S8x4096x3072 (constant S_ .f32 0x00000000#32)) (mulf (extractStridedSlice S8x4096x3072 ![0, 0, 0] V slices_S8x4100x3072_S8x4096x3072_0_0_0) (broadcastInDim S8x4096x3072 ![0, 1, 2] bcast_S1x1x3072_S8x4096x3072_0_1_2 (broadcastInDim S1x1x3072 ![2] bcast_S3072_S1x1x3072_2 (shapeCast _ (extractStridedSlice S1x3072 ![0, 0] K slices_S5x3072_S1x3072_0_0) shapeCasts_S1x3072_S3072))))) (mulf (extractStridedSlice S8x4096x3072 ![0, 1, 0] V slices_S8x4100x3072_S8x4096x3072_0_1_0) (broadcastInDim S8x4096x3072 ![0, 1, 2] bcast_S1x1x3072_S8x4096x3072_0_1_2 (broadcastInDim S1x1x3072 ![2] bcast_S3072_S1x1x3072_2 (shapeCast _ (extractStridedSlice S1x3072 ![1, 0] K slices_S5x3072_S1x3072_1_0) shapeCasts_S1x3072_S3072))))) (mulf (extractStridedSlice S8x4096x3072 ![0, 2, 0] V slices_S8x4100x3072_S8x4096x3072_0_2_0) (broadcastInDim S8x4096x3072 ![0, 1, 2] bcast_S1x1x3072_S8x4096x3072_0_1_2 (broadcastInDim S1x1x3072 ![2] bcast_S3072_S1x1x3072_2 (shapeCast _ (extractStridedSlice S1x3072 ![2, 0] K slices_S5x3072_S1x3072_2_0) shapeCasts_S1x3072_S3072))))) (mulf (extractStridedSlice S8x4096x3072 ![0, 3, 0] V slices_S8x4100x3072_S8x4096x3072_0_3_0) (broadcastInDim S8x4096x3072 ![0, 1, 2] bcast_S1x1x3072_S8x4096x3072_0_1_2 (broadcastInDim S1x1x3072 ![2] bcast_S3072_S1x1x3072_2 (shapeCast _ (extractStridedSlice S1x3072 ![3, 0] K slices_S5x3072_S1x3072_3_0) shapeCasts_S1x3072_S3072))))) (mulf (extractStridedSlice S8x4096x3072 ![0, 4, 0] V slices_S8x4100x3072_S8x4096x3072_0_4_0) (broadcastInDim S8x4096x3072 ![0, 1, 2] bcast_S1x1x3072_S8x4096x3072_0_1_2 (broadcastInDim S1x1x3072 ![2] bcast_S3072_S1x1x3072_2 (shapeCast _ (extractStridedSlice S1x3072 ![4, 0] K slices_S5x3072_S1x3072_4_0) shapeCasts_S1x3072_S3072))))) (broadcastInDim S8x4096x3072 ![0, 1, 2] bcast_S1x1x3072_S8x4096x3072_0_1_2 (broadcastInDim S1x1x3072 ![2] bcast_S3072_S1x1x3072_2 B))

/-- The latent rows' convolution gated by its logistic. -/
def siL (Y : FVec Ideal S8x4096x3072 .f32) : FVec Ideal S8x4096x3072 .f32 :=
  (mulf Y (Host.divf (broadcastInDim S8x4096x3072 ![] bcast_S_S8x4096x3072 (constant S_ .f32 0x3F800000#32)) (addf (broadcastInDim S8x4096x3072 ![] bcast_S_S8x4096x3072 (constant S_ .f32 0x3F800000#32)) (Host.exp (Host.negf Y)))))

/-- The latent rows' step sizes before they are made positive. -/
def stL (P : FVec Ideal S8x4096x5184 .f32) : FVec Ideal S8x4096x2x32 .f32 :=
  addf (shapeCast _ (extractStridedSlice S8x4096x64 ![0, 0, 5120] P slices_S8x4096x5184_S8x4096x64_0_0_5120) shapeCasts_S8x4096x64_S8x4096x2x32) (broadcastInDim S8x4096x2x32 ![0, 1, 2, 3] bcast_S1x1x2x32_S8x4096x2x32_0_1_2_3 (broadcastInDim S1x1x2x32 ![2, 3] bcast_S2x32_S1x1x2x32_2_3 D))

/-- The latent rows' step sizes. -/
def spL (T : FVec Ideal S8x4096x2x32 .f32) : FVec Ideal S8x4096x2x32 .f32 :=
  select (cmpf .une (subf T (broadcastInDim S8x4096x2x32 ![] bcast_S_S8x4096x2x32 (constant S_ .f32 0x00000000#32))) (subf T (broadcastInDim S8x4096x2x32 ![] bcast_S_S8x4096x2x32 (constant S_ .f32 0x00000000#32)))) (addf T (broadcastInDim S8x4096x2x32 ![] bcast_S_S8x4096x2x32 (constant S_ .f32 0x00000000#32))) (addf (maximumf T (broadcastInDim S8x4096x2x32 ![] bcast_S_S8x4096x2x32 (constant S_ .f32 0x00000000#32))) (Host.log1p (Host.exp (Host.negf (Host.absf (subf T (broadcastInDim S8x4096x2x32 ![] bcast_S_S8x4096x2x32 (constant S_ .f32 0x00000000#32))))))))

/-- The latent rows' step sizes beside their decays. -/
def dlL (T : FVec Ideal S8x4096x2x32 .f32) : FVec Ideal S8x4096x128 .f32 :=
  concatenate S8x4096x128 2 [⟨S8x4096x64, (shapeCast _ T shapeCasts_S8x4096x2x32_S8x4096x64)⟩, ⟨S8x4096x64, (shapeCast _ (mulf T (broadcastInDim S8x4096x2x32 ![0, 1, 2, 3] bcast_S1x1x2x32_S8x4096x2x32_0_1_2_3 (broadcastInDim S1x1x2x32 ![2, 3] bcast_S2x32_S1x1x2x32_2_3 (Host.negf (Host.exp A))))) shapeCasts_S8x4096x2x32_S8x4096x64)⟩] concatenates_S8x4096x64_S8x4096x64_S8x4096x128_d2

/-- Context rows before latent rows, of 2048 columns. -/
def cat_z (a : FVec Ideal S8x256x2048 .f32) (b : FVec Ideal S8x4096x2048 .f32) : FVec Ideal S8x4352x2048 .f32 :=
  concatenate S8x4352x2048 1 [⟨S8x256x2048, a⟩, ⟨S8x4096x2048, b⟩] concatenates_S8x256x2048_S8x4096x2048_S8x4352x2048_d1

/-- Context rows before latent rows, of 3072 columns. -/
def cat_x (a : FVec Ideal S8x256x3072 .f32) (b : FVec Ideal S8x4096x3072 .f32) : FVec Ideal S8x4352x3072 .f32 :=
  concatenate S8x4352x3072 1 [⟨S8x256x3072, a⟩, ⟨S8x4096x3072, b⟩] concatenates_S8x256x3072_S8x4096x3072_S8x4352x3072_d1

/-- Context rows before latent rows, of 128 columns. -/
def cat_d (a : FVec Ideal S8x256x128 .f32) (b : FVec Ideal S8x4096x128 .f32) : FVec Ideal S8x4352x128 .f32 :=
  concatenate S8x4352x128 1 [⟨S8x256x128, a⟩, ⟨S8x4096x128, b⟩] concatenates_S8x256x128_S8x4096x128_S8x4352x128_d1

/-- The gates. -/
def zR : FVec Ideal S8x4352x2048 .f32 :=
  cat_z (extractStridedSlice S8x256x2048 ![0, 0, 0] (prC X M W) slices_S8x256x5184_S8x256x2048_0_0_0)
    (extractStridedSlice S8x4096x2048 ![0, 0, 0] (prL X M W) slices_S8x4096x5184_S8x4096x2048_0_0_0)

/-- The scan's inputs. -/
def xR : FVec Ideal S8x4352x3072 .f32 :=
  cat_x (siC (cvC K B (pdC (prC X M W)))) (siL (cvL K B (pdL (prL X M W))))

/-- The step sizes beside their decays. -/
def dR : FVec Ideal S8x4352x128 .f32 :=
  cat_d (dlC A (spC (stC D (prC X M W)))) (dlL A (spL (stL D (prL X M W))))

/-- The reference's run, its results by these names. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v144) = zR (m ((c.tc : Thread nD τ).loc main_arg0)) (m ((c.tc : Thread nD τ).loc main_arg1)) (m ((c.tc : Thread nD τ).loc main_arg2))
      ∧ r.2.mem ((c.tc : Thread nD τ).loc main_v145) = xR (m ((c.tc : Thread nD τ).loc main_arg0)) (m ((c.tc : Thread nD τ).loc main_arg1)) (m ((c.tc : Thread nD τ).loc main_arg2)) (m ((c.tc : Thread nD τ).loc main_arg5)) (m ((c.tc : Thread nD τ).loc main_arg6))
      ∧ r.2.mem ((c.tc : Thread nD τ).loc main_v146) = dR (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  Cert.SProjRefIdeal.Value.run m ρ

/-- A row of the modulated tokens against a column of the weights: context rows use the ninth modulation, latent rows their batch
    element's. -/
def prS (b : Fin 8) (l : Fin 4352) (j : Fin 5184) : EReal :=
  ∑ d : Fin 1024, (X (ix3 b l d) * (1 + M (ix3 (if l.val < 256 then 8 else ⟨b.val, by omega⟩) 1 d))
    + M (ix3 (if l.val < 256 then 8 else ⟨b.val, by omega⟩) 0 d)) * W (ix2 d j)

/-- A row's neighbour `k - 2` rows on: zero outside the row's own segment. -/
def vS (u : Fin 4352 → EReal) (l : Fin 4352) (k : ℕ) : EReal :=
  if h : 2 ≤ l.val + k ∧ l.val + k < 4354 ∧ (l.val < 256 ↔ l.val + k < 258) then u ⟨l.val + k - 2, by omega⟩ else 0

/-- A row's five neighbours, weighed, and the bias. -/
def yS (u : Fin 4352 → EReal) (w : Fin 5 → EReal) (c : EReal) (l : Fin 4352) : EReal :=
  vS u l 0 * w 0 + vS u l 1 * w 1 + vS u l 2 * w 2 + vS u l 3 * w 3 + vS u l 4 * w 4 + c

/-- A number times its logistic. -/
def silS (y : EReal) : EReal := y * Ideal.logistic y

/-- The soft positive part. -/
def softS (x : EReal) : EReal := max x 0 + Ideal.log1p (Ideal.exp (-max x (-x)))

/-- The step size of a row in a head. -/
def stepS (b : Fin 8) (l : Fin 4352) (f : Fin 64) : EReal :=
  softS (prS X M W b l ⟨5120 + f.val, by omega⟩ + D (ix2 ⟨f.val / 32, by omega⟩ ⟨f.val % 32, by omega⟩))

/-- The step size, and in the second sixty-four columns the decay. -/
def dS (b : Fin 8) (l : Fin 4352) (e : Fin 128) : EReal :=
  if e.val < 64 then stepS X M W D b l ⟨e.val % 64, by omega⟩
  else stepS X M W D b l ⟨e.val % 64, by omega⟩ * -Ideal.exp (A (ix2 ⟨e.val % 64 / 32, by omega⟩ ⟨e.val % 32, by omega⟩))

/-- The context rows' projection at an index. -/
theorem prC_apply (b : Fin 8) (l : Fin 256) (j : Fin 5184) : prC X M W (ix3 b l j) = prS X M W b ⟨l.val, by omega⟩ j := by
  unfold prS
  simp only [l.isLt, if_true]
  pointwise [prC]

/-- The latent rows' projection at an index. -/
theorem prL_apply (b : Fin 8) (r : Fin 4096) (j : Fin 5184) : prL X M W (ix3 b r j) = prS X M W b ⟨256 + r.val, by omega⟩ j := by
  unfold prS
  simp only [show ¬(256 + r.val < 256) by omega, if_false]
  pointwise [prL]

/-- Context rows, then latent rows. -/
theorem cat_z_apply (a : FVec Ideal S8x256x2048 .f32) (b' : FVec Ideal S8x4096x2048 .f32) (b : Fin 8) (l : Fin 4352) (j : Fin 2048) :
    cat_z a b' (ix3 b l j) = if h : l.val < 256 then a (ix3 b ⟨l.val, h⟩ j) else b' (ix3 b ⟨l.val - 256, by omega⟩ j) := by
  pointwise [cat_z]

/-- Context rows, then latent rows. -/
theorem cat_x_apply (a : FVec Ideal S8x256x3072 .f32) (b' : FVec Ideal S8x4096x3072 .f32) (b : Fin 8) (l : Fin 4352) (j : Fin 3072) :
    cat_x a b' (ix3 b l j) = if h : l.val < 256 then a (ix3 b ⟨l.val, h⟩ j) else b' (ix3 b ⟨l.val - 256, by omega⟩ j) := by
  pointwise [cat_x]

/-- Context rows, then latent rows. -/
theorem cat_d_apply (a : FVec Ideal S8x256x128 .f32) (b' : FVec Ideal S8x4096x128 .f32) (b : Fin 8) (l : Fin 4352) (j : Fin 128) :
    cat_d a b' (ix3 b l j) = if h : l.val < 256 then a (ix3 b ⟨l.val, h⟩ j) else b' (ix3 b ⟨l.val - 256, by omega⟩ j) := by
  pointwise [cat_d]

/-- The context rows' padded columns at an index. -/
theorem pdC_apply (P : FVec Ideal S8x256x5184 .f32) (b : Fin 8) (l : Fin 260) (j : Fin 3072) : pdC P (ix3 b l j)
    = if h : 2 ≤ l.val ∧ l.val < 258 then P (ix3 b ⟨l.val - 2, by omega⟩ ⟨2048 + j.val, by omega⟩) else 0 := by
  pointwise [pdC]
  by_cases h : 2 ≤ l.val ∧ l.val < 258
  · rw [dif_pos h, dif_pos ⟨h.1, by omega⟩]
  · rw [dif_neg h, dif_neg (by omega)]
    exact (congrArg ((↑) : ℝ → EReal) Int.cast_zero).trans EReal.coe_zero

/-- The context rows' convolution at an index. -/
theorem cvC_apply (V : FVec Ideal S8x260x3072 .f32) (b : Fin 8) (l : Fin 256) (j : Fin 3072) : cvC K B V (ix3 b l j)
    = V (ix3 b ⟨l.val, by omega⟩ j) * K (ix2 0 j) + V (ix3 b ⟨1 + l.val, by omega⟩ j) * K (ix2 1 j)
      + V (ix3 b ⟨2 + l.val, by omega⟩ j) * K (ix2 2 j) + V (ix3 b ⟨3 + l.val, by omega⟩ j) * K (ix2 3 j)
      + V (ix3 b ⟨4 + l.val, by omega⟩ j) * K (ix2 4 j) + B (ix1 j) := by
  pointwise [cvC]

/-- The context rows' gated convolution at an index. -/
theorem siC_apply (Y : FVec Ideal S8x256x3072 .f32) (i : S8x256x3072.Idx) : siC Y i = silS (Y i) := by
  unfold silS
  pointwise [siC]
  rfl

/-- The context rows' step sizes before they are made positive, at an index. -/
theorem stC_apply (P : FVec Ideal S8x256x5184 .f32) (b : Fin 8) (l : Fin 256) (g : Fin 2) (f : Fin 32) :
    stC D P (ix4 b l g f) = P (ix3 b l ⟨5120 + (g.val * 32 + f.val), by omega⟩) + D (ix2 g f) := by
  pointwise [stC]

/-- The context rows' step sizes at an index. -/
theorem spC_apply (T : FVec Ideal S8x256x2x32 .f32) (i : S8x256x2x32.Idx) : spC T i = softS (T i) := by
  unfold softS
  pointwise [spC]
  rw [if_neg fun h => h rfl]
  rfl

/-- The context rows' step sizes beside their decays, at an index. -/
theorem dlC_apply (T : FVec Ideal S8x256x2x32 .f32) (b : Fin 8) (l : Fin 256) (e : Fin 128) : dlC A T (ix3 b l e)
    = if h : e.val < 64 then T (ix4 b l ⟨e.val / 32, by omega⟩ ⟨e.val % 32, by omega⟩)
      else T (ix4 b l ⟨(e.val - 64) / 32, by omega⟩ ⟨(e.val - 64) % 32, by omega⟩)
        * -Ideal.exp (A (ix2 ⟨(e.val - 64) / 32, by omega⟩ ⟨(e.val - 64) % 32, by omega⟩)) := by
  pointwise [dlC]

/-- The latent rows' padded columns at an index. -/
theorem pdL_apply (P : FVec Ideal S8x4096x5184 .f32) (b : Fin 8) (l : Fin 4100) (j : Fin 3072) : pdL P (ix3 b l j)
    = if h : 2 ≤ l.val ∧ l.val < 4098 then P (ix3 b ⟨l.val - 2, by omega⟩ ⟨2048 + j.val, by omega⟩) else 0 := by
  pointwise [pdL]
  by_cases h : 2 ≤ l.val ∧ l.val < 4098
  · rw [dif_pos h, dif_pos ⟨h.1, by omega⟩]
  · rw [dif_neg h, dif_neg (by omega)]
    exact (congrArg ((↑) : ℝ → EReal) Int.cast_zero).trans EReal.coe_zero

/-- The latent rows' convolution at an index. -/
theorem cvL_apply (V : FVec Ideal S8x4100x3072 .f32) (b : Fin 8) (l : Fin 4096) (j : Fin 3072) : cvL K B V (ix3 b l j)
    = V (ix3 b ⟨l.val, by omega⟩ j) * K (ix2 0 j) + V (ix3 b ⟨1 + l.val, by omega⟩ j) * K (ix2 1 j)
      + V (ix3 b ⟨2 + l.val, by omega⟩ j) * K (ix2 2 j) + V (ix3 b ⟨3 + l.val, by omega⟩ j) * K (ix2 3 j)
      + V (ix3 b ⟨4 + l.val, by omega⟩ j) * K (ix2 4 j) + B (ix1 j) := by
  pointwise [cvL]

/-- The latent rows' gated convolution at an index. -/
theorem siL_apply (Y : FVec Ideal S8x4096x3072 .f32) (i : S8x4096x3072.Idx) : siL Y i = silS (Y i) := by
  unfold silS
  pointwise [siL]
  rfl

/-- The latent rows' step sizes before they are made positive, at an index. -/
theorem stL_apply (P : FVec Ideal S8x4096x5184 .f32) (b : Fin 8) (l : Fin 4096) (g : Fin 2) (f : Fin 32) :
    stL D P (ix4 b l g f) = P (ix3 b l ⟨5120 + (g.val * 32 + f.val), by omega⟩) + D (ix2 g f) := by
  pointwise [stL]

/-- The latent rows' step sizes at an index. -/
theorem spL_apply (T : FVec Ideal S8x4096x2x32 .f32) (i : S8x4096x2x32.Idx) : spL T i = softS (T i) := by
  unfold softS
  pointwise [spL]
  rw [if_neg fun h => h rfl]
  rfl

/-- The latent rows' step sizes beside their decays, at an index. -/
theorem dlL_apply (T : FVec Ideal S8x4096x2x32 .f32) (b : Fin 8) (l : Fin 4096) (e : Fin 128) : dlL A T (ix3 b l e)
    = if h : e.val < 64 then T (ix4 b l ⟨e.val / 32, by omega⟩ ⟨e.val % 32, by omega⟩)
      else T (ix4 b l ⟨(e.val - 64) / 32, by omega⟩ ⟨(e.val - 64) % 32, by omega⟩)
        * -Ideal.exp (A (ix2 ⟨(e.val - 64) / 32, by omega⟩ ⟨(e.val - 64) % 32, by omega⟩)) := by
  pointwise [dlL]

/-- A context row's neighbour among the padded columns. -/
theorem nbC (b : Fin 8) (l : Fin 256) (j : Fin 3072) (k : ℕ) (hk : k < 5) (l' : Fin 260) (hl : l'.val = k + l.val) :
    pdC (prC X M W) (ix3 b l' j) = vS (fun i => prS X M W b i ⟨2048 + j.val, by omega⟩) ⟨l.val, by omega⟩ k := by
  rw [pdC_apply]
  unfold vS
  by_cases h : 2 ≤ l'.val ∧ l'.val < 258
  · rw [dif_pos h, dif_pos (by simp only []; omega), prC_apply]
    congr 1
    exact Fin.ext (by simp only []; omega)
  · rw [dif_neg h, dif_neg (by simp only []; omega)]

/-- The context rows' scan inputs at an index. -/
theorem yC_apply (b : Fin 8) (l : Fin 256) (j : Fin 3072) : cvC K B (pdC (prC X M W)) (ix3 b l j)
    = yS (fun i => prS X M W b i ⟨2048 + j.val, by omega⟩) (fun k => K (ix2 k j)) (B (ix1 j)) ⟨l.val, by omega⟩ := by
  unfold yS
  rw [cvC_apply, nbC X M W b l j 0 (by omega) _ (Nat.zero_add _).symm, nbC X M W b l j 1 (by omega) _ rfl,
    nbC X M W b l j 2 (by omega) _ rfl, nbC X M W b l j 3 (by omega) _ rfl, nbC X M W b l j 4 (by omega) _ rfl]

/-- The context rows' step sizes at an index, beside their decays. -/
theorem dC_apply (b : Fin 8) (l : Fin 256) (e : Fin 128) : dlC A (spC (stC D (prC X M W))) (ix3 b l e)
    = dS X M W D A b ⟨l.val, by omega⟩ e := by
  rw [dlC_apply]
  unfold dS stepS
  by_cases h : e.val < 64
  · rw [dif_pos h, if_pos h, spC_apply, stC_apply, prC_apply]
    congr 3
    · exact Fin.ext (by simp only []; omega)
    · congr 1 <;> exact Fin.ext (by simp only []; omega)
  · rw [dif_neg h, if_neg h, spC_apply, stC_apply, prC_apply]
    congr 4
    · exact Fin.ext (by simp only []; omega)
    · congr 1 <;> exact Fin.ext (by simp only []; omega)
    · congr 1 <;> exact Fin.ext (by simp only []; omega)

/-- A latent row's neighbour among the padded columns. -/
theorem nbL (b : Fin 8) (l : Fin 4096) (j : Fin 3072) (k : ℕ) (hk : k < 5) (l' : Fin 4100) (hl : l'.val = k + l.val) :
    pdL (prL X M W) (ix3 b l' j) = vS (fun i => prS X M W b i ⟨2048 + j.val, by omega⟩) ⟨256 + l.val, by omega⟩ k := by
  rw [pdL_apply]
  unfold vS
  by_cases h : 2 ≤ l'.val ∧ l'.val < 4098
  · rw [dif_pos h, dif_pos (by simp only []; omega), prL_apply]
    congr 1
    exact Fin.ext (by simp only []; omega)
  · rw [dif_neg h, dif_neg (by simp only []; omega)]

/-- The latent rows' scan inputs at an index. -/
theorem yL_apply (b : Fin 8) (l : Fin 4096) (j : Fin 3072) : cvL K B (pdL (prL X M W)) (ix3 b l j)
    = yS (fun i => prS X M W b i ⟨2048 + j.val, by omega⟩) (fun k => K (ix2 k j)) (B (ix1 j)) ⟨256 + l.val, by omega⟩ := by
  unfold yS
  rw [cvL_apply, nbL X M W b l j 0 (by omega) _ (Nat.zero_add _).symm, nbL X M W b l j 1 (by omega) _ rfl,
    nbL X M W b l j 2 (by omega) _ rfl, nbL X M W b l j 3 (by omega) _ rfl, nbL X M W b l j 4 (by omega) _ rfl]

/-- The latent rows' step sizes at an index, beside their decays. -/
theorem dL_apply (b : Fin 8) (l : Fin 4096) (e : Fin 128) : dlL A (spL (stL D (prL X M W))) (ix3 b l e)
    = dS X M W D A b ⟨256 + l.val, by omega⟩ e := by
  rw [dlL_apply]
  unfold dS stepS
  by_cases h : e.val < 64
  · rw [dif_pos h, if_pos h, spL_apply, stL_apply, prL_apply]
    congr 3
    · exact Fin.ext (by simp only []; omega)
    · congr 1 <;> exact Fin.ext (by simp only []; omega)
  · rw [dif_neg h, if_neg h, spL_apply, stL_apply, prL_apply]
    congr 4
    · exact Fin.ext (by simp only []; omega)
    · congr 1 <;> exact Fin.ext (by simp only []; omega)
    · congr 1 <;> exact Fin.ext (by simp only []; omega)

/-- The gates at an index. -/
theorem zR_apply (b : Fin 8) (l : Fin 4352) (j : Fin 2048) : zR X M W (ix3 b l j) = prS X M W b l ⟨j.val, by omega⟩ := by
  unfold zR
  rw [cat_z_apply]
  by_cases h : l.val < 256
  · rw [dif_pos h]
    refine Eq.trans ?_ (prC_apply X M W b ⟨l.val, h⟩ ⟨j.val, by omega⟩)
    pointwise
  · rw [dif_neg h]
    refine Eq.trans ?_ ((prL_apply X M W b ⟨l.val - 256, by omega⟩ ⟨j.val, by omega⟩).trans ?_)
    · pointwise
    · congr 1
      exact Fin.ext (by show 256 + (l.val - 256) = l.val; omega)

/-- The scan's inputs at an index. -/
theorem xR_apply (b : Fin 8) (l : Fin 4352) (j : Fin 3072) : xR X M W K B (ix3 b l j)
    = silS (yS (fun i => prS X M W b i ⟨2048 + j.val, by omega⟩) (fun k => K (ix2 k j)) (B (ix1 j)) l) := by
  unfold xR
  rw [cat_x_apply]
  by_cases h : l.val < 256
  · rw [dif_pos h, siC_apply, yC_apply]
  · rw [dif_neg h, siL_apply, yL_apply]
    congr 2
    exact Fin.ext (by show 256 + (l.val - 256) = l.val; omega)

/-- The step sizes and their decays at an index. -/
theorem dR_apply (b : Fin 8) (l : Fin 4352) (e : Fin 128) : dR X M W D A (ix3 b l e) = dS X M W D A b l e := by
  unfold dR
  rw [cat_d_apply]
  by_cases h : l.val < 256
  · rw [dif_pos h, dC_apply]
  · rw [dif_neg h, dL_apply]
    congr 1
    exact Fin.ext (by show 256 + (l.val - 256) = l.val; omega)

end Cert.Proof.RefSProj

end
-- ==== Proof.TabSProj.lean ====
/- The blocks a point of the SSD projection kernel reads: the tokens and the eight rows before and after them, the modulations, and the
   weights, biases and decays as the host lays them out. -/
module

public import proofs.«01_k».proof.Proof.RefSProj
public import proofs.«01_k».proof.Proof.Gen.SProjIdeal.Frame
public import proofs.«01_k».proof.Proof.Gen.SProjIdeal.Value
public import Idealize.ShloMosaic.Lib.StableHlo.ReadAt
public import Idealize.ShloMosaic.Lib.Pointwise
public import Idealize.ShloMosaic.Lib.Pipeline.ValueKit

@[expose] public section

set_option maxRecDepth 16384

noncomputable section

namespace Cert.Proof.TabSProj

open Idealize.ShloMosaic Idealize.ShloMosaic.TcCoe Idealize.SL.Sem Idealize.ShloMosaic.StableHlo
open Cert.SProjIdeal Cert.SProjIdeal.Gen

variable (m : (ℓ : Loc nD τ sig) → Buf (Elt Ideal) ℓ) (c : Dev nD)

/-- Where each window's block lies at a point. -/
theorem idx (t : Fin cfg0.N) : win0_0.index t = ![t.val / 17, t.val % 17, 0] ∧ win0_1.index t = ![t.val / 17, t.val % 17 * 32 - 1, 0]
    ∧ win0_2.index t = ![t.val / 17, if t.val % 17 < 16 then t.val % 17 * 32 + 32 else 543, 0]
    ∧ win0_3.index t = ![if t.val % 17 = 0 then 8 else t.val / 17, 0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![t.val / 17, t.val % 17, 0] ∧ win0_11.index t = ![t.val / 17, t.val % 17, 0]
    ∧ win0_12.index t = ![t.val / 17, t.val % 17, 0] :=
  (by decide +kernel : ∀ t : Fin grid0.N, win0_0.index t = ![t.val / 17, t.val % 17, 0] ∧ win0_1.index t = ![t.val / 17, t.val % 17 * 32 - 1, 0]
    ∧ win0_2.index t = ![t.val / 17, if t.val % 17 < 16 then t.val % 17 * 32 + 32 else 543, 0]
    ∧ win0_3.index t = ![if t.val % 17 = 0 then 8 else t.val / 17, 0, 0] ∧ win0_4.index t = ![0, 0] ∧ win0_5.index t = ![0, 0]
    ∧ win0_6.index t = ![0, 0] ∧ win0_7.index t = ![0, 0] ∧ win0_8.index t = ![0, 0] ∧ win0_9.index t = ![0, 0]
    ∧ win0_10.index t = ![t.val / 17, t.val % 17, 0] ∧ win0_11.index t = ![t.val / 17, t.val % 17, 0]
    ∧ win0_12.index t = ![t.val / 17, t.val % 17, 0]) t

/-- A point's batch element. -/
def bat (t : Fin cfg0.N) : Fin 8 := ⟨t.val / 17, by have := lt_of_lt_of_eq t.isLt (show cfg0.N = 136 from N_0); omega⟩

/-- The array's row that row `l` of a point's block is. -/
def rowB (t : Fin cfg0.N) (l : Fin 256) : Fin 4352 := ⟨t.val % 17 * 256 + l.val, by omega⟩

/-- The modulations a point reads: the ninth at a batch element's first point, else the batch element's. -/
def mB (t : Fin cfg0.N) : Fin 16 := ⟨if t.val % 17 = 0 then 8 else t.val / 17, by
  have := lt_of_lt_of_eq t.isLt (show cfg0.N = 136 from N_0); split <;> omega⟩

/-- The main weights the kernel reads are the launched ones. -/
theorem w_apply (d : Fin 1024) (j : Fin 5120) : V m c main_v1 (ix2 d j) = m ((c : Thread nD τ).loc main_arg2) (ix2 d ⟨j.val, by omega⟩) := by
  unfold V
  after_reads_at

/-- The step sizes' columns of the weights, twice. -/
def qT (W : FVec Ideal S1024x5184 .f32) : FVec Ideal S1024x128 .bf16 :=
  truncf .bf16 (concatenate S1024x128 1 [⟨S1024x64, extractStridedSlice S1024x64 ![0, 5120] W slices_S1024x5184_S1024x64_0_5120⟩,
    ⟨S1024x64, extractStridedSlice S1024x64 ![0, 5120] W slices_S1024x5184_S1024x64_0_5120⟩] concatenates_S1024x64_S1024x64_S1024x128_d1)
    bitsLt_bf16_f32

/-- Those columns at an index. -/
theorem qT_apply (W : FVec Ideal S1024x5184 .f32) (d : Fin 1024) (e : Fin 128) :
    qT W (ix2 d e) = W (ix2 d ⟨5120 + e.val % 64, by omega⟩) := by
  pointwise [qT]
  by_cases h : e.val < 64
  · rw [dif_pos h]
    congr 2
    exact Fin.ext (by simp only []; omega)
  · rw [dif_neg h]
    congr 2
    exact Fin.ext (by simp only []; omega)

/-- The host's weights of the step sizes. -/
theorem q_tab : V m c main_v5 = qT (m ((c : Thread nD τ).loc main_arg2)) := by
  unfold V
  after_reads_simp
  rfl

/-- The step sizes' weights are the launched ones, twice. -/
theorem q_apply (d : Fin 1024) (e : Fin 128) :
    V m c main_v5 (ix2 d e) = m ((c : Thread nD τ).loc main_arg2) (ix2 d ⟨5120 + e.val % 64, by omega⟩) := by
  rw [q_tab, qT_apply]

/-- The step sizes' biases are the launched ones, twice. -/
theorem a_apply (e : Fin 128) :
    V m c main_v9 (ix2 0 e) = m ((c : Thread nD τ).loc main_arg3) (ix2 ⟨e.val % 64 / 32, by omega⟩ ⟨e.val % 32, by omega⟩) := by
  have h : (⟨e.val % 64 % 32, by omega⟩ : Fin 32) = ⟨e.val % 32, by omega⟩ := Fin.ext (by simp only []; omega)
  rw [← h]
  unfold V
  after_reads_at

/-- The decays' logarithms are the launched ones, twice. -/
theorem b_apply (e : Fin 128) :
    V m c main_v13 (ix2 0 e) = m ((c : Thread nD τ).loc main_arg4) (ix2 ⟨e.val % 64 / 32, by omega⟩ ⟨e.val % 32, by omega⟩) := by
  have h : (⟨e.val % 64 % 32, by omega⟩ : Fin 32) = ⟨e.val % 32, by omega⟩ := Fin.ext (by simp only []; omega)
  rw [← h]
  unfold V
  after_reads_at

/-- The convolution's bias is the launched one. -/
theorem c_apply (j : Fin 3072) : V m c main_v14 (ix2 0 j) = m ((c : Thread nD τ).loc main_arg6) (ix1 j) := by
  unfold V
  after_reads_at

/-- The main weights in a point's block. -/
theorem w_blk (t : Fin cfg0.N) (d : Fin 1024) (j : Fin 5120) :
    iblk m c 4 t (ix2 d j) = m ((c : Thread nD τ).loc main_arg2) (ix2 d ⟨j.val, by omega⟩) := by
  rw [← w_apply m c]
  blk_ext [iblk, idx t]

/-- The step sizes' weights in a point's block. -/
theorem q_blk (t : Fin cfg0.N) (d : Fin 1024) (e : Fin 128) :
    iblk m c 5 t (ix2 d e) = m ((c : Thread nD τ).loc main_arg2) (ix2 d ⟨5120 + e.val % 64, by omega⟩) := by
  rw [← q_apply m c]
  blk_ext [iblk, idx t]

/-- The step sizes' biases in a point's block. -/
theorem a_blk (t : Fin cfg0.N) (e : Fin 128) :
    iblk m c 6 t (ix2 0 e) = m ((c : Thread nD τ).loc main_arg3) (ix2 ⟨e.val % 64 / 32, by omega⟩ ⟨e.val % 32, by omega⟩) := by
  rw [← a_apply m c]
  blk_ext [iblk, idx t]

/-- The decays' logarithms in a point's block. -/
theorem b_blk (t : Fin cfg0.N) (e : Fin 128) :
    iblk m c 7 t (ix2 0 e) = m ((c : Thread nD τ).loc main_arg4) (ix2 ⟨e.val % 64 / 32, by omega⟩ ⟨e.val % 32, by omega⟩) := by
  rw [← b_apply m c]
  blk_ext [iblk, idx t]

/-- The taps in a point's block. -/
theorem k_blk (t : Fin cfg0.N) (k : Fin 5) (j : Fin 3072) :
    iblk m c 8 t (ix2 k j) = m ((c : Thread nD τ).loc main_arg5) (ix2 k j) := by
  blk_ext [iblk, V, idx t]

/-- The convolution's bias in a point's block. -/
theorem c_blk (t : Fin cfg0.N) (j : Fin 3072) :
    iblk m c 9 t (ix2 0 j) = m ((c : Thread nD τ).loc main_arg6) (ix1 j) := by
  rw [← c_apply m c]
  blk_ext [iblk, idx t]

/-- The tokens in a point's block. -/
theorem x_blk (t : Fin cfg0.N) (l : Fin 256) (d : Fin 1024) :
    iblk m c 0 t (ix3 0 l d) = m ((c : Thread nD τ).loc main_arg0) (ix3 (bat t) (rowB t l) d) := by
  unfold bat rowB
  blk_ext [iblk, V, idx t]

/-- The tokens before a point's block. -/
theorem lo_blk (t : Fin cfg0.N) (r : Fin 8) (d : Fin 1024) :
    iblk m c 1 t (ix3 0 r d) = m ((c : Thread nD τ).loc main_arg0) (ix3 (bat t) ⟨(t.val % 17 * 32 - 1) * 8 + r.val, by omega⟩ d) := by
  unfold bat
  blk_ext [iblk, V, idx t]

/-- The tokens after a point's block. -/
theorem hi_blk (t : Fin cfg0.N) (r : Fin 8) (d : Fin 1024) :
    iblk m c 2 t (ix3 0 r d) = m ((c : Thread nD τ).loc main_arg0)
      (ix3 (bat t) ⟨(if t.val % 17 < 16 then t.val % 17 * 32 + 32 else 543) * 8 + r.val, by split <;> omega⟩ d) := by
  unfold bat
  blk_ext [iblk, V, idx t]

/-- The modulations in a point's block. -/
theorem mods_blk (t : Fin cfg0.N) (k : Fin 6) (d : Fin 1024) :
    iblk m c 3 t (ix3 0 k d) = m ((c : Thread nD τ).loc main_arg1) (ix3 (mB t) k d) := by
  unfold mB
  blk_ext [iblk, V, idx t]

/-- The mask of the rows before: one from a batch element's third point on. -/
theorem lo_eq (t : Fin cfg0.N) : k0_pay3 (F := Ideal) (grid0.coords t) = if 2 ≤ t.val % 17 then (1 : EReal) else 0 := by
  have h : Scalar.cmpi .sge (BitVec.ofNat 32 (grid0.coords t 1).val) 2#32 = if 2 ≤ t.val % 17 then 1#1 else 0#1 :=
    (by decide +kernel : ∀ t : Fin grid0.N, Scalar.cmpi .sge (BitVec.ofNat 32 (grid0.coords t 1).val) 2#32
      = if 2 ≤ t.val % 17 then 1#1 else 0#1) t
  unfold k0_pay3
  dsimp only
  rw [h]
  split
  · pointwise
  · pointwise

/-- The mask of the rows after: one from a batch element's second point to its last but one. -/
theorem hi_eq (t : Fin cfg0.N) : k0_pay4 (F := Ideal) (grid0.coords t) = if 1 ≤ t.val % 17 ∧ t.val % 17 < 16 then (1 : EReal) else 0 := by
  have h : Scalar.andi (Scalar.cmpi .sge (BitVec.ofNat 32 (grid0.coords t 1).val) 1#32)
      (Scalar.cmpi .slt (BitVec.ofNat 32 (grid0.coords t 1).val) 16#32) = if 1 ≤ t.val % 17 ∧ t.val % 17 < 16 then 1#1 else 0#1 :=
    (by decide +kernel : ∀ t : Fin grid0.N, Scalar.andi (Scalar.cmpi .sge (BitVec.ofNat 32 (grid0.coords t 1).val) 1#32)
      (Scalar.cmpi .slt (BitVec.ofNat 32 (grid0.coords t 1).val) 16#32) = if 1 ≤ t.val % 17 ∧ t.val % 17 < 16 then 1#1 else 0#1) t
  unfold k0_pay4
  dsimp only
  rw [h]
  split
  · pointwise
  · pointwise

end Cert.Proof.TabSProj

end
-- ==== Proof.KerSProj.lean ====
/- What a point of the SSD projection kernel leaves in its three output blocks, over its input blocks. -/
module

public import proofs.«01_k».proof.Proof.RefSProj
public import proofs.«01_k».proof.Proof.Gen.SProjIdeal.Frame
public import proofs.«01_k».proof.Proof.Gen.SProjIdeal.Value
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof.KerSProj

open Idealize.ShloMosaic Idealize.ShloMosaic.TcCoe Idealize.SL.Sem
open Cert.SProjIdeal Cert.SProjIdeal.Gen
open Cert.Proof.RefSProj (silS softS)

/-- The modulated rows at an index: eight rows of the block before, the block's own, eight of the block after. -/
theorem u_apply (v0 : Vec Ideal S1x6x1024 .f32) (v2 : Vec Ideal S1x8x1024 .f32) (v4 : Vec Ideal S1x256x1024 .f32) (v6 : Vec Ideal S1x8x1024 .f32)
    (ρ : Fin 272) (d : Fin 1024) : k0_pay2 v0 v2 v4 v6 (ix2 ρ d)
    = (if h : ρ.val < 8 then v2 (ix3 0 ⟨ρ.val, h⟩ d) else if h' : ρ.val < 264 then v4 (ix3 0 ⟨ρ.val - 8, by omega⟩ d)
        else v6 (ix3 0 ⟨ρ.val - 264, by omega⟩ d)) * (1 + v0 (ix3 0 1 d)) + v0 (ix3 0 0 d) := by
  pointwise [k0_pay2]
  congr 2
  by_cases h : ρ.val < 8
  · rw [dif_pos h, dif_pos h]
  · rw [dif_neg h, dif_neg h]
    by_cases h' : ρ.val < 264
    · rw [dif_pos h', dif_pos (by omega)]
    · rw [dif_neg h', dif_neg (by omega)]
      congr 2

variable (u : FVec Ideal S272x1024 .bf16) (lo hi : Ideal .f32) (w : Vec Ideal S1024x256 .bf16)

/-- The rows' products with a block of columns, those of the blocks before and after masked. -/
theorem v_apply (ρ : Fin 272) (j : Fin 256) : k0_pay15 u lo hi w (ix2 ρ j)
    = (∑ d : Fin 1024, u (ix2 ρ d) * w (ix2 d j)) * (if ρ.val < 8 then lo else if ρ.val < 264 then 1 else hi) := by
  pointwise [k0_pay15]
  by_cases h : ρ.val < 8
  · rw [dif_pos h, if_pos h]
  · rw [dif_neg h, if_neg h]
    by_cases h' : ρ.val < 264
    · rw [if_pos h', dif_pos (by omega), mul_one]
      have e : (⟨8 + (ρ.val - 8), by omega⟩ : Fin 272) = ρ := Fin.ext (by simp only []; omega)
      rw [e]
    · rw [if_neg h', dif_neg (by omega)]
      have e : (⟨264 + (ρ.val - 8 - 256), by omega⟩ : Fin 272) = ρ := Fin.ext (by simp only []; omega)
      rw [e]

/-- The block's own rows' products with a block of columns. -/
theorem z_apply (l : Fin 256) (j : Fin 256) : k0_pay12 u w (ix3 0 l j)
    = ∑ d : Fin 1024, u (ix2 ⟨8 + l.val, by omega⟩ d) * w (ix2 d j) := by
  pointwise [k0_pay12]

/-- The convolution of a block of columns, gated by its logistic. -/
theorem conv_apply (v : FVec Ideal S272x256 .f32) (b c2 c0 c1 c3 c4 : Vec Ideal S1x256 .f32) (l : Fin 256) (j : Fin 256) :
    k0_pay18 v b c2 c0 c1 c3 c4 (ix3 0 l j) = silS (b (ix2 0 j) + c2 (ix2 0 j) * v (ix2 ⟨8 + l.val, by omega⟩ j)
      + c0 (ix2 0 j) * v (ix2 ⟨6 + l.val, by omega⟩ j) + c1 (ix2 0 j) * v (ix2 ⟨7 + l.val, by omega⟩ j)
      + c3 (ix2 0 j) * v (ix2 ⟨9 + l.val, by omega⟩ j) + c4 (ix2 0 j) * v (ix2 ⟨10 + l.val, by omega⟩ j)) := by
  unfold silS
  pointwise [k0_pay18]
  have e0 : (⟨(8 + l.val + 272 - 2) % 272, by omega⟩ : Fin 272) = ⟨6 + l.val, by omega⟩ := Fin.ext (by simp only []; omega)
  have e1 : (⟨(8 + l.val + 272 - 1) % 272, by omega⟩ : Fin 272) = ⟨7 + l.val, by omega⟩ := Fin.ext (by simp only []; omega)
  have e3 : (⟨(8 + l.val + 272 - 271) % 272, by omega⟩ : Fin 272) = ⟨9 + l.val, by omega⟩ := Fin.ext (by simp only []; omega)
  have e4 : (⟨(8 + l.val + 272 - 270) % 272, by omega⟩ : Fin 272) = ⟨10 + l.val, by omega⟩ := Fin.ext (by simp only []; omega)
  rw [e0, e1, e3, e4]

/-- The step sizes and their decays. -/
theorem d_apply (q : Vec Ideal S1024x128 .bf16) (a b : Vec Ideal S1x128 .f32) (l : Fin 256) (e : Fin 128) :
    k0_pay1 (k0_pay56 u q) a b (ix3 0 l e)
    = if e.val < 64 then softS ((∑ d : Fin 1024, u (ix2 ⟨8 + l.val, by omega⟩ d) * q (ix2 d e)) + a (ix2 0 e))
      else softS ((∑ d : Fin 1024, u (ix2 ⟨8 + l.val, by omega⟩ d) * q (ix2 d e)) + a (ix2 0 e)) * -Ideal.exp (b (ix2 0 e)) := by
  unfold softS
  pointwise [k0_pay1, k0_pay56]
  simp only [zero_sub]
  by_cases h : e.val < 64
  · rw [if_pos h, (by decide : ∀ e : Fin 128, e.val < 64 → IntOp.cmpi CmpIPredicate.slt (BitVec.ofNat 32 e.val) 64#32 = 1#1) e h]
    rfl
  · rw [if_neg h, (by decide : ∀ e : Fin 128, ¬e.val < 64 → IntOp.cmpi CmpIPredicate.slt (BitVec.ofNat 32 e.val) 64#32 = 0#1) e h]
    rfl

variable (i : grid0.Coords) (x0 : Vec Ideal S1x256x1024 .f32) (x1 x2 : Vec Ideal S1x8x1024 .f32) (x3 : Vec Ideal S1x6x1024 .f32)
  (x4 : Vec Ideal S1024x5120 .bf16) (x5 : Vec Ideal S1024x128 .bf16) (x6 x7 : Vec Ideal S1x128 .f32)
  (x8 : Vec Ideal S5x3072 .f32) (x9 : Vec Ideal S1x3072 .f32)

/-- A modulated row: eight rows of the block before, the block's own, eight of the block after. -/
def uK (ρ : Fin 272) (d : Fin 1024) : EReal :=
  (if h : ρ.val < 8 then x1 (ix3 0 ⟨ρ.val, h⟩ d) else if h' : ρ.val < 264 then x0 (ix3 0 ⟨ρ.val - 8, by omega⟩ d)
    else x2 (ix3 0 ⟨ρ.val - 264, by omega⟩ d)) * (1 + x3 (ix3 0 1 d)) + x3 (ix3 0 0 d)

/-- A modulated row against a column of the weights. -/
def prK (ρ : Fin 272) (j : Fin 5120) : EReal := ∑ d : Fin 1024, uK x0 x1 x2 x3 ρ d * x4 (ix2 d j)

/-- A row the convolution reads: the rows before and after the block masked. -/
def vK (ρ : Fin 272) (j : Fin 3072) : EReal := prK x0 x1 x2 x3 x4 ρ ⟨2048 + j.val, by omega⟩
  * (if ρ.val < 8 then k0_pay3 (F := Ideal) i else if ρ.val < 264 then 1 else k0_pay4 (F := Ideal) i)

/-- The convolution of the block's row, gated by its logistic. -/
def xK (l : Fin 256) (j : Fin 3072) : EReal :=
  silS (x9 (ix2 0 j) + x8 (ix2 2 j) * vK i x0 x1 x2 x3 x4 ⟨8 + l.val, by omega⟩ j
    + x8 (ix2 0 j) * vK i x0 x1 x2 x3 x4 ⟨6 + l.val, by omega⟩ j + x8 (ix2 1 j) * vK i x0 x1 x2 x3 x4 ⟨7 + l.val, by omega⟩ j
    + x8 (ix2 3 j) * vK i x0 x1 x2 x3 x4 ⟨9 + l.val, by omega⟩ j + x8 (ix2 4 j) * vK i x0 x1 x2 x3 x4 ⟨10 + l.val, by omega⟩ j)

/-- A gate of the block's row. -/
def zK (l : Fin 256) (j : Fin 2048) : EReal := prK x0 x1 x2 x3 x4 ⟨8 + l.val, by omega⟩ ⟨j.val, by omega⟩

/-- The rows of modulated tokens the point computes with. -/
abbrev uF : FVec Ideal S272x1024 .bf16 := k0_pay2 (View.ld x3 r0_0) (View.ld x1 r0_1) (View.ld x0 r0_2) (View.ld x2 r0_1)

/-- Those rows at an index. -/
theorem uF_apply (ρ : Fin 272) (d : Fin 1024) : uF x0 x1 x2 x3 (ix2 ρ d) = uK x0 x1 x2 x3 ρ d := by
  unfold uF
  simp (disch := decide) only [View.ld_unit_lit']
  rw [u_apply]
  rfl

/-- A block of the weights' columns at an index. -/
theorem ld4 (p : ℕ) (inb : ∀ a, (![0, p] : Fin 2 → ℕ) a + S1024x256.size a ≤ S1024x5120.size a) (d : Fin 1024) (j : Fin 256)
    (J : Fin 5120) (hJ : J.val = p + j.val) :
    View.ld x4 (Rect.unit (s := S1024x5120) ![0, p] S1024x256.size inb) (ix2 d j) = x4 (ix2 d J) := by
  rw [View.ld_apply]
  congr 1
  funext a
  match a with
  | ⟨0, _⟩ => exact Fin.ext ((ValueKit.rect_emb_unit_val _ _ _ _ _).trans (Nat.zero_add _))
  | ⟨1, _⟩ => exact Fin.ext ((ValueKit.rect_emb_unit_val _ _ _ _ _).trans hJ.symm)

/-- A block of the taps' columns at an index. -/
theorem ld8 (k p : ℕ) (inb : ∀ a, (![k, p] : Fin 2 → ℕ) a + S1x256.size a ≤ S5x3072.size a) (j : Fin 256) (k' : Fin 5) (hk : k'.val = k)
    (J : Fin 3072) (hJ : J.val = p + j.val) :
    View.ld x8 (Rect.unit (s := S5x3072) ![k, p] S1x256.size inb) (ix2 0 j) = x8 (ix2 k' J) := by
  rw [View.ld_apply]
  congr 1
  funext a
  match a with
  | ⟨0, _⟩ => exact Fin.ext ((ValueKit.rect_emb_unit_val _ _ _ _ _).trans hk.symm)
  | ⟨1, _⟩ => exact Fin.ext ((ValueKit.rect_emb_unit_val _ _ _ _ _).trans hJ.symm)

/-- A block of the bias's columns at an index. -/
theorem ld9 (p : ℕ) (inb : ∀ a, (![0, p] : Fin 2 → ℕ) a + S1x256.size a ≤ S1x3072.size a) (j : Fin 256)
    (J : Fin 3072) (hJ : J.val = p + j.val) :
    View.ld x9 (Rect.unit (s := S1x3072) ![0, p] S1x256.size inb) (ix2 0 j) = x9 (ix2 0 J) := by
  rw [View.ld_apply]
  congr 1
  funext a
  match a with
  | ⟨0, _⟩ => rfl
  | ⟨1, _⟩ => exact Fin.ext ((ValueKit.rect_emb_unit_val _ _ _ _ _).trans hJ.symm)

/-- A piece of the gates. -/
theorem piece_z (o : ℕ) (ho : o + 256 ≤ 2048) (inb : ∀ a, (![0, 0, o] : Fin 3 → ℕ) a + S1x256x256.size a ≤ S1x256x2048.size a)
    (inb4 : ∀ a, (![0, o] : Fin 2 → ℕ) a + S1024x256.size a ≤ S1024x5120.size a) (p : FVec Ideal S1x256x256 .f32)
    (hp : p = k0_pay12 (uF x0 x1 x2 x3) (View.ld x4 (Rect.unit (s := S1024x5120) ![0, o] S1024x256.size inb4))) (z : S1x256x256.Idx) :
    p z = (fun y : S1x256x2048.Idx => zK x0 x1 x2 x3 x4 (y 1) (y 2)) ((Rect.unit (s := S1x256x2048) ![0, 0, o] S1x256x256.size inb).emb z) := by
  subst hp
  idx_vars z
  obtain rfl : z0 = 0 := Subsingleton.elim _ _
  have h1 : ((Rect.unit (s := S1x256x2048) ![0, 0, o] S1x256x256.size inb).emb (ix3 0 z1 z2)) 1 = z1 :=
    Fin.ext ((ValueKit.rect_emb_unit_val _ _ _ _ _).trans (Nat.zero_add _))
  have h2 : ((Rect.unit (s := S1x256x2048) ![0, 0, o] S1x256x256.size inb).emb (ix3 0 z1 z2)) 2 = (⟨o + z2.val, by omega⟩ : Fin 2048) :=
    Fin.ext (ValueKit.rect_emb_unit_val _ _ _ _ _)
  rw [z_apply]
  simp only [h1, h2]
  unfold zK prK
  refine Finset.sum_congr rfl fun d _ => ?_
  rw [uF_apply, ld4 x4 o inb4 d z2 ⟨o + z2.val, by omega⟩ rfl]

/-- A row of the convolution's block of columns. -/
theorem vF_apply (o : ℕ) (ho : o + 256 ≤ 3072) (inb4 : ∀ a, (![0, 2048 + o] : Fin 2 → ℕ) a + S1024x256.size a ≤ S1024x5120.size a)
    (ρ : Fin 272) (j : Fin 256) : k0_pay15 (uF x0 x1 x2 x3) (k0_pay3 (F := Ideal) i) (k0_pay4 (F := Ideal) i)
      (View.ld x4 (Rect.unit (s := S1024x5120) ![0, 2048 + o] S1024x256.size inb4)) (ix2 ρ j)
    = vK i x0 x1 x2 x3 x4 ρ ⟨o + j.val, by omega⟩ := by
  rw [v_apply]
  unfold vK prK
  congr 1
  refine Finset.sum_congr rfl fun d _ => ?_
  rw [uF_apply, ld4 x4 (2048 + o) inb4 d j ⟨2048 + (o + j.val), by omega⟩ (Nat.add_assoc _ _ _).symm]

/-- A piece of the scan's inputs. -/
theorem piece_x (o : ℕ) (ho : o + 256 ≤ 3072) (inb : ∀ a, (![0, 0, o] : Fin 3 → ℕ) a + S1x256x256.size a ≤ S1x256x3072.size a)
    (inb4 : ∀ a, (![0, 2048 + o] : Fin 2 → ℕ) a + S1024x256.size a ≤ S1024x5120.size a)
    (inb9 : ∀ a, (![0, o] : Fin 2 → ℕ) a + S1x256.size a ≤ S1x3072.size a)
    (inb0 : ∀ a, (![0, o] : Fin 2 → ℕ) a + S1x256.size a ≤ S5x3072.size a)
    (inb1 : ∀ a, (![1, o] : Fin 2 → ℕ) a + S1x256.size a ≤ S5x3072.size a)
    (inb2 : ∀ a, (![2, o] : Fin 2 → ℕ) a + S1x256.size a ≤ S5x3072.size a)
    (inb3 : ∀ a, (![3, o] : Fin 2 → ℕ) a + S1x256.size a ≤ S5x3072.size a)
    (inb5 : ∀ a, (![4, o] : Fin 2 → ℕ) a + S1x256.size a ≤ S5x3072.size a) (p : FVec Ideal S1x256x256 .f32)
    (hp : p = k0_pay18 (k0_pay15 (uF x0 x1 x2 x3) (k0_pay3 (F := Ideal) i) (k0_pay4 (F := Ideal) i)
        (View.ld x4 (Rect.unit (s := S1024x5120) ![0, 2048 + o] S1024x256.size inb4)))
      (View.ld x9 (Rect.unit (s := S1x3072) ![0, o] S1x256.size inb9)) (View.ld x8 (Rect.unit (s := S5x3072) ![2, o] S1x256.size inb2))
      (View.ld x8 (Rect.unit (s := S5x3072) ![0, o] S1x256.size inb0)) (View.ld x8 (Rect.unit (s := S5x3072) ![1, o] S1x256.size inb1))
      (View.ld x8 (Rect.unit (s := S5x3072) ![3, o] S1x256.size inb3)) (View.ld x8 (Rect.unit (s := S5x3072) ![4, o] S1x256.size inb5)))
    (z : S1x256x256.Idx) :
    p z = (fun y : S1x256x3072.Idx => xK i x0 x1 x2 x3 x4 x8 x9 (y 1) (y 2)) ((Rect.unit (s := S1x256x3072) ![0, 0, o] S1x256x256.size inb).emb z) := by
  subst hp
  idx_vars z
  obtain rfl : z0 = 0 := Subsingleton.elim _ _
  have h1 : ((Rect.unit (s := S1x256x3072) ![0, 0, o] S1x256x256.size inb).emb (ix3 0 z1 z2)) 1 = z1 :=
    Fin.ext ((ValueKit.rect_emb_unit_val _ _ _ _ _).trans (Nat.zero_add _))
  have h2 : ((Rect.unit (s := S1x256x3072) ![0, 0, o] S1x256x256.size inb).emb (ix3 0 z1 z2)) 2 = (⟨o + z2.val, by omega⟩ : Fin 3072) :=
    Fin.ext (ValueKit.rect_emb_unit_val _ _ _ _ _)
  rw [conv_apply]
  simp only [h1, h2]
  unfold xK
  rw [vF_apply i x0 x1 x2 x3 x4 o ho inb4, vF_apply i x0 x1 x2 x3 x4 o ho inb4, vF_apply i x0 x1 x2 x3 x4 o ho inb4,
    vF_apply i x0 x1 x2 x3 x4 o ho inb4, vF_apply i x0 x1 x2 x3 x4 o ho inb4,
    ld9 x9 o inb9 z2 ⟨o + z2.val, by omega⟩ rfl, ld8 x8 2 o inb2 z2 2 rfl ⟨o + z2.val, by omega⟩ rfl,
    ld8 x8 0 o inb0 z2 0 rfl ⟨o + z2.val, by omega⟩ rfl, ld8 x8 1 o inb1 z2 1 rfl ⟨o + z2.val, by omega⟩ rfl,
    ld8 x8 3 o inb3 z2 3 rfl ⟨o + z2.val, by omega⟩ rfl, ld8 x8 4 o inb5 z2 4 rfl ⟨o + z2.val, by omega⟩ rfl]

/-- The block of step sizes and decays a point leaves. -/
theorem out12 (l : Fin 256) (e : Fin 128) : out0_12 i x0 x1 x2 x3 x4 x5 x6 x7 x8 x9 (ix3 0 l e)
    = if e.val < 64 then softS ((∑ d : Fin 1024, uK x0 x1 x2 x3 ⟨8 + l.val, by omega⟩ d * x5 (ix2 d e)) + x6 (ix2 0 e))
      else softS ((∑ d : Fin 1024, uK x0 x1 x2 x3 ⟨8 + l.val, by omega⟩ d * x5 (ix2 d e)) + x6 (ix2 0 e)) * -Ideal.exp (x7 (ix2 0 e)) := by
  unfold out0_12
  frame_open
  frame_out
  unfold k0_pay57
  refine (d_apply (uF x0 x1 x2 x3) x5 x6 x7 l e).trans ?_
  simp only [uF_apply]

/-- The block of gates a point leaves. -/
theorem out10 (y : S1x256x2048.Idx) : out0_10 i x0 x1 x2 x3 x4 x5 x6 x7 x8 x9 y
    = zK x0 x1 x2 x3 x4 (y 1) (y 2) := by
  unfold out0_10
  frame_open
  exact View.canon_append_of_piecesOf (Val := Elt Ideal) (e := .f32)
    (fun y : S1x256x2048.Idx => zK x0 x1 x2 x3 x4 (y 1) (y 2)) [] [_, _, _, _, _, _, _, _]
    ⟨piece_z x0 x1 x2 x3 x4 1792 (by decide) inb_S1x256x2048_S1x256x256_0_0_1792 inb_S1024x5120_S1024x256_0_1792 _ rfl,
      piece_z x0 x1 x2 x3 x4 1536 (by decide) inb_S1x256x2048_S1x256x256_0_0_1536 inb_S1024x5120_S1024x256_0_1536 _ rfl,
      piece_z x0 x1 x2 x3 x4 1280 (by decide) inb_S1x256x2048_S1x256x256_0_0_1280 inb_S1024x5120_S1024x256_0_1280 _ rfl,
      piece_z x0 x1 x2 x3 x4 1024 (by decide) inb_S1x256x2048_S1x256x256_0_0_1024 inb_S1024x5120_S1024x256_0_1024 _ rfl,
      piece_z x0 x1 x2 x3 x4 768 (by decide) inb_S1x256x2048_S1x256x256_0_0_768 inb_S1024x5120_S1024x256_0_768 _ rfl,
      piece_z x0 x1 x2 x3 x4 512 (by decide) inb_S1x256x2048_S1x256x256_0_0_512 inb_S1024x5120_S1024x256_0_512 _ rfl,
      piece_z x0 x1 x2 x3 x4 256 (by decide) inb_S1x256x2048_S1x256x256_0_0_256 inb_S1024x5120_S1024x256_0_256 _ rfl,
      piece_z x0 x1 x2 x3 x4 0 (by decide) inb_S1x256x2048_S1x256x256_0_0_0 inb_S1024x5120_S1024x256_0_0 _ rfl, trivial⟩ y
    (cover0_10 _ _ _ _ _ _ _ _ y)

/-- The block of the scan's inputs a point leaves. -/
theorem out11 (y : S1x256x3072.Idx) : out0_11 i x0 x1 x2 x3 x4 x5 x6 x7 x8 x9 y = xK i x0 x1 x2 x3 x4 x8 x9 (y 1) (y 2) := by
  unfold out0_11
  frame_open
  exact View.canon_append_of_piecesOf (Val := Elt Ideal) (e := .f32)
    (fun y : S1x256x3072.Idx => xK i x0 x1 x2 x3 x4 x8 x9 (y 1) (y 2)) [] [_, _, _, _, _, _, _, _, _, _, _, _]
    ⟨piece_x i x0 x1 x2 x3 x4 x8 x9 2816 (by decide) inb_S1x256x3072_S1x256x256_0_0_2816 inb_S1024x5120_S1024x256_0_4864 inb_S1x3072_S1x256_0_2816
        inb_S5x3072_S1x256_0_2816 inb_S5x3072_S1x256_1_2816 inb_S5x3072_S1x256_2_2816 inb_S5x3072_S1x256_3_2816 inb_S5x3072_S1x256_4_2816 _ rfl,
      piece_x i x0 x1 x2 x3 x4 x8 x9 2560 (by decide) inb_S1x256x3072_S1x256x256_0_0_2560 inb_S1024x5120_S1024x256_0_4608 inb_S1x3072_S1x256_0_2560
        inb_S5x3072_S1x256_0_2560 inb_S5x3072_S1x256_1_2560 inb_S5x3072_S1x256_2_2560 inb_S5x3072_S1x256_3_2560 inb_S5x3072_S1x256_4_2560 _ rfl,
      piece_x i x0 x1 x2 x3 x4 x8 x9 2304 (by decide) inb_S1x256x3072_S1x256x256_0_0_2304 inb_S1024x5120_S1024x256_0_4352 inb_S1x3072_S1x256_0_2304
        inb_S5x3072_S1x256_0_2304 inb_S5x3072_S1x256_1_2304 inb_S5x3072_S1x256_2_2304 inb_S5x3072_S1x256_3_2304 inb_S5x3072_S1x256_4_2304 _ rfl,
      piece_x i x0 x1 x2 x3 x4 x8 x9 2048 (by decide) inb_S1x256x3072_S1x256x256_0_0_2048 inb_S1024x5120_S1024x256_0_4096 inb_S1x3072_S1x256_0_2048
        inb_S5x3072_S1x256_0_2048 inb_S5x3072_S1x256_1_2048 inb_S5x3072_S1x256_2_2048 inb_S5x3072_S1x256_3_2048 inb_S5x3072_S1x256_4_2048 _ rfl,
      piece_x i x0 x1 x2 x3 x4 x8 x9 1792 (by decide) inb_S1x256x3072_S1x256x256_0_0_1792 inb_S1024x5120_S1024x256_0_3840 inb_S1x3072_S1x256_0_1792
        inb_S5x3072_S1x256_0_1792 inb_S5x3072_S1x256_1_1792 inb_S5x3072_S1x256_2_1792 inb_S5x3072_S1x256_3_1792 inb_S5x3072_S1x256_4_1792 _ rfl,
      piece_x i x0 x1 x2 x3 x4 x8 x9 1536 (by decide) inb_S1x256x3072_S1x256x256_0_0_1536 inb_S1024x5120_S1024x256_0_3584 inb_S1x3072_S1x256_0_1536
        inb_S5x3072_S1x256_0_1536 inb_S5x3072_S1x256_1_1536 inb_S5x3072_S1x256_2_1536 inb_S5x3072_S1x256_3_1536 inb_S5x3072_S1x256_4_1536 _ rfl,
      piece_x i x0 x1 x2 x3 x4 x8 x9 1280 (by decide) inb_S1x256x3072_S1x256x256_0_0_1280 inb_S1024x5120_S1024x256_0_3328 inb_S1x3072_S1x256_0_1280
        inb_S5x3072_S1x256_0_1280 inb_S5x3072_S1x256_1_1280 inb_S5x3072_S1x256_2_1280 inb_S5x3072_S1x256_3_1280 inb_S5x3072_S1x256_4_1280 _ rfl,
      piece_x i x0 x1 x2 x3 x4 x8 x9 1024 (by decide) inb_S1x256x3072_S1x256x256_0_0_1024 inb_S1024x5120_S1024x256_0_3072 inb_S1x3072_S1x256_0_1024
        inb_S5x3072_S1x256_0_1024 inb_S5x3072_S1x256_1_1024 inb_S5x3072_S1x256_2_1024 inb_S5x3072_S1x256_3_1024 inb_S5x3072_S1x256_4_1024 _ rfl,
      piece_x i x0 x1 x2 x3 x4 x8 x9 768 (by decide) inb_S1x256x3072_S1x256x256_0_0_768 inb_S1024x5120_S1024x256_0_2816 inb_S1x3072_S1x256_0_768
        inb_S5x3072_S1x256_0_768 inb_S5x3072_S1x256_1_768 inb_S5x3072_S1x256_2_768 inb_S5x3072_S1x256_3_768 inb_S5x3072_S1x256_4_768 _ rfl,
      piece_x i x0 x1 x2 x3 x4 x8 x9 512 (by decide) inb_S1x256x3072_S1x256x256_0_0_512 inb_S1024x5120_S1024x256_0_2560 inb_S1x3072_S1x256_0_512
        inb_S5x3072_S1x256_0_512 inb_S5x3072_S1x256_1_512 inb_S5x3072_S1x256_2_512 inb_S5x3072_S1x256_3_512 inb_S5x3072_S1x256_4_512 _ rfl,
      piece_x i x0 x1 x2 x3 x4 x8 x9 256 (by decide) inb_S1x256x3072_S1x256x256_0_0_256 inb_S1024x5120_S1024x256_0_2304 inb_S1x3072_S1x256_0_256
        inb_S5x3072_S1x256_0_256 inb_S5x3072_S1x256_1_256 inb_S5x3072_S1x256_2_256 inb_S5x3072_S1x256_3_256 inb_S5x3072_S1x256_4_256 _ rfl,
      piece_x i x0 x1 x2 x3 x4 x8 x9 0 (by decide) inb_S1x256x3072_S1x256x256_0_0_0 inb_S1024x5120_S1024x256_0_2048 inb_S1x3072_S1x256_0_0
        inb_S5x3072_S1x256_0_0 inb_S5x3072_S1x256_1_0 inb_S5x3072_S1x256_2_0 inb_S5x3072_S1x256_3_0 inb_S5x3072_S1x256_4_0 _ rfl, trivial⟩ y
    (cover0_11 _ _ _ _ _ _ _ _ _ _ _ _ y)

end Cert.Proof.KerSProj

end
-- ==== Proof.SProjValue.lean ====
/- The SSD projection kernel's three results are its reference's: every point's blocks are the reference's rows of the point's place, the rows
   beside a block that lie in the other segment or outside the array counted as zero. -/
module

public import proofs.«01_k».proof.Defs
public import proofs.«01_k».proof.Proof.TabSProj
public import proofs.«01_k».proof.Proof.KerSProj

@[expose] public section

set_option maxRecDepth 16384

noncomputable section

namespace Cert.Proof.SProjValue

open Idealize.ShloMosaic Idealize.ShloMosaic.TcCoe Idealize.SL.Sem
open Cert.SProjIdeal Cert.SProjIdeal.Gen Cert.SProjIdeal.Value Cert.Proof.KerSProj Cert.Proof.TabSProj
open Cert.Proof.RefSProj (prS vS yS silS softS stepS dS zR xR dR)

variable (m : (ℓ : Loc nD τ sig) → Buf (Elt Ideal) ℓ) (c : Dev nD)

/-- The tokens, as launched. -/
abbrev X0 : FVec Ideal S8x4352x1024 .f32 := m ((c : Thread nD τ).loc main_arg0)

/-- The modulations, as launched. -/
abbrev M0 : FVec Ideal S16x6x1024 .f32 := m ((c : Thread nD τ).loc main_arg1)

/-- The weights, as launched. -/
abbrev W0 : FVec Ideal S1024x5184 .f32 := m ((c : Thread nD τ).loc main_arg2)

/-- The step sizes' biases, as launched. -/
abbrev D0 : FVec Ideal S2x32 .f32 := m ((c : Thread nD τ).loc main_arg3)

/-- The decays' logarithms, as launched. -/
abbrev A0 : FVec Ideal S2x32 .f32 := m ((c : Thread nD τ).loc main_arg4)

/-- The convolution's taps, as launched. -/
abbrev K0 : FVec Ideal S5x3072 .f32 := m ((c : Thread nD τ).loc main_arg5)

/-- The convolution's bias, as launched. -/
abbrev B0 : FVec Ideal S3072 .f32 := m ((c : Thread nD τ).loc main_arg6)

/-- A modulated row of a point is the array's row it holds, when that row lies in the point's segment. -/
theorem u_eq (t : Fin cfg0.N) (ρ : Fin 272) (r : Fin 4352) (hr : r.val < 256 ↔ t.val % 17 = 0) (d : Fin 1024)
    (h : (if h : ρ.val < 8 then iblk m c 1 t (ix3 0 ⟨ρ.val, h⟩ d) else if h' : ρ.val < 264 then iblk m c 0 t (ix3 0 ⟨ρ.val - 8, by omega⟩ d)
      else iblk m c 2 t (ix3 0 ⟨ρ.val - 264, by omega⟩ d)) = X0 m c (ix3 (bat t) r d)) :
    uK (iblk m c 0 t) (iblk m c 1 t) (iblk m c 2 t) (iblk m c 3 t) ρ d
    = X0 m c (ix3 (bat t) r d) * (1 + M0 m c (ix3 (if r.val < 256 then 8 else ⟨(bat t).val, by omega⟩) 1 d))
      + M0 m c (ix3 (if r.val < 256 then 8 else ⟨(bat t).val, by omega⟩) 0 d) := by
  have hm : mB t = if r.val < 256 then 8 else ⟨(bat t).val, by omega⟩ := by
    by_cases h0 : t.val % 17 = 0
    · rw [if_pos (hr.mpr h0)]
      exact Fin.ext (if_pos h0)
    · rw [if_neg fun h1 => h0 (hr.mp h1)]
      exact Fin.ext (if_neg h0)
  unfold uK
  rw [h, mods_blk, mods_blk, hm]

/-- A block's own row. -/
theorem own_row (t : Fin cfg0.N) (ρ : Fin 272) (h8 : ¬ρ.val < 8) (h9 : ρ.val < 264) (r : Fin 4352) (hr : r.val + 8 = t.val % 17 * 256 + ρ.val)
    (d : Fin 1024) : uK (iblk m c 0 t) (iblk m c 1 t) (iblk m c 2 t) (iblk m c 3 t) ρ d
    = X0 m c (ix3 (bat t) r d) * (1 + M0 m c (ix3 (if r.val < 256 then 8 else ⟨(bat t).val, by omega⟩) 1 d))
      + M0 m c (ix3 (if r.val < 256 then 8 else ⟨(bat t).val, by omega⟩) 0 d) := by
  refine u_eq m c t ρ r (by omega) d ?_
  rw [dif_neg h8, dif_pos h9, x_blk]
  have e : rowB t ⟨ρ.val - 8, by omega⟩ = r := Fin.ext (by unfold rowB; simp only []; omega)
  rw [e]

/-- A row before a block, of the same segment. -/
theorem lo_row (t : Fin cfg0.N) (ρ : Fin 272) (h8 : ρ.val < 8) (ht : 2 ≤ t.val % 17) (r : Fin 4352) (hr : r.val + 8 = t.val % 17 * 256 + ρ.val)
    (d : Fin 1024) : uK (iblk m c 0 t) (iblk m c 1 t) (iblk m c 2 t) (iblk m c 3 t) ρ d
    = X0 m c (ix3 (bat t) r d) * (1 + M0 m c (ix3 (if r.val < 256 then 8 else ⟨(bat t).val, by omega⟩) 1 d))
      + M0 m c (ix3 (if r.val < 256 then 8 else ⟨(bat t).val, by omega⟩) 0 d) := by
  refine u_eq m c t ρ r (by omega) d ?_
  rw [dif_pos h8, lo_blk]
  have e : (⟨(t.val % 17 * 32 - 1) * 8 + ρ.val, by omega⟩ : Fin 4352) = r := Fin.ext (by simp only []; omega)
  rw [e]

/-- A row after a block, of the same segment. -/
theorem hi_row (t : Fin cfg0.N) (ρ : Fin 272) (h9 : ¬ρ.val < 264) (ht : 1 ≤ t.val % 17) (ht' : t.val % 17 < 16) (r : Fin 4352)
    (hr : r.val + 8 = t.val % 17 * 256 + ρ.val) (d : Fin 1024) : uK (iblk m c 0 t) (iblk m c 1 t) (iblk m c 2 t) (iblk m c 3 t) ρ d
    = X0 m c (ix3 (bat t) r d) * (1 + M0 m c (ix3 (if r.val < 256 then 8 else ⟨(bat t).val, by omega⟩) 1 d))
      + M0 m c (ix3 (if r.val < 256 then 8 else ⟨(bat t).val, by omega⟩) 0 d) := by
  refine u_eq m c t ρ r (by omega) d ?_
  rw [dif_neg (by omega), dif_neg h9, hi_blk]
  have e : (⟨(if t.val % 17 < 16 then t.val % 17 * 32 + 32 else 543) * 8 + (ρ.val - 264), by rw [if_pos ht']; omega⟩ : Fin 4352) = r :=
    Fin.ext (by simp only [if_pos ht']; omega)
  rw [e]

/-- A row of a point's projection is the reference's row, when the modulated rows agree. -/
theorem pr_eq (t : Fin cfg0.N) (ρ : Fin 272) (r : Fin 4352) (j : Fin 5120)
    (h : ∀ d : Fin 1024, uK (iblk m c 0 t) (iblk m c 1 t) (iblk m c 2 t) (iblk m c 3 t) ρ d
      = X0 m c (ix3 (bat t) r d) * (1 + M0 m c (ix3 (if r.val < 256 then 8 else ⟨(bat t).val, by omega⟩) 1 d))
        + M0 m c (ix3 (if r.val < 256 then 8 else ⟨(bat t).val, by omega⟩) 0 d)) :
    prK (iblk m c 0 t) (iblk m c 1 t) (iblk m c 2 t) (iblk m c 3 t) (iblk m c 4 t) ρ j
    = prS (X0 m c) (M0 m c) (W0 m c) (bat t) r ⟨j.val, by omega⟩ := by
  unfold prK prS
  refine Finset.sum_congr rfl fun d _ => ?_
  rw [h, w_blk]

/-- A row the convolution reads is the reference's neighbour. -/
theorem v_eq (t : Fin cfg0.N) (l : Fin 256) (j : Fin 3072) (k : ℕ) (hk : k < 5) (ρ : Fin 272) (hρ : ρ.val = 6 + k + l.val) :
    vK (grid0.coords t) (iblk m c 0 t) (iblk m c 1 t) (iblk m c 2 t) (iblk m c 3 t) (iblk m c 4 t) ρ j
    = vS (fun r => prS (X0 m c) (M0 m c) (W0 m c) (bat t) r ⟨2048 + j.val, by omega⟩) (rowB t l) k := by
  have hR : (rowB t l).val = t.val % 17 * 256 + l.val := rfl
  have ht : t.val % 17 < 17 := Nat.mod_lt _ (by decide)
  unfold vK vS
  rw [lo_eq, hi_eq]
  by_cases h8 : ρ.val < 8
  · rw [if_pos h8]
    by_cases h2 : 2 ≤ t.val % 17
    · rw [if_pos h2, mul_one, dif_pos (by rw [hR]; omega)]
      exact pr_eq m c t ρ _ _ (lo_row m c t ρ h8 h2 _ (by simp only [hR]; omega))
    · rw [if_neg h2, mul_zero, dif_neg (by rw [hR]; omega)]
  · rw [if_neg h8]
    by_cases h9 : ρ.val < 264
    · rw [if_pos h9, mul_one, dif_pos (by rw [hR]; omega)]
      exact pr_eq m c t ρ _ _ (own_row m c t ρ h8 h9 _ (by simp only [hR]; omega))
    · rw [if_neg h9]
      by_cases h2 : 1 ≤ t.val % 17 ∧ t.val % 17 < 16
      · rw [if_pos h2, mul_one, dif_pos (by rw [hR]; omega)]
        exact pr_eq m c t ρ _ _ (hi_row m c t ρ h9 h2.1 h2.2 _ (by simp only [hR]; omega))
      · rw [if_neg h2, mul_zero, dif_neg (by rw [hR]; omega)]

/-- Five weighed numbers and one more, in either order. -/
theorem reorder (b a0 a1 a2 a3 a4 v0 v1 v2 v3 v4 : EReal) :
    b + a2 * v2 + a0 * v0 + a1 * v1 + a3 * v3 + a4 * v4 = v0 * a0 + v1 * a1 + v2 * a2 + v3 * a3 + v4 * a4 + b := by
  rw [mul_comm a0, mul_comm a1, mul_comm a2, mul_comm a3, mul_comm a4]
  abel

/-- The gates' array is any array whose rows the points' blocks are. -/
theorem arr10 (G : FVec Ideal S8x4352x2048 .f32) (hG : ∀ (t : Fin cfg0.N) (l : Fin 256) (e : Fin 2048),
    out0_10 (grid0.coords t) (iblk m c 0 t) (iblk m c 1 t) (iblk m c 2 t) (iblk m c 3 t) (iblk m c 4 t) (iblk m c 5 t) (iblk m c 6 t) (iblk m c 7 t) (iblk m c 8 t) (iblk m c 9 t) (ix3 0 l e) = G (ix3 (bat t) (rowB t l) e)) :
    (dats m 0 c).arrAt 10 cfg0.N = G := by
  refine (dats m 0 c).arrAt_eq_of_covers 10 G (by decide +kernel) fun t hf y => ?_
  obtain ⟨a, l, e, rfl⟩ : ∃ (a : Fin 1) (l : Fin 256) (e : Fin 2048), y = ix3 a l e := ⟨y 0, y 1, y 2, by
    funext a; match a with | ⟨0, _⟩ => rfl | ⟨1, _⟩ => rfl | ⟨2, _⟩ => rfl⟩
  obtain rfl : a = 0 := Subsingleton.elim _ _
  blk_simp
  rw [after0_10]
  refine (hG t l e).trans ?_
  unfold bat rowB
  blk_ext [idx t]

/-- The scan's inputs' array is any array whose rows the points' blocks are. -/
theorem arr11 (G : FVec Ideal S8x4352x3072 .f32) (hG : ∀ (t : Fin cfg0.N) (l : Fin 256) (e : Fin 3072),
    out0_11 (grid0.coords t) (iblk m c 0 t) (iblk m c 1 t) (iblk m c 2 t) (iblk m c 3 t) (iblk m c 4 t) (iblk m c 5 t) (iblk m c 6 t) (iblk m c 7 t) (iblk m c 8 t) (iblk m c 9 t) (ix3 0 l e) = G (ix3 (bat t) (rowB t l) e)) :
    (dats m 0 c).arrAt 11 cfg0.N = G := by
  refine (dats m 0 c).arrAt_eq_of_covers 11 G (by decide +kernel) fun t hf y => ?_
  obtain ⟨a, l, e, rfl⟩ : ∃ (a : Fin 1) (l : Fin 256) (e : Fin 3072), y = ix3 a l e := ⟨y 0, y 1, y 2, by
    funext a; match a with | ⟨0, _⟩ => rfl | ⟨1, _⟩ => rfl | ⟨2, _⟩ => rfl⟩
  obtain rfl : a = 0 := Subsingleton.elim _ _
  blk_simp
  rw [after0_11]
  refine (hG t l e).trans ?_
  unfold bat rowB
  blk_ext [idx t]

/-- The step sizes' array is any array whose rows the points' blocks are. -/
theorem arr12 (G : FVec Ideal S8x4352x128 .f32) (hG : ∀ (t : Fin cfg0.N) (l : Fin 256) (e : Fin 128),
    out0_12 (grid0.coords t) (iblk m c 0 t) (iblk m c 1 t) (iblk m c 2 t) (iblk m c 3 t) (iblk m c 4 t) (iblk m c 5 t) (iblk m c 6 t) (iblk m c 7 t) (iblk m c 8 t) (iblk m c 9 t) (ix3 0 l e) = G (ix3 (bat t) (rowB t l) e)) :
    (dats m 0 c).arrAt 12 cfg0.N = G := by
  refine (dats m 0 c).arrAt_eq_of_covers 12 G (by decide +kernel) fun t hf y => ?_
  obtain ⟨a, l, e, rfl⟩ : ∃ (a : Fin 1) (l : Fin 256) (e : Fin 128), y = ix3 a l e := ⟨y 0, y 1, y 2, by
    funext a; match a with | ⟨0, _⟩ => rfl | ⟨1, _⟩ => rfl | ⟨2, _⟩ => rfl⟩
  obtain rfl : a = 0 := Subsingleton.elim _ _
  blk_simp
  rw [after0_12]
  refine (hG t l e).trans ?_
  unfold bat rowB
  blk_ext [idx t]

/-- The gates. -/
theorem z_eq : (dats m 0 c).arrAt 10 cfg0.N = zR (X0 m c) (M0 m c) (W0 m c) :=
  arr10 m c _ fun t l e => (out10 _ _ _ _ _ _ _ _ _ _ _ _).trans
    ((pr_eq m c t ⟨8 + l.val, by omega⟩ (rowB t l) ⟨e.val, by omega⟩
      (own_row m c t _ (by simp only []; omega) (by simp only []; omega) _ (by unfold rowB; simp only []; omega))).trans
      (RefSProj.zR_apply _ _ _ (bat t) (rowB t l) e).symm)

/-- The scan's inputs. -/
theorem x_eq : (dats m 0 c).arrAt 11 cfg0.N = xR (X0 m c) (M0 m c) (W0 m c) (K0 m c) (B0 m c) := by
  refine arr11 m c _ fun t l e => (out11 _ _ _ _ _ _ _ _ _ _ _ _).trans (Eq.trans ?_ (RefSProj.xR_apply _ _ _ _ _ (bat t) (rowB t l) e).symm)
  show xK (grid0.coords t) (iblk m c 0 t) (iblk m c 1 t) (iblk m c 2 t) (iblk m c 3 t) (iblk m c 4 t) (iblk m c 8 t) (iblk m c 9 t) l e = _
  unfold xK yS
  rw [v_eq m c t l e 0 (by omega) ⟨6 + l.val, by omega⟩ rfl, v_eq m c t l e 1 (by omega) ⟨7 + l.val, by omega⟩ rfl,
    v_eq m c t l e 2 (by omega) ⟨8 + l.val, by omega⟩ rfl, v_eq m c t l e 3 (by omega) ⟨9 + l.val, by omega⟩ rfl,
    v_eq m c t l e 4 (by omega) ⟨10 + l.val, by omega⟩ rfl, c_blk, k_blk, k_blk, k_blk, k_blk, k_blk, reorder]

/-- The step sizes and their decays. -/
theorem d_eq : (dats m 0 c).arrAt 12 cfg0.N = dR (X0 m c) (M0 m c) (W0 m c) (D0 m c) (A0 m c) := by
  refine arr12 m c _ fun t l e => (out12 _ _ _ _ _ _ _ _ _ _ _ _ _).trans (Eq.trans ?_ (RefSProj.dR_apply _ _ _ _ _ (bat t) (rowB t l) e).symm)
  have hs : (∑ d : Fin 1024, uK (iblk m c 0 t) (iblk m c 1 t) (iblk m c 2 t) (iblk m c 3 t) ⟨8 + l.val, by omega⟩ d * iblk m c 5 t (ix2 d e))
      = prS (X0 m c) (M0 m c) (W0 m c) (bat t) (rowB t l) ⟨5120 + e.val % 64, by omega⟩ := by
    unfold prS
    refine Finset.sum_congr rfl fun d _ => ?_
    rw [own_row m c t ⟨8 + l.val, by omega⟩ (by simp only []; omega) (by simp only []; omega) (rowB t l) (by unfold rowB; simp only []; omega),
      q_blk]
  have hm : (⟨e.val % 64 % 32, by omega⟩ : Fin 32) = ⟨e.val % 32, by omega⟩ := Fin.ext (by simp only []; omega)
  unfold dS stepS
  rw [hs, a_blk, b_blk]
  simp only [hm]

/-- The SSD projection kernel computes its reference's results, over the extended reals. -/
theorem algebraic [hSProjIdeal : Cert.SProjIdeal.Facts] [hSProjRefIdeal : Cert.SProjRefIdeal.Facts] :
    Cert.algebraic_SProjIdeal_SProjRefIdeal := by
  intro m g m' g' hpre hagree
  refine ⟨fun c => zR (X0 m c) (M0 m c) (W0 m c), fun c => xR (X0 m c) (M0 m c) (W0 m c) (K0 m c) (B0 m c),
    fun c => dR (X0 m c) (M0 m c) (W0 m c) (D0 m c) (A0 m c), (θ_run _ _ _).mono (fun _ h c => ⟨(h c).1.trans (z_eq m c),
      (h c).2.1.trans (x_eq m c), (h c).2.2.1.trans (d_eq m c), (h c).2.2.2⟩) (Cert.SProjIdeal.Value.run_blocks m g), ?_⟩
  refine (θ_run _ _ _).mono (fun _ h c => ?_) (RefSProj.run m' g')
  have hc := h c
  obtain ⟨h0, h1, h2, h3, h4, h5, h6⟩ := hagree c
  refine ⟨hc.1.trans ?_, hc.2.1.trans ?_, hc.2.2.1.trans ?_, hc.2.2.2⟩
  · rw [h0, h1, h2]
  · rw [h0, h1, h2, h5, h6]
  · rw [h0, h1, h2, h3, h4]

end Cert.Proof.SProjValue

end
-- ==== Proof.PreMod.lean ====
/- What the modulations' precondition says: the conditionings and the weights are real numbers. -/
module

public import proofs.«01_k».proof.Pre_finite
public import Idealize.ShloMosaic.Lib.ReduceAll
public import Idealize.ShloMosaic.Lib.Pointwise

@[expose] public section

set_option maxRecDepth 16384

noncomputable section

namespace Cert.Proof.PreMod

open Idealize.ShloMosaic
open Cert.Pre_finite

/-- The shape relations that the precondition takes. -/
instance facts : Cert.Pre_finite.Facts where
  bcast_S_S8x1024 := by decide
  reducesTo_S8x1024_S_d0_1 := by decide
  h_S_ := by decide
  bcast_S_S1024 := by decide
  reducesTo_S1024_S_d0 := by decide
  bcast_S_S4x1024x6144 := by decide
  reducesTo_S4x1024x6144_S_d0_1_2 := by decide

/-- A magnitude below infinity is a real number's. -/
theorem real_of_lt (x : EReal) (h : Ideal.cmp .olt (max x (-x)) (Ideal.ofBits FTy.f32 0x7F800000#32) = 1#1) : ∃ a : ℝ, x = a := by
  have htop : Ideal.ofBits FTy.f32 0x7F800000#32 = ⊤ := by simp [Ideal.ofBits, Ideal.ieee]
  rw [htop] at h
  induction x using EReal.rec with
  | bot => simp [Ideal.cmp] at h
  | coe a => exact ⟨a, rfl⟩
  | top => simp [Ideal.cmp] at h

/-- Two bits whose conjunction is one are one. -/
theorem and_one (a b : BitVec 1) (h : IntOp.andi a b = 1#1) : a = 1#1 ∧ b = 1#1 := by
  revert a b
  decide

/-- There is one index without coordinates. -/
instance sub : Subsingleton S_.Idx := ⟨fun a b => funext fun i => i.elim0⟩

/-- The precondition, element by element. -/
theorem real [Cert.Pre_finite.Facts] (C : FVec Ideal S8x1024 .f32) (D : FVec Ideal S1024 .f32) (W : FVec Ideal S4x1024x6144 .f32) (B : FVec Ideal S4x6144 .f32)
    (h : fn C D W B = fun _ => 1#1) : (∀ i, ∃ a : ℝ, C i = a) ∧ (∀ i, ∃ a : ℝ, D i = a) ∧ ∀ i, ∃ a : ℝ, W i = a := by
  have h0 := congrFun h (Shape.Idx.first Facts.h_S_)
  unfold fn at h0
  obtain ⟨h1, hW⟩ := and_one _ _ h0
  obtain ⟨hC, hD⟩ := and_one _ _ h1
  exact ⟨fun i => real_of_lt _ (Host.reduce_andi_all _ _ _ _ _ hC i), fun i => real_of_lt _ (Host.reduce_andi_all _ _ _ _ _ hD i),
    fun i => real_of_lt _ (Host.reduce_andi_all _ _ _ _ _ hW i)⟩

end Cert.Proof.PreMod

end
-- ==== Proof.RefMod.lean ====
/- The modulations' reference at an index: a row's conditioning, gated by its own logistic, times the layer's weights, plus the bias. -/
module

public import proofs.«01_k».proof.Proof.Gen.ModRefIdeal.Run
public import Idealize.ShloMosaic.Lib.Pointwise

@[expose] public section

set_option maxRecDepth 16384

noncomputable section

namespace Cert.Proof.RefMod

open Idealize.ShloMosaic Idealize.ShloMosaic.TcCoe Idealize.SL.Sem Idealize.ShloMosaic.StableHlo
open Cert.ModRefIdeal Cert.ModRefIdeal.Gen Cert.ModRefIdeal.Value

variable (C : FVec Ideal S8x1024 .f32) (D : FVec Ideal S1024 .f32) (W : FVec Ideal S4x1024x6144 .f32) (B : FVec Ideal S4x6144 .f32)

/-- The layer's weights. -/
def w1 : FVec Ideal S1024x6144 .f32 :=
  shapeCast _ (extractStridedSlice S1x1024x6144 ![1, 0, 0] W slices_S4x1024x6144_S1x1024x6144_1_0_0) shapeCasts_S1x1024x6144_S1024x6144

/-- The layer's bias. -/
def b1 : FVec Ideal S6144 .f32 :=
  shapeCast _ (extractStridedSlice S1x6144 ![1, 0] B slices_S4x6144_S1x6144_1_0) shapeCasts_S1x6144_S6144

/-- The batch elements' rows. -/
def latR : FVec Ideal S8x6144 .f32 :=
  addf (Host.dotGeneral dot_S8x1024_S1024x6144_S8x6144_1_0_0_1_n_n none (mulf C (Host.divf (broadcastInDim S8x1024 ![] bcast_S_S8x1024 (constant S_ .f32 0x3F800000#32)) (addf (broadcastInDim S8x1024 ![] bcast_S_S8x1024 (constant S_ .f32 0x3F800000#32)) (Host.exp (Host.negf C))))) (w1 W)) (broadcastInDim S8x6144 ![0, 1] bcast_S1x6144_S8x6144_0_1 (broadcastInDim S1x6144 ![1] bcast_S6144_S1x6144_1 (b1 B)))

/-- The context's row. -/
def ctxR : FVec Ideal S1x6144 .f32 :=
  broadcastInDim S1x6144 ![1] bcast_S6144_S1x6144_1 (addf (Host.dotGeneral dot_S1024_S1024x6144_S6144_0_0_n_1_n_n none (mulf D (Host.divf (broadcastInDim S1024 ![] bcast_S_S1024 (constant S_ .f32 0x3F800000#32)) (addf (broadcastInDim S1024 ![] bcast_S_S1024 (constant S_ .f32 0x3F800000#32)) (Host.exp (Host.negf D))))) (w1 W)) (b1 B))

/-- The rows that stand for no conditioning. -/
def padR : FVec Ideal S7x6144 .f32 := broadcastInDim S7x6144 ![1] bcast_S6144_S7x6144_1 (b1 B)

/-- The modulations. -/
def modR : FVec Ideal S16x6144 .f32 :=
  concatenate S16x6144 0 [⟨S8x6144, latR C W B⟩, ⟨S1x6144, ctxR D W B⟩, ⟨S7x6144, padR B⟩] concatenates_S8x6144_S1x6144_S7x6144_S16x6144_d0

/-- The reference's run, its result by this name. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = modR (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ModRefIdeal.Value.run m ρ

/-- A number times its logistic. -/
def silS (y : EReal) : EReal := y * Ideal.logistic y

/-- The conditioning of a row: a batch element's, the context's, or none. -/
def rowS (r : Fin 16) (k : Fin 1024) : EReal :=
  if h : r.val < 8 then C (ix2 ⟨r.val, h⟩ k) else if r.val = 8 then D (ix1 k) else 0

/-- A modulation. -/
def modS (r : Fin 16) (e : Fin 6144) : EReal := (∑ k : Fin 1024, silS (rowS C D r k) * W (ix3 1 k e)) + B (ix2 1 e)

/-- The layer's weights at an index. -/
theorem w1_apply (k : Fin 1024) (e : Fin 6144) : w1 W (ix2 k e) = W (ix3 1 k e) := by
  pointwise [w1]

/-- The layer's bias at an index. -/
theorem b1_apply (e : Fin 6144) : b1 B (ix1 e) = B (ix2 1 e) := by
  pointwise [b1]

/-- A batch element's row at an index. -/
theorem latR_apply (b : Fin 8) (e : Fin 6144) :
    latR C W B (ix2 b e) = (∑ k : Fin 1024, silS (C (ix2 b k)) * W (ix3 1 k e)) + B (ix2 1 e) := by
  unfold latR
  pointwise
  simp only [w1_apply, b1_apply]
  rfl

/-- The context's row at an index. -/
theorem ctxR_apply (e : Fin 6144) :
    ctxR D W B (ix2 0 e) = (∑ k : Fin 1024, silS (D (ix1 k)) * W (ix3 1 k e)) + B (ix2 1 e) := by
  unfold ctxR
  pointwise
  simp only [w1_apply, b1_apply]
  rfl

/-- A row of no conditioning at an index. -/
theorem padR_apply (j : Fin 7) (e : Fin 6144) : padR B (ix2 j e) = B (ix2 1 e) := by
  unfold padR
  pointwise
  rw [b1_apply]

/-- The three groups of rows, one after the other. -/
theorem cat_apply (a : FVec Ideal S8x6144 .f32) (b : FVec Ideal S1x6144 .f32) (p : FVec Ideal S7x6144 .f32) (r : Fin 16) (e : Fin 6144) :
    concatenate S16x6144 0 [⟨S8x6144, a⟩, ⟨S1x6144, b⟩, ⟨S7x6144, p⟩] concatenates_S8x6144_S1x6144_S7x6144_S16x6144_d0 (ix2 r e)
      = if h : r.val < 8 then a (ix2 ⟨r.val, h⟩ e) else if h' : r.val = 8 then b (ix2 0 e) else p (ix2 ⟨r.val - 9, by omega⟩ e) := by
  pointwise
  by_cases h : r.val < 8
  · rw [dif_pos h, dif_pos h]
  · rw [dif_neg h, dif_neg h]
    by_cases h' : r.val = 8
    · rw [dif_pos h', dif_pos (by omega)]
      exact congrArg (fun j => b (ix2 j e)) (Subsingleton.elim _ _)
    · rw [dif_neg h', dif_neg (by omega)]
      exact congrArg (fun j => p (ix2 j e)) (Fin.ext (by simp only []; omega))

/-- The reference's modulations at an index. -/
theorem modR_apply (r : Fin 16) (e : Fin 6144) : modR C D W B (ix2 r e) = modS C D W B r e := by
  unfold modR modS rowS
  rw [cat_apply]
  by_cases h : r.val < 8
  · simp only [h, dif_pos]
    exact latR_apply C W B ⟨r.val, h⟩ e
  · by_cases h' : r.val = 8
    · simp only [h, h', dif_pos, if_true, dif_neg, not_false_eq_true]
      exact ctxR_apply D W B e
    · simp only [h, h', dif_neg, if_false, not_false_eq_true]
      rw [padR_apply]
      simp only [silS, zero_mul, Finset.sum_const_zero, zero_add]

end Cert.Proof.RefMod

end
-- ==== Proof.TabMod.lean ====
/- The blocks a point of the modulation kernel reads: the conditionings, which the host sets out in sixteen rows, the layer's weights and its
   bias. -/
module

public import proofs.«01_k».proof.Proof.Gen.ModIdeal.Frame
public import proofs.«01_k».proof.Proof.RefMod
public import Idealize.ShloMosaic.Lib.Routing.OpsSet
public import Idealize.ShloMosaic.Lib.StableHlo.ReadAt
public import Idealize.ShloMosaic.Lib.Pointwise
public import Idealize.ShloMosaic.Lib.Pipeline.ValueKit

@[expose] public section

set_option maxRecDepth 16384

noncomputable section

namespace Cert.Proof.TabMod

open Idealize.ShloMosaic Idealize.ShloMosaic.TcCoe Idealize.SL.Sem
open Cert.ModIdeal Cert.ModIdeal.Gen
open Cert.Proof.RefMod (rowS)

/-- Where each window's block lies at a point. -/
theorem idx (t : Fin cfg0.N) : win0_0.index t = ![0, 0] ∧ win0_1.index t = ![1, 0, t.val] ∧ win0_2.index t = ![1, 0, t.val]
    ∧ win0_3.index t = ![0, t.val] :=
  (by decide +kernel : ∀ t : Fin grid0.N, win0_0.index t = ![0, 0] ∧ win0_1.index t = ![1, 0, t.val] ∧ win0_2.index t = ![1, 0, t.val]
    ∧ win0_3.index t = ![0, t.val]) t

/-- The array's column that column `e` of a point's block is. -/
def colB (t : Fin cfg0.N) (e : Fin 1024) : Fin 6144 := ⟨t.val * 1024 + e.val, by
  have := lt_of_lt_of_eq t.isLt (show cfg0.N = 6 from N_0); omega⟩

/-- An entry of a block of eight rows set at row zero lands in its own place. -/
theorem lands8 (i : IVec S1 32) (hi : ∀ j, i j = 0#32) (b : Fin 8) (k : Fin 1024) (r : Fin 16) (k' : Fin 1024) :
    scatter_S16x1024_S1_S8x1024_01_n_0_0.resultIdx? (ix2 b k) i = some (ix2 r k') ↔ b.val = r.val ∧ k.val = k'.val := by
  have s0 : scatter_S16x1024_S1_S8x1024_01_n_0_0.start (ix2 b k) i 0 = 0 := by
    unfold ScatterDims.start
    rw [dif_pos (by decide), hi]
    rfl
  have s1 : scatter_S16x1024_S1_S8x1024_01_n_0_0.start (ix2 b k) i 1 = 0 := by
    unfold ScatterDims.start
    rw [dif_neg (by decide)]
  have w0 : scatter_S16x1024_S1_S8x1024_01_n_0_0.window (ix2 b k) 0 = b.val := rfl
  have w1 : scatter_S16x1024_S1_S8x1024_01_n_0_0.window (ix2 b k) 1 = k.val := rfl
  refine (Routing.resultIdx?_ix2 (R := 16) (C := 1024) _ _ _ r k').trans ?_
  erw [s0, s1, w0, w1]
  omega

/-- An entry of a row set at row eight lands in that row, in its own place. -/
theorem lands1 (i : IVec S1 32) (hi : ∀ j, i j = 8#32) (k : Fin 1024) (r : Fin 16) (k' : Fin 1024) :
    scatter_S16x1024_S1_S1024_0_0_0_0.resultIdx? (ix1 k) i = some (ix2 r k') ↔ 8 = r.val ∧ k.val = k'.val := by
  have s0 : scatter_S16x1024_S1_S1024_0_0_0_0.start (ix1 k) i 0 = 8 := by
    unfold ScatterDims.start
    rw [dif_pos (by decide), hi]
    rfl
  have s1 : scatter_S16x1024_S1_S1024_0_0_0_0.start (ix1 k) i 1 = 0 := by
    unfold ScatterDims.start
    rw [dif_neg (by decide)]
  have w0 : scatter_S16x1024_S1_S1024_0_0_0_0.window (ix1 k) 0 = 0 := rfl
  have w1 : scatter_S16x1024_S1_S1024_0_0_0_0.window (ix1 k) 1 = k.val := rfl
  refine (Routing.resultIdx?_ix2 (R := 16) (C := 1024) _ _ _ r k').trans ?_
  erw [s0, s1, w0, w1]
  omega

/-- Eight rows set at row zero, at an index. -/
theorem set8 (x : FVec Ideal S16x1024 .f32) (i : IVec S1 32) (hi : ∀ j, i j = 0#32) (u : FVec Ideal S8x1024 .f32) (r : Fin 16) (k : Fin 1024) :
    Host.scatter scatter_S16x1024_S1_S8x1024_01_n_0_0 (fun _ b => b) x i u (ix2 r k)
      = if h : r.val < 8 then u (ix2 ⟨r.val, h⟩ k) else x (ix2 r k) := by
  have ex : ∀ j : S8x1024.Idx, ∃ (b : Fin 8) (k : Fin 1024), j = ix2 b k := fun j => ⟨j 0, j 1, by
    funext a; match a with | ⟨0, _⟩ => rfl | ⟨1, _⟩ => rfl⟩
  by_cases h : r.val < 8
  · rw [dif_pos h]
    refine Routing.scatter_set_hit _ _ _ _ _ _ (fun j hj => ?_) (ix2 ⟨r.val, h⟩ k) ((lands8 i hi _ _ _ _).2 ⟨rfl, rfl⟩)
    obtain ⟨b, k', rfl⟩ := ex j
    have := (lands8 i hi _ _ _ _).1 hj
    rw [show b = ⟨r.val, h⟩ from Fin.ext this.1, show k' = k from Fin.ext this.2]
  · rw [dif_neg h]
    refine Routing.scatter_set_miss _ _ _ _ _ fun j hj => ?_
    obtain ⟨b, k', rfl⟩ := ex j
    have := (lands8 i hi _ _ _ _).1 hj
    omega

/-- A row set at row eight, at an index. -/
theorem set1 (x : FVec Ideal S16x1024 .f32) (i : IVec S1 32) (hi : ∀ j, i j = 8#32) (u : FVec Ideal S1024 .f32) (r : Fin 16) (k : Fin 1024) :
    Host.scatter scatter_S16x1024_S1_S1024_0_0_0_0 (fun _ b => b) x i u (ix2 r k) = if r.val = 8 then u (ix1 k) else x (ix2 r k) := by
  have ex : ∀ j : S1024.Idx, ∃ k : Fin 1024, j = ix1 k := fun j => ⟨j 0, by
    funext a; match a with | ⟨0, _⟩ => rfl⟩
  by_cases h : r.val = 8
  · rw [if_pos h]
    refine Routing.scatter_set_hit _ _ _ _ _ _ (fun j hj => ?_) (ix1 k) ((lands1 i hi _ _ _).2 ⟨h.symm, rfl⟩)
    obtain ⟨k', rfl⟩ := ex j
    rw [show k' = k from Fin.ext ((lands1 i hi _ _ _).1 hj).2]
  · rw [if_neg h]
    refine Routing.scatter_set_miss _ _ _ _ _ fun j hj => ?_
    obtain ⟨k', rfl⟩ := ex j
    exact h ((lands1 i hi _ _ _).1 hj).1.symm

variable (m : (ℓ : Loc nD τ sig) → Buf (Elt Ideal) ℓ) (c : Dev nD)

/-- The conditionings the kernel reads. -/
theorem c_apply (r : Fin 16) (k : Fin 1024) : V m c main_v4 (ix2 r k)
    = rowS (m ((c : Thread nD τ).loc main_arg0)) (m ((c : Thread nD τ).loc main_arg1)) r k := by
  unfold V
  after_reads_simp
  erw [set1 _ _ (fun _ => rfl), set8 _ _ (fun _ => rfl)]
  unfold rowS
  by_cases h : r.val < 8
  · rw [if_neg (by omega), dif_pos h, dif_pos h]
  · rw [dif_neg h, dif_neg h]
    refine if_congr Iff.rfl rfl ?_
    pointwise

/-- The biases, as the host lays them out. -/
theorem b_apply (a : Fin 4) (e : Fin 6144) : V m c main_v5 (ix3 a 0 e) = m ((c : Thread nD τ).loc main_arg3) (ix2 a e) := by
  unfold V
  after_reads_at

/-- The conditionings in a point's block. -/
theorem c_blk (t : Fin cfg0.N) (r : Fin 16) (k : Fin 1024) : iblk m c 0 t (ix2 r k)
    = rowS (m ((c : Thread nD τ).loc main_arg0)) (m ((c : Thread nD τ).loc main_arg1)) r k := by
  rw [← c_apply m c]
  blk_ext [iblk, idx t]

/-- The bias in a point's block. -/
theorem b_blk (t : Fin cfg0.N) (e : Fin 1024) : iblk m c 2 t (ix3 0 0 e) = m ((c : Thread nD τ).loc main_arg3) (ix2 1 (colB t e)) := by
  rw [← b_apply m c]
  unfold colB
  blk_ext [iblk, idx t]

/-- The weights in a point's block. -/
theorem w_blk (t : Fin cfg0.N) (k : Fin 1024) (e : Fin 1024) :
    iblk m c 1 t (ix3 0 k e) = m ((c : Thread nD τ).loc main_arg2) (ix3 1 k (colB t e)) := by
  unfold colB
  blk_ext [iblk, V, idx t]

end Cert.Proof.TabMod

end
-- ==== Proof.KerMod.lean ====
/- What a point of the modulation kernel leaves in its output block, over its input blocks. -/
module

public import proofs.«01_k».proof.Proof.RefMod
public import proofs.«01_k».proof.Proof.Gen.ModIdeal.Frame
public import Idealize.ShloMosaic.Lib.Pointwise
public import Idealize.ShloMosaic.Lib.Pipeline.ReadBack
public import Idealize.ShloMosaic.Lib.Pipeline.ValueKit

@[expose] public section

set_option maxRecDepth 16384

noncomputable section

namespace Cert.Proof.KerMod

open Idealize.ShloMosaic Idealize.ShloMosaic.TcCoe Idealize.SL.Sem
open Cert.ModIdeal Cert.ModIdeal.Gen
open Cert.Proof.RefMod (silS)

variable (x0 : Vec Ideal S16x1024 .f32) (x1 : Vec Ideal S1x1024x1024 .f32) (x2 : Vec Ideal S1x1x1024 .f32)

/-- The block a point leaves: the product, and the products of what splitting the two factors leaves over. -/
theorem out3 (r : Fin 16) (e : Fin 1024) : out0_3 x0 x1 x2 (ix2 r e)
    = (∑ k : Fin 1024, silS (x0 (ix2 r k)) * x1 (ix3 0 k e))
      + ((∑ k : Fin 1024, silS (x0 (ix2 r k)) * (x1 (ix3 0 k e) - x1 (ix3 0 k e)))
        + ∑ k : Fin 1024, (silS (x0 (ix2 r k)) - silS (x0 (ix2 r k))) * x1 (ix3 0 k e)) + x2 (ix3 0 0 e) := by
  unfold out0_3
  frame_open
  frame_out
  pointwise [k0_pay1]
  rfl

/-- A real number less itself is zero. -/
theorem sub_self_real {x : EReal} (h : ∃ a : ℝ, x = a) : x - x = 0 := by
  obtain ⟨a, rfl⟩ := h
  exact EReal.sub_self (EReal.coe_ne_top a) (EReal.coe_ne_bot a)

/-- A real number times its logistic is a real number. -/
theorem silS_real {x : EReal} (h : ∃ a : ℝ, x = a) : ∃ a : ℝ, silS x = a := by
  obtain ⟨a, rfl⟩ := h
  exact ⟨a * (1 + Real.exp (-a))⁻¹, by rw [silS, Ideal.logistic_coe, ← EReal.coe_mul]⟩

/-- The block a point leaves where its conditioning and its weights are real numbers: the product. -/
theorem out3_real (h0 : ∀ r k, ∃ a : ℝ, x0 (ix2 r k) = a) (h1 : ∀ k e, ∃ a : ℝ, x1 (ix3 0 k e) = a) (r : Fin 16) (e : Fin 1024) :
    out0_3 x0 x1 x2 (ix2 r e) = (∑ k : Fin 1024, silS (x0 (ix2 r k)) * x1 (ix3 0 k e)) + x2 (ix3 0 0 e) := by
  rw [out3]
  have hw : ∀ k, x1 (ix3 0 k e) - x1 (ix3 0 k e) = 0 := fun k => sub_self_real (h1 k e)
  have hs : ∀ k, silS (x0 (ix2 r k)) - silS (x0 (ix2 r k)) = 0 := fun k => sub_self_real (silS_real (h0 r k))
  simp only [hw, hs, mul_zero, zero_mul, Finset.sum_const_zero, add_zero]

end Cert.Proof.KerMod

end
-- ==== Proof.ModValue.lean ====
/- The modulation kernel's result is its reference's where the conditionings and the weights are real numbers: every point's block is the
   reference's columns of the point's place. -/
module

public import proofs.«01_k».proof.Defs
public import proofs.«01_k».proof.Proof.PreMod
public import proofs.«01_k».proof.Proof.TabMod
public import proofs.«01_k».proof.Proof.KerMod
public import proofs.«01_k».proof.Proof.Gen.ModIdeal.Value

@[expose] public section

set_option maxRecDepth 16384

noncomputable section

namespace Cert.Proof.ModValue

open Idealize.ShloMosaic Idealize.ShloMosaic.TcCoe Idealize.SL.Sem
open Cert.ModIdeal Cert.ModIdeal.Gen Cert.Proof.KerMod Cert.Proof.TabMod
open Cert.Proof.RefMod (rowS modS modR)

variable (m : (ℓ : Loc nD τ sig) → Buf (Elt Ideal) ℓ) (c : Dev nD)

/-- The batch elements' conditionings, as launched. -/
abbrev C0 : FVec Ideal S8x1024 .f32 := m ((c : Thread nD τ).loc main_arg0)

/-- The context's conditioning, as launched. -/
abbrev D0 : FVec Ideal S1024 .f32 := m ((c : Thread nD τ).loc main_arg1)

/-- The weights, as launched. -/
abbrev W0 : FVec Ideal S4x1024x6144 .f32 := m ((c : Thread nD τ).loc main_arg2)

/-- The biases, as launched. -/
abbrev B0 : FVec Ideal S4x6144 .f32 := m ((c : Thread nD τ).loc main_arg3)

/-- The array of modulations is any array whose columns the points' blocks are. -/
theorem arr3 (G : FVec Ideal S16x6144 .f32) (hG : ∀ (t : Fin cfg0.N) (r : Fin 16) (e : Fin 1024),
    out0_3 (iblk m c 0 t) (iblk m c 1 t) (iblk m c 2 t) (ix2 r e) = G (ix2 r (colB t e))) :
    (dats m 0 c).arrAt 3 cfg0.N = G := by
  refine (dats m 0 c).arrAt_eq_of_covers 3 G (by decide +kernel) fun t hf y => ?_
  obtain ⟨r, e, rfl⟩ : ∃ (r : Fin 16) (e : Fin 1024), y = ix2 r e := ⟨y 0, y 1, by
    funext a; match a with | ⟨0, _⟩ => rfl | ⟨1, _⟩ => rfl⟩
  blk_simp
  rw [after0_3]
  refine (hG t r e).trans ?_
  unfold colB
  blk_ext [idx t]

/-- A row's conditioning is real where the launched ones are. -/
theorem row_real (hC : ∀ i, ∃ a : ℝ, C0 m c i = a) (hD : ∀ i, ∃ a : ℝ, D0 m c i = a) (r : Fin 16) (k : Fin 1024) :
    ∃ a : ℝ, rowS (C0 m c) (D0 m c) r k = a := by
  unfold rowS
  split
  · exact hC _
  · split
    · exact hD _
    · exact ⟨0, rfl⟩

/-- The modulations. -/
theorem mod_eq (hC : ∀ i, ∃ a : ℝ, C0 m c i = a) (hD : ∀ i, ∃ a : ℝ, D0 m c i = a) (hW : ∀ i, ∃ a : ℝ, W0 m c i = a) :
    (dats m 0 c).arrAt 3 cfg0.N = modR (C0 m c) (D0 m c) (W0 m c) (B0 m c) :=
  arr3 m c _ fun t r e => by
    rw [out3_real _ _ _ (fun r k => by rw [c_blk]; exact row_real m c hC hD r k) (fun k e => by rw [w_blk]; exact hW _),
      RefMod.modR_apply, b_blk]
    unfold modS
    simp only [c_blk, w_blk]

/-- The modulation kernel computes its reference's result, over the extended reals, where the conditionings and the weights are real numbers. -/
theorem algebraic [hModIdeal : Cert.ModIdeal.Facts] [hModRefIdeal : Cert.ModRefIdeal.Facts] [hPre_finite : Cert.Pre_finite.Facts] :
    Cert.algebraic_ModIdeal_ModRefIdeal_pre_finite := by
  intro m g m' g' hpre hagree
  have eq : ∀ c, (dats m 0 c).arrAt 3 cfg0.N = modR (C0 m c) (D0 m c) (W0 m c) (B0 m c) := fun c => by
    have hr := PreMod.real _ _ _ _ (hpre c)
    exact mod_eq m c hr.1 hr.2.1 hr.2.2
  refine ⟨fun c => modR (C0 m c) (D0 m c) (W0 m c) (B0 m c),
    (θ_run _ _ _).mono (fun _ h c => ⟨(h c).1.trans (eq c), (h c).2⟩) (Cert.ModIdeal.Value.run_blocks m g), ?_⟩
  refine (θ_run _ _ _).mono (fun _ h c => ?_) (RefMod.run m' g')
  have hc := h c
  obtain ⟨h0, h1, h2, h3⟩ := hagree c
  refine ⟨hc.1.trans ?_, hc.2⟩
  rw [h0, h1, h2, h3]

end Cert.Proof.ModValue

end
-- ==== Proof.lean ====
module

public import proofs.«01_k».proof.Defs
public import proofs.«01_k».proof.Proof.Gen.Fwd
public import proofs.«01_k».proof.Proof.Gen.Fwd.Skeleton
public import proofs.«01_k».proof.Proof.Gen.Fwd.Launch
public import proofs.«01_k».proof.Proof.Gen.Fwd.Points
public import proofs.«01_k».proof.Proof.Gen.Fwd.Frame
public import proofs.«01_k».proof.Proof.Gen.FwdIdeal
public import proofs.«01_k».proof.Proof.Gen.FwdIdeal.Skeleton
public import proofs.«01_k».proof.Proof.Gen.FwdIdeal.Launch
public import proofs.«01_k».proof.Proof.Gen.FwdIdeal.Points
public import proofs.«01_k».proof.Proof.Gen.FwdIdeal.Frame
public import proofs.«01_k».proof.Proof.Gen.FwdRefIdeal
public import proofs.«01_k».proof.Proof.Gen.Bwd
public import proofs.«01_k».proof.Proof.Gen.Bwd.Skeleton
public import proofs.«01_k».proof.Proof.Gen.Bwd.Launch
public import proofs.«01_k».proof.Proof.Gen.Bwd.Points
public import proofs.«01_k».proof.Proof.Gen.Bwd.Frame
public import proofs.«01_k».proof.Proof.Gen.BwdIdeal
public import proofs.«01_k».proof.Proof.Gen.BwdIdeal.Skeleton
public import proofs.«01_k».proof.Proof.Gen.BwdIdeal.Launch
public import proofs.«01_k».proof.Proof.Gen.BwdIdeal.Points
public import proofs.«01_k».proof.Proof.Gen.BwdIdeal.Frame
public import proofs.«01_k».proof.Proof.Gen.BwdRefIdeal
public import proofs.«01_k».proof.Proof.Gen.FwdIdeal.Value
public import proofs.«01_k».proof.Proof.Gen.BwdIdeal.Value
public import proofs.«01_k».proof.Proof.Gen.FwdRefIdeal.Run
public import proofs.«01_k».proof.Proof.Gen.BwdRefIdeal.Run
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.Out
public import proofs.«01_k».proof.Proof.Gen.Out.Skeleton
public import proofs.«01_k».proof.Proof.Gen.Out.Launch
public import proofs.«01_k».proof.Proof.Gen.Out.Points
public import proofs.«01_k».proof.Proof.Gen.Out.Frame
public import proofs.«01_k».proof.Proof.Gen.OutIdeal
public import proofs.«01_k».proof.Proof.Gen.OutIdeal.Skeleton
public import proofs.«01_k».proof.Proof.Gen.OutIdeal.Launch
public import proofs.«01_k».proof.Proof.Gen.OutIdeal.Points
public import proofs.«01_k».proof.Proof.Gen.OutIdeal.Frame
public import proofs.«01_k».proof.Proof.Gen.OutRefIdeal
public import proofs.«01_k».proof.Proof.Gen.OutRefIdeal.Run
public import proofs.«01_k».proof.Proof.Gen.SProj
public import proofs.«01_k».proof.Proof.Gen.SProj.Skeleton
public import proofs.«01_k».proof.Proof.Gen.SProj.Launch
public import proofs.«01_k».proof.Proof.Gen.SProj.Points
public import proofs.«01_k».proof.Proof.Gen.SProj.Frame
public import proofs.«01_k».proof.Proof.Gen.SProjIdeal
public import proofs.«01_k».proof.Proof.Gen.SProjIdeal.Skeleton
public import proofs.«01_k».proof.Proof.Gen.SProjIdeal.Launch
public import proofs.«01_k».proof.Proof.Gen.SProjIdeal.Points
public import proofs.«01_k».proof.Proof.Gen.SProjIdeal.Frame
public import proofs.«01_k».proof.Proof.Gen.SProjIdeal.Value
public import proofs.«01_k».proof.Proof.Gen.SProjRefIdeal
public import proofs.«01_k».proof.Proof.Gen.SProjRefIdeal.Run
public import proofs.«01_k».proof.Proof.Gen.Mod
public import proofs.«01_k».proof.Proof.Gen.Mod.Skeleton
public import proofs.«01_k».proof.Proof.Gen.Mod.Launch
public import proofs.«01_k».proof.Proof.Gen.Mod.Points
public import proofs.«01_k».proof.Proof.Gen.Mod.Frame
public import proofs.«01_k».proof.Proof.Gen.ModIdeal
public import proofs.«01_k».proof.Proof.Gen.ModIdeal.Skeleton
public import proofs.«01_k».proof.Proof.Gen.ModIdeal.Launch
public import proofs.«01_k».proof.Proof.Gen.ModIdeal.Points
public import proofs.«01_k».proof.Proof.Gen.ModIdeal.Frame
public import proofs.«01_k».proof.Proof.Gen.ModIdeal.Value
public import proofs.«01_k».proof.Proof.Gen.ModRefIdeal
public import proofs.«01_k».proof.Proof.Gen.ModRefIdeal.Run
public import proofs.«01_k».proof.Proof.BwdRefRun
public import proofs.«01_k».proof.Proof.FwdValue
public import proofs.«01_k».proof.Proof.BwdValue
public import proofs.«01_k».proof.Proof.ProjValue
public import proofs.«01_k».proof.Proof.OutValue
public import proofs.«01_k».proof.Proof.SProjValue
public import proofs.«01_k».proof.Proof.ModValue
public import Idealize.ShloMosaic.Lib.Quiescent
public import Idealize.ShloMosaic.Adequacy
public import Idealize.ShloMosaic.Init

@[expose] public section

noncomputable section

namespace Cert.Proof

open Idealize.ShloMosaic Idealize.SL.Sem

/-- The forward reference ends without fault, its arguments unchanged and every counter at zero. -/
theorem frame_fwd_ref [Cert.FwdRefIdeal.Facts] : Cert.quiescent_FwdRefIdeal := fun m ρ _ =>
  (θ_run Cert.FwdRefIdeal.defs _ _).mono
    (fun r h => ⟨fun c => (h c).2, Idealize.ShloMosaic.sem_eq_zero_of_no_sems (by decide) r.2⟩) (Cert.FwdRefIdeal.Value.run m ρ)

/-- The backward reference ends without fault, its arguments unchanged and every counter at zero. -/
theorem frame_bwd_ref [Cert.BwdRefIdeal.Facts] : Cert.quiescent_BwdRefIdeal := fun m ρ _ =>
  (θ_run Cert.BwdRefIdeal.defs _ _).mono
    (fun r h => ⟨fun c => (h c).2, Idealize.ShloMosaic.sem_eq_zero_of_no_sems (by decide) r.2⟩) (Cert.BwdRefIdeal.Value.run m ρ)

/-- The projections' reference ends without fault, its arguments unchanged and every counter at zero. -/
theorem frame_proj_ref [Cert.ProjRefIdeal.Facts] : Cert.quiescent_ProjRefIdeal := fun m ρ _ =>
  (θ_run Cert.ProjRefIdeal.defs _ _).mono
    (fun r h => ⟨fun c => (h c).2.2.2.2, Idealize.ShloMosaic.sem_eq_zero_of_no_sems (by decide) r.2⟩) (Cert.ProjRefIdeal.Value.run m ρ)

/-- The output projection's reference ends without fault, its arguments unchanged and every counter at zero. -/
theorem frame_out_ref [Cert.OutRefIdeal.Facts] : Cert.quiescent_OutRefIdeal := fun m ρ _ =>
  (θ_run Cert.OutRefIdeal.defs _ _).mono
    (fun r h => ⟨fun c => (h c).2.2, Idealize.ShloMosaic.sem_eq_zero_of_no_sems (by decide) r.2⟩) (Cert.OutRefIdeal.Value.run m ρ)

/-- The SSD input projection's reference ends without fault, its arguments unchanged and every counter at zero. -/
theorem frame_sproj_ref [Cert.SProjRefIdeal.Facts] : Cert.quiescent_SProjRefIdeal := fun m ρ _ =>
  (θ_run Cert.SProjRefIdeal.defs _ _).mono
    (fun r h => ⟨fun c => (h c).2.2.2, Idealize.ShloMosaic.sem_eq_zero_of_no_sems (by decide) r.2⟩) (Cert.SProjRefIdeal.Value.run m ρ)

/-- The modulations' reference ends without fault, its arguments unchanged and every counter at zero. -/
theorem frame_mod_ref [Cert.ModRefIdeal.Facts] : Cert.quiescent_ModRefIdeal := fun m ρ _ =>
  (θ_run Cert.ModRefIdeal.defs _ _).mono
    (fun r h => ⟨fun c => (h c).2, Idealize.ShloMosaic.sem_eq_zero_of_no_sems (by decide) r.2⟩) (Cert.ModRefIdeal.Value.run m ρ)

/-- Every claim of the certificate. -/
theorem claim : Cert.Claim :=
  ⟨Cert.Fwd.Gen.facts, Cert.FwdIdeal.Gen.facts, Cert.FwdRefIdeal.Gen.facts, Cert.Bwd.Gen.facts, Cert.BwdIdeal.Gen.facts,
    Cert.BwdRefIdeal.Gen.facts, Cert.Proj.Gen.facts, Cert.ProjIdeal.Gen.facts, Cert.ProjRefIdeal.Gen.facts, Cert.Out.Gen.facts,
    Cert.OutIdeal.Gen.facts, Cert.OutRefIdeal.Gen.facts, Cert.SProj.Gen.facts, Cert.SProjIdeal.Gen.facts, Cert.SProjRefIdeal.Gen.facts,
    Cert.Mod.Gen.facts, Cert.ModIdeal.Gen.facts, Cert.ModRefIdeal.Gen.facts, PreMod.facts,
    fun m ρ _ => Cert.Fwd.Gen.frame m ρ, fun m ρ _ => Cert.FwdIdeal.Gen.frame m ρ, frame_fwd_ref,
    fun m ρ _ => Cert.Bwd.Gen.frame m ρ, fun m ρ _ => Cert.BwdIdeal.Gen.frame m ρ, frame_bwd_ref,
    fun m ρ _ => Cert.Proj.Gen.frame m ρ, fun m ρ _ => Cert.ProjIdeal.Gen.frame m ρ, frame_proj_ref,
    fun m ρ _ => Cert.Out.Gen.frame m ρ, fun m ρ _ => Cert.OutIdeal.Gen.frame m ρ, frame_out_ref,
    fun m ρ _ => Cert.SProj.Gen.frame m ρ, fun m ρ _ => Cert.SProjIdeal.Gen.frame m ρ, frame_sproj_ref,
    fun m ρ _ => Cert.Mod.Gen.frame m ρ, fun m ρ _ => Cert.ModIdeal.Gen.frame m ρ, fun m ρ _ => Cert.ModIdeal.Gen.frame m ρ,
    frame_mod_ref, fun m ρ _ => frame_mod_ref m ρ trivial,
    trivial, FwdValue.algebraic, trivial, BwdValue.algebraic, trivial, ProjValue.algebraic, trivial, OutValue.algebraic, trivial,
    SProjValue.algebraic, trivial, ModValue.algebraic⟩

end Cert.Proof

end
